-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Scores (m : (ℓ : Loc Cert.Scores.nD Cert.Scores.τ Cert.Scores.sig) → Buf (Elt Bits) ℓ) : Prop :=
  True

def Pre_ScoresIdeal (m : (ℓ : Loc Cert.ScoresIdeal.nD Cert.ScoresIdeal.τ Cert.ScoresIdeal.sig) → Buf (Elt Ideal) ℓ) : Prop :=
  True

def Pre_ScoresReferenceIdeal (m : (ℓ : Loc Cert.ScoresReferenceIdeal.nD Cert.ScoresReferenceIdeal.τ Cert.ScoresReferenceIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolReferenceIdeal (m : (ℓ : Loc Cert.PoolReferenceIdeal.nD Cert.PoolReferenceIdeal.τ Cert.PoolReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_Scores [hScores : Cert.Scores.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1)
      ∧ r.2.mem ((c.tc : Thread Cert.Scores.nD Cert.Scores.τ).loc Cert.Scores.main_arg2) = m ((c.tc : Thread Cert.Scores.nD Cert.Scores.τ).loc Cert.Scores.main_arg2)
      ∧ r.2.mem ((c.tc : Thread Cert.Scores.nD Cert.Scores.τ).loc Cert.Scores.main_arg3) = m ((c.tc : Thread Cert.Scores.nD Cert.Scores.τ).loc Cert.Scores.main_arg3)
      ∧ r.2.mem ((c.tc : Thread Cert.Scores.nD Cert.Scores.τ).loc Cert.Scores.main_arg4) = m ((c.tc : Thread Cert.Scores.nD Cert.Scores.τ).loc Cert.Scores.main_arg4))
      ∧ r.2.sem = fun _ => 0)

def quiescent_ScoresIdeal [hScoresIdeal : Cert.ScoresIdeal.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
      ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
      ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4))
      ∧ r.2.sem = fun _ => 0)

def quiescent_ScoresReferenceIdeal [hScoresReferenceIdeal : Cert.ScoresReferenceIdeal.Facts] : Prop :=
  ∀ (m : (ℓ : Loc Cert.ScoresReferenceIdeal.nD Cert.ScoresReferenceIdeal.τ Cert.ScoresReferenceIdeal.sig) → Buf (Elt Ideal) ℓ) (g : Dev Cert.ScoresReferenceIdeal.nD → PrngReg), Pre_ScoresReferenceIdeal m →
    θ_run (Cert.ScoresReferenceIdeal.defs (F := Ideal)) (onTc (τ := Cert.ScoresReferenceIdeal.τ) (Cert.ScoresReferenceIdeal.main (F := Ideal))) ⟨m, fun _ => 0, g⟩ (fun r => (∀ c : Dev Cert.ScoresReferenceIdeal.nD,
      r.2.mem ((c.tc : Thread Cert.ScoresReferenceIdeal.nD Cert.ScoresReferenceIdeal.τ).loc Cert.ScoresReferenceIdeal.main_arg0) = m ((c.tc : Thread Cert.ScoresReferenceIdeal.nD Cert.ScoresReferenceIdeal.τ).loc Cert.ScoresReferenceIdeal.main_arg0)
      ∧ r.2.mem ((c.tc : Thread Cert.ScoresReferenceIdeal.nD Cert.ScoresReferenceIdeal.τ).loc Cert.ScoresReferenceIdeal.main_arg1) = m ((c.tc : Thread Cert.ScoresReferenceIdeal.nD Cert.ScoresReferenceIdeal.τ).loc Cert.ScoresReferenceIdeal.main_arg1)
      ∧ r.2.mem ((c.tc : Thread Cert.ScoresReferenceIdeal.nD Cert.ScoresReferenceIdeal.τ).loc Cert.ScoresReferenceIdeal.main_arg2) = m ((c.tc : Thread Cert.ScoresReferenceIdeal.nD Cert.ScoresReferenceIdeal.τ).loc Cert.ScoresReferenceIdeal.main_arg2)
      ∧ r.2.mem ((c.tc : Thread Cert.ScoresReferenceIdeal.nD Cert.ScoresReferenceIdeal.τ).loc Cert.ScoresReferenceIdeal.main_arg3) = m ((c.tc : Thread Cert.ScoresReferenceIdeal.nD Cert.ScoresReferenceIdeal.τ).loc Cert.ScoresReferenceIdeal.main_arg3)
      ∧ r.2.mem ((c.tc : Thread Cert.ScoresReferenceIdeal.nD Cert.ScoresReferenceIdeal.τ).loc Cert.ScoresReferenceIdeal.main_arg4) = m ((c.tc : Thread Cert.ScoresReferenceIdeal.nD Cert.ScoresReferenceIdeal.τ).loc Cert.ScoresReferenceIdeal.main_arg4))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4)
      ∧ r.2.mem ((c.tc : Thread Cert.Pool.nD Cert.Pool.τ).loc Cert.Pool.main_arg5) = m ((c.tc : Thread Cert.Pool.nD Cert.Pool.τ).loc Cert.Pool.main_arg5)
      ∧ r.2.mem ((c.tc : Thread Cert.Pool.nD Cert.Pool.τ).loc Cert.Pool.main_arg6) = m ((c.tc : Thread Cert.Pool.nD Cert.Pool.τ).loc Cert.Pool.main_arg6)
      ∧ r.2.mem ((c.tc : Thread Cert.Pool.nD Cert.Pool.τ).loc Cert.Pool.main_arg7) = m ((c.tc : Thread Cert.Pool.nD Cert.Pool.τ).loc Cert.Pool.main_arg7)
      ∧ r.2.mem ((c.tc : Thread Cert.Pool.nD Cert.Pool.τ).loc Cert.Pool.main_arg8) = m ((c.tc : Thread Cert.Pool.nD Cert.Pool.τ).loc Cert.Pool.main_arg8)
      ∧ r.2.mem ((c.tc : Thread Cert.Pool.nD Cert.Pool.τ).loc Cert.Pool.main_arg9) = m ((c.tc : Thread Cert.Pool.nD Cert.Pool.τ).loc Cert.Pool.main_arg9)
      ∧ r.2.mem ((c.tc : Thread Cert.Pool.nD Cert.Pool.τ).loc Cert.Pool.main_arg10) = m ((c.tc : Thread Cert.Pool.nD Cert.Pool.τ).loc Cert.Pool.main_arg10)
      ∧ r.2.mem ((c.tc : Thread Cert.Pool.nD Cert.Pool.τ).loc Cert.Pool.main_arg11) = m ((c.tc : Thread Cert.Pool.nD Cert.Pool.τ).loc Cert.Pool.main_arg11)
      ∧ r.2.mem ((c.tc : Thread Cert.Pool.nD Cert.Pool.τ).loc Cert.Pool.main_arg12) = m ((c.tc : Thread Cert.Pool.nD Cert.Pool.τ).loc Cert.Pool.main_arg12)
      ∧ r.2.mem ((c.tc : Thread Cert.Pool.nD Cert.Pool.τ).loc Cert.Pool.main_arg13) = m ((c.tc : Thread Cert.Pool.nD Cert.Pool.τ).loc Cert.Pool.main_arg13)
      ∧ r.2.mem ((c.tc : Thread Cert.Pool.nD Cert.Pool.τ).loc Cert.Pool.main_arg14) = m ((c.tc : Thread Cert.Pool.nD Cert.Pool.τ).loc Cert.Pool.main_arg14)
      ∧ r.2.mem ((c.tc : Thread Cert.Pool.nD Cert.Pool.τ).loc Cert.Pool.main_arg15) = m ((c.tc : Thread Cert.Pool.nD Cert.Pool.τ).loc Cert.Pool.main_arg15)
      ∧ r.2.mem ((c.tc : Thread Cert.Pool.nD Cert.Pool.τ).loc Cert.Pool.main_arg16) = m ((c.tc : Thread Cert.Pool.nD Cert.Pool.τ).loc Cert.Pool.main_arg16))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
      ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7)
      ∧ r.2.mem ((c.tc : Thread Cert.PoolIdeal.nD Cert.PoolIdeal.τ).loc Cert.PoolIdeal.main_arg8) = m ((c.tc : Thread Cert.PoolIdeal.nD Cert.PoolIdeal.τ).loc Cert.PoolIdeal.main_arg8)
      ∧ r.2.mem ((c.tc : Thread Cert.PoolIdeal.nD Cert.PoolIdeal.τ).loc Cert.PoolIdeal.main_arg9) = m ((c.tc : Thread Cert.PoolIdeal.nD Cert.PoolIdeal.τ).loc Cert.PoolIdeal.main_arg9)
      ∧ r.2.mem ((c.tc : Thread Cert.PoolIdeal.nD Cert.PoolIdeal.τ).loc Cert.PoolIdeal.main_arg10) = m ((c.tc : Thread Cert.PoolIdeal.nD Cert.PoolIdeal.τ).loc Cert.PoolIdeal.main_arg10)
      ∧ r.2.mem ((c.tc : Thread Cert.PoolIdeal.nD Cert.PoolIdeal.τ).loc Cert.PoolIdeal.main_arg11) = m ((c.tc : Thread Cert.PoolIdeal.nD Cert.PoolIdeal.τ).loc Cert.PoolIdeal.main_arg11)
      ∧ r.2.mem ((c.tc : Thread Cert.PoolIdeal.nD Cert.PoolIdeal.τ).loc Cert.PoolIdeal.main_arg12) = m ((c.tc : Thread Cert.PoolIdeal.nD Cert.PoolIdeal.τ).loc Cert.PoolIdeal.main_arg12)
      ∧ r.2.mem ((c.tc : Thread Cert.PoolIdeal.nD Cert.PoolIdeal.τ).loc Cert.PoolIdeal.main_arg13) = m ((c.tc : Thread Cert.PoolIdeal.nD Cert.PoolIdeal.τ).loc Cert.PoolIdeal.main_arg13)
      ∧ r.2.mem ((c.tc : Thread Cert.PoolIdeal.nD Cert.PoolIdeal.τ).loc Cert.PoolIdeal.main_arg14) = m ((c.tc : Thread Cert.PoolIdeal.nD Cert.PoolIdeal.τ).loc Cert.PoolIdeal.main_arg14)
      ∧ r.2.mem ((c.tc : Thread Cert.PoolIdeal.nD Cert.PoolIdeal.τ).loc Cert.PoolIdeal.main_arg15) = m ((c.tc : Thread Cert.PoolIdeal.nD Cert.PoolIdeal.τ).loc Cert.PoolIdeal.main_arg15)
      ∧ r.2.mem ((c.tc : Thread Cert.PoolIdeal.nD Cert.PoolIdeal.τ).loc Cert.PoolIdeal.main_arg16) = m ((c.tc : Thread Cert.PoolIdeal.nD Cert.PoolIdeal.τ).loc Cert.PoolIdeal.main_arg16))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3)
      ∧ r.2.mem ((c.tc : Thread Cert.PoolReferenceIdeal.nD Cert.PoolReferenceIdeal.τ).loc Cert.PoolReferenceIdeal.main_arg4) = m ((c.tc : Thread Cert.PoolReferenceIdeal.nD Cert.PoolReferenceIdeal.τ).loc Cert.PoolReferenceIdeal.main_arg4)
      ∧ r.2.mem ((c.tc : Thread Cert.PoolReferenceIdeal.nD Cert.PoolReferenceIdeal.τ).loc Cert.PoolReferenceIdeal.main_arg5) = m ((c.tc : Thread Cert.PoolReferenceIdeal.nD Cert.PoolReferenceIdeal.τ).loc Cert.PoolReferenceIdeal.main_arg5)
      ∧ r.2.mem ((c.tc : Thread Cert.PoolReferenceIdeal.nD Cert.PoolReferenceIdeal.τ).loc Cert.PoolReferenceIdeal.main_arg6) = m ((c.tc : Thread Cert.PoolReferenceIdeal.nD Cert.PoolReferenceIdeal.τ).loc Cert.PoolReferenceIdeal.main_arg6)
      ∧ r.2.mem ((c.tc : Thread Cert.PoolReferenceIdeal.nD Cert.PoolReferenceIdeal.τ).loc Cert.PoolReferenceIdeal.main_arg7) = m ((c.tc : Thread Cert.PoolReferenceIdeal.nD Cert.PoolReferenceIdeal.τ).loc Cert.PoolReferenceIdeal.main_arg7)
      ∧ r.2.mem ((c.tc : Thread Cert.PoolReferenceIdeal.nD Cert.PoolReferenceIdeal.τ).loc Cert.PoolReferenceIdeal.main_arg8) = m ((c.tc : Thread Cert.PoolReferenceIdeal.nD Cert.PoolReferenceIdeal.τ).loc Cert.PoolReferenceIdeal.main_arg8)
      ∧ r.2.mem ((c.tc : Thread Cert.PoolReferenceIdeal.nD Cert.PoolReferenceIdeal.τ).loc Cert.PoolReferenceIdeal.main_arg9) = m ((c.tc : Thread Cert.PoolReferenceIdeal.nD Cert.PoolReferenceIdeal.τ).loc Cert.PoolReferenceIdeal.main_arg9)
      ∧ r.2.mem ((c.tc : Thread Cert.PoolReferenceIdeal.nD Cert.PoolReferenceIdeal.τ).loc Cert.PoolReferenceIdeal.main_arg10) = m ((c.tc : Thread Cert.PoolReferenceIdeal.nD Cert.PoolReferenceIdeal.τ).loc Cert.PoolReferenceIdeal.main_arg10)
      ∧ r.2.mem ((c.tc : Thread Cert.PoolReferenceIdeal.nD Cert.PoolReferenceIdeal.τ).loc Cert.PoolReferenceIdeal.main_arg11) = m ((c.tc : Thread Cert.PoolReferenceIdeal.nD Cert.PoolReferenceIdeal.τ).loc Cert.PoolReferenceIdeal.main_arg11)
      ∧ r.2.mem ((c.tc : Thread Cert.PoolReferenceIdeal.nD Cert.PoolReferenceIdeal.τ).loc Cert.PoolReferenceIdeal.main_arg12) = m ((c.tc : Thread Cert.PoolReferenceIdeal.nD Cert.PoolReferenceIdeal.τ).loc Cert.PoolReferenceIdeal.main_arg12)
      ∧ r.2.mem ((c.tc : Thread Cert.PoolReferenceIdeal.nD Cert.PoolReferenceIdeal.τ).loc Cert.PoolReferenceIdeal.main_arg13) = m ((c.tc : Thread Cert.PoolReferenceIdeal.nD Cert.PoolReferenceIdeal.τ).loc Cert.PoolReferenceIdeal.main_arg13)
      ∧ r.2.mem ((c.tc : Thread Cert.PoolReferenceIdeal.nD Cert.PoolReferenceIdeal.τ).loc Cert.PoolReferenceIdeal.main_arg14) = m ((c.tc : Thread Cert.PoolReferenceIdeal.nD Cert.PoolReferenceIdeal.τ).loc Cert.PoolReferenceIdeal.main_arg14)
      ∧ r.2.mem ((c.tc : Thread Cert.PoolReferenceIdeal.nD Cert.PoolReferenceIdeal.τ).loc Cert.PoolReferenceIdeal.main_arg15) = m ((c.tc : Thread Cert.PoolReferenceIdeal.nD Cert.PoolReferenceIdeal.τ).loc Cert.PoolReferenceIdeal.main_arg15)
      ∧ r.2.mem ((c.tc : Thread Cert.PoolReferenceIdeal.nD Cert.PoolReferenceIdeal.τ).loc Cert.PoolReferenceIdeal.main_arg16) = m ((c.tc : Thread Cert.PoolReferenceIdeal.nD Cert.PoolReferenceIdeal.τ).loc Cert.PoolReferenceIdeal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_v164) = v1 c
          ∧ r.2.mem ((c.tc : Thread Cert.ReferenceIdeal.nD Cert.ReferenceIdeal.τ).loc Cert.ReferenceIdeal.main_v177) = v2 c
          ∧ r.2.mem ((c.tc : Thread Cert.ReferenceIdeal.nD Cert.ReferenceIdeal.τ).loc Cert.ReferenceIdeal.main_v190) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v6_0)) (v1 : (c : Dev Cert.Kernel.nD) → Buf (Elt Bits) ((c.tc : Thread Cert.Kernel.nD Cert.Kernel.τ).loc Cert.Kernel.main_v6_1)) (v2 : (c : Dev Cert.Kernel.nD) → Buf (Elt Bits) ((c.tc : Thread Cert.Kernel.nD Cert.Kernel.τ).loc Cert.Kernel.main_v6_2)) (v3 : (c : Dev Cert.Kernel.nD) → Buf (Elt Bits) ((c.tc : Thread Cert.Kernel.nD Cert.Kernel.τ).loc Cert.Kernel.main_v6_3)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v6_0) = v0 c
          ∧ r.2.mem ((c.tc : Thread Cert.Kernel.nD Cert.Kernel.τ).loc Cert.Kernel.main_v6_1) = v1 c
          ∧ r.2.mem ((c.tc : Thread Cert.Kernel.nD Cert.Kernel.τ).loc Cert.Kernel.main_v6_2) = v2 c
          ∧ r.2.mem ((c.tc : Thread Cert.Kernel.nD Cert.Kernel.τ).loc Cert.Kernel.main_v6_3) = v3 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v160) = v0 c
          ∧ r.2.mem ((c.tc : Thread Cert.Reference.nD Cert.Reference.τ).loc Cert.Reference.main_v164) = v1 c
          ∧ r.2.mem ((c.tc : Thread Cert.Reference.nD Cert.Reference.τ).loc Cert.Reference.main_v177) = v2 c
          ∧ r.2.mem ((c.tc : Thread Cert.Reference.nD Cert.Reference.τ).loc Cert.Reference.main_v190) = v3 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def preserves_Scores_ScoresIdeal : Prop :=
  True

def algebraic_ScoresIdeal_ScoresReferenceIdeal [hScoresIdeal : Cert.ScoresIdeal.Facts] [hScoresReferenceIdeal : Cert.ScoresReferenceIdeal.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.ScoresReferenceIdeal.nD Cert.ScoresReferenceIdeal.τ Cert.ScoresReferenceIdeal.sig) → Buf (Elt Ideal) ℓ) (g' : Dev Cert.ScoresReferenceIdeal.nD → PrngReg), Pre_ScoresIdeal m →
    (∀ c : Dev Cert.ScoresIdeal.nD,
      m' ((c.tc : Thread Cert.ScoresReferenceIdeal.nD Cert.ScoresReferenceIdeal.τ).loc Cert.ScoresReferenceIdeal.main_arg0) = m ((c.tc : Thread Cert.ScoresIdeal.nD Cert.ScoresIdeal.τ).loc Cert.ScoresIdeal.main_arg0)
      ∧ m' ((c.tc : Thread Cert.ScoresReferenceIdeal.nD Cert.ScoresReferenceIdeal.τ).loc Cert.ScoresReferenceIdeal.main_arg1) = m ((c.tc : Thread Cert.ScoresIdeal.nD Cert.ScoresIdeal.τ).loc Cert.ScoresIdeal.main_arg1)
      ∧ m' ((c.tc : Thread Cert.ScoresReferenceIdeal.nD Cert.ScoresReferenceIdeal.τ).loc Cert.ScoresReferenceIdeal.main_arg2) = m ((c.tc : Thread Cert.ScoresIdeal.nD Cert.ScoresIdeal.τ).loc Cert.ScoresIdeal.main_arg2)
      ∧ m' ((c.tc : Thread Cert.ScoresReferenceIdeal.nD Cert.ScoresReferenceIdeal.τ).loc Cert.ScoresReferenceIdeal.main_arg3) = m ((c.tc : Thread Cert.ScoresIdeal.nD Cert.ScoresIdeal.τ).loc Cert.ScoresIdeal.main_arg3)
      ∧ m' ((c.tc : Thread Cert.ScoresReferenceIdeal.nD Cert.ScoresReferenceIdeal.τ).loc Cert.ScoresReferenceIdeal.main_arg4) = m ((c.tc : Thread Cert.ScoresIdeal.nD Cert.ScoresIdeal.τ).loc Cert.ScoresIdeal.main_arg4)) →
    ∃ (v0 : (c : Dev Cert.ScoresIdeal.nD) → Buf (Elt Ideal) ((c.tc : Thread Cert.ScoresIdeal.nD Cert.ScoresIdeal.τ).loc Cert.ScoresIdeal.main_v6_0)) (v1 : (c : Dev Cert.ScoresIdeal.nD) → Buf (Elt Ideal) ((c.tc : Thread Cert.ScoresIdeal.nD Cert.ScoresIdeal.τ).loc Cert.ScoresIdeal.main_v6_1)) (v2 : (c : Dev Cert.ScoresIdeal.nD) → Buf (Elt Ideal) ((c.tc : Thread Cert.ScoresIdeal.nD Cert.ScoresIdeal.τ).loc Cert.ScoresIdeal.main_v6_2)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v6_0) = v0 c
          ∧ r.2.mem ((c.tc : Thread Cert.ScoresIdeal.nD Cert.ScoresIdeal.τ).loc Cert.ScoresIdeal.main_v6_1) = v1 c
          ∧ r.2.mem ((c.tc : Thread Cert.ScoresIdeal.nD Cert.ScoresIdeal.τ).loc Cert.ScoresIdeal.main_v6_2) = v2 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
          ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
          ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
          ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4))
      ∧ θ_run (Cert.ScoresReferenceIdeal.defs (F := Ideal)) (onTc (τ := Cert.ScoresReferenceIdeal.τ) (Cert.ScoresReferenceIdeal.main (F := Ideal))) ⟨m', fun _ => 0, g'⟩ (fun r => ∀ c : Dev Cert.ScoresReferenceIdeal.nD,
          r.2.mem ((c.tc : Thread Cert.ScoresReferenceIdeal.nD Cert.ScoresReferenceIdeal.τ).loc Cert.ScoresReferenceIdeal.main_v12) = v0 c
          ∧ r.2.mem ((c.tc : Thread Cert.ScoresReferenceIdeal.nD Cert.ScoresReferenceIdeal.τ).loc Cert.ScoresReferenceIdeal.main_v15) = v1 c
          ∧ r.2.mem ((c.tc : Thread Cert.ScoresReferenceIdeal.nD Cert.ScoresReferenceIdeal.τ).loc Cert.ScoresReferenceIdeal.main_v382) = v2 c
          ∧ r.2.mem ((c.tc : Thread Cert.ScoresReferenceIdeal.nD Cert.ScoresReferenceIdeal.τ).loc Cert.ScoresReferenceIdeal.main_arg0) = m' ((c.tc : Thread Cert.ScoresReferenceIdeal.nD Cert.ScoresReferenceIdeal.τ).loc Cert.ScoresReferenceIdeal.main_arg0)
          ∧ r.2.mem ((c.tc : Thread Cert.ScoresReferenceIdeal.nD Cert.ScoresReferenceIdeal.τ).loc Cert.ScoresReferenceIdeal.main_arg1) = m' ((c.tc : Thread Cert.ScoresReferenceIdeal.nD Cert.ScoresReferenceIdeal.τ).loc Cert.ScoresReferenceIdeal.main_arg1)
          ∧ r.2.mem ((c.tc : Thread Cert.ScoresReferenceIdeal.nD Cert.ScoresReferenceIdeal.τ).loc Cert.ScoresReferenceIdeal.main_arg2) = m' ((c.tc : Thread Cert.ScoresReferenceIdeal.nD Cert.ScoresReferenceIdeal.τ).loc Cert.ScoresReferenceIdeal.main_arg2)
          ∧ r.2.mem ((c.tc : Thread Cert.ScoresReferenceIdeal.nD Cert.ScoresReferenceIdeal.τ).loc Cert.ScoresReferenceIdeal.main_arg3) = m' ((c.tc : Thread Cert.ScoresReferenceIdeal.nD Cert.ScoresReferenceIdeal.τ).loc Cert.ScoresReferenceIdeal.main_arg3)
          ∧ r.2.mem ((c.tc : Thread Cert.ScoresReferenceIdeal.nD Cert.ScoresReferenceIdeal.τ).loc Cert.ScoresReferenceIdeal.main_arg4) = m' ((c.tc : Thread Cert.ScoresReferenceIdeal.nD Cert.ScoresReferenceIdeal.τ).loc Cert.ScoresReferenceIdeal.main_arg4))

def preserves_Pool_PoolIdeal : Prop :=
  True

def algebraic_PoolIdeal_PoolReferenceIdeal [hPoolIdeal : Cert.PoolIdeal.Facts] [hPoolReferenceIdeal : Cert.PoolReferenceIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolIdeal m →
    (∀ c : Dev Cert.PoolIdeal.nD,
      m' ((c.tc : Thread Cert.PoolReferenceIdeal.nD Cert.PoolReferenceIdeal.τ).loc Cert.PoolReferenceIdeal.main_arg0) = m ((c.tc : Thread Cert.PoolIdeal.nD Cert.PoolIdeal.τ).loc Cert.PoolIdeal.main_arg0)
      ∧ m' ((c.tc : Thread Cert.PoolReferenceIdeal.nD Cert.PoolReferenceIdeal.τ).loc Cert.PoolReferenceIdeal.main_arg1) = m ((c.tc : Thread Cert.PoolIdeal.nD Cert.PoolIdeal.τ).loc Cert.PoolIdeal.main_arg1)
      ∧ m' ((c.tc : Thread Cert.PoolReferenceIdeal.nD Cert.PoolReferenceIdeal.τ).loc Cert.PoolReferenceIdeal.main_arg2) = m ((c.tc : Thread Cert.PoolIdeal.nD Cert.PoolIdeal.τ).loc Cert.PoolIdeal.main_arg2)
      ∧ m' ((c.tc : Thread Cert.PoolReferenceIdeal.nD Cert.PoolReferenceIdeal.τ).loc Cert.PoolReferenceIdeal.main_arg3) = m ((c.tc : Thread Cert.PoolIdeal.nD Cert.PoolIdeal.τ).loc Cert.PoolIdeal.main_arg3)
      ∧ m' ((c.tc : Thread Cert.PoolReferenceIdeal.nD Cert.PoolReferenceIdeal.τ).loc Cert.PoolReferenceIdeal.main_arg4) = m ((c.tc : Thread Cert.PoolIdeal.nD Cert.PoolIdeal.τ).loc Cert.PoolIdeal.main_arg4)
      ∧ m' ((c.tc : Thread Cert.PoolReferenceIdeal.nD Cert.PoolReferenceIdeal.τ).loc Cert.PoolReferenceIdeal.main_arg5) = m ((c.tc : Thread Cert.PoolIdeal.nD Cert.PoolIdeal.τ).loc Cert.PoolIdeal.main_arg5)
      ∧ m' ((c.tc : Thread Cert.PoolReferenceIdeal.nD Cert.PoolReferenceIdeal.τ).loc Cert.PoolReferenceIdeal.main_arg6) = m ((c.tc : Thread Cert.PoolIdeal.nD Cert.PoolIdeal.τ).loc Cert.PoolIdeal.main_arg6)
      ∧ m' ((c.tc : Thread Cert.PoolReferenceIdeal.nD Cert.PoolReferenceIdeal.τ).loc Cert.PoolReferenceIdeal.main_arg7) = m ((c.tc : Thread Cert.PoolIdeal.nD Cert.PoolIdeal.τ).loc Cert.PoolIdeal.main_arg7)
      ∧ m' ((c.tc : Thread Cert.PoolReferenceIdeal.nD Cert.PoolReferenceIdeal.τ).loc Cert.PoolReferenceIdeal.main_arg8) = m ((c.tc : Thread Cert.PoolIdeal.nD Cert.PoolIdeal.τ).loc Cert.PoolIdeal.main_arg8)
      ∧ m' ((c.tc : Thread Cert.PoolReferenceIdeal.nD Cert.PoolReferenceIdeal.τ).loc Cert.PoolReferenceIdeal.main_arg9) = m ((c.tc : Thread Cert.PoolIdeal.nD Cert.PoolIdeal.τ).loc Cert.PoolIdeal.main_arg9)
      ∧ m' ((c.tc : Thread Cert.PoolReferenceIdeal.nD Cert.PoolReferenceIdeal.τ).loc Cert.PoolReferenceIdeal.main_arg10) = m ((c.tc : Thread Cert.PoolIdeal.nD Cert.PoolIdeal.τ).loc Cert.PoolIdeal.main_arg10)
      ∧ m' ((c.tc : Thread Cert.PoolReferenceIdeal.nD Cert.PoolReferenceIdeal.τ).loc Cert.PoolReferenceIdeal.main_arg11) = m ((c.tc : Thread Cert.PoolIdeal.nD Cert.PoolIdeal.τ).loc Cert.PoolIdeal.main_arg11)
      ∧ m' ((c.tc : Thread Cert.PoolReferenceIdeal.nD Cert.PoolReferenceIdeal.τ).loc Cert.PoolReferenceIdeal.main_arg12) = m ((c.tc : Thread Cert.PoolIdeal.nD Cert.PoolIdeal.τ).loc Cert.PoolIdeal.main_arg12)
      ∧ m' ((c.tc : Thread Cert.PoolReferenceIdeal.nD Cert.PoolReferenceIdeal.τ).loc Cert.PoolReferenceIdeal.main_arg13) = m ((c.tc : Thread Cert.PoolIdeal.nD Cert.PoolIdeal.τ).loc Cert.PoolIdeal.main_arg13)
      ∧ m' ((c.tc : Thread Cert.PoolReferenceIdeal.nD Cert.PoolReferenceIdeal.τ).loc Cert.PoolReferenceIdeal.main_arg14) = m ((c.tc : Thread Cert.PoolIdeal.nD Cert.PoolIdeal.τ).loc Cert.PoolIdeal.main_arg14)
      ∧ m' ((c.tc : Thread Cert.PoolReferenceIdeal.nD Cert.PoolReferenceIdeal.τ).loc Cert.PoolReferenceIdeal.main_arg15) = m ((c.tc : Thread Cert.PoolIdeal.nD Cert.PoolIdeal.τ).loc Cert.PoolIdeal.main_arg15)
      ∧ m' ((c.tc : Thread Cert.PoolReferenceIdeal.nD Cert.PoolReferenceIdeal.τ).loc Cert.PoolReferenceIdeal.main_arg16) = m ((c.tc : Thread Cert.PoolIdeal.nD Cert.PoolIdeal.τ).loc Cert.PoolIdeal.main_arg16)) →
    ∃ (v0 : (c : Dev Cert.PoolIdeal.nD) → Buf (Elt Ideal) ((c.tc : Thread Cert.PoolIdeal.nD Cert.PoolIdeal.τ).loc Cert.PoolIdeal.main_v2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v2) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
          ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
          ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6)
          ∧ r.2.mem ((c.tc : Thread Cert.PoolIdeal.nD Cert.PoolIdeal.τ).loc Cert.PoolIdeal.main_arg7) = m ((c.tc : Thread Cert.PoolIdeal.nD Cert.PoolIdeal.τ).loc Cert.PoolIdeal.main_arg7)
          ∧ r.2.mem ((c.tc : Thread Cert.PoolIdeal.nD Cert.PoolIdeal.τ).loc Cert.PoolIdeal.main_arg8) = m ((c.tc : Thread Cert.PoolIdeal.nD Cert.PoolIdeal.τ).loc Cert.PoolIdeal.main_arg8)
          ∧ r.2.mem ((c.tc : Thread Cert.PoolIdeal.nD Cert.PoolIdeal.τ).loc Cert.PoolIdeal.main_arg9) = m ((c.tc : Thread Cert.PoolIdeal.nD Cert.PoolIdeal.τ).loc Cert.PoolIdeal.main_arg9)
          ∧ r.2.mem ((c.tc : Thread Cert.PoolIdeal.nD Cert.PoolIdeal.τ).loc Cert.PoolIdeal.main_arg10) = m ((c.tc : Thread Cert.PoolIdeal.nD Cert.PoolIdeal.τ).loc Cert.PoolIdeal.main_arg10)
          ∧ r.2.mem ((c.tc : Thread Cert.PoolIdeal.nD Cert.PoolIdeal.τ).loc Cert.PoolIdeal.main_arg11) = m ((c.tc : Thread Cert.PoolIdeal.nD Cert.PoolIdeal.τ).loc Cert.PoolIdeal.main_arg11)
          ∧ r.2.mem ((c.tc : Thread Cert.PoolIdeal.nD Cert.PoolIdeal.τ).loc Cert.PoolIdeal.main_arg12) = m ((c.tc : Thread Cert.PoolIdeal.nD Cert.PoolIdeal.τ).loc Cert.PoolIdeal.main_arg12)
          ∧ r.2.mem ((c.tc : Thread Cert.PoolIdeal.nD Cert.PoolIdeal.τ).loc Cert.PoolIdeal.main_arg13) = m ((c.tc : Thread Cert.PoolIdeal.nD Cert.PoolIdeal.τ).loc Cert.PoolIdeal.main_arg13)
          ∧ r.2.mem ((c.tc : Thread Cert.PoolIdeal.nD Cert.PoolIdeal.τ).loc Cert.PoolIdeal.main_arg14) = m ((c.tc : Thread Cert.PoolIdeal.nD Cert.PoolIdeal.τ).loc Cert.PoolIdeal.main_arg14)
          ∧ r.2.mem ((c.tc : Thread Cert.PoolIdeal.nD Cert.PoolIdeal.τ).loc Cert.PoolIdeal.main_arg15) = m ((c.tc : Thread Cert.PoolIdeal.nD Cert.PoolIdeal.τ).loc Cert.PoolIdeal.main_arg15)
          ∧ r.2.mem ((c.tc : Thread Cert.PoolIdeal.nD Cert.PoolIdeal.τ).loc Cert.PoolIdeal.main_arg16) = m ((c.tc : Thread Cert.PoolIdeal.nD Cert.PoolIdeal.τ).loc Cert.PoolIdeal.main_arg16))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v317) = v0 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2)
          ∧ r.2.mem ((c.tc : Thread Cert.PoolReferenceIdeal.nD Cert.PoolReferenceIdeal.τ).loc Cert.PoolReferenceIdeal.main_arg3) = m' ((c.tc : Thread Cert.PoolReferenceIdeal.nD Cert.PoolReferenceIdeal.τ).loc Cert.PoolReferenceIdeal.main_arg3)
          ∧ r.2.mem ((c.tc : Thread Cert.PoolReferenceIdeal.nD Cert.PoolReferenceIdeal.τ).loc Cert.PoolReferenceIdeal.main_arg4) = m' ((c.tc : Thread Cert.PoolReferenceIdeal.nD Cert.PoolReferenceIdeal.τ).loc Cert.PoolReferenceIdeal.main_arg4)
          ∧ r.2.mem ((c.tc : Thread Cert.PoolReferenceIdeal.nD Cert.PoolReferenceIdeal.τ).loc Cert.PoolReferenceIdeal.main_arg5) = m' ((c.tc : Thread Cert.PoolReferenceIdeal.nD Cert.PoolReferenceIdeal.τ).loc Cert.PoolReferenceIdeal.main_arg5)
          ∧ r.2.mem ((c.tc : Thread Cert.PoolReferenceIdeal.nD Cert.PoolReferenceIdeal.τ).loc Cert.PoolReferenceIdeal.main_arg6) = m' ((c.tc : Thread Cert.PoolReferenceIdeal.nD Cert.PoolReferenceIdeal.τ).loc Cert.PoolReferenceIdeal.main_arg6)
          ∧ r.2.mem ((c.tc : Thread Cert.PoolReferenceIdeal.nD Cert.PoolReferenceIdeal.τ).loc Cert.PoolReferenceIdeal.main_arg7) = m' ((c.tc : Thread Cert.PoolReferenceIdeal.nD Cert.PoolReferenceIdeal.τ).loc Cert.PoolReferenceIdeal.main_arg7)
          ∧ r.2.mem ((c.tc : Thread Cert.PoolReferenceIdeal.nD Cert.PoolReferenceIdeal.τ).loc Cert.PoolReferenceIdeal.main_arg8) = m' ((c.tc : Thread Cert.PoolReferenceIdeal.nD Cert.PoolReferenceIdeal.τ).loc Cert.PoolReferenceIdeal.main_arg8)
          ∧ r.2.mem ((c.tc : Thread Cert.PoolReferenceIdeal.nD Cert.PoolReferenceIdeal.τ).loc Cert.PoolReferenceIdeal.main_arg9) = m' ((c.tc : Thread Cert.PoolReferenceIdeal.nD Cert.PoolReferenceIdeal.τ).loc Cert.PoolReferenceIdeal.main_arg9)
          ∧ r.2.mem ((c.tc : Thread Cert.PoolReferenceIdeal.nD Cert.PoolReferenceIdeal.τ).loc Cert.PoolReferenceIdeal.main_arg10) = m' ((c.tc : Thread Cert.PoolReferenceIdeal.nD Cert.PoolReferenceIdeal.τ).loc Cert.PoolReferenceIdeal.main_arg10)
          ∧ r.2.mem ((c.tc : Thread Cert.PoolReferenceIdeal.nD Cert.PoolReferenceIdeal.τ).loc Cert.PoolReferenceIdeal.main_arg11) = m' ((c.tc : Thread Cert.PoolReferenceIdeal.nD Cert.PoolReferenceIdeal.τ).loc Cert.PoolReferenceIdeal.main_arg11)
          ∧ r.2.mem ((c.tc : Thread Cert.PoolReferenceIdeal.nD Cert.PoolReferenceIdeal.τ).loc Cert.PoolReferenceIdeal.main_arg12) = m' ((c.tc : Thread Cert.PoolReferenceIdeal.nD Cert.PoolReferenceIdeal.τ).loc Cert.PoolReferenceIdeal.main_arg12)
          ∧ r.2.mem ((c.tc : Thread Cert.PoolReferenceIdeal.nD Cert.PoolReferenceIdeal.τ).loc Cert.PoolReferenceIdeal.main_arg13) = m' ((c.tc : Thread Cert.PoolReferenceIdeal.nD Cert.PoolReferenceIdeal.τ).loc Cert.PoolReferenceIdeal.main_arg13)
          ∧ r.2.mem ((c.tc : Thread Cert.PoolReferenceIdeal.nD Cert.PoolReferenceIdeal.τ).loc Cert.PoolReferenceIdeal.main_arg14) = m' ((c.tc : Thread Cert.PoolReferenceIdeal.nD Cert.PoolReferenceIdeal.τ).loc Cert.PoolReferenceIdeal.main_arg14)
          ∧ r.2.mem ((c.tc : Thread Cert.PoolReferenceIdeal.nD Cert.PoolReferenceIdeal.τ).loc Cert.PoolReferenceIdeal.main_arg15) = m' ((c.tc : Thread Cert.PoolReferenceIdeal.nD Cert.PoolReferenceIdeal.τ).loc Cert.PoolReferenceIdeal.main_arg15)
          ∧ r.2.mem ((c.tc : Thread Cert.PoolReferenceIdeal.nD Cert.PoolReferenceIdeal.τ).loc Cert.PoolReferenceIdeal.main_arg16) = m' ((c.tc : Thread Cert.PoolReferenceIdeal.nD Cert.PoolReferenceIdeal.τ).loc Cert.PoolReferenceIdeal.main_arg16))

def Claim : Prop :=
  ∃ (hKernel : Cert.Kernel.Facts) (hKernelIdeal : Cert.KernelIdeal.Facts) (hReferenceIdeal : Cert.ReferenceIdeal.Facts) (hReference : Cert.Reference.Facts) (hScores : Cert.Scores.Facts) (hScoresIdeal : Cert.ScoresIdeal.Facts) (hScoresReferenceIdeal : Cert.ScoresReferenceIdeal.Facts) (hPool : Cert.Pool.Facts) (hPoolIdeal : Cert.PoolIdeal.Facts) (hPoolReferenceIdeal : Cert.PoolReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Scores (hScores := hScores)
    ∧ quiescent_ScoresIdeal (hScoresIdeal := hScoresIdeal)
    ∧ quiescent_ScoresReferenceIdeal (hScoresReferenceIdeal := hScoresReferenceIdeal)
    ∧ quiescent_Pool (hPool := hPool)
    ∧ quiescent_PoolIdeal (hPoolIdeal := hPoolIdeal)
    ∧ quiescent_PoolReferenceIdeal (hPoolReferenceIdeal := hPoolReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Scores_ScoresIdeal
    ∧ algebraic_ScoresIdeal_ScoresReferenceIdeal (hScoresIdeal := hScoresIdeal) (hScoresReferenceIdeal := hScoresReferenceIdeal)
    ∧ preserves_Pool_PoolIdeal
    ∧ algebraic_PoolIdeal_PoolReferenceIdeal (hPoolIdeal := hPoolIdeal) (hPoolReferenceIdeal := hPoolReferenceIdeal)
-- ==== Kernel.lean ====
abbrev S8x1024x1024 : Shape := ⟨3, ![8, 1024, 1024]⟩
abbrev S8x8x1024 : Shape := ⟨3, ![8, 8, 1024]⟩
abbrev S8x1x128 : Shape := ⟨3, ![8, 1, 128]⟩
abbrev S8x1024x128 : Shape := ⟨3, ![8, 1024, 128]⟩
abbrev S65536x128 : Shape := ⟨2, ![65536, 128]⟩
abbrev S8x8192 : Shape := ⟨2, ![8, 8192]⟩
abbrev S8x128 : Shape := ⟨2, ![8, 128]⟩
abbrev S8x1024x6 : Shape := ⟨3, ![8, 1024, 6]⟩
abbrev S_ : Shape := ⟨0, ![]⟩
abbrev S8192x128 : Shape := ⟨2, ![8192, 128]⟩
abbrev S8x256 : Shape := ⟨2, ![8, 256]⟩
abbrev S8x256x128 : Shape := ⟨3, ![8, 256, 128]⟩
abbrev S2048 : Shape := ⟨1, ![2048]⟩
abbrev S1x64 : Shape := ⟨2, ![1, 64]⟩
abbrev S64 : Shape := ⟨1, ![64]⟩
abbrev S64x128 : Shape := ⟨2, ![64, 128]⟩
abbrev S128 : Shape := ⟨1, ![128]⟩
abbrev S1x2048 : Shape := ⟨2, ![1, 2048]⟩
abbrev S1x128 : Shape := ⟨2, ![1, 128]⟩
abbrev S16 : Shape := ⟨1, ![16]⟩
abbrev S1 : Shape := ⟨1, ![1]⟩
abbrev S1x16 : Shape := ⟨2, ![1, 16]⟩
abbrev S1x64x128 : Shape := ⟨3, ![1, 64, 128]⟩

abbrev nBuf : Table → Nat
  | .hbm => 16
  | .local .scVector .vmem => 11
  | _ => 0

abbrev bufTy : (tb : Table) → Fin (nBuf tb) → BufTy
  | .hbm, ⟨0, _⟩ => ⟨S8x1024x1024, .f32⟩
  | .hbm, ⟨1, _⟩ => ⟨S8x8x1024, .f32⟩
  | .hbm, ⟨2, _⟩ => ⟨S8x1x128, .f32⟩
  | .hbm, ⟨3, _⟩ => ⟨S8x1024x128, .f32⟩
  | .hbm, ⟨4, _⟩ => ⟨S65536x128, .f32⟩
  | .hbm, ⟨5, _⟩ => ⟨S8x8192, .f32⟩
  | .hbm, ⟨6, _⟩ => ⟨S8x128, .f32⟩
  | .hbm, ⟨7, _⟩ => ⟨S8x1024x6, .f32⟩
  | .hbm, ⟨8, _⟩ => ⟨S_, .i32⟩
  | .hbm, ⟨9, _⟩ => ⟨S_, .f32⟩
  | .hbm, ⟨10, _⟩ => ⟨S8x1024x128, .f32⟩
  | .hbm, ⟨11, _⟩ => ⟨S8192x128, .f32⟩
  | .hbm, ⟨12, _⟩ => ⟨S8x256, .f32⟩
  | .hbm, ⟨13, _⟩ => ⟨S8x256, .i32⟩
  | .hbm, ⟨14, _⟩ => ⟨S8x256x128, .f32⟩
  | .hbm, ⟨15, _⟩ => ⟨S8x256x128, .f32⟩
  | .local .scVector .vmem, ⟨0, _⟩ => ⟨S2048, .f32⟩
  | .local .scVector .vmem, ⟨1, _⟩ => ⟨S1x64, .i32⟩
  | .local .scVector .vmem, ⟨2, _⟩ => ⟨S64, .i32⟩
  | .local .scVector .vmem, ⟨3, _⟩ => ⟨S64x128, .f32⟩
  | .local .scVector .vmem, ⟨4, _⟩ => ⟨S64, .f32⟩
  | .local .scVector .vmem, ⟨5, _⟩ => ⟨S64, .i32⟩
  | .local .scVector .vmem, ⟨6, _⟩ => ⟨S128, .f32⟩
  | .local .scVector .vmem, ⟨7, _⟩ => ⟨S1x64, .i32⟩
  | .local .scVector .vmem, ⟨8, _⟩ => ⟨S1x64, .i32⟩
  | .local .scVector .vmem, ⟨9, _⟩ => ⟨S64x128, .f32⟩
  | .local .scVector .vmem, ⟨10, _⟩ => ⟨S64x128, .f32⟩
  | _, _ => ⟨S8x1024x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v0_scv : Ref sig .scVector := ⟨.hbm, 4, rfl⟩
abbrev main_v1_scv : Ref sig .scVector := ⟨.hbm, 5, rfl⟩
abbrev main_v2_scv : Ref sig .scVector := ⟨.hbm, 6, rfl⟩
abbrev main_v5_scv : Ref sig .scVector := ⟨.hbm, 11, rfl⟩
abbrev main_v6_0_scv : Ref sig .scVector := ⟨.hbm, 12, rfl⟩
abbrev main_v6_1_scv : Ref sig .scVector := ⟨.hbm, 13, rfl⟩
abbrev main_v6_2_scv : Ref sig .scVector := ⟨.hbm, 14, rfl⟩
abbrev main_v6_3_scv : Ref sig .scVector := ⟨.hbm, 15, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi arg1 c4_i32_0
  let c0_i32_4 : BitVec 32 := 0#32
  let v14 : BitVec 1 := Scalar.cmpi .ne v13 c0_i32_4
  let v15 : BitVec 1 := Scalar.andi v12 v14
  let v1 : BitVec 32 := Scalar.divsi arg1 c4_i32_0
  let c1_i32 : BitVec 32 := 1#32
  let v16 : BitVec 32 := Scalar.subi v1 c1_i32
  let v17 : BitVec 32 := Scalar.select v15 v16 v1
  let v18 : BitVec 32 := Scalar.addi v0 v17
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi arg1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  ![v18.toNat, v29.toNat]
def k0_off2 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi arg1 c4_i32_0
  let c0_i32_4 : BitVec 32 := 0#32
  let v14 : BitVec 1 := Scalar.cmpi .ne v13 c0_i32_4
  let v15 : BitVec 1 := Scalar.andi v12 v14
  let v1 : BitVec 32 := Scalar.divsi arg1 c4_i32_0
  let c1_i32 : BitVec 32 := 1#32
  let v16 : BitVec 32 := Scalar.subi v1 c1_i32
  let v17 : BitVec 32 := Scalar.select v15 v16 v1
  let v18 : BitVec 32 := Scalar.addi v0 v17
  let c0_i32_56_r1 : BitVec 32 := 0#32
  ![v18.toNat, 0]
@[reducible] def k0_t1_loop : Scf.Loop 32 :=
  let c0_i32_11 : BitVec 32 := 0#32
  let c4_i32_12 : BitVec 32 := 4#32
  let v34 : BitVec 32 := Scalar.addi c0_i32_11 c4_i32_12
  let c1_i32_13 : BitVec 32 := 1#32
  ⟨c0_i32_11, v34, c1_i32_13⟩
def k0_off3 (k0_t1 : Fin k0_t1_loop.trips) : Fin 2 → Nat :=
  let c0_i32_57 : BitVec 32 := 0#32
  let v74 : Index := Scalar.indexCast c0_i32_57
  let c0_i32_56 : BitVec 32 := 0#32
  let c0_i32_11 : BitVec 32 := 0#32
  let c1_i32_13 : BitVec 32 := 1#32
  let arg22 : BitVec 32 := Scf.iv c0_i32_11 c1_i32_13 k0_t1
  let c16_i32 : BitVec 32 := 16#32
  let v68 : BitVec 32 := Scalar.muli arg22 c16_i32
  let v69 : BitVec 32 := Scalar.addi c0_i32_56 v68
  let v75 : Index := Scalar.indexCast v69
  ![0, v75.toNat]
def k0_off4 (k0_t1 : Fin k0_t1_loop.trips) : Fin 1 → Nat :=
  let c0_i32_56 : BitVec 32 := 0#32
  let c0_i32_11 : BitVec 32 := 0#32
  let c1_i32_13 : BitVec 32 := 1#32
  let arg22 : BitVec 32 := Scf.iv c0_i32_11 c1_i32_13 k0_t1
  let c16_i32 : BitVec 32 := 16#32
  let v68 : BitVec 32 := Scalar.muli arg22 c16_i32
  let v69 : BitVec 32 := Scalar.addi c0_i32_56 v68
  let v78 : Index := Scalar.indexCast v69
  ![v78.toNat]
@[reducible] def k0_t2_loop : Scf.Loop 32 :=
  let c0_i32_16 : BitVec 32 := 0#32
  let c128_i32 : BitVec 32 := 128#32
  let v35 : BitVec 32 := Scalar.addi c0_i32_16 c128_i32
  let c1_i32_17 : BitVec 32 := 1#32
  ⟨c0_i32_16, v35, c1_i32_17⟩
def k0_off5 (k0_t2 : Fin k0_t2_loop.trips) : Fin 1 → Nat :=
  let c0_i32_16 : BitVec 32 := 0#32
  let c1_i32_17 : BitVec 32 := 1#32
  let arg22 : BitVec 32 := Scf.iv c0_i32_16 c1_i32_17 k0_t2
  let c16_i32 : BitVec 32 := 16#32
  let v68 : BitVec 32 := Scalar.muli arg22 c16_i32
  let v69 : Index := Scalar.indexCast v68
  ![v69.toNat]

def k0_chk1 (v95 : IVec S16 32) (v96 : IVec S16 32) : Prop :=
  (∀ a x, ((![v96, v95] : Fin 2 → IVec S16 32) a x).toNat < S1x64.size a)
theorem k0_idx1_inb : ∀ (v95 : IVec S16 32) (v96 : IVec S16 32) (k0_hw1 : k0_chk1 v95 v96), ∀ a x, ((![v96, v95] : Fin 2 → IVec S16 32) a x).toNat < S1x64.size a := fun v95 v96 k0_hw1 => k0_hw1

def k0_chk2 (v95 : IVec S16 32) : Prop :=
  (∀ a x, ((![v95] : Fin 1 → IVec S16 32) a x).toNat < S64.size a)
theorem k0_idx2_inb : ∀ (v95 : IVec S16 32) (k0_hw2 : k0_chk2 v95), ∀ a x, ((![v95] : Fin 1 → IVec S16 32) a x).toNat < S64.size a := fun v95 k0_hw2 => k0_hw2
@[reducible] def k0_t3_loop (v36 : BitVec 32) : Scf.Loop 32 :=
  let c0_i32_27 : BitVec 32 := 0#32
  let c64_i32 : BitVec 32 := 64#32
  let v37 : BitVec 32 := Scalar.minsi v36 c64_i32
  let v44 : BitVec 32 := Scalar.subi v37 c0_i32_27
  let c1_i32_29 : BitVec 32 := 1#32
  let v46 : BitVec 32 := Scalar.divsi v44 c1_i32_29
  let v47 : BitVec 32 := Scalar.muli v46 c1_i32_29
  let v48 : BitVec 32 := Scalar.addi c0_i32_27 v47
  let c1_i32_30 : BitVec 32 := 1#32
  ⟨c0_i32_27, v48, c1_i32_30⟩

def k0_off6 (v36 : BitVec 32) (k0_t3 : Fin (k0_t3_loop v36).trips) : Fin 2 → Nat :=
  let c0_i32_27 : BitVec 32 := 0#32
  let c1_i32_30 : BitVec 32 := 1#32
  let arg22 : BitVec 32 := Scf.iv c0_i32_27 c1_i32_30 k0_t3
  let v68 : Index := Scalar.indexCast arg22
  let c0_56 : Index := 0#32
  ![v68.toNat, 0]

def k0_chk4 (v82 : IVec S16 32) : Prop :=
  (∀ a x, ((![v82] : Fin 1 → IVec S16 32) a x).toNat < S64.size a) ∧
  (∀ a x, ((![v82] : Fin 1 → IVec S16 32) a x).toNat < S64.size a)
theorem k0_idx3_inb : ∀ (v82 : IVec S16 32) (k0_hw4 : k0_chk4 v82), ∀ a x, ((![v82] : Fin 1 → IVec S16 32) a x).toNat < S64.size a := fun v82 k0_hw4 => k0_hw4.1
theorem k0_idx4_inb : ∀ (v82 : IVec S16 32) (k0_hw4 : k0_chk4 v82), ∀ a x, ((![v82] : Fin 1 → IVec S16 32) a x).toNat < S64.size a := fun v82 k0_hw4 => k0_hw4.2
def k0_off7 (v36 : BitVec 32) (k0_t3 : Fin (k0_t3_loop v36).trips) : Fin 2 → Nat :=
  let c0_i32_27 : BitVec 32 := 0#32
  let c1_i32_30 : BitVec 32 := 1#32
  let arg22 : BitVec 32 := Scf.iv c0_i32_27 c1_i32_30 k0_t3
  let v92 : Index := Scalar.indexCast arg22
  let c16 : Index := 16#32
  ![v92.toNat, 16]

def k0_chk5 (v106 : IVec S16 32) : Prop :=
  (∀ a x, ((![v106] : Fin 1 → IVec S16 32) a x).toNat < S64.size a) ∧
  (∀ a x, ((![v106] : Fin 1 → IVec S16 32) a x).toNat < S64.size a)
theorem k0_idx5_inb : ∀ (v106 : IVec S16 32) (k0_hw5 : k0_chk5 v106), ∀ a x, ((![v106] : Fin 1 → IVec S16 32) a x).toNat < S64.size a := fun v106 k0_hw5 => k0_hw5.1
theorem k0_idx6_inb : ∀ (v106 : IVec S16 32) (k0_hw5 : k0_chk5 v106), ∀ a x, ((![v106] : Fin 1 → IVec S16 32) a x).toNat < S64.size a := fun v106 k0_hw5 => k0_hw5.2
def k0_off8 (v36 : BitVec 32) (k0_t3 : Fin (k0_t3_loop v36).trips) : Fin 2 → Nat :=
  let c0_i32_27 : BitVec 32 := 0#32
  let c1_i32_30 : BitVec 32 := 1#32
  let arg22 : BitVec 32 := Scf.iv c0_i32_27 c1_i32_30 k0_t3
  let v116 : Index := Scalar.indexCast arg22
  let c32 : Index := 32#32
  ![v116.toNat, 32]

def k0_chk6 (v130 : IVec S16 32) : Prop :=
  (∀ a x, ((![v130] : Fin 1 → IVec S16 32) a x).toNat < S64.size a) ∧
  (∀ a x, ((![v130] : Fin 1 → IVec S16 32) a x).toNat < S64.size a)
theorem k0_idx7_inb : ∀ (v130 : IVec S16 32) (k0_hw6 : k0_chk6 v130), ∀ a x, ((![v130] : Fin 1 → IVec S16 32) a x).toNat < S64.size a := fun v130 k0_hw6 => k0_hw6.1
theorem k0_idx8_inb : ∀ (v130 : IVec S16 32) (k0_hw6 : k0_chk6 v130), ∀ a x, ((![v130] : Fin 1 → IVec S16 32) a x).toNat < S64.size a := fun v130 k0_hw6 => k0_hw6.2
def k0_off9 (v36 : BitVec 32) (k0_t3 : Fin (k0_t3_loop v36).trips) : Fin 2 → Nat :=
  let c0_i32_27 : BitVec 32 := 0#32
  let c1_i32_30 : BitVec 32 := 1#32
  let arg22 : BitVec 32 := Scf.iv c0_i32_27 c1_i32_30 k0_t3
  let v140 : Index := Scalar.indexCast arg22
  let c48 : Index := 48#32
  ![v140.toNat, 48]

def k0_chk7 (v154 : IVec S16 32) : Prop :=
  (∀ a x, ((![v154] : Fin 1 → IVec S16 32) a x).toNat < S64.size a) ∧
  (∀ a x, ((![v154] : Fin 1 → IVec S16 32) a x).toNat < S64.size a)
theorem k0_idx9_inb : ∀ (v154 : IVec S16 32) (k0_hw7 : k0_chk7 v154), ∀ a x, ((![v154] : Fin 1 → IVec S16 32) a x).toNat < S64.size a := fun v154 k0_hw7 => k0_hw7.1
theorem k0_idx10_inb : ∀ (v154 : IVec S16 32) (k0_hw7 : k0_chk7 v154), ∀ a x, ((![v154] : Fin 1 → IVec S16 32) a x).toNat < S64.size a := fun v154 k0_hw7 => k0_hw7.2
def k0_off10 (v36 : BitVec 32) (k0_t3 : Fin (k0_t3_loop v36).trips) : Fin 2 → Nat :=
  let c0_i32_27 : BitVec 32 := 0#32
  let c1_i32_30 : BitVec 32 := 1#32
  let arg22 : BitVec 32 := Scf.iv c0_i32_27 c1_i32_30 k0_t3
  let v164 : Index := Scalar.indexCast arg22
  let c64 : Index := 64#32
  ![v164.toNat, 64]

def k0_chk8 (v178 : IVec S16 32) : Prop :=
  (∀ a x, ((![v178] : Fin 1 → IVec S16 32) a x).toNat < S64.size a) ∧
  (∀ a x, ((![v178] : Fin 1 → IVec S16 32) a x).toNat < S64.size a)
theorem k0_idx11_inb : ∀ (v178 : IVec S16 32) (k0_hw8 : k0_chk8 v178), ∀ a x, ((![v178] : Fin 1 → IVec S16 32) a x).toNat < S64.size a := fun v178 k0_hw8 => k0_hw8.1
theorem k0_idx12_inb : ∀ (v178 : IVec S16 32) (k0_hw8 : k0_chk8 v178), ∀ a x, ((![v178] : Fin 1 → IVec S16 32) a x).toNat < S64.size a := fun v178 k0_hw8 => k0_hw8.2
def k0_off11 (v36 : BitVec 32) (k0_t3 : Fin (k0_t3_loop v36).trips) : Fin 2 → Nat :=
  let c0_i32_27 : BitVec 32 := 0#32
  let c1_i32_30 : BitVec 32 := 1#32
  let arg22 : BitVec 32 := Scf.iv c0_i32_27 c1_i32_30 k0_t3
  let v188 : Index := Scalar.indexCast arg22
  let c80 : Index := 80#32
  ![v188.toNat, 80]

def k0_chk9 (v202 : IVec S16 32) : Prop :=
  (∀ a x, ((![v202] : Fin 1 → IVec S16 32) a x).toNat < S64.size a) ∧
  (∀ a x, ((![v202] : Fin 1 → IVec S16 32) a x).toNat < S64.size a)
theorem k0_idx13_inb : ∀ (v202 : IVec S16 32) (k0_hw9 : k0_chk9 v202), ∀ a x, ((![v202] : Fin 1 → IVec S16 32) a x).toNat < S64.size a := fun v202 k0_hw9 => k0_hw9.1
theorem k0_idx14_inb : ∀ (v202 : IVec S16 32) (k0_hw9 : k0_chk9 v202), ∀ a x, ((![v202] : Fin 1 → IVec S16 32) a x).toNat < S64.size a := fun v202 k0_hw9 => k0_hw9.2
def k0_off12 (v36 : BitVec 32) (k0_t3 : Fin (k0_t3_loop v36).trips) : Fin 2 → Nat :=
  let c0_i32_27 : BitVec 32 := 0#32
  let c1_i32_30 : BitVec 32 := 1#32
  let arg22 : BitVec 32 := Scf.iv c0_i32_27 c1_i32_30 k0_t3
  let v212 : Index := Scalar.indexCast arg22
  let c96 : Index := 96#32
  ![v212.toNat, 96]

def k0_chk10 (v226 : IVec S16 32) : Prop :=
  (∀ a x, ((![v226] : Fin 1 → IVec S16 32) a x).toNat < S64.size a) ∧
  (∀ a x, ((![v226] : Fin 1 → IVec S16 32) a x).toNat < S64.size a)
theorem k0_idx15_inb : ∀ (v226 : IVec S16 32) (k0_hw10 : k0_chk10 v226), ∀ a x, ((![v226] : Fin 1 → IVec S16 32) a x).toNat < S64.size a := fun v226 k0_hw10 => k0_hw10.1
theorem k0_idx16_inb : ∀ (v226 : IVec S16 32) (k0_hw10 : k0_chk10 v226), ∀ a x, ((![v226] : Fin 1 → IVec S16 32) a x).toNat < S64.size a := fun v226 k0_hw10 => k0_hw10.2
def k0_off13 (v36 : BitVec 32) (k0_t3 : Fin (k0_t3_loop v36).trips) : Fin 2 → Nat :=
  let c0_i32_27 : BitVec 32 := 0#32
  let c1_i32_30 : BitVec 32 := 1#32
  let arg22 : BitVec 32 := Scf.iv c0_i32_27 c1_i32_30 k0_t3
  let v236 : Index := Scalar.indexCast arg22
  let c112 : Index := 112#32
  ![v236.toNat, 112]

def k0_chk11 (v250 : IVec S16 32) : Prop :=
  (∀ a x, ((![v250] : Fin 1 → IVec S16 32) a x).toNat < S64.size a) ∧
  (∀ a x, ((![v250] : Fin 1 → IVec S16 32) a x).toNat < S64.size a)
theorem k0_idx17_inb : ∀ (v250 : IVec S16 32) (k0_hw11 : k0_chk11 v250), ∀ a x, ((![v250] : Fin 1 → IVec S16 32) a x).toNat < S64.size a := fun v250 k0_hw11 => k0_hw11.1
theorem k0_idx18_inb : ∀ (v250 : IVec S16 32) (k0_hw11 : k0_chk11 v250), ∀ a x, ((![v250] : Fin 1 → IVec S16 32) a x).toNat < S64.size a := fun v250 k0_hw11 => k0_hw11.2
@[reducible] def k0_t4_loop (v36 : BitVec 32) : Scf.Loop 32 :=
  let c0_i32_27 : BitVec 32 := 0#32
  let c64_i32 : BitVec 32 := 64#32
  let v37 : BitVec 32 := Scalar.minsi v36 c64_i32
  let v44 : BitVec 32 := Scalar.subi v37 c0_i32_27
  let c1_i32_29 : BitVec 32 := 1#32
  let v46 : BitVec 32 := Scalar.divsi v44 c1_i32_29
  let v47 : BitVec 32 := Scalar.muli v46 c1_i32_29
  let v48 : BitVec 32 := Scalar.addi c0_i32_27 v47
  let v45 : BitVec 32 := Scalar.addi c0_i32_27 v44
  let c1_i32_31 : BitVec 32 := 1#32
  ⟨v48, v45, c1_i32_31⟩
def k0_off14 (v36 : BitVec 32) (k0_t4 : Fin (k0_t4_loop v36).trips) : Fin 2 → Nat :=
  let c0_i32_27 : BitVec 32 := 0#32
  let c64_i32 : BitVec 32 := 64#32
  let v37 : BitVec 32 := Scalar.minsi v36 c64_i32
  let v44 : BitVec 32 := Scalar.subi v37 c0_i32_27
  let c1_i32_29 : BitVec 32 := 1#32
  let v46 : BitVec 32 := Scalar.divsi v44 c1_i32_29
  let v47 : BitVec 32 := Scalar.muli v46 c1_i32_29
  let v48 : BitVec 32 := Scalar.addi c0_i32_27 v47
  let c1_i32_31 : BitVec 32 := 1#32
  let arg22 : BitVec 32 := Scf.iv v48 c1_i32_31 k0_t4
  let v68 : Index := Scalar.indexCast arg22
  let c0_56 : Index := 0#32
  ![v68.toNat, 0]

def k0_chk12 (v82 : IVec S16 32) : Prop :=
  (∀ a x, ((![v82] : Fin 1 → IVec S16 32) a x).toNat < S64.size a) ∧
  (∀ a x, ((![v82] : Fin 1 → IVec S16 32) a x).toNat < S64.size a)
theorem k0_idx19_inb : ∀ (v82 : IVec S16 32) (k0_hw12 : k0_chk12 v82), ∀ a x, ((![v82] : Fin 1 → IVec S16 32) a x).toNat < S64.size a := fun v82 k0_hw12 => k0_hw12.1
theorem k0_idx20_inb : ∀ (v82 : IVec S16 32) (k0_hw12 : k0_chk12 v82), ∀ a x, ((![v82] : Fin 1 → IVec S16 32) a x).toNat < S64.size a := fun v82 k0_hw12 => k0_hw12.2
def k0_off15 (v36 : BitVec 32) (k0_t4 : Fin (k0_t4_loop v36).trips) : Fin 2 → Nat :=
  let c0_i32_27 : BitVec 32 := 0#32
  let c64_i32 : BitVec 32 := 64#32
  let v37 : BitVec 32 := Scalar.minsi v36 c64_i32
  let v44 : BitVec 32 := Scalar.subi v37 c0_i32_27
  let c1_i32_29 : BitVec 32 := 1#32
  let v46 : BitVec 32 := Scalar.divsi v44 c1_i32_29
  let v47 : BitVec 32 := Scalar.muli v46 c1_i32_29
  let v48 : BitVec 32 := Scalar.addi c0_i32_27 v47
  let c1_i32_31 : BitVec 32 := 1#32
  let arg22 : BitVec 32 := Scf.iv v48 c1_i32_31 k0_t4
  let v92 : Index := Scalar.indexCast arg22
  let c16 : Index := 16#32
  ![v92.toNat, 16]

def k0_chk13 (v106 : IVec S16 32) : Prop :=
  (∀ a x, ((![v106] : Fin 1 → IVec S16 32) a x).toNat < S64.size a) ∧
  (∀ a x, ((![v106] : Fin 1 → IVec S16 32) a x).toNat < S64.size a)
theorem k0_idx21_inb : ∀ (v106 : IVec S16 32) (k0_hw13 : k0_chk13 v106), ∀ a x, ((![v106] : Fin 1 → IVec S16 32) a x).toNat < S64.size a := fun v106 k0_hw13 => k0_hw13.1
theorem k0_idx22_inb : ∀ (v106 : IVec S16 32) (k0_hw13 : k0_chk13 v106), ∀ a x, ((![v106] : Fin 1 → IVec S16 32) a x).toNat < S64.size a := fun v106 k0_hw13 => k0_hw13.2
def k0_off16 (v36 : BitVec 32) (k0_t4 : Fin (k0_t4_loop v36).trips) : Fin 2 → Nat :=
  let c0_i32_27 : BitVec 32 := 0#32
  let c64_i32 : BitVec 32 := 64#32
  let v37 : BitVec 32 := Scalar.minsi v36 c64_i32
  let v44 : BitVec 32 := Scalar.subi v37 c0_i32_27
  let c1_i32_29 : BitVec 32 := 1#32
  let v46 : BitVec 32 := Scalar.divsi v44 c1_i32_29
  let v47 : BitVec 32 := Scalar.muli v46 c1_i32_29
  let v48 : BitVec 32 := Scalar.addi c0_i32_27 v47
  let c1_i32_31 : BitVec 32 := 1#32
  let arg22 : BitVec 32 := Scf.iv v48 c1_i32_31 k0_t4
  let v116 : Index := Scalar.indexCast arg22
  let c32 : Index := 32#32
  ![v116.toNat, 32]

def k0_chk14 (v130 : IVec S16 32) : Prop :=
  (∀ a x, ((![v130] : Fin 1 → IVec S16 32) a x).toNat < S64.size a) ∧
  (∀ a x, ((![v130] : Fin 1 → IVec S16 32) a x).toNat < S64.size a)
theorem k0_idx23_inb : ∀ (v130 : IVec S16 32) (k0_hw14 : k0_chk14 v130), ∀ a x, ((![v130] : Fin 1 → IVec S16 32) a x).toNat < S64.size a := fun v130 k0_hw14 => k0_hw14.1
theorem k0_idx24_inb : ∀ (v130 : IVec S16 32) (k0_hw14 : k0_chk14 v130), ∀ a x, ((![v130] : Fin 1 → IVec S16 32) a x).toNat < S64.size a := fun v130 k0_hw14 => k0_hw14.2
def k0_off17 (v36 : BitVec 32) (k0_t4 : Fin (k0_t4_loop v36).trips) : Fin 2 → Nat :=
  let c0_i32_27 : BitVec 32 := 0#32
  let c64_i32 : BitVec 32 := 64#32
  let v37 : BitVec 32 := Scalar.minsi v36 c64_i32
  let v44 : BitVec 32 := Scalar.subi v37 c0_i32_27
  let c1_i32_29 : BitVec 32 := 1#32
  let v46 : BitVec 32 := Scalar.divsi v44 c1_i32_29
  let v47 : BitVec 32 := Scalar.muli v46 c1_i32_29
  let v48 : BitVec 32 := Scalar.addi c0_i32_27 v47
  let c1_i32_31 : BitVec 32 := 1#32
  let arg22 : BitVec 32 := Scf.iv v48 c1_i32_31 k0_t4
  let v140 : Index := Scalar.indexCast arg22
  let c48 : Index := 48#32
  ![v140.toNat, 48]

def k0_chk15 (v154 : IVec S16 32) : Prop :=
  (∀ a x, ((![v154] : Fin 1 → IVec S16 32) a x).toNat < S64.size a) ∧
  (∀ a x, ((![v154] : Fin 1 → IVec S16 32) a x).toNat < S64.size a)
theorem k0_idx25_inb : ∀ (v154 : IVec S16 32) (k0_hw15 : k0_chk15 v154), ∀ a x, ((![v154] : Fin 1 → IVec S16 32) a x).toNat < S64.size a := fun v154 k0_hw15 => k0_hw15.1
theorem k0_idx26_inb : ∀ (v154 : IVec S16 32) (k0_hw15 : k0_chk15 v154), ∀ a x, ((![v154] : Fin 1 → IVec S16 32) a x).toNat < S64.size a := fun v154 k0_hw15 => k0_hw15.2
def k0_off18 (v36 : BitVec 32) (k0_t4 : Fin (k0_t4_loop v36).trips) : Fin 2 → Nat :=
  let c0_i32_27 : BitVec 32 := 0#32
  let c64_i32 : BitVec 32 := 64#32
  let v37 : BitVec 32 := Scalar.minsi v36 c64_i32
  let v44 : BitVec 32 := Scalar.subi v37 c0_i32_27
  let c1_i32_29 : BitVec 32 := 1#32
  let v46 : BitVec 32 := Scalar.divsi v44 c1_i32_29
  let v47 : BitVec 32 := Scalar.muli v46 c1_i32_29
  let v48 : BitVec 32 := Scalar.addi c0_i32_27 v47
  let c1_i32_31 : BitVec 32 := 1#32
  let arg22 : BitVec 32 := Scf.iv v48 c1_i32_31 k0_t4
  let v164 : Index := Scalar.indexCast arg22
  let c64 : Index := 64#32
  ![v164.toNat, 64]

def k0_chk16 (v178 : IVec S16 32) : Prop :=
  (∀ a x, ((![v178] : Fin 1 → IVec S16 32) a x).toNat < S64.size a) ∧
  (∀ a x, ((![v178] : Fin 1 → IVec S16 32) a x).toNat < S64.size a)
theorem k0_idx27_inb : ∀ (v178 : IVec S16 32) (k0_hw16 : k0_chk16 v178), ∀ a x, ((![v178] : Fin 1 → IVec S16 32) a x).toNat < S64.size a := fun v178 k0_hw16 => k0_hw16.1
theorem k0_idx28_inb : ∀ (v178 : IVec S16 32) (k0_hw16 : k0_chk16 v178), ∀ a x, ((![v178] : Fin 1 → IVec S16 32) a x).toNat < S64.size a := fun v178 k0_hw16 => k0_hw16.2
def k0_off19 (v36 : BitVec 32) (k0_t4 : Fin (k0_t4_loop v36).trips) : Fin 2 → Nat :=
  let c0_i32_27 : BitVec 32 := 0#32
  let c64_i32 : BitVec 32 := 64#32
  let v37 : BitVec 32 := Scalar.minsi v36 c64_i32
  let v44 : BitVec 32 := Scalar.subi v37 c0_i32_27
  let c1_i32_29 : BitVec 32 := 1#32
  let v46 : BitVec 32 := Scalar.divsi v44 c1_i32_29
  let v47 : BitVec 32 := Scalar.muli v46 c1_i32_29
  let v48 : BitVec 32 := Scalar.addi c0_i32_27 v47
  let c1_i32_31 : BitVec 32 := 1#32
  let arg22 : BitVec 32 := Scf.iv v48 c1_i32_31 k0_t4
  let v188 : Index := Scalar.indexCast arg22
  let c80 : Index := 80#32
  ![v188.toNat, 80]

def k0_chk17 (v202 : IVec S16 32) : Prop :=
  (∀ a x, ((![v202] : Fin 1 → IVec S16 32) a x).toNat < S64.size a) ∧
  (∀ a x, ((![v202] : Fin 1 → IVec S16 32) a x).toNat < S64.size a)
theorem k0_idx29_inb : ∀ (v202 : IVec S16 32) (k0_hw17 : k0_chk17 v202), ∀ a x, ((![v202] : Fin 1 → IVec S16 32) a x).toNat < S64.size a := fun v202 k0_hw17 => k0_hw17.1
theorem k0_idx30_inb : ∀ (v202 : IVec S16 32) (k0_hw17 : k0_chk17 v202), ∀ a x, ((![v202] : Fin 1 → IVec S16 32) a x).toNat < S64.size a := fun v202 k0_hw17 => k0_hw17.2
def k0_off20 (v36 : BitVec 32) (k0_t4 : Fin (k0_t4_loop v36).trips) : Fin 2 → Nat :=
  let c0_i32_27 : BitVec 32 := 0#32
  let c64_i32 : BitVec 32 := 64#32
  let v37 : BitVec 32 := Scalar.minsi v36 c64_i32
  let v44 : BitVec 32 := Scalar.subi v37 c0_i32_27
  let c1_i32_29 : BitVec 32 := 1#32
  let v46 : BitVec 32 := Scalar.divsi v44 c1_i32_29
  let v47 : BitVec 32 := Scalar.muli v46 c1_i32_29
  let v48 : BitVec 32 := Scalar.addi c0_i32_27 v47
  let c1_i32_31 : BitVec 32 := 1#32
  let arg22 : BitVec 32 := Scf.iv v48 c1_i32_31 k0_t4
  let v212 : Index := Scalar.indexCast arg22
  let c96 : Index := 96#32
  ![v212.toNat, 96]

def k0_chk18 (v226 : IVec S16 32) : Prop :=
  (∀ a x, ((![v226] : Fin 1 → IVec S16 32) a x).toNat < S64.size a) ∧
  (∀ a x, ((![v226] : Fin 1 → IVec S16 32) a x).toNat < S64.size a)
theorem k0_idx31_inb : ∀ (v226 : IVec S16 32) (k0_hw18 : k0_chk18 v226), ∀ a x, ((![v226] : Fin 1 → IVec S16 32) a x).toNat < S64.size a := fun v226 k0_hw18 => k0_hw18.1
theorem k0_idx32_inb : ∀ (v226 : IVec S16 32) (k0_hw18 : k0_chk18 v226), ∀ a x, ((![v226] : Fin 1 → IVec S16 32) a x).toNat < S64.size a := fun v226 k0_hw18 => k0_hw18.2
def k0_off21 (v36 : BitVec 32) (k0_t4 : Fin (k0_t4_loop v36).trips) : Fin 2 → Nat :=
  let c0_i32_27 : BitVec 32 := 0#32
  let c64_i32 : BitVec 32 := 64#32
  let v37 : BitVec 32 := Scalar.minsi v36 c64_i32
  let v44 : BitVec 32 := Scalar.subi v37 c0_i32_27
  let c1_i32_29 : BitVec 32 := 1#32
  let v46 : BitVec 32 := Scalar.divsi v44 c1_i32_29
  let v47 : BitVec 32 := Scalar.muli v46 c1_i32_29
  let v48 : BitVec 32 := Scalar.addi c0_i32_27 v47
  let c1_i32_31 : BitVec 32 := 1#32
  let arg22 : BitVec 32 := Scf.iv v48 c1_i32_31 k0_t4
  let v236 : Index := Scalar.indexCast arg22
  let c112 : Index := 112#32
  ![v236.toNat, 112]

def k0_chk3 (v36 : BitVec 32) : Prop :=
  ((k0_t3_loop v36).OK) ∧
  (∀ k0_t3 : Fin (k0_t3_loop v36).trips, ∀ a, (k0_off6 v36 k0_t3) a + S1x16.size a ≤ S64x128.size a) ∧
  (∀ k0_t3 : Fin (k0_t3_loop v36).trips, ∀ a, (k0_off7 v36 k0_t3) a + S1x16.size a ≤ S64x128.size a) ∧
  (∀ k0_t3 : Fin (k0_t3_loop v36).trips, ∀ a, (k0_off8 v36 k0_t3) a + S1x16.size a ≤ S64x128.size a) ∧
  (∀ k0_t3 : Fin (k0_t3_loop v36).trips, ∀ a, (k0_off9 v36 k0_t3) a + S1x16.size a ≤ S64x128.size a) ∧
  (∀ k0_t3 : Fin (k0_t3_loop v36).trips, ∀ a, (k0_off10 v36 k0_t3) a + S1x16.size a ≤ S64x128.size a) ∧
  (∀ k0_t3 : Fin (k0_t3_loop v36).trips, ∀ a, (k0_off11 v36 k0_t3) a + S1x16.size a ≤ S64x128.size a) ∧
  (∀ k0_t3 : Fin (k0_t3_loop v36).trips, ∀ a, (k0_off12 v36 k0_t3) a + S1x16.size a ≤ S64x128.size a) ∧
  (∀ k0_t3 : Fin (k0_t3_loop v36).trips, ∀ a, (k0_off13 v36 k0_t3) a + S1x16.size a ≤ S64x128.size a) ∧
  ((k0_t4_loop v36).OK) ∧
  (∀ k0_t4 : Fin (k0_t4_loop v36).trips, ∀ a, (k0_off14 v36 k0_t4) a + S1x16.size a ≤ S64x128.size a) ∧
  (∀ k0_t4 : Fin (k0_t4_loop v36).trips, ∀ a, (k0_off15 v36 k0_t4) a + S1x16.size a ≤ S64x128.size a) ∧
  (∀ k0_t4 : Fin (k0_t4_loop v36).trips, ∀ a, (k0_off16 v36 k0_t4) a + S1x16.size a ≤ S64x128.size a) ∧
  (∀ k0_t4 : Fin (k0_t4_loop v36).trips, ∀ a, (k0_off17 v36 k0_t4) a + S1x16.size a ≤ S64x128.size a) ∧
  (∀ k0_t4 : Fin (k0_t4_loop v36).trips, ∀ a, (k0_off18 v36 k0_t4) a + S1x16.size a ≤ S64x128.size a) ∧
  (∀ k0_t4 : Fin (k0_t4_loop v36).trips, ∀ a, (k0_off19 v36 k0_t4) a + S1x16.size a ≤ S64x128.size a) ∧
  (∀ k0_t4 : Fin (k0_t4_loop v36).trips, ∀ a, (k0_off20 v36 k0_t4) a + S1x16.size a ≤ S64x128.size a) ∧
  (∀ k0_t4 : Fin (k0_t4_loop v36).trips, ∀ a, (k0_off21 v36 k0_t4) a + S1x16.size a ≤ S64x128.size a)
theorem k0_t3_ok : ∀ (v36 : BitVec 32) (k0_hw3 : k0_chk3 v36), (k0_t3_loop v36).OK := fun v36 k0_hw3 => k0_hw3.1
theorem k0_off6_inb : ∀ (v36 : BitVec 32) (k0_hw3 : k0_chk3 v36) (k0_t3 : Fin (k0_t3_loop v36).trips), ∀ a, (k0_off6 v36 k0_t3) a + S1x16.size a ≤ S64x128.size a := fun v36 k0_hw3 k0_t3 => k0_hw3.2.1 k0_t3
theorem k0_off7_inb : ∀ (v36 : BitVec 32) (k0_hw3 : k0_chk3 v36) (k0_t3 : Fin (k0_t3_loop v36).trips), ∀ a, (k0_off7 v36 k0_t3) a + S1x16.size a ≤ S64x128.size a := fun v36 k0_hw3 k0_t3 => k0_hw3.2.2.1 k0_t3
theorem k0_off8_inb : ∀ (v36 : BitVec 32) (k0_hw3 : k0_chk3 v36) (k0_t3 : Fin (k0_t3_loop v36).trips), ∀ a, (k0_off8 v36 k0_t3) a + S1x16.size a ≤ S64x128.size a := fun v36 k0_hw3 k0_t3 => k0_hw3.2.2.2.1 k0_t3
theorem k0_off9_inb : ∀ (v36 : BitVec 32) (k0_hw3 : k0_chk3 v36) (k0_t3 : Fin (k0_t3_loop v36).trips), ∀ a, (k0_off9 v36 k0_t3) a + S1x16.size a ≤ S64x128.size a := fun v36 k0_hw3 k0_t3 => k0_hw3.2.2.2.2.1 k0_t3
theorem k0_off10_inb : ∀ (v36 : BitVec 32) (k0_hw3 : k0_chk3 v36) (k0_t3 : Fin (k0_t3_loop v36).trips), ∀ a, (k0_off10 v36 k0_t3) a + S1x16.size a ≤ S64x128.size a := fun v36 k0_hw3 k0_t3 => k0_hw3.2.2.2.2.2.1 k0_t3
theorem k0_off11_inb : ∀ (v36 : BitVec 32) (k0_hw3 : k0_chk3 v36) (k0_t3 : Fin (k0_t3_loop v36).trips), ∀ a, (k0_off11 v36 k0_t3) a + S1x16.size a ≤ S64x128.size a := fun v36 k0_hw3 k0_t3 => k0_hw3.2.2.2.2.2.2.1 k0_t3
theorem k0_off12_inb : ∀ (v36 : BitVec 32) (k0_hw3 : k0_chk3 v36) (k0_t3 : Fin (k0_t3_loop v36).trips), ∀ a, (k0_off12 v36 k0_t3) a + S1x16.size a ≤ S64x128.size a := fun v36 k0_hw3 k0_t3 => k0_hw3.2.2.2.2.2.2.2.1 k0_t3
theorem k0_off13_inb : ∀ (v36 : BitVec 32) (k0_hw3 : k0_chk3 v36) (k0_t3 : Fin (k0_t3_loop v36).trips), ∀ a, (k0_off13 v36 k0_t3) a + S1x16.size a ≤ S64x128.size a := fun v36 k0_hw3 k0_t3 => k0_hw3.2.2.2.2.2.2.2.2.1 k0_t3
theorem k0_t4_ok : ∀ (v36 : BitVec 32) (k0_hw3 : k0_chk3 v36), (k0_t4_loop v36).OK := fun v36 k0_hw3 => k0_hw3.2.2.2.2.2.2.2.2.2.1
theorem k0_off14_inb : ∀ (v36 : BitVec 32) (k0_hw3 : k0_chk3 v36) (k0_t4 : Fin (k0_t4_loop v36).trips), ∀ a, (k0_off14 v36 k0_t4) a + S1x16.size a ≤ S64x128.size a := fun v36 k0_hw3 k0_t4 => k0_hw3.2.2.2.2.2.2.2.2.2.2.1 k0_t4
theorem k0_off15_inb : ∀ (v36 : BitVec 32) (k0_hw3 : k0_chk3 v36) (k0_t4 : Fin (k0_t4_loop v36).trips), ∀ a, (k0_off15 v36 k0_t4) a + S1x16.size a ≤ S64x128.size a := fun v36 k0_hw3 k0_t4 => k0_hw3.2.2.2.2.2.2.2.2.2.2.2.1 k0_t4
theorem k0_off16_inb : ∀ (v36 : BitVec 32) (k0_hw3 : k0_chk3 v36) (k0_t4 : Fin (k0_t4_loop v36).trips), ∀ a, (k0_off16 v36 k0_t4) a + S1x16.size a ≤ S64x128.size a := fun v36 k0_hw3 k0_t4 => k0_hw3.2.2.2.2.2.2.2.2.2.2.2.2.1 k0_t4
theorem k0_off17_inb : ∀ (v36 : BitVec 32) (k0_hw3 : k0_chk3 v36) (k0_t4 : Fin (k0_t4_loop v36).trips), ∀ a, (k0_off17 v36 k0_t4) a + S1x16.size a ≤ S64x128.size a := fun v36 k0_hw3 k0_t4 => k0_hw3.2.2.2.2.2.2.2.2.2.2.2.2.2.1 k0_t4
theorem k0_off18_inb : ∀ (v36 : BitVec 32) (k0_hw3 : k0_chk3 v36) (k0_t4 : Fin (k0_t4_loop v36).trips), ∀ a, (k0_off18 v36 k0_t4) a + S1x16.size a ≤ S64x128.size a := fun v36 k0_hw3 k0_t4 => k0_hw3.2.2.2.2.2.2.2.2.2.2.2.2.2.2.1 k0_t4
theorem k0_off19_inb : ∀ (v36 : BitVec 32) (k0_hw3 : k0_chk3 v36) (k0_t4 : Fin (k0_t4_loop v36).trips), ∀ a, (k0_off19 v36 k0_t4) a + S1x16.size a ≤ S64x128.size a := fun v36 k0_hw3 k0_t4 => k0_hw3.2.2.2.2.2.2.2.2.2.2.2.2.2.2.2.1 k0_t4
theorem k0_off20_inb : ∀ (v36 : BitVec 32) (k0_hw3 : k0_chk3 v36) (k0_t4 : Fin (k0_t4_loop v36).trips), ∀ a, (k0_off20 v36 k0_t4) a + S1x16.size a ≤ S64x128.size a := fun v36 k0_hw3 k0_t4 => k0_hw3.2.2.2.2.2.2.2.2.2.2.2.2.2.2.2.2.1 k0_t4
theorem k0_off21_inb : ∀ (v36 : BitVec 32) (k0_hw3 : k0_chk3 v36) (k0_t4 : Fin (k0_t4_loop v36).trips), ∀ a, (k0_off21 v36 k0_t4) a + S1x16.size a ≤ S64x128.size a := fun v36 k0_hw3 k0_t4 => k0_hw3.2.2.2.2.2.2.2.2.2.2.2.2.2.2.2.2.2 k0_t4

def k0_chk19 (v250 : IVec S16 32) : Prop :=
  (∀ a x, ((![v250] : Fin 1 → IVec S16 32) a x).toNat < S64.size a) ∧
  (∀ a x, ((![v250] : Fin 1 → IVec S16 32) a x).toNat < S64.size a)
theorem k0_idx33_inb : ∀ (v250 : IVec S16 32) (k0_hw19 : k0_chk19 v250), ∀ a x, ((![v250] : Fin 1 → IVec S16 32) a x).toNat < S64.size a := fun v250 k0_hw19 => k0_hw19.1
theorem k0_idx34_inb : ∀ (v250 : IVec S16 32) (k0_hw19 : k0_chk19 v250), ∀ a x, ((![v250] : Fin 1 → IVec S16 32) a x).toNat < S64.size a := fun v250 k0_hw19 => k0_hw19.2
@[reducible] def k0_t5_loop : Scf.Loop 32 :=
  let c0_i32_32 : BitVec 32 := 0#32
  let c4_i32_33 : BitVec 32 := 4#32
  let v51 : BitVec 32 := Scalar.addi c0_i32_32 c4_i32_33
  let c1_i32_34 : BitVec 32 := 1#32
  ⟨c0_i32_32, v51, c1_i32_34⟩
def k0_off22 (k0_t5 : Fin k0_t5_loop.trips) : Fin 1 → Nat :=
  let c0_i32_56 : BitVec 32 := 0#32
  let c0_i32_32 : BitVec 32 := 0#32
  let c1_i32_34 : BitVec 32 := 1#32
  let arg22 : BitVec 32 := Scf.iv c0_i32_32 c1_i32_34 k0_t5
  let c16_i32 : BitVec 32 := 16#32
  let v68 : BitVec 32 := Scalar.muli arg22 c16_i32
  let v69 : BitVec 32 := Scalar.addi c0_i32_56 v68
  let v70 : Index := Scalar.indexCast v69
  ![v70.toNat]

def k0_chk20 (v73 : IVec S16 32) : Prop :=
  (∀ a x, ((![v73] : Fin 1 → IVec S16 32) a x).toNat < S64.size a)
theorem k0_idx35_inb : ∀ (v73 : IVec S16 32) (k0_hw20 : k0_chk20 v73), ∀ a x, ((![v73] : Fin 1 → IVec S16 32) a x).toNat < S64.size a := fun v73 k0_hw20 => k0_hw20
def k0_off23 (k0_t5 : Fin k0_t5_loop.trips) : Fin 1 → Nat :=
  let c0_i32_56 : BitVec 32 := 0#32
  let c0_i32_32 : BitVec 32 := 0#32
  let c1_i32_34 : BitVec 32 := 1#32
  let arg22 : BitVec 32 := Scf.iv c0_i32_32 c1_i32_34 k0_t5
  let c16_i32 : BitVec 32 := 16#32
  let v68 : BitVec 32 := Scalar.muli arg22 c16_i32
  let v69 : BitVec 32 := Scalar.addi c0_i32_56 v68
  let v80 : Index := Scalar.indexCast v69
  ![v80.toNat]
def k0_off24 (k0_t5 : Fin k0_t5_loop.trips) : Fin 2 → Nat :=
  let c0_i32_58 : BitVec 32 := 0#32
  let v87 : Index := Scalar.indexCast c0_i32_58
  let c0_i32_56 : BitVec 32 := 0#32
  let c0_i32_32 : BitVec 32 := 0#32
  let c1_i32_34 : BitVec 32 := 1#32
  let arg22 : BitVec 32 := Scf.iv c0_i32_32 c1_i32_34 k0_t5
  let c16_i32 : BitVec 32 := 16#32
  let v68 : BitVec 32 := Scalar.muli arg22 c16_i32
  let v69 : BitVec 32 := Scalar.addi c0_i32_56 v68
  let v88 : Index := Scalar.indexCast v69
  ![0, v88.toNat]
def k0_off25 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi arg1 c4_i32_0
  let c0_i32_4 : BitVec 32 := 0#32
  let v14 : BitVec 1 := Scalar.cmpi .ne v13 c0_i32_4
  let v15 : BitVec 1 := Scalar.andi v12 v14
  let v1 : BitVec 32 := Scalar.divsi arg1 c4_i32_0
  let c1_i32 : BitVec 32 := 1#32
  let v16 : BitVec 32 := Scalar.subi v1 c1_i32
  let v17 : BitVec 32 := Scalar.select v15 v16 v1
  let v18 : BitVec 32 := Scalar.addi v0 v17
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi arg1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c64_i32_52 : BitVec 32 := 64#32
  let v64 : BitVec 32 := Scalar.muli v28 c64_i32_52
  ![v18.toNat, v64.toNat]
def k0_off26 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c4_i32_0 : BitVec 32 := 4#32
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi arg1 c4_i32_0
  let c0_i32_4 : BitVec 32 := 0#32
  let v14 : BitVec 1 := Scalar.cmpi .ne v13 c0_i32_4
  let v15 : BitVec 1 := Scalar.andi v12 v14
  let v1 : BitVec 32 := Scalar.divsi arg1 c4_i32_0
  let c1_i32 : BitVec 32 := 1#32
  let v16 : BitVec 32 := Scalar.subi v1 c1_i32
  let v17 : BitVec 32 := Scalar.select v15 v16 v1
  let v18 : BitVec 32 := Scalar.addi v0 v17
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi arg1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c64_i32_54 : BitVec 32 := 64#32
  let v66 : BitVec 32 := Scalar.muli v28 c64_i32_54
  let c0_i32_56_r4 : BitVec 32 := 0#32
  ![v18.toNat, v66.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S8x1024x1024 : Shape := ⟨3, ![8, 1024, 1024]⟩
abbrev S8x8x1024 : Shape := ⟨3, ![8, 8, 1024]⟩
abbrev S8x1x128 : Shape := ⟨3, ![8, 1, 128]⟩
abbrev S8x1024x128 : Shape := ⟨3, ![8, 1024, 128]⟩
abbrev S64 : Shape := ⟨1, ![64]⟩
abbrev S1x64 : Shape := ⟨2, ![1, 64]⟩
abbrev S32 : Shape := ⟨1, ![32]⟩
abbrev S32x1 : Shape := ⟨2, ![32, 1]⟩
abbrev S_ : Shape := ⟨0, ![]⟩
abbrev S8x1x1 : Shape := ⟨3, ![8, 1, 1]⟩
abbrev S8 : Shape := ⟨1, ![8]⟩
abbrev S8x4 : Shape := ⟨2, ![8, 4]⟩
abbrev S32x2048 : Shape := ⟨2, ![32, 2048]⟩
abbrev S2048x32 : Shape := ⟨2, ![2048, 32]⟩
abbrev S32x64 : Shape := ⟨2, ![32, 64]⟩
abbrev S2048x32x1 : Shape := ⟨3, ![2048, 32, 1]⟩
abbrev S1x32x64 : Shape := ⟨3, ![1, 32, 64]⟩
abbrev S2048x32x64 : Shape := ⟨3, ![2048, 32, 64]⟩
abbrev S65536x128 : Shape := ⟨2, ![65536, 128]⟩
abbrev S2048 : Shape := ⟨1, ![2048]⟩
abbrev S2048x1 : Shape := ⟨2, ![2048, 1]⟩
abbrev S2048x128 : Shape := ⟨2, ![2048, 128]⟩
abbrev S32x64x128 : Shape := ⟨3, ![32, 64, 128]⟩
abbrev S32x1x1 : Shape := ⟨3, ![32, 1, 1]⟩
abbrev S32x64x1 : Shape := ⟨3, ![32, 64, 1]⟩
abbrev S32x8192 : Shape := ⟨2, ![32, 8192]⟩
abbrev S8192x32 : Shape := ⟨2, ![8192, 32]⟩
abbrev S8192x32x1 : Shape := ⟨3, ![8192, 32, 1]⟩
abbrev S8192x32x64 : Shape := ⟨3, ![8192, 32, 64]⟩
abbrev S8388608 : Shape := ⟨1, ![8388608]⟩
abbrev S128 : Shape := ⟨1, ![128]⟩
abbrev S8192x128 : Shape := ⟨2, ![8192, 128]⟩
abbrev S8x256 : Shape := ⟨2, ![8, 256]⟩
abbrev S8x256x128 : Shape := ⟨3, ![8, 256, 128]⟩

abbrev nBuf : Space → Nat
  | .hbm => 268
  | .vmem => 0
  | .smem => 0
  | _ => 0

abbrev hbmTy0_0 (i : Nat) : BufTy := match i % 128 with
  | 0 => ⟨S8x1024x1024, .f32⟩
  | 1 => ⟨S8x8x1024, .f32⟩
  | 2 => ⟨S8x1x128, .f32⟩
  | 3 => ⟨S8x1024x128, .f32⟩
  | 4 => ⟨S64, .i32⟩
  | 5 => ⟨S1x64, .i32⟩
  | 6 => ⟨S32, .i32⟩
  | 7 => ⟨S32x1, .i32⟩
  | 8 => ⟨S_, .i32⟩
  | 9 => ⟨S32x1, .i32⟩
  | 10 => ⟨S32x1, .i32⟩
  | 11 => ⟨S_, .i32⟩
  | 12 => ⟨S32x1, .i32⟩
  | 13 => ⟨S32x1, .i32⟩
  | 14 => ⟨S8x1x1, .f32⟩
  | 15 => ⟨S8, .f32⟩
  | 16 => ⟨S8x4, .f32⟩
  | 17 => ⟨S32, .f32⟩
  | 18 => ⟨S32x2048, .f32⟩
  | 19 => ⟨S32x1, .f32⟩
  | 20 => ⟨S32x2048, .f32⟩
  | 21 => ⟨S32x2048, .i1⟩
  | 22 => ⟨S2048x32, .i1⟩
  | 23 => ⟨S2048x32, .i32⟩
  | 24 => ⟨S_, .i32⟩
  | 25 => ⟨S32, .i32⟩
  | 26 => ⟨S32x1, .i32⟩
  | 27 => ⟨S2048x32, .i32⟩
  | 28 => ⟨S_, .i32⟩
  | 29 => ⟨S_, .i32⟩
  | 30 => ⟨S2048x32, .i32⟩
  | 31 => ⟨S_, .i32⟩
  | 32 => ⟨S1x64, .i32⟩
  | 33 => ⟨S1x64, .i1⟩
  | 34 => ⟨S_, .i32⟩
  | 35 => ⟨S32x1, .i32⟩
  | 36 => ⟨S32x1, .i32⟩
  | 37 => ⟨S_, .i32⟩
  | 38 => ⟨S32x1, .i32⟩
  | 39 => ⟨S32x1, .i32⟩
  | 40 => ⟨S32x64, .i1⟩
  | 41 => ⟨S32x64, .i32⟩
  | 42 => ⟨S32x64, .i32⟩
  | 43 => ⟨S32x64, .i32⟩
  | 44 => ⟨S2048x32x1, .i32⟩
  | 45 => ⟨S1x32x64, .i32⟩
  | 46 => ⟨S2048x32x64, .i32⟩
  | 47 => ⟨S2048x32x64, .i32⟩
  | 48 => ⟨S2048x32x64, .i1⟩
  | 49 => ⟨S2048x32x64, .i32⟩
  | 50 => ⟨S_, .i32⟩
  | 51 => ⟨S32x64, .i32⟩
  | 52 => ⟨S32x64, .i32⟩
  | 53 => ⟨S32x64, .i32⟩
  | 54 => ⟨S32x64, .i1⟩
  | 55 => ⟨S_, .i32⟩
  | 56 => ⟨S_, .i32⟩
  | 57 => ⟨S32x64, .i32⟩
  | 58 => ⟨S32x64, .i32⟩
  | 59 => ⟨S_, .i32⟩
  | 60 => ⟨S32x1, .i32⟩
  | 61 => ⟨S32x1, .i32⟩
  | 62 => ⟨S_, .i32⟩
  | 63 => ⟨S32x64, .i32⟩
  | 64 => ⟨S32x64, .i32⟩
  | 65 => ⟨S32x64, .i32⟩
  | 66 => ⟨S32x64, .i32⟩
  | 67 => ⟨S_, .i32⟩
  | 68 => ⟨S32x64, .i32⟩
  | 69 => ⟨S32x64, .i32⟩
  | 70 => ⟨S65536x128, .f32⟩
  | 71 => ⟨S_, .i32⟩
  | 72 => ⟨S32x1, .i32⟩
  | 73 => ⟨S32x1, .i32⟩
  | 74 => ⟨S32x64, .i32⟩
  | 75 => ⟨S32x64, .i32⟩
  | 76 => ⟨S_, .i32⟩
  | 77 => ⟨S32x64, .i32⟩
  | 78 => ⟨S32x64, .i32⟩
  | 79 => ⟨S32x64, .i32⟩
  | 80 => ⟨S2048, .i32⟩
  | 81 => ⟨S_, .i32⟩
  | 82 => ⟨S2048, .i32⟩
  | 83 => ⟨S2048, .i1⟩
  | 84 => ⟨S_, .i32⟩
  | 85 => ⟨S2048, .i32⟩
  | 86 => ⟨S2048, .i32⟩
  | 87 => ⟨S2048, .i32⟩
  | 88 => ⟨S2048x1, .i32⟩
  | 89 => ⟨S2048x128, .f32⟩
  | 90 => ⟨S32x64x128, .f32⟩
  | 91 => ⟨S32x1x1, .f32⟩
  | 92 => ⟨S32x64x128, .f32⟩
  | 93 => ⟨S32x64x128, .i1⟩
  | 94 => ⟨S32x64, .i32⟩
  | 95 => ⟨S32x64, .i32⟩
  | 96 => ⟨S32x64, .i1⟩
  | 97 => ⟨S32x64x1, .i1⟩
  | 98 => ⟨S32x64x128, .i1⟩
  | 99 => ⟨S32x64x128, .i1⟩
  | 100 => ⟨S32x8192, .i1⟩
  | 101 => ⟨S8192x32, .i1⟩
  | 102 => ⟨S8192x32, .i32⟩
  | 103 => ⟨S_, .i32⟩
  | 104 => ⟨S32, .i32⟩
  | 105 => ⟨S32x1, .i32⟩
  | 106 => ⟨S8192x32, .i32⟩
  | 107 => ⟨S_, .i32⟩
  | 108 => ⟨S_, .i32⟩
  | 109 => ⟨S8192x32, .i32⟩
  | 110 => ⟨S_, .i32⟩
  | 111 => ⟨S1x64, .i32⟩
  | 112 => ⟨S1x64, .i1⟩
  | 113 => ⟨S_, .i32⟩
  | 114 => ⟨S32x1, .i32⟩
  | 115 => ⟨S32x1, .i32⟩
  | 116 => ⟨S_, .i32⟩
  | 117 => ⟨S32x1, .i32⟩
  | 118 => ⟨S32x1, .i32⟩
  | 119 => ⟨S32x64, .i1⟩
  | 120 => ⟨S32x64, .i32⟩
  | 121 => ⟨S32x64, .i32⟩
  | 122 => ⟨S32x64, .i32⟩
  | 123 => ⟨S8192x32x1, .i32⟩
  | 124 => ⟨S1x32x64, .i32⟩
  | 125 => ⟨S8192x32x64, .i32⟩
  | 126 => ⟨S8192x32x64, .i32⟩
  | 127 => ⟨S8192x32x64, .i1⟩
  | _ => ⟨S8x1024x1024, .f32⟩

abbrev hbmTy0_1 (i : Nat) : BufTy := match i % 128 with
  | 0 => ⟨S8192x32x64, .i32⟩
  | 1 => ⟨S_, .i32⟩
  | 2 => ⟨S32x64, .i32⟩
  | 3 => ⟨S32x64, .i32⟩
  | 4 => ⟨S32x64, .i32⟩
  | 5 => ⟨S32x64, .i1⟩
  | 6 => ⟨S_, .i32⟩
  | 7 => ⟨S_, .i32⟩
  | 8 => ⟨S32x64, .i32⟩
  | 9 => ⟨S32x64, .i32⟩
  | 10 => ⟨S2048, .i32⟩
  | 11 => ⟨S_, .i32⟩
  | 12 => ⟨S32x1, .i32⟩
  | 13 => ⟨S32x1, .i32⟩
  | 14 => ⟨S_, .i32⟩
  | 15 => ⟨S32x64, .i32⟩
  | 16 => ⟨S32x64, .i32⟩
  | 17 => ⟨S32x64, .i32⟩
  | 18 => ⟨S32x64, .i32⟩
  | 19 => ⟨S2048, .i32⟩
  | 20 => ⟨S_, .i32⟩
  | 21 => ⟨S2048, .i32⟩
  | 22 => ⟨S2048, .i1⟩
  | 23 => ⟨S_, .i32⟩
  | 24 => ⟨S2048, .i32⟩
  | 25 => ⟨S2048, .i32⟩
  | 26 => ⟨S2048, .i32⟩
  | 27 => ⟨S2048x1, .i32⟩
  | 28 => ⟨S2048, .i32⟩
  | 29 => ⟨S32x64, .i32⟩
  | 30 => ⟨S_, .i32⟩
  | 31 => ⟨S32x1, .i32⟩
  | 32 => ⟨S32x1, .i1⟩
  | 33 => ⟨S_, .i32⟩
  | 34 => ⟨S32x1, .i32⟩
  | 35 => ⟨S32x1, .i32⟩
  | 36 => ⟨S_, .i32⟩
  | 37 => ⟨S32x64, .i32⟩
  | 38 => ⟨S32x64, .i32⟩
  | 39 => ⟨S32x64, .i32⟩
  | 40 => ⟨S32x64, .i32⟩
  | 41 => ⟨S_, .i32⟩
  | 42 => ⟨S32x64, .i32⟩
  | 43 => ⟨S32x64, .i32⟩
  | 44 => ⟨S_, .i32⟩
  | 45 => ⟨S32x64, .i32⟩
  | 46 => ⟨S32x64, .i32⟩
  | 47 => ⟨S32x64, .i32⟩
  | 48 => ⟨S_, .i32⟩
  | 49 => ⟨S_, .i32⟩
  | 50 => ⟨S32x64, .i1⟩
  | 51 => ⟨S32x64, .i32⟩
  | 52 => ⟨S32x64, .i32⟩
  | 53 => ⟨S_, .i32⟩
  | 54 => ⟨S32x1, .i32⟩
  | 55 => ⟨S32x1, .i1⟩
  | 56 => ⟨S_, .i32⟩
  | 57 => ⟨S32x64, .i32⟩
  | 58 => ⟨S32x64, .i32⟩
  | 59 => ⟨S_, .i32⟩
  | 60 => ⟨S_, .i32⟩
  | 61 => ⟨S32x64, .i1⟩
  | 62 => ⟨S32x64, .i32⟩
  | 63 => ⟨S32x64, .i32⟩
  | 64 => ⟨S8388608, .f32⟩
  | 65 => ⟨S_, .i32⟩
  | 66 => ⟨S32x1, .i32⟩
  | 67 => ⟨S32x1, .i32⟩
  | 68 => ⟨S32x64, .i32⟩
  | 69 => ⟨S32x64, .i32⟩
  | 70 => ⟨S_, .i32⟩
  | 71 => ⟨S32x64, .i32⟩
  | 72 => ⟨S32x64, .i32⟩
  | 73 => ⟨S32x64, .i32⟩
  | 74 => ⟨S2048, .i32⟩
  | 75 => ⟨S_, .i32⟩
  | 76 => ⟨S2048, .i32⟩
  | 77 => ⟨S2048, .i1⟩
  | 78 => ⟨S_, .i32⟩
  | 79 => ⟨S2048, .i32⟩
  | 80 => ⟨S2048, .i32⟩
  | 81 => ⟨S2048, .i32⟩
  | 82 => ⟨S2048x1, .i32⟩
  | 83 => ⟨S2048, .f32⟩
  | 84 => ⟨S32x64, .f32⟩
  | 85 => ⟨S32x64, .i32⟩
  | 86 => ⟨S32x64, .i32⟩
  | 87 => ⟨S32x64, .i1⟩
  | 88 => ⟨S_, .f32⟩
  | 89 => ⟨S_, .f32⟩
  | 90 => ⟨S32x64, .f32⟩
  | 91 => ⟨S32x64, .f32⟩
  | 92 => ⟨S128, .i32⟩
  | 93 => ⟨S_, .i32⟩
  | 94 => ⟨S128, .i32⟩
  | 95 => ⟨S128, .i1⟩
  | 96 => ⟨S_, .f32⟩
  | 97 => ⟨S_, .f32⟩
  | 98 => ⟨S8x1024x128, .i1⟩
  | 99 => ⟨S8x1024x128, .f32⟩
  | 100 => ⟨S8x1024x128, .f32⟩
  | 101 => ⟨S8192x128, .f32⟩
  | 102 => ⟨S8x256, .f32⟩
  | 103 => ⟨S_, .i32⟩
  | 104 => ⟨S32x64, .i32⟩
  | 105 => ⟨S32x64, .i32⟩
  | 106 => ⟨S32x64, .i32⟩
  | 107 => ⟨S8x256, .i32⟩
  | 108 => ⟨S_, .i32⟩
  | 109 => ⟨S32x1, .i32⟩
  | 110 => ⟨S32x1, .i32⟩
  | 111 => ⟨S32x64, .i32⟩
  | 112 => ⟨S32x64, .i32⟩
  | 113 => ⟨S2048, .i32⟩
  | 114 => ⟨S_, .i32⟩
  | 115 => ⟨S2048, .i32⟩
  | 116 => ⟨S2048, .i1⟩
  | 117 => ⟨S_, .i32⟩
  | 118 => ⟨S2048, .i32⟩
  | 119 => ⟨S2048, .i32⟩
  | 120 => ⟨S2048, .i32⟩
  | 121 => ⟨S2048x1, .i32⟩
  | 122 => ⟨S2048x128, .f32⟩
  | 123 => ⟨S8x256x128, .f32⟩
  | 124 => ⟨S_, .i32⟩
  | 125 => ⟨S32x1, .i32⟩
  | 126 => ⟨S32x1, .i32⟩
  | 127 => ⟨S32x64, .i32⟩
  | _ => ⟨S8x1024x1024, .f32⟩

abbrev hbmTy0_2 (i : Nat) : BufTy := match i % 128 with
  | 0 => ⟨S32x64, .i32⟩
  | 1 => ⟨S2048, .i32⟩
  | 2 => ⟨S_, .i32⟩
  | 3 => ⟨S2048, .i32⟩
  | 4 => ⟨S2048, .i1⟩
  | 5 => ⟨S_, .i32⟩
  | 6 => ⟨S2048, .i32⟩
  | 7 => ⟨S2048, .i32⟩
  | 8 => ⟨S2048, .i32⟩
  | 9 => ⟨S2048x1, .i32⟩
  | 10 => ⟨S2048x128, .f32⟩
  | 11 => ⟨S8x256x128, .f32⟩
  | _ => ⟨S8x1024x1024, .f32⟩

abbrev hbmTy (i : Nat) : BufTy := match i / 128 with
  | 0 => hbmTy0_0 i
  | 1 => hbmTy0_1 i
  | 2 => hbmTy0_2 i
  | _ => ⟨S8x1024x1024, .f32⟩

abbrev bufTy : (tb : Table) → Fin (tcTables nBuf tb) → BufTy
  | .hbm, ⟨i, _⟩ => hbmTy i
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_call0_c : Ref sig .tc := ⟨.hbm, 28, rfl⟩
abbrev main_call0_call0_v0 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_6 : Ref sig .tc := ⟨.hbm, 55, rfl⟩
abbrev main_call2_v0 : Ref sig .tc := ⟨.hbm, 56, rfl⟩
abbrev main_call2_v1 : Ref sig .tc := ⟨.hbm, 57, rfl⟩
abbrev main_v39 : Ref sig .tc := ⟨.hbm, 58, rfl⟩
abbrev main_c_7 : Ref sig .tc := ⟨.hbm, 59, rfl⟩
abbrev main_v40 : Ref sig .tc := ⟨.hbm, 60, rfl⟩
abbrev main_v41 : Ref sig .tc := ⟨.hbm, 61, rfl⟩
abbrev main_c_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_12 : Ref sig .tc := ⟨.hbm, 81, rfl⟩
abbrev main_v57 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_14 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_call3_call0_c : Ref sig .tc := ⟨.hbm, 107, rfl⟩
abbrev main_call3_call0_v0 : Ref sig .tc := ⟨.hbm, 108, rfl⟩
abbrev main_v80 : Ref sig .tc := ⟨.hbm, 109, rfl⟩
abbrev main_c_15 : Ref sig .tc := ⟨.hbm, 110, rfl⟩
abbrev main_v81 : Ref sig .tc := ⟨.hbm, 111, rfl⟩
abbrev main_v82 : Ref sig .tc := ⟨.hbm, 112, rfl⟩
abbrev main_c_16 : Ref sig .tc := ⟨.hbm, 113, rfl⟩
abbrev main_v83 : Ref sig .tc := ⟨.hbm, 114, rfl⟩
abbrev main_v84 : Ref sig .tc := ⟨.hbm, 115, rfl⟩
abbrev main_c_17 : Ref sig .tc := ⟨.hbm, 116, rfl⟩
abbrev main_v85 : Ref sig .tc := ⟨.hbm, 117, rfl⟩
abbrev main_v86 : Ref sig .tc := ⟨.hbm, 118, rfl⟩
abbrev main_call4_v0 : Ref sig .tc := ⟨.hbm, 119, rfl⟩
abbrev main_call4_v1 : Ref sig .tc := ⟨.hbm, 120, rfl⟩
abbrev main_call4_v2 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_c_18 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_c_19 : Ref sig .tc := ⟨.hbm, 134, rfl⟩
abbrev main_call5_v0 : Ref sig .tc := ⟨.hbm, 135, rfl⟩
abbrev main_call5_v1 : Ref sig .tc := ⟨.hbm, 136, rfl⟩
abbrev main_v98 : Ref sig .tc := ⟨.hbm, 137, rfl⟩
abbrev main_v99 : Ref sig .tc := ⟨.hbm, 138, rfl⟩
abbrev main_c_20 : Ref sig .tc := ⟨.hbm, 139, rfl⟩
abbrev main_v100 : Ref sig .tc := ⟨.hbm, 140, rfl⟩
abbrev main_v101 : Ref sig .tc := ⟨.hbm, 141, rfl⟩
abbrev main_c_21 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_c_22 : Ref sig .tc := ⟨.hbm, 148, rfl⟩
abbrev main_v107 : Ref sig .tc := ⟨.hbm, 149, rfl⟩
abbrev main_v108 : Ref sig .tc := ⟨.hbm, 150, rfl⟩
abbrev main_c_23 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_c_24 : Ref sig .tc := ⟨.hbm, 158, rfl⟩
abbrev main_v115 : Ref sig .tc := ⟨.hbm, 159, rfl⟩
abbrev main_v116 : Ref sig .tc := ⟨.hbm, 160, rfl⟩
abbrev main_c_25 : Ref sig .tc := ⟨.hbm, 161, rfl⟩
abbrev main_v117 : Ref sig .tc := ⟨.hbm, 162, rfl⟩
abbrev main_v118 : Ref sig .tc := ⟨.hbm, 163, rfl⟩
abbrev main_c_26 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_c_27 : Ref sig .tc := ⟨.hbm, 169, rfl⟩
abbrev main_v123 : Ref sig .tc := ⟨.hbm, 170, rfl⟩
abbrev main_v124 : Ref sig .tc := ⟨.hbm, 171, rfl⟩
abbrev main_c_28 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_c_29 : Ref sig .tc := ⟨.hbm, 176, rfl⟩
abbrev main_call6_v0 : Ref sig .tc := ⟨.hbm, 177, rfl⟩
abbrev main_call6_v1 : Ref sig .tc := ⟨.hbm, 178, rfl⟩
abbrev main_call6_v2 : Ref sig .tc := ⟨.hbm, 179, rfl⟩
abbrev main_v128 : Ref sig .tc := ⟨.hbm, 180, rfl⟩
abbrev main_c_30 : Ref sig .tc := ⟨.hbm, 181, rfl⟩
abbrev main_v129 : Ref sig .tc := ⟨.hbm, 182, rfl⟩
abbrev main_v130 : Ref sig .tc := ⟨.hbm, 183, rfl⟩
abbrev main_c_31 : Ref sig .tc := ⟨.hbm, 184, rfl⟩
abbrev main_v131 : Ref sig .tc := ⟨.hbm, 185, rfl⟩
abbrev main_v132 : Ref sig .tc := ⟨.hbm, 186, rfl⟩
abbrev main_c_32 : Ref sig .tc := ⟨.hbm, 187, rfl⟩
abbrev main_call7_v0 : Ref sig .tc := ⟨.hbm, 188, rfl⟩
abbrev main_call7_v1 : Ref sig .tc := ⟨.hbm, 189, rfl⟩
abbrev main_call7_v2 : Ref sig .tc := ⟨.hbm, 190, rfl⟩
abbrev main_v133 : Ref sig .tc := ⟨.hbm, 191, rfl⟩
abbrev main_v134 : Ref sig .tc := ⟨.hbm, 192, rfl⟩
abbrev main_c_33 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_c_34 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_c_35 : Ref sig .tc := ⟨.hbm, 203, rfl⟩
abbrev main_v143 : Ref sig .tc := ⟨.hbm, 204, rfl⟩
abbrev main_v144 : Ref sig .tc := ⟨.hbm, 205, rfl⟩
abbrev main_c_36 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_cst : Ref sig .tc := ⟨.hbm, 216, rfl⟩
abbrev main_call8_v0 : Ref sig .tc := ⟨.hbm, 217, rfl⟩
abbrev main_call8_v1 : Ref sig .tc := ⟨.hbm, 218, rfl⟩
abbrev main_v154 : Ref sig .tc := ⟨.hbm, 219, rfl⟩
abbrev main_v155 : Ref sig .tc := ⟨.hbm, 220, rfl⟩
abbrev main_c_37 : Ref sig .tc := ⟨.hbm, 221, rfl⟩
abbrev main_v156 : Ref sig .tc := ⟨.hbm, 222, rfl⟩
abbrev main_v157 : Ref sig .tc := ⟨.hbm, 223, rfl⟩
abbrev main_cst_38 : Ref sig .tc := ⟨.hbm, 224, rfl⟩
abbrev main_call9_v0 : Ref sig .tc := ⟨.hbm, 225, rfl⟩
abbrev main_call9_v1 : Ref sig .tc := ⟨.hbm, 226, rfl⟩
abbrev main_call9_v2 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_c_39 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_c_40 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_c_41 : Ref sig .tc := ⟨.hbm, 242, rfl⟩
abbrev main_v170 : Ref sig .tc := ⟨.hbm, 243, rfl⟩
abbrev main_v171 : Ref sig .tc := ⟨.hbm, 244, rfl⟩
abbrev main_c_42 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_c_43 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_c_44 : Ref sig .tc := ⟨.hbm, 258, rfl⟩
abbrev main_v183 : Ref sig .tc := ⟨.hbm, 259, rfl⟩
abbrev main_v184 : Ref sig .tc := ⟨.hbm, 260, rfl⟩
abbrev main_c_45 : Ref sig .tc := ⟨.hbm, 261, rfl⟩
abbrev main_v185 : Ref sig .tc := ⟨.hbm, 262, rfl⟩
abbrev main_v186 : Ref sig .tc := ⟨.hbm, 263, rfl⟩
abbrev main_v187 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩

abbrev nD : Nat := 1
abbrev τ : Topo := Topo.v7x

variable {F : FTy → Type} [FloatOps F]
-- ==== Scores.lean ====
abbrev S8x1024x128 : Shape := ⟨3, ![8, 1024, 128]⟩
abbrev S256x128 : Shape := ⟨2, ![256, 128]⟩
abbrev S256 : Shape := ⟨1, ![256]⟩
abbrev S_ : Shape := ⟨0, ![]⟩
abbrev S512x128 : Shape := ⟨2, ![512, 128]⟩
abbrev S512 : Shape := ⟨1, ![512]⟩
abbrev S8x1024x1024 : Shape := ⟨3, ![8, 1024, 1024]⟩
abbrev S8x8x1024 : Shape := ⟨3, ![8, 8, 1024]⟩
abbrev S8x1x128 : Shape := ⟨3, ![8, 1, 128]⟩
abbrev S1x1024x128 : Shape := ⟨3, ![1, 1024, 128]⟩
abbrev S1x1024x1024 : Shape := ⟨3, ![1, 1024, 1024]⟩
abbrev S1x8x1024 : Shape := ⟨3, ![1, 8, 1024]⟩
abbrev S1x1x128 : Shape := ⟨3, ![1, 1, 128]⟩
abbrev S1024x512 : Shape := ⟨2, ![1024, 512]⟩
abbrev S1x128x128 : Shape := ⟨3, ![1, 128, 128]⟩
abbrev S128x128 : Shape := ⟨2, ![128, 128]⟩
abbrev S128x512 : Shape := ⟨2, ![128, 512]⟩
abbrev S1x512 : Shape := ⟨2, ![1, 512]⟩
abbrev S128x256 : Shape := ⟨2, ![128, 256]⟩
abbrev S1024x256 : Shape := ⟨2, ![1024, 256]⟩
abbrev S128x1024 : Shape := ⟨2, ![128, 1024]⟩
abbrev S1x128x1024 : Shape := ⟨3, ![1, 128, 1024]⟩
abbrev S128x8x128 : Shape := ⟨3, ![128, 8, 128]⟩
abbrev S128x8 : Shape := ⟨2, ![128, 8]⟩
abbrev S8x128 : Shape := ⟨2, ![8, 128]⟩
abbrev S1x8x128 : Shape := ⟨3, ![1, 8, 128]⟩
abbrev S8x1024 : Shape := ⟨2, ![8, 1024]⟩
abbrev S1 : Shape := ⟨1, ![1]⟩
abbrev S1x1x1 : Shape := ⟨3, ![1, 1, 1]⟩
abbrev S1x128 : Shape := ⟨2, ![1, 128]⟩

abbrev nBuf : Space → Nat
  | .hbm => 16
  | .vmem => 11
  | .smem => 0
  | _ => 0

abbrev bufTy : (tb : Table) → Fin (tcTables nBuf tb) → BufTy
  | .hbm, ⟨0, _⟩ => ⟨S8x1024x128, .f32⟩
  | .hbm, ⟨1, _⟩ => ⟨S256x128, .f32⟩
  | .hbm, ⟨2, _⟩ => ⟨S256, .f32⟩
  | .hbm, ⟨3, _⟩ => ⟨S256x128, .f32⟩
  | .hbm, ⟨4, _⟩ => ⟨S256, .f32⟩
  | .hbm, ⟨5, _⟩ => ⟨S_, .f32⟩
  | .hbm, ⟨6, _⟩ => ⟨S256x128, .f32⟩
  | .hbm, ⟨7, _⟩ => ⟨S256x128, .f32⟩
  | .hbm, ⟨8, _⟩ => ⟨S512x128, .f32⟩
  | .hbm, ⟨9, _⟩ => ⟨S_, .f32⟩
  | .hbm, ⟨10, _⟩ => ⟨S256, .f32⟩
  | .hbm, ⟨11, _⟩ => ⟨S256, .f32⟩
  | .hbm, ⟨12, _⟩ => ⟨S512, .f32⟩
  | .hbm, ⟨13, _⟩ => ⟨S8x1024x1024, .f32⟩
  | .hbm, ⟨14, _⟩ => ⟨S8x8x1024, .f32⟩
  | .hbm, ⟨15, _⟩ => ⟨S8x1x128, .f32⟩
  | .local _ .vmem, ⟨0, _⟩ => ⟨S1x1024x128, .f32⟩
  | .local _ .vmem, ⟨1, _⟩ => ⟨S1x1024x128, .f32⟩
  | .local _ .vmem, ⟨2, _⟩ => ⟨S512x128, .f32⟩
  | .local _ .vmem, ⟨3, _⟩ => ⟨S512, .f32⟩
  | .local _ .vmem, ⟨4, _⟩ => ⟨S1x1024x1024, .f32⟩
  | .local _ .vmem, ⟨5, _⟩ => ⟨S1x1024x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x1x128, .f32⟩
  | .local _ .vmem, ⟨9, _⟩ => ⟨S1x1x128, .f32⟩
  | .local _ .vmem, ⟨10, _⟩ => ⟨S1024x512, .f32⟩
  | _, _ => ⟨S8x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_off1 (k0_t1 : Fin k0_t1_loop.trips) : Fin 3 → Nat :=
  let c0_14 : Index := 0#32
  let c0_i32 : BitVec 32 := 0#32
  let c1_i32 : BitVec 32 := 1#32
  let arg8 : BitVec 32 := Scf.iv c0_i32 c1_i32 k0_t1
  let c128_i32 : BitVec 32 := 128#32
  let v19 : BitVec 32 := Scalar.muli arg8 c128_i32
  let v20 : Index := Scalar.indexCast v19
  let c0_15 : Index := 0#32
  ![0, v20.toNat, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32_20 : BitVec 32 := 128#32
  let v31 : BitVec 32 := Scalar.muli arg8 c128_i32_20
  let v32 : Index := Scalar.indexCast v31
  let c0_21 : Index := 0#32
  ![v32.toNat, 0]
@[reducible] def k0_t2_loop : Scf.Loop 32 :=
  let c0_i32_1 : BitVec 32 := 0#32
  let c8_i32_2 : BitVec 32 := 8#32
  let v1 : BitVec 32 := Scalar.addi c0_i32_1 c8_i32_2
  let c1_i32_3 : BitVec 32 := 1#32
  ⟨c0_i32_1, v1, c1_i32_3⟩
def k0_off3 (k0_t2 : Fin k0_t2_loop.trips) : Fin 2 → Nat :=
  let c0_i32_1 : BitVec 32 := 0#32
  let c1_i32_3 : BitVec 32 := 1#32
  let arg8 : BitVec 32 := Scf.iv c0_i32_1 c1_i32_3 k0_t2
  let c128_i32 : BitVec 32 := 128#32
  let v19 : BitVec 32 := Scalar.muli arg8 c128_i32
  let v20 : Index := Scalar.indexCast v19
  let c256 : Index := 256#32
  ![v20.toNat, 256]
def k0_off4 (k0_t2 : Fin k0_t2_loop.trips) : Fin 3 → Nat :=
  let c0_18 : Index := 0#32
  let c0_i32_1 : BitVec 32 := 0#32
  let c1_i32_3 : BitVec 32 := 1#32
  let arg8 : BitVec 32 := Scf.iv c0_i32_1 c1_i32_3 k0_t2
  let c128_i32_17 : BitVec 32 := 128#32
  let v24 : BitVec 32 := Scalar.muli arg8 c128_i32_17
  let v25 : Index := Scalar.indexCast v24
  let c0_19 : Index := 0#32
  ![0, v25.toNat, 0]
def k0_off5 (k0_t2 : Fin k0_t2_loop.trips) : Fin 3 → Nat :=
  let c0_22 : Index := 0#32
  let c0_23 : Index := 0#32
  let c0_i32_1 : BitVec 32 := 0#32
  let c1_i32_3 : BitVec 32 := 1#32
  let arg8 : BitVec 32 := Scf.iv c0_i32_1 c1_i32_3 k0_t2
  let c128_i32_21 : BitVec 32 := 128#32
  let v32 : BitVec 32 := Scalar.muli arg8 c128_i32_21
  let v33 : Index := Scalar.indexCast v32
  ![0, 0, v33.toNat]
@[reducible] def k0_t3_loop : Scf.Loop 32 :=
  let c0_i32_9 : BitVec 32 := 0#32
  let c30_i32 : BitVec 32 := 30#32
  let v13 : BitVec 32 := Scalar.addi c0_i32_9 c30_i32
  let c1_i32_10 : BitVec 32 := 1#32
  ⟨c0_i32_9, v13, c1_i32_10⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ScoresReferenceIdeal.lean ====
abbrev S8x1024x128 : Shape := ⟨3, ![8, 1024, 128]⟩
abbrev S256x128 : Shape := ⟨2, ![256, 128]⟩
abbrev S256 : Shape := ⟨1, ![256]⟩
abbrev S128x256 : Shape := ⟨2, ![128, 256]⟩
abbrev S8x1024x256 : Shape := ⟨3, ![8, 1024, 256]⟩
abbrev S1x1x256 : Shape := ⟨3, ![1, 1, 256]⟩
abbrev S8x1024x1024 : Shape := ⟨3, ![8, 1024, 1024]⟩
abbrev S_ : Shape := ⟨0, ![]⟩
abbrev S8x1024x8x128 : Shape := ⟨4, ![8, 1024, 8, 128]⟩
abbrev S8x1024x8 : Shape := ⟨3, ![8, 1024, 8]⟩
abbrev S8x8x1024 : Shape := ⟨3, ![8, 8, 1024]⟩
abbrev S8 : Shape := ⟨1, ![8]⟩
abbrev S8x1x1 : Shape := ⟨3, ![8, 1, 1]⟩
abbrev S8x1x128 : Shape := ⟨3, ![8, 1, 128]⟩

abbrev nBuf : Space → Nat
  | .hbm => 483
  | .vmem => 0
  | .smem => 0
  | _ => 0

abbrev hbmTy0_0 (i : Nat) : BufTy := match i % 128 with
  | 0 => ⟨S8x1024x128, .f32⟩
  | 1 => ⟨S256x128, .f32⟩
  | 2 => ⟨S256, .f32⟩
  | 3 => ⟨S256x128, .f32⟩
  | 4 => ⟨S256, .f32⟩
  | 5 => ⟨S128x256, .f32⟩
  | 6 => ⟨S8x1024x256, .f32⟩
  | 7 => ⟨S1x1x256, .f32⟩
  | 8 => ⟨S8x1024x256, .f32⟩
  | 9 => ⟨S8x1024x256, .f32⟩
  | 10 => ⟨S128x256, .f32⟩
  | 11 => ⟨S8x1024x256, .f32⟩
  | 12 => ⟨S1x1x256, .f32⟩
  | 13 => ⟨S8x1024x256, .f32⟩
  | 14 => ⟨S8x1024x256, .f32⟩
  | 15 => ⟨S8x1024x1024, .f32⟩
  | 16 => ⟨S_, .f32⟩
  | 17 => ⟨S8x1024x1024, .f32⟩
  | 18 => ⟨S8x1024x1024, .f32⟩
  | 19 => ⟨S8x1024x8x128, .f32⟩
  | 20 => ⟨S_, .f32⟩
  | 21 => ⟨S8x1024x8, .f32⟩
  | 22 => ⟨S8x8x1024, .f32⟩
  | 23 => ⟨S_, .f32⟩
  | 24 => ⟨S8, .f32⟩
  | 25 => ⟨S8x1x1, .f32⟩
  | 26 => ⟨S_, .f32⟩
  | 27 => ⟨S8, .f32⟩
  | 28 => ⟨S8x1x1, .f32⟩
  | 29 => ⟨S_, .f32⟩
  | 30 => ⟨S8x1x1, .f32⟩
  | 31 => ⟨S8x1x1, .f32⟩
  | 32 => ⟨S8x1x1, .f32⟩
  | 33 => ⟨S_, .f32⟩
  | 34 => ⟨S8x1x1, .f32⟩
  | 35 => ⟨S8x1x1, .f32⟩
  | 36 => ⟨S8x8x1024, .f32⟩
  | 37 => ⟨S8x8x1024, .i1⟩
  | 38 => ⟨S8x8x1024, .i32⟩
  | 39 => ⟨S_, .i32⟩
  | 40 => ⟨S8, .i32⟩
  | 41 => ⟨S8x1x1, .i32⟩
  | 42 => ⟨S_, .i32⟩
  | 43 => ⟨S8x1x1, .i32⟩
  | 44 => ⟨S8x1x1, .i1⟩
  | 45 => ⟨S8x1x1, .f32⟩
  | 46 => ⟨S8x1x1, .f32⟩
  | 47 => ⟨S8x1x1, .f32⟩
  | 48 => ⟨S_, .f32⟩
  | 49 => ⟨S8x1x1, .f32⟩
  | 50 => ⟨S8x1x1, .f32⟩
  | 51 => ⟨S8x8x1024, .f32⟩
  | 52 => ⟨S8x8x1024, .i1⟩
  | 53 => ⟨S8x8x1024, .i32⟩
  | 54 => ⟨S_, .i32⟩
  | 55 => ⟨S8, .i32⟩
  | 56 => ⟨S8x1x1, .i32⟩
  | 57 => ⟨S_, .i32⟩
  | 58 => ⟨S8x1x1, .i32⟩
  | 59 => ⟨S8x1x1, .i1⟩
  | 60 => ⟨S8x1x1, .f32⟩
  | 61 => ⟨S8x1x1, .f32⟩
  | 62 => ⟨S8x1x1, .f32⟩
  | 63 => ⟨S_, .f32⟩
  | 64 => ⟨S8x1x1, .f32⟩
  | 65 => ⟨S8x1x1, .f32⟩
  | 66 => ⟨S8x8x1024, .f32⟩
  | 67 => ⟨S8x8x1024, .i1⟩
  | 68 => ⟨S8x8x1024, .i32⟩
  | 69 => ⟨S_, .i32⟩
  | 70 => ⟨S8, .i32⟩
  | 71 => ⟨S8x1x1, .i32⟩
  | 72 => ⟨S_, .i32⟩
  | 73 => ⟨S8x1x1, .i32⟩
  | 74 => ⟨S8x1x1, .i1⟩
  | 75 => ⟨S8x1x1, .f32⟩
  | 76 => ⟨S8x1x1, .f32⟩
  | 77 => ⟨S8x1x1, .f32⟩
  | 78 => ⟨S_, .f32⟩
  | 79 => ⟨S8x1x1, .f32⟩
  | 80 => ⟨S8x1x1, .f32⟩
  | 81 => ⟨S8x8x1024, .f32⟩
  | 82 => ⟨S8x8x1024, .i1⟩
  | 83 => ⟨S8x8x1024, .i32⟩
  | 84 => ⟨S_, .i32⟩
  | 85 => ⟨S8, .i32⟩
  | 86 => ⟨S8x1x1, .i32⟩
  | 87 => ⟨S_, .i32⟩
  | 88 => ⟨S8x1x1, .i32⟩
  | 89 => ⟨S8x1x1, .i1⟩
  | 90 => ⟨S8x1x1, .f32⟩
  | 91 => ⟨S8x1x1, .f32⟩
  | 92 => ⟨S8x1x1, .f32⟩
  | 93 => ⟨S_, .f32⟩
  | 94 => ⟨S8x1x1, .f32⟩
  | 95 => ⟨S8x1x1, .f32⟩
  | 96 => ⟨S8x8x1024, .f32⟩
  | 97 => ⟨S8x8x1024, .i1⟩
  | 98 => ⟨S8x8x1024, .i32⟩
  | 99 => ⟨S_, .i32⟩
  | 100 => ⟨S8, .i32⟩
  | 101 => ⟨S8x1x1, .i32⟩
  | 102 => ⟨S_, .i32⟩
  | 103 => ⟨S8x1x1, .i32⟩
  | 104 => ⟨S8x1x1, .i1⟩
  | 105 => ⟨S8x1x1, .f32⟩
  | 106 => ⟨S8x1x1, .f32⟩
  | 107 => ⟨S8x1x1, .f32⟩
  | 108 => ⟨S_, .f32⟩
  | 109 => ⟨S8x1x1, .f32⟩
  | 110 => ⟨S8x1x1, .f32⟩
  | 111 => ⟨S8x8x1024, .f32⟩
  | 112 => ⟨S8x8x1024, .i1⟩
  | 113 => ⟨S8x8x1024, .i32⟩
  | 114 => ⟨S_, .i32⟩
  | 115 => ⟨S8, .i32⟩
  | 116 => ⟨S8x1x1, .i32⟩
  | 117 => ⟨S_, .i32⟩
  | 118 => ⟨S8x1x1, .i32⟩
  | 119 => ⟨S8x1x1, .i1⟩
  | 120 => ⟨S8x1x1, .f32⟩
  | 121 => ⟨S8x1x1, .f32⟩
  | 122 => ⟨S8x1x1, .f32⟩
  | 123 => ⟨S_, .f32⟩
  | 124 => ⟨S8x1x1, .f32⟩
  | 125 => ⟨S8x1x1, .f32⟩
  | 126 => ⟨S8x8x1024, .f32⟩
  | 127 => ⟨S8x8x1024, .i1⟩
  | _ => ⟨S8x1024x128, .f32⟩

abbrev hbmTy0_1 (i : Nat) : BufTy := match i % 128 with
  | 0 => ⟨S8x8x1024, .i32⟩
  | 1 => ⟨S_, .i32⟩
  | 2 => ⟨S8, .i32⟩
  | 3 => ⟨S8x1x1, .i32⟩
  | 4 => ⟨S_, .i32⟩
  | 5 => ⟨S8x1x1, .i32⟩
  | 6 => ⟨S8x1x1, .i1⟩
  | 7 => ⟨S8x1x1, .f32⟩
  | 8 => ⟨S8x1x1, .f32⟩
  | 9 => ⟨S8x1x1, .f32⟩
  | 10 => ⟨S_, .f32⟩
  | 11 => ⟨S8x1x1, .f32⟩
  | 12 => ⟨S8x1x1, .f32⟩
  | 13 => ⟨S8x8x1024, .f32⟩
  | 14 => ⟨S8x8x1024, .i1⟩
  | 15 => ⟨S8x8x1024, .i32⟩
  | 16 => ⟨S_, .i32⟩
  | 17 => ⟨S8, .i32⟩
  | 18 => ⟨S8x1x1, .i32⟩
  | 19 => ⟨S_, .i32⟩
  | 20 => ⟨S8x1x1, .i32⟩
  | 21 => ⟨S8x1x1, .i1⟩
  | 22 => ⟨S8x1x1, .f32⟩
  | 23 => ⟨S8x1x1, .f32⟩
  | 24 => ⟨S8x1x1, .f32⟩
  | 25 => ⟨S_, .f32⟩
  | 26 => ⟨S8x1x1, .f32⟩
  | 27 => ⟨S8x1x1, .f32⟩
  | 28 => ⟨S8x8x1024, .f32⟩
  | 29 => ⟨S8x8x1024, .i1⟩
  | 30 => ⟨S8x8x1024, .i32⟩
  | 31 => ⟨S_, .i32⟩
  | 32 => ⟨S8, .i32⟩
  | 33 => ⟨S8x1x1, .i32⟩
  | 34 => ⟨S_, .i32⟩
  | 35 => ⟨S8x1x1, .i32⟩
  | 36 => ⟨S8x1x1, .i1⟩
  | 37 => ⟨S8x1x1, .f32⟩
  | 38 => ⟨S8x1x1, .f32⟩
  | 39 => ⟨S8x1x1, .f32⟩
  | 40 => ⟨S_, .f32⟩
  | 41 => ⟨S8x1x1, .f32⟩
  | 42 => ⟨S8x1x1, .f32⟩
  | 43 => ⟨S8x8x1024, .f32⟩
  | 44 => ⟨S8x8x1024, .i1⟩
  | 45 => ⟨S8x8x1024, .i32⟩
  | 46 => ⟨S_, .i32⟩
  | 47 => ⟨S8, .i32⟩
  | 48 => ⟨S8x1x1, .i32⟩
  | 49 => ⟨S_, .i32⟩
  | 50 => ⟨S8x1x1, .i32⟩
  | 51 => ⟨S8x1x1, .i1⟩
  | 52 => ⟨S8x1x1, .f32⟩
  | 53 => ⟨S8x1x1, .f32⟩
  | 54 => ⟨S8x1x1, .f32⟩
  | 55 => ⟨S_, .f32⟩
  | 56 => ⟨S8x1x1, .f32⟩
  | 57 => ⟨S8x1x1, .f32⟩
  | 58 => ⟨S8x8x1024, .f32⟩
  | 59 => ⟨S8x8x1024, .i1⟩
  | 60 => ⟨S8x8x1024, .i32⟩
  | 61 => ⟨S_, .i32⟩
  | 62 => ⟨S8, .i32⟩
  | 63 => ⟨S8x1x1, .i32⟩
  | 64 => ⟨S_, .i32⟩
  | 65 => ⟨S8x1x1, .i32⟩
  | 66 => ⟨S8x1x1, .i1⟩
  | 67 => ⟨S8x1x1, .f32⟩
  | 68 => ⟨S8x1x1, .f32⟩
  | 69 => ⟨S8x1x1, .f32⟩
  | 70 => ⟨S_, .f32⟩
  | 71 => ⟨S8x1x1, .f32⟩
  | 72 => ⟨S8x1x1, .f32⟩
  | 73 => ⟨S8x8x1024, .f32⟩
  | 74 => ⟨S8x8x1024, .i1⟩
  | 75 => ⟨S8x8x1024, .i32⟩
  | 76 => ⟨S_, .i32⟩
  | 77 => ⟨S8, .i32⟩
  | 78 => ⟨S8x1x1, .i32⟩
  | 79 => ⟨S_, .i32⟩
  | 80 => ⟨S8x1x1, .i32⟩
  | 81 => ⟨S8x1x1, .i1⟩
  | 82 => ⟨S8x1x1, .f32⟩
  | 83 => ⟨S8x1x1, .f32⟩
  | 84 => ⟨S8x1x1, .f32⟩
  | 85 => ⟨S_, .f32⟩
  | 86 => ⟨S8x1x1, .f32⟩
  | 87 => ⟨S8x1x1, .f32⟩
  | 88 => ⟨S8x8x1024, .f32⟩
  | 89 => ⟨S8x8x1024, .i1⟩
  | 90 => ⟨S8x8x1024, .i32⟩
  | 91 => ⟨S_, .i32⟩
  | 92 => ⟨S8, .i32⟩
  | 93 => ⟨S8x1x1, .i32⟩
  | 94 => ⟨S_, .i32⟩
  | 95 => ⟨S8x1x1, .i32⟩
  | 96 => ⟨S8x1x1, .i1⟩
  | 97 => ⟨S8x1x1, .f32⟩
  | 98 => ⟨S8x1x1, .f32⟩
  | 99 => ⟨S8x1x1, .f32⟩
  | 100 => ⟨S_, .f32⟩
  | 101 => ⟨S8x1x1, .f32⟩
  | 102 => ⟨S8x1x1, .f32⟩
  | 103 => ⟨S8x8x1024, .f32⟩
  | 104 => ⟨S8x8x1024, .i1⟩
  | 105 => ⟨S8x8x1024, .i32⟩
  | 106 => ⟨S_, .i32⟩
  | 107 => ⟨S8, .i32⟩
  | 108 => ⟨S8x1x1, .i32⟩
  | 109 => ⟨S_, .i32⟩
  | 110 => ⟨S8x1x1, .i32⟩
  | 111 => ⟨S8x1x1, .i1⟩
  | 112 => ⟨S8x1x1, .f32⟩
  | 113 => ⟨S8x1x1, .f32⟩
  | 114 => ⟨S8x1x1, .f32⟩
  | 115 => ⟨S_, .f32⟩
  | 116 => ⟨S8x1x1, .f32⟩
  | 117 => ⟨S8x1x1, .f32⟩
  | 118 => ⟨S8x8x1024, .f32⟩
  | 119 => ⟨S8x8x1024, .i1⟩
  | 120 => ⟨S8x8x1024, .i32⟩
  | 121 => ⟨S_, .i32⟩
  | 122 => ⟨S8, .i32⟩
  | 123 => ⟨S8x1x1, .i32⟩
  | 124 => ⟨S_, .i32⟩
  | 125 => ⟨S8x1x1, .i32⟩
  | 126 => ⟨S8x1x1, .i1⟩
  | 127 => ⟨S8x1x1, .f32⟩
  | _ => ⟨S8x1024x128, .f32⟩

abbrev hbmTy0_2 (i : Nat) : BufTy := match i % 128 with
  | 0 => ⟨S8x1x1, .f32⟩
  | 1 => ⟨S8x1x1, .f32⟩
  | 2 => ⟨S_, .f32⟩
  | 3 => ⟨S8x1x1, .f32⟩
  | 4 => ⟨S8x1x1, .f32⟩
  | 5 => ⟨S8x8x1024, .f32⟩
  | 6 => ⟨S8x8x1024, .i1⟩
  | 7 => ⟨S8x8x1024, .i32⟩
  | 8 => ⟨S_, .i32⟩
  | 9 => ⟨S8, .i32⟩
  | 10 => ⟨S8x1x1, .i32⟩
  | 11 => ⟨S_, .i32⟩
  | 12 => ⟨S8x1x1, .i32⟩
  | 13 => ⟨S8x1x1, .i1⟩
  | 14 => ⟨S8x1x1, .f32⟩
  | 15 => ⟨S8x1x1, .f32⟩
  | 16 => ⟨S8x1x1, .f32⟩
  | 17 => ⟨S_, .f32⟩
  | 18 => ⟨S8x1x1, .f32⟩
  | 19 => ⟨S8x1x1, .f32⟩
  | 20 => ⟨S8x8x1024, .f32⟩
  | 21 => ⟨S8x8x1024, .i1⟩
  | 22 => ⟨S8x8x1024, .i32⟩
  | 23 => ⟨S_, .i32⟩
  | 24 => ⟨S8, .i32⟩
  | 25 => ⟨S8x1x1, .i32⟩
  | 26 => ⟨S_, .i32⟩
  | 27 => ⟨S8x1x1, .i32⟩
  | 28 => ⟨S8x1x1, .i1⟩
  | 29 => ⟨S8x1x1, .f32⟩
  | 30 => ⟨S8x1x1, .f32⟩
  | 31 => ⟨S8x1x1, .f32⟩
  | 32 => ⟨S_, .f32⟩
  | 33 => ⟨S8x1x1, .f32⟩
  | 34 => ⟨S8x1x1, .f32⟩
  | 35 => ⟨S8x8x1024, .f32⟩
  | 36 => ⟨S8x8x1024, .i1⟩
  | 37 => ⟨S8x8x1024, .i32⟩
  | 38 => ⟨S_, .i32⟩
  | 39 => ⟨S8, .i32⟩
  | 40 => ⟨S8x1x1, .i32⟩
  | 41 => ⟨S_, .i32⟩
  | 42 => ⟨S8x1x1, .i32⟩
  | 43 => ⟨S8x1x1, .i1⟩
  | 44 => ⟨S8x1x1, .f32⟩
  | 45 => ⟨S8x1x1, .f32⟩
  | 46 => ⟨S8x1x1, .f32⟩
  | 47 => ⟨S_, .f32⟩
  | 48 => ⟨S8x1x1, .f32⟩
  | 49 => ⟨S8x1x1, .f32⟩
  | 50 => ⟨S8x8x1024, .f32⟩
  | 51 => ⟨S8x8x1024, .i1⟩
  | 52 => ⟨S8x8x1024, .i32⟩
  | 53 => ⟨S_, .i32⟩
  | 54 => ⟨S8, .i32⟩
  | 55 => ⟨S8x1x1, .i32⟩
  | 56 => ⟨S_, .i32⟩
  | 57 => ⟨S8x1x1, .i32⟩
  | 58 => ⟨S8x1x1, .i1⟩
  | 59 => ⟨S8x1x1, .f32⟩
  | 60 => ⟨S8x1x1, .f32⟩
  | 61 => ⟨S8x1x1, .f32⟩
  | 62 => ⟨S_, .f32⟩
  | 63 => ⟨S8x1x1, .f32⟩
  | 64 => ⟨S8x1x1, .f32⟩
  | 65 => ⟨S8x8x1024, .f32⟩
  | 66 => ⟨S8x8x1024, .i1⟩
  | 67 => ⟨S8x8x1024, .i32⟩
  | 68 => ⟨S_, .i32⟩
  | 69 => ⟨S8, .i32⟩
  | 70 => ⟨S8x1x1, .i32⟩
  | 71 => ⟨S_, .i32⟩
  | 72 => ⟨S8x1x1, .i32⟩
  | 73 => ⟨S8x1x1, .i1⟩
  | 74 => ⟨S8x1x1, .f32⟩
  | 75 => ⟨S8x1x1, .f32⟩
  | 76 => ⟨S8x1x1, .f32⟩
  | 77 => ⟨S_, .f32⟩
  | 78 => ⟨S8x1x1, .f32⟩
  | 79 => ⟨S8x1x1, .f32⟩
  | 80 => ⟨S8x8x1024, .f32⟩
  | 81 => ⟨S8x8x1024, .i1⟩
  | 82 => ⟨S8x8x1024, .i32⟩
  | 83 => ⟨S_, .i32⟩
  | 84 => ⟨S8, .i32⟩
  | 85 => ⟨S8x1x1, .i32⟩
  | 86 => ⟨S_, .i32⟩
  | 87 => ⟨S8x1x1, .i32⟩
  | 88 => ⟨S8x1x1, .i1⟩
  | 89 => ⟨S8x1x1, .f32⟩
  | 90 => ⟨S8x1x1, .f32⟩
  | 91 => ⟨S8x1x1, .f32⟩
  | 92 => ⟨S_, .f32⟩
  | 93 => ⟨S8x1x1, .f32⟩
  | 94 => ⟨S8x1x1, .f32⟩
  | 95 => ⟨S8x8x1024, .f32⟩
  | 96 => ⟨S8x8x1024, .i1⟩
  | 97 => ⟨S8x8x1024, .i32⟩
  | 98 => ⟨S_, .i32⟩
  | 99 => ⟨S8, .i32⟩
  | 100 => ⟨S8x1x1, .i32⟩
  | 101 => ⟨S_, .i32⟩
  | 102 => ⟨S8x1x1, .i32⟩
  | 103 => ⟨S8x1x1, .i1⟩
  | 104 => ⟨S8x1x1, .f32⟩
  | 105 => ⟨S8x1x1, .f32⟩
  | 106 => ⟨S8x1x1, .f32⟩
  | 107 => ⟨S_, .f32⟩
  | 108 => ⟨S8x1x1, .f32⟩
  | 109 => ⟨S8x1x1, .f32⟩
  | 110 => ⟨S8x8x1024, .f32⟩
  | 111 => ⟨S8x8x1024, .i1⟩
  | 112 => ⟨S8x8x1024, .i32⟩
  | 113 => ⟨S_, .i32⟩
  | 114 => ⟨S8, .i32⟩
  | 115 => ⟨S8x1x1, .i32⟩
  | 116 => ⟨S_, .i32⟩
  | 117 => ⟨S8x1x1, .i32⟩
  | 118 => ⟨S8x1x1, .i1⟩
  | 119 => ⟨S8x1x1, .f32⟩
  | 120 => ⟨S8x1x1, .f32⟩
  | 121 => ⟨S8x1x1, .f32⟩
  | 122 => ⟨S_, .f32⟩
  | 123 => ⟨S8x1x1, .f32⟩
  | 124 => ⟨S8x1x1, .f32⟩
  | 125 => ⟨S8x8x1024, .f32⟩
  | 126 => ⟨S8x8x1024, .i1⟩
  | 127 => ⟨S8x8x1024, .i32⟩
  | _ => ⟨S8x1024x128, .f32⟩

abbrev hbmTy0_3 (i : Nat) : BufTy := match i % 128 with
  | 0 => ⟨S_, .i32⟩
  | 1 => ⟨S8, .i32⟩
  | 2 => ⟨S8x1x1, .i32⟩
  | 3 => ⟨S_, .i32⟩
  | 4 => ⟨S8x1x1, .i32⟩
  | 5 => ⟨S8x1x1, .i1⟩
  | 6 => ⟨S8x1x1, .f32⟩
  | 7 => ⟨S8x1x1, .f32⟩
  | 8 => ⟨S8x1x1, .f32⟩
  | 9 => ⟨S_, .f32⟩
  | 10 => ⟨S8x1x1, .f32⟩
  | 11 => ⟨S8x1x1, .f32⟩
  | 12 => ⟨S8x8x1024, .f32⟩
  | 13 => ⟨S8x8x1024, .i1⟩
  | 14 => ⟨S8x8x1024, .i32⟩
  | 15 => ⟨S_, .i32⟩
  | 16 => ⟨S8, .i32⟩
  | 17 => ⟨S8x1x1, .i32⟩
  | 18 => ⟨S_, .i32⟩
  | 19 => ⟨S8x1x1, .i32⟩
  | 20 => ⟨S8x1x1, .i1⟩
  | 21 => ⟨S8x1x1, .f32⟩
  | 22 => ⟨S8x1x1, .f32⟩
  | 23 => ⟨S8x1x1, .f32⟩
  | 24 => ⟨S_, .f32⟩
  | 25 => ⟨S8x1x1, .f32⟩
  | 26 => ⟨S8x1x1, .f32⟩
  | 27 => ⟨S8x8x1024, .f32⟩
  | 28 => ⟨S8x8x1024, .i1⟩
  | 29 => ⟨S8x8x1024, .i32⟩
  | 30 => ⟨S_, .i32⟩
  | 31 => ⟨S8, .i32⟩
  | 32 => ⟨S8x1x1, .i32⟩
  | 33 => ⟨S_, .i32⟩
  | 34 => ⟨S8x1x1, .i32⟩
  | 35 => ⟨S8x1x1, .i1⟩
  | 36 => ⟨S8x1x1, .f32⟩
  | 37 => ⟨S8x1x1, .f32⟩
  | 38 => ⟨S8x1x1, .f32⟩
  | 39 => ⟨S_, .f32⟩
  | 40 => ⟨S8x1x1, .f32⟩
  | 41 => ⟨S8x1x1, .f32⟩
  | 42 => ⟨S8x8x1024, .f32⟩
  | 43 => ⟨S8x8x1024, .i1⟩
  | 44 => ⟨S8x8x1024, .i32⟩
  | 45 => ⟨S_, .i32⟩
  | 46 => ⟨S8, .i32⟩
  | 47 => ⟨S8x1x1, .i32⟩
  | 48 => ⟨S_, .i32⟩
  | 49 => ⟨S8x1x1, .i32⟩
  | 50 => ⟨S8x1x1, .i1⟩
  | 51 => ⟨S8x1x1, .f32⟩
  | 52 => ⟨S8x1x1, .f32⟩
  | 53 => ⟨S8x1x1, .f32⟩
  | 54 => ⟨S_, .f32⟩
  | 55 => ⟨S8x1x1, .f32⟩
  | 56 => ⟨S8x1x1, .f32⟩
  | 57 => ⟨S8x8x1024, .f32⟩
  | 58 => ⟨S8x8x1024, .i1⟩
  | 59 => ⟨S8x8x1024, .i32⟩
  | 60 => ⟨S_, .i32⟩
  | 61 => ⟨S8, .i32⟩
  | 62 => ⟨S8x1x1, .i32⟩
  | 63 => ⟨S_, .i32⟩
  | 64 => ⟨S8x1x1, .i32⟩
  | 65 => ⟨S8x1x1, .i1⟩
  | 66 => ⟨S8x1x1, .f32⟩
  | 67 => ⟨S8x1x1, .f32⟩
  | 68 => ⟨S8x1x1, .f32⟩
  | 69 => ⟨S_, .f32⟩
  | 70 => ⟨S8x1x1, .f32⟩
  | 71 => ⟨S8x1x1, .f32⟩
  | 72 => ⟨S8x8x1024, .f32⟩
  | 73 => ⟨S8x8x1024, .i1⟩
  | 74 => ⟨S8x8x1024, .i32⟩
  | 75 => ⟨S_, .i32⟩
  | 76 => ⟨S8, .i32⟩
  | 77 => ⟨S8x1x1, .i32⟩
  | 78 => ⟨S_, .i32⟩
  | 79 => ⟨S8x1x1, .i32⟩
  | 80 => ⟨S8x1x1, .i1⟩
  | 81 => ⟨S8x1x1, .f32⟩
  | 82 => ⟨S8x1x1, .f32⟩
  | 83 => ⟨S8x1x1, .f32⟩
  | 84 => ⟨S_, .f32⟩
  | 85 => ⟨S8x1x1, .f32⟩
  | 86 => ⟨S8x1x1, .f32⟩
  | 87 => ⟨S8x8x1024, .f32⟩
  | 88 => ⟨S8x8x1024, .i1⟩
  | 89 => ⟨S8x8x1024, .i32⟩
  | 90 => ⟨S_, .i32⟩
  | 91 => ⟨S8, .i32⟩
  | 92 => ⟨S8x1x1, .i32⟩
  | 93 => ⟨S_, .i32⟩
  | 94 => ⟨S8x1x1, .i32⟩
  | 95 => ⟨S8x1x1, .i1⟩
  | 96 => ⟨S8x1x1, .f32⟩
  | 97 => ⟨S8x1x1, .f32⟩
  | 98 => ⟨S8x1x128, .f32⟩
  | _ => ⟨S8x1024x128, .f32⟩

abbrev hbmTy (i : Nat) : BufTy := match i / 128 with
  | 0 => hbmTy0_0 i
  | 1 => hbmTy0_1 i
  | 2 => hbmTy0_2 i
  | 3 => hbmTy0_3 i
  | _ => ⟨S8x1024x128, .f32⟩

abbrev bufTy : (tb : Table) → Fin (tcTables nBuf tb) → BufTy
  | .hbm, ⟨i, _⟩ => hbmTy i
  | _, _ => ⟨S8x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_7 : Ref sig .tc := ⟨.hbm, 54, rfl⟩
abbrev main_v40 : Ref sig .tc := ⟨.hbm, 55, rfl⟩
abbrev main_v41 : Ref sig .tc := ⟨.hbm, 56, rfl⟩
abbrev main_c_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_10 : Ref sig .tc := ⟨.hbm, 69, rfl⟩
abbrev main_v52 : Ref sig .tc := ⟨.hbm, 70, rfl⟩
abbrev main_v53 : Ref sig .tc := ⟨.hbm, 71, rfl⟩
abbrev main_c_11 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_12 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_13 : Ref sig .tc := ⟨.hbm, 84, rfl⟩
abbrev main_v64 : Ref sig .tc := ⟨.hbm, 85, rfl⟩
abbrev main_v65 : Ref sig .tc := ⟨.hbm, 86, rfl⟩
abbrev main_c_14 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_15 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_c_16 : Ref sig .tc := ⟨.hbm, 99, rfl⟩
abbrev main_v76 : Ref sig .tc := ⟨.hbm, 100, rfl⟩
abbrev main_v77 : Ref sig .tc := ⟨.hbm, 101, rfl⟩
abbrev main_c_17 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_18 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_c_19 : Ref sig .tc := ⟨.hbm, 114, rfl⟩
abbrev main_v88 : Ref sig .tc := ⟨.hbm, 115, rfl⟩
abbrev main_v89 : Ref sig .tc := ⟨.hbm, 116, rfl⟩
abbrev main_c_20 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_21 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_c_22 : Ref sig .tc := ⟨.hbm, 129, rfl⟩
abbrev main_v100 : Ref sig .tc := ⟨.hbm, 130, rfl⟩
abbrev main_v101 : Ref sig .tc := ⟨.hbm, 131, rfl⟩
abbrev main_c_23 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_24 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_c_25 : Ref sig .tc := ⟨.hbm, 144, rfl⟩
abbrev main_v112 : Ref sig .tc := ⟨.hbm, 145, rfl⟩
abbrev main_v113 : Ref sig .tc := ⟨.hbm, 146, rfl⟩
abbrev main_c_26 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_27 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_c_28 : Ref sig .tc := ⟨.hbm, 159, rfl⟩
abbrev main_v124 : Ref sig .tc := ⟨.hbm, 160, rfl⟩
abbrev main_v125 : Ref sig .tc := ⟨.hbm, 161, rfl⟩
abbrev main_c_29 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_30 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_c_31 : Ref sig .tc := ⟨.hbm, 174, rfl⟩
abbrev main_v136 : Ref sig .tc := ⟨.hbm, 175, rfl⟩
abbrev main_v137 : Ref sig .tc := ⟨.hbm, 176, rfl⟩
abbrev main_c_32 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_cst_33 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_c_34 : Ref sig .tc := ⟨.hbm, 189, rfl⟩
abbrev main_v148 : Ref sig .tc := ⟨.hbm, 190, rfl⟩
abbrev main_v149 : Ref sig .tc := ⟨.hbm, 191, rfl⟩
abbrev main_c_35 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_cst_36 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_c_37 : Ref sig .tc := ⟨.hbm, 204, rfl⟩
abbrev main_v160 : Ref sig .tc := ⟨.hbm, 205, rfl⟩
abbrev main_v161 : Ref sig .tc := ⟨.hbm, 206, rfl⟩
abbrev main_c_38 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_cst_39 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_c_40 : Ref sig .tc := ⟨.hbm, 219, rfl⟩
abbrev main_v172 : Ref sig .tc := ⟨.hbm, 220, rfl⟩
abbrev main_v173 : Ref sig .tc := ⟨.hbm, 221, rfl⟩
abbrev main_c_41 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_cst_42 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_c_43 : Ref sig .tc := ⟨.hbm, 234, rfl⟩
abbrev main_v184 : Ref sig .tc := ⟨.hbm, 235, rfl⟩
abbrev main_v185 : Ref sig .tc := ⟨.hbm, 236, rfl⟩
abbrev main_c_44 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_cst_45 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_c_46 : Ref sig .tc := ⟨.hbm, 249, rfl⟩
abbrev main_v196 : Ref sig .tc := ⟨.hbm, 250, rfl⟩
abbrev main_v197 : Ref sig .tc := ⟨.hbm, 251, rfl⟩
abbrev main_c_47 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_cst_48 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_c_49 : Ref sig .tc := ⟨.hbm, 264, rfl⟩
abbrev main_v208 : Ref sig .tc := ⟨.hbm, 265, rfl⟩
abbrev main_v209 : Ref sig .tc := ⟨.hbm, 266, rfl⟩
abbrev main_c_50 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_cst_51 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_c_52 : Ref sig .tc := ⟨.hbm, 279, rfl⟩
abbrev main_v220 : Ref sig .tc := ⟨.hbm, 280, rfl⟩
abbrev main_v221 : Ref sig .tc := ⟨.hbm, 281, rfl⟩
abbrev main_c_53 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_v226 : Ref sig .tc := ⟨.hbm, 287, rfl⟩
abbrev main_cst_54 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_c_55 : Ref sig .tc := ⟨.hbm, 294, rfl⟩
abbrev main_v232 : Ref sig .tc := ⟨.hbm, 295, rfl⟩
abbrev main_v233 : Ref sig .tc := ⟨.hbm, 296, rfl⟩
abbrev main_c_56 : Ref sig .tc := ⟨.hbm, 297, rfl⟩
abbrev main_v234 : Ref sig .tc := ⟨.hbm, 298, rfl⟩
abbrev main_v235 : Ref sig .tc := ⟨.hbm, 299, rfl⟩
abbrev main_v236 : Ref sig .tc := ⟨.hbm, 300, rfl⟩
abbrev main_v237 : Ref sig .tc := ⟨.hbm, 301, rfl⟩
abbrev main_v238 : Ref sig .tc := ⟨.hbm, 302, rfl⟩
abbrev main_cst_57 : Ref sig .tc := ⟨.hbm, 303, rfl⟩
abbrev main_v239 : Ref sig .tc := ⟨.hbm, 304, rfl⟩
abbrev main_v240 : Ref sig .tc := ⟨.hbm, 305, rfl⟩
abbrev main_v241 : Ref sig .tc := ⟨.hbm, 306, rfl⟩
abbrev main_v242 : Ref sig .tc := ⟨.hbm, 307, rfl⟩
abbrev main_v243 : Ref sig .tc := ⟨.hbm, 308, rfl⟩
abbrev main_c_58 : Ref sig .tc := ⟨.hbm, 309, rfl⟩
abbrev main_v244 : Ref sig .tc := ⟨.hbm, 310, rfl⟩
abbrev main_v245 : Ref sig .tc := ⟨.hbm, 311, rfl⟩
abbrev main_c_59 : Ref sig .tc := ⟨.hbm, 312, rfl⟩
abbrev main_v246 : Ref sig .tc := ⟨.hbm, 313, rfl⟩
abbrev main_v247 : Ref sig .tc := ⟨.hbm, 314, rfl⟩
abbrev main_v248 : Ref sig .tc := ⟨.hbm, 315, rfl⟩
abbrev main_v249 : Ref sig .tc := ⟨.hbm, 316, rfl⟩
abbrev main_v250 : Ref sig .tc := ⟨.hbm, 317, rfl⟩
abbrev main_cst_60 : Ref sig .tc := ⟨.hbm, 318, rfl⟩
abbrev main_v251 : Ref sig .tc := ⟨.hbm, 319, rfl⟩
abbrev main_v252 : Ref sig .tc := ⟨.hbm, 320, rfl⟩
abbrev main_v253 : Ref sig .tc := ⟨.hbm, 321, rfl⟩
abbrev main_v254 : Ref sig .tc := ⟨.hbm, 322, rfl⟩
abbrev main_v255 : Ref sig .tc := ⟨.hbm, 323, rfl⟩
abbrev main_c_61 : Ref sig .tc := ⟨.hbm, 324, rfl⟩
abbrev main_v256 : Ref sig .tc := ⟨.hbm, 325, rfl⟩
abbrev main_v257 : Ref sig .tc := ⟨.hbm, 326, rfl⟩
abbrev main_c_62 : Ref sig .tc := ⟨.hbm, 327, rfl⟩
abbrev main_v258 : Ref sig .tc := ⟨.hbm, 328, rfl⟩
abbrev main_v259 : Ref sig .tc := ⟨.hbm, 329, rfl⟩
abbrev main_v260 : Ref sig .tc := ⟨.hbm, 330, rfl⟩
abbrev main_v261 : Ref sig .tc := ⟨.hbm, 331, rfl⟩
abbrev main_v262 : Ref sig .tc := ⟨.hbm, 332, rfl⟩
abbrev main_cst_63 : Ref sig .tc := ⟨.hbm, 333, rfl⟩
abbrev main_v263 : Ref sig .tc := ⟨.hbm, 334, rfl⟩
abbrev main_v264 : Ref sig .tc := ⟨.hbm, 335, rfl⟩
abbrev main_v265 : Ref sig .tc := ⟨.hbm, 336, rfl⟩
abbrev main_v266 : Ref sig .tc := ⟨.hbm, 337, rfl⟩
abbrev main_v267 : Ref sig .tc := ⟨.hbm, 338, rfl⟩
abbrev main_c_64 : Ref sig .tc := ⟨.hbm, 339, rfl⟩
abbrev main_v268 : Ref sig .tc := ⟨.hbm, 340, rfl⟩
abbrev main_v269 : Ref sig .tc := ⟨.hbm, 341, rfl⟩
abbrev main_c_65 : Ref sig .tc := ⟨.hbm, 342, rfl⟩
abbrev main_v270 : Ref sig .tc := ⟨.hbm, 343, rfl⟩
abbrev main_v271 : Ref sig .tc := ⟨.hbm, 344, rfl⟩
abbrev main_v272 : Ref sig .tc := ⟨.hbm, 345, rfl⟩
abbrev main_v273 : Ref sig .tc := ⟨.hbm, 346, rfl⟩
abbrev main_v274 : Ref sig .tc := ⟨.hbm, 347, rfl⟩
abbrev main_cst_66 : Ref sig .tc := ⟨.hbm, 348, rfl⟩
abbrev main_v275 : Ref sig .tc := ⟨.hbm, 349, rfl⟩
abbrev main_v276 : Ref sig .tc := ⟨.hbm, 350, rfl⟩
abbrev main_v277 : Ref sig .tc := ⟨.hbm, 351, rfl⟩
abbrev main_v278 : Ref sig .tc := ⟨.hbm, 352, rfl⟩
abbrev main_v279 : Ref sig .tc := ⟨.hbm, 353, rfl⟩
abbrev main_c_67 : Ref sig .tc := ⟨.hbm, 354, rfl⟩
abbrev main_v280 : Ref sig .tc := ⟨.hbm, 355, rfl⟩
abbrev main_v281 : Ref sig .tc := ⟨.hbm, 356, rfl⟩
abbrev main_c_68 : Ref sig .tc := ⟨.hbm, 357, rfl⟩
abbrev main_v282 : Ref sig .tc := ⟨.hbm, 358, rfl⟩
abbrev main_v283 : Ref sig .tc := ⟨.hbm, 359, rfl⟩
abbrev main_v284 : Ref sig .tc := ⟨.hbm, 360, rfl⟩
abbrev main_v285 : Ref sig .tc := ⟨.hbm, 361, rfl⟩
abbrev main_v286 : Ref sig .tc := ⟨.hbm, 362, rfl⟩
abbrev main_cst_69 : Ref sig .tc := ⟨.hbm, 363, rfl⟩
abbrev main_v287 : Ref sig .tc := ⟨.hbm, 364, rfl⟩
abbrev main_v288 : Ref sig .tc := ⟨.hbm, 365, rfl⟩
abbrev main_v289 : Ref sig .tc := ⟨.hbm, 366, rfl⟩
abbrev main_v290 : Ref sig .tc := ⟨.hbm, 367, rfl⟩
abbrev main_v291 : Ref sig .tc := ⟨.hbm, 368, rfl⟩
abbrev main_c_70 : Ref sig .tc := ⟨.hbm, 369, rfl⟩
abbrev main_v292 : Ref sig .tc := ⟨.hbm, 370, rfl⟩
abbrev main_v293 : Ref sig .tc := ⟨.hbm, 371, rfl⟩
abbrev main_c_71 : Ref sig .tc := ⟨.hbm, 372, rfl⟩
abbrev main_v294 : Ref sig .tc := ⟨.hbm, 373, rfl⟩
abbrev main_v295 : Ref sig .tc := ⟨.hbm, 374, rfl⟩
abbrev main_v296 : Ref sig .tc := ⟨.hbm, 375, rfl⟩
abbrev main_v297 : Ref sig .tc := ⟨.hbm, 376, rfl⟩
abbrev main_v298 : Ref sig .tc := ⟨.hbm, 377, rfl⟩
abbrev main_cst_72 : Ref sig .tc := ⟨.hbm, 378, rfl⟩
abbrev main_v299 : Ref sig .tc := ⟨.hbm, 379, rfl⟩
abbrev main_v300 : Ref sig .tc := ⟨.hbm, 380, rfl⟩
abbrev main_v301 : Ref sig .tc := ⟨.hbm, 381, rfl⟩
abbrev main_v302 : Ref sig .tc := ⟨.hbm, 382, rfl⟩
abbrev main_v303 : Ref sig .tc := ⟨.hbm, 383, rfl⟩
abbrev main_c_73 : Ref sig .tc := ⟨.hbm, 384, rfl⟩
abbrev main_v304 : Ref sig .tc := ⟨.hbm, 385, rfl⟩
abbrev main_v305 : Ref sig .tc := ⟨.hbm, 386, rfl⟩
abbrev main_c_74 : Ref sig .tc := ⟨.hbm, 387, rfl⟩
abbrev main_v306 : Ref sig .tc := ⟨.hbm, 388, rfl⟩
abbrev main_v307 : Ref sig .tc := ⟨.hbm, 389, rfl⟩
abbrev main_v308 : Ref sig .tc := ⟨.hbm, 390, rfl⟩
abbrev main_v309 : Ref sig .tc := ⟨.hbm, 391, rfl⟩
abbrev main_v310 : Ref sig .tc := ⟨.hbm, 392, rfl⟩
abbrev main_cst_75 : Ref sig .tc := ⟨.hbm, 393, rfl⟩
abbrev main_v311 : Ref sig .tc := ⟨.hbm, 394, rfl⟩
abbrev main_v312 : Ref sig .tc := ⟨.hbm, 395, rfl⟩
abbrev main_v313 : Ref sig .tc := ⟨.hbm, 396, rfl⟩
abbrev main_v314 : Ref sig .tc := ⟨.hbm, 397, rfl⟩
abbrev main_v315 : Ref sig .tc := ⟨.hbm, 398, rfl⟩
abbrev main_c_76 : Ref sig .tc := ⟨.hbm, 399, rfl⟩
abbrev main_v316 : Ref sig .tc := ⟨.hbm, 400, rfl⟩
abbrev main_v317 : Ref sig .tc := ⟨.hbm, 401, rfl⟩
abbrev main_c_77 : Ref sig .tc := ⟨.hbm, 402, rfl⟩
abbrev main_v318 : Ref sig .tc := ⟨.hbm, 403, rfl⟩
abbrev main_v319 : Ref sig .tc := ⟨.hbm, 404, rfl⟩
abbrev main_v320 : Ref sig .tc := ⟨.hbm, 405, rfl⟩
abbrev main_v321 : Ref sig .tc := ⟨.hbm, 406, rfl⟩
abbrev main_v322 : Ref sig .tc := ⟨.hbm, 407, rfl⟩
abbrev main_cst_78 : Ref sig .tc := ⟨.hbm, 408, rfl⟩
abbrev main_v323 : Ref sig .tc := ⟨.hbm, 409, rfl⟩
abbrev main_v324 : Ref sig .tc := ⟨.hbm, 410, rfl⟩
abbrev main_v325 : Ref sig .tc := ⟨.hbm, 411, rfl⟩
abbrev main_v326 : Ref sig .tc := ⟨.hbm, 412, rfl⟩
abbrev main_v327 : Ref sig .tc := ⟨.hbm, 413, rfl⟩
abbrev main_c_79 : Ref sig .tc := ⟨.hbm, 414, rfl⟩
abbrev main_v328 : Ref sig .tc := ⟨.hbm, 415, rfl⟩
abbrev main_v329 : Ref sig .tc := ⟨.hbm, 416, rfl⟩
abbrev main_c_80 : Ref sig .tc := ⟨.hbm, 417, rfl⟩
abbrev main_v330 : Ref sig .tc := ⟨.hbm, 418, rfl⟩
abbrev main_v331 : Ref sig .tc := ⟨.hbm, 419, rfl⟩
abbrev main_v332 : Ref sig .tc := ⟨.hbm, 420, rfl⟩
abbrev main_v333 : Ref sig .tc := ⟨.hbm, 421, rfl⟩
abbrev main_v334 : Ref sig .tc := ⟨.hbm, 422, rfl⟩
abbrev main_cst_81 : Ref sig .tc := ⟨.hbm, 423, rfl⟩
abbrev main_v335 : Ref sig .tc := ⟨.hbm, 424, rfl⟩
abbrev main_v336 : Ref sig .tc := ⟨.hbm, 425, rfl⟩
abbrev main_v337 : Ref sig .tc := ⟨.hbm, 426, rfl⟩
abbrev main_v338 : Ref sig .tc := ⟨.hbm, 427, rfl⟩
abbrev main_v339 : Ref sig .tc := ⟨.hbm, 428, rfl⟩
abbrev main_c_82 : Ref sig .tc := ⟨.hbm, 429, rfl⟩
abbrev main_v340 : Ref sig .tc := ⟨.hbm, 430, rfl⟩
abbrev main_v341 : Ref sig .tc := ⟨.hbm, 431, rfl⟩
abbrev main_c_83 : Ref sig .tc := ⟨.hbm, 432, rfl⟩
abbrev main_v342 : Ref sig .tc := ⟨.hbm, 433, rfl⟩
abbrev main_v343 : Ref sig .tc := ⟨.hbm, 434, rfl⟩
abbrev main_v344 : Ref sig .tc := ⟨.hbm, 435, rfl⟩
abbrev main_v345 : Ref sig .tc := ⟨.hbm, 436, rfl⟩
abbrev main_v346 : Ref sig .tc := ⟨.hbm, 437, rfl⟩
abbrev main_cst_84 : Ref sig .tc := ⟨.hbm, 438, rfl⟩
abbrev main_v347 : Ref sig .tc := ⟨.hbm, 439, rfl⟩
abbrev main_v348 : Ref sig .tc := ⟨.hbm, 440, rfl⟩
abbrev main_v349 : Ref sig .tc := ⟨.hbm, 441, rfl⟩
abbrev main_v350 : Ref sig .tc := ⟨.hbm, 442, rfl⟩
abbrev main_v351 : Ref sig .tc := ⟨.hbm, 443, rfl⟩
abbrev main_c_85 : Ref sig .tc := ⟨.hbm, 444, rfl⟩
abbrev main_v352 : Ref sig .tc := ⟨.hbm, 445, rfl⟩
abbrev main_v353 : Ref sig .tc := ⟨.hbm, 446, rfl⟩
abbrev main_c_86 : Ref sig .tc := ⟨.hbm, 447, rfl⟩
abbrev main_v354 : Ref sig .tc := ⟨.hbm, 448, rfl⟩
abbrev main_v355 : Ref sig .tc := ⟨.hbm, 449, rfl⟩
abbrev main_v356 : Ref sig .tc := ⟨.hbm, 450, rfl⟩
abbrev main_v357 : Ref sig .tc := ⟨.hbm, 451, rfl⟩
abbrev main_v358 : Ref sig .tc := ⟨.hbm, 452, rfl⟩
abbrev main_cst_87 : Ref sig .tc := ⟨.hbm, 453, rfl⟩
abbrev main_v359 : Ref sig .tc := ⟨.hbm, 454, rfl⟩
abbrev main_v360 : Ref sig .tc := ⟨.hbm, 455, rfl⟩
abbrev main_v361 : Ref sig .tc := ⟨.hbm, 456, rfl⟩
abbrev main_v362 : Ref sig .tc := ⟨.hbm, 457, rfl⟩
abbrev main_v363 : Ref sig .tc := ⟨.hbm, 458, rfl⟩
abbrev main_c_88 : Ref sig .tc := ⟨.hbm, 459, rfl⟩
abbrev main_v364 : Ref sig .tc := ⟨.hbm, 460, rfl⟩
abbrev main_v365 : Ref sig .tc := ⟨.hbm, 461, rfl⟩
abbrev main_c_89 : Ref sig .tc := ⟨.hbm, 462, rfl⟩
abbrev main_v366 : Ref sig .tc := ⟨.hbm, 463, rfl⟩
abbrev main_v367 : Ref sig .tc := ⟨.hbm, 464, rfl⟩
abbrev main_v368 : Ref sig .tc := ⟨.hbm, 465, rfl⟩
abbrev main_v369 : Ref sig .tc := ⟨.hbm, 466, rfl⟩
abbrev main_v370 : Ref sig .tc := ⟨.hbm, 467, rfl⟩
abbrev main_cst_90 : Ref sig .tc := ⟨.hbm, 468, rfl⟩
abbrev main_v371 : Ref sig .tc := ⟨.hbm, 469, rfl⟩
abbrev main_v372 : Ref sig .tc := ⟨.hbm, 470, rfl⟩
abbrev main_v373 : Ref sig .tc := ⟨.hbm, 471, rfl⟩
abbrev main_v374 : Ref sig .tc := ⟨.hbm, 472, rfl⟩
abbrev main_v375 : Ref sig .tc := ⟨.hbm, 473, rfl⟩
abbrev main_c_91 : Ref sig .tc := ⟨.hbm, 474, rfl⟩
abbrev main_v376 : Ref sig .tc := ⟨.hbm, 475, rfl⟩
abbrev main_v377 : Ref sig .tc := ⟨.hbm, 476, rfl⟩
abbrev main_c_92 : Ref sig .tc := ⟨.hbm, 477, rfl⟩
abbrev main_v378 : Ref sig .tc := ⟨.hbm, 478, rfl⟩
abbrev main_v379 : Ref sig .tc := ⟨.hbm, 479, rfl⟩
abbrev main_v380 : Ref sig .tc := ⟨.hbm, 480, rfl⟩
abbrev main_v381 : Ref sig .tc := ⟨.hbm, 481, rfl⟩
abbrev main_v382 : Ref sig .tc := ⟨.hbm, 482, rfl⟩

abbrev nD : Nat := 1
abbrev τ : Topo := Topo.v7x

variable {F : FTy → Type} [FloatOps F]
-- ==== Pool.lean ====
abbrev S8x256 : Shape := ⟨2, ![8, 256]⟩
abbrev S8x1x128 : Shape := ⟨3, ![8, 1, 128]⟩
abbrev S8x256x128 : Shape := ⟨3, ![8, 256, 128]⟩
abbrev S256x6 : Shape := ⟨2, ![256, 6]⟩
abbrev S256 : Shape := ⟨1, ![256]⟩
abbrev S256x256 : Shape := ⟨2, ![256, 256]⟩
abbrev S256x12 : Shape := ⟨2, ![256, 12]⟩
abbrev S128x256 : Shape := ⟨2, ![128, 256]⟩
abbrev S128 : Shape := ⟨1, ![128]⟩
abbrev S8x1x256 : Shape := ⟨3, ![8, 1, 256]⟩
abbrev S1x1x256 : Shape := ⟨3, ![1, 1, 256]⟩
abbrev S1x1x128 : Shape := ⟨3, ![1, 1, 128]⟩
abbrev S1x256x128 : Shape := ⟨3, ![1, 256, 128]⟩
abbrev S1x256 : Shape := ⟨2, ![1, 256]⟩
abbrev S1x1x1 : Shape := ⟨3, ![1, 1, 1]⟩
abbrev S1 : Shape := ⟨1, ![1]⟩
abbrev S16x1 : Shape := ⟨2, ![16, 1]⟩
abbrev S16x256 : Shape := ⟨2, ![16, 256]⟩
abbrev S16 : Shape := ⟨1, ![16]⟩
abbrev S1x16x1 : Shape := ⟨3, ![1, 16, 1]⟩
abbrev S1x256x6 : Shape := ⟨3, ![1, 256, 6]⟩
abbrev S1x128 : Shape := ⟨2, ![1, 128]⟩

abbrev nBuf : Space → Nat
  | .hbm => 20
  | .vmem => 24
  | .smem => 0
  | _ => 0

abbrev bufTy : (tb : Table) → Fin (tcTables nBuf tb) → BufTy
  | .hbm, ⟨0, _⟩ => ⟨S8x256, .f32⟩
  | .hbm, ⟨1, _⟩ => ⟨S8x256, .i32⟩
  | .hbm, ⟨2, _⟩ => ⟨S8x1x128, .f32⟩
  | .hbm, ⟨3, _⟩ => ⟨S8x256x128, .f32⟩
  | .hbm, ⟨4, _⟩ => ⟨S8x256x128, .f32⟩
  | .hbm, ⟨5, _⟩ => ⟨S256x6, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x12, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S128x256, .f32⟩
  | .hbm, ⟨16, _⟩ => ⟨S128, .f32⟩
  | .hbm, ⟨17, _⟩ => ⟨S8x1x256, .f32⟩
  | .hbm, ⟨18, _⟩ => ⟨S8x1x256, .i32⟩
  | .hbm, ⟨19, _⟩ => ⟨S8x1x128, .f32⟩
  | .local _ .vmem, ⟨0, _⟩ => ⟨S1x1x256, .f32⟩
  | .local _ .vmem, ⟨1, _⟩ => ⟨S1x1x256, .f32⟩
  | .local _ .vmem, ⟨2, _⟩ => ⟨S1x1x256, .i32⟩
  | .local _ .vmem, ⟨3, _⟩ => ⟨S1x1x256, .i32⟩
  | .local _ .vmem, ⟨4, _⟩ => ⟨S1x1x128, .f32⟩
  | .local _ .vmem, ⟨5, _⟩ => ⟨S1x1x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S256x6, .f32⟩
  | .local _ .vmem, ⟨11, _⟩ => ⟨S256, .f32⟩
  | .local _ .vmem, ⟨12, _⟩ => ⟨S256x256, .f32⟩
  | .local _ .vmem, ⟨13, _⟩ => ⟨S256, .f32⟩
  | .local _ .vmem, ⟨14, _⟩ => ⟨S256x12, .f32⟩
  | .local _ .vmem, ⟨15, _⟩ => ⟨S256, .f32⟩
  | .local _ .vmem, ⟨16, _⟩ => ⟨S256x256, .f32⟩
  | .local _ .vmem, ⟨17, _⟩ => ⟨S256, .f32⟩
  | .local _ .vmem, ⟨18, _⟩ => ⟨S256x256, .f32⟩
  | .local _ .vmem, ⟨19, _⟩ => ⟨S256, .f32⟩
  | .local _ .vmem, ⟨20, _⟩ => ⟨S128x256, .f32⟩
  | .local _ .vmem, ⟨21, _⟩ => ⟨S128, .f32⟩
  | .local _ .vmem, ⟨22, _⟩ => ⟨S1x1x128, .f32⟩
  | .local _ .vmem, ⟨23, _⟩ => ⟨S1x1x128, .f32⟩
  | _, _ => ⟨S8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c10_i32 : BitVec 32 := 10#32
  let v17 : BitVec 32 := Scalar.addi c0_i32 c10_i32
  let c1_i32 : BitVec 32 := 1#32
  ⟨c0_i32, v17, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x6 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x12 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x1x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== PoolReferenceIdeal.lean ====
abbrev S8x256 : Shape := ⟨2, ![8, 256]⟩
abbrev S8x1x128 : Shape := ⟨3, ![8, 1, 128]⟩
abbrev S8x256x128 : Shape := ⟨3, ![8, 256, 128]⟩
abbrev S256x6 : Shape := ⟨2, ![256, 6]⟩
abbrev S256 : Shape := ⟨1, ![256]⟩
abbrev S256x256 : Shape := ⟨2, ![256, 256]⟩
abbrev S256x12 : Shape := ⟨2, ![256, 12]⟩
abbrev S128x256 : Shape := ⟨2, ![128, 256]⟩
abbrev S128 : Shape := ⟨1, ![128]⟩
abbrev S16 : Shape := ⟨1, ![16]⟩
abbrev S_ : Shape := ⟨0, ![]⟩
abbrev S8x1x1 : Shape := ⟨3, ![8, 1, 1]⟩
abbrev S8x1 : Shape := ⟨2, ![8, 1]⟩
abbrev S8 : Shape := ⟨1, ![8]⟩
abbrev S1x16 : Shape := ⟨2, ![1, 16]⟩
abbrev S8x16 : Shape := ⟨2, ![8, 16]⟩
abbrev S8x1x256 : Shape := ⟨3, ![8, 1, 256]⟩
abbrev S8x16x1 : Shape := ⟨3, ![8, 16, 1]⟩
abbrev S8x16x256 : Shape := ⟨3, ![8, 16, 256]⟩
abbrev S8x256x6 : Shape := ⟨3, ![8, 256, 6]⟩
abbrev S6x256 : Shape := ⟨2, ![6, 256]⟩
abbrev S8x256x256 : Shape := ⟨3, ![8, 256, 256]⟩
abbrev S1x1x256 : Shape := ⟨3, ![1, 1, 256]⟩
abbrev S8x256x12 : Shape := ⟨3, ![8, 256, 12]⟩
abbrev S12x256 : Shape := ⟨2, ![12, 256]⟩
abbrev S8x256x1 : Shape := ⟨3, ![8, 256, 1]⟩
abbrev S1x256 : Shape := ⟨2, ![1, 256]⟩
abbrev S256x128 : Shape := ⟨2, ![256, 128]⟩
abbrev S8x128 : Shape := ⟨2, ![8, 128]⟩
abbrev S1x128 : Shape := ⟨2, ![1, 128]⟩

abbrev nBuf : Space → Nat
  | .hbm => 434
  | .vmem => 0
  | .smem => 0
  | _ => 0

abbrev hbmTy0_0 (i : Nat) : BufTy := match i % 128 with
  | 0 => ⟨S8x256, .f32⟩
  | 1 => ⟨S8x256, .i32⟩
  | 2 => ⟨S8x1x128, .f32⟩
  | 3 => ⟨S8x256x128, .f32⟩
  | 4 => ⟨S8x256x128, .f32⟩
  | 5 => ⟨S256x6, .f32⟩
  | 6 => ⟨S256, .f32⟩
  | 7 => ⟨S256x256, .f32⟩
  | 8 => ⟨S256, .f32⟩
  | 9 => ⟨S256x12, .f32⟩
  | 10 => ⟨S256, .f32⟩
  | 11 => ⟨S256x256, .f32⟩
  | 12 => ⟨S256, .f32⟩
  | 13 => ⟨S256x256, .f32⟩
  | 14 => ⟨S256, .f32⟩
  | 15 => ⟨S128x256, .f32⟩
  | 16 => ⟨S128, .f32⟩
  | 17 => ⟨S16, .i32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S8x1x1, .f32⟩
  | 26 => ⟨S8x1, .f32⟩
  | 27 => ⟨S_, .f32⟩
  | 28 => ⟨S8, .f32⟩
  | 29 => ⟨S8x1, .f32⟩
  | 30 => ⟨S_, .f32⟩
  | 31 => ⟨S8x1, .f32⟩
  | 32 => ⟨S8x1, .f32⟩
  | 33 => ⟨S8x1, .f32⟩
  | 34 => ⟨S1x16, .f32⟩
  | 35 => ⟨S8x16, .f32⟩
  | 36 => ⟨S8x16, .f32⟩
  | 37 => ⟨S8x16, .f32⟩
  | 38 => ⟨S8x16, .f32⟩
  | 39 => ⟨S8x16, .f32⟩
  | 40 => ⟨S8x1x256, .f32⟩
  | 41 => ⟨S8x16x1, .f32⟩
  | 42 => ⟨S8x16x256, .f32⟩
  | 43 => ⟨S8x16x256, .f32⟩
  | 44 => ⟨S8x16x256, .i1⟩
  | 45 => ⟨S8x16x256, .i32⟩
  | 46 => ⟨S_, .i32⟩
  | 47 => ⟨S8x16, .i32⟩
  | 48 => ⟨S_, .i32⟩
  | 49 => ⟨S8x16, .i32⟩
  | 50 => ⟨S8x16, .i1⟩
  | 51 => ⟨S8x16, .f32⟩
  | 52 => ⟨S8x16, .f32⟩
  | 53 => ⟨S_, .f32⟩
  | 54 => ⟨S8, .f32⟩
  | 55 => ⟨S8x1, .f32⟩
  | 56 => ⟨S8x16, .f32⟩
  | 57 => ⟨S8x16, .f32⟩
  | 58 => ⟨S_, .f32⟩
  | 59 => ⟨S8, .f32⟩
  | 60 => ⟨S8x1, .f32⟩
  | 61 => ⟨S8x1, .f32⟩
  | 62 => ⟨S1x16, .f32⟩
  | 63 => ⟨S8x16, .f32⟩
  | 64 => ⟨S8x16, .f32⟩
  | 65 => ⟨S8x16, .f32⟩
  | 66 => ⟨S8x16, .f32⟩
  | 67 => ⟨S8x16, .f32⟩
  | 68 => ⟨S8x1x256, .f32⟩
  | 69 => ⟨S8x16x1, .f32⟩
  | 70 => ⟨S8x16x256, .f32⟩
  | 71 => ⟨S8x16x256, .f32⟩
  | 72 => ⟨S8x16x256, .i1⟩
  | 73 => ⟨S8x16x256, .i32⟩
  | 74 => ⟨S_, .i32⟩
  | 75 => ⟨S8x16, .i32⟩
  | 76 => ⟨S_, .i32⟩
  | 77 => ⟨S8x16, .i32⟩
  | 78 => ⟨S8x16, .i1⟩
  | 79 => ⟨S8x16, .f32⟩
  | 80 => ⟨S8x16, .f32⟩
  | 81 => ⟨S_, .f32⟩
  | 82 => ⟨S8, .f32⟩
  | 83 => ⟨S8x1, .f32⟩
  | 84 => ⟨S8x16, .f32⟩
  | 85 => ⟨S8x16, .f32⟩
  | 86 => ⟨S_, .f32⟩
  | 87 => ⟨S8, .f32⟩
  | 88 => ⟨S8x1, .f32⟩
  | 89 => ⟨S8x1, .f32⟩
  | 90 => ⟨S1x16, .f32⟩
  | 91 => ⟨S8x16, .f32⟩
  | 92 => ⟨S8x16, .f32⟩
  | 93 => ⟨S8x16, .f32⟩
  | 94 => ⟨S8x16, .f32⟩
  | 95 => ⟨S8x16, .f32⟩
  | 96 => ⟨S8x1x256, .f32⟩
  | 97 => ⟨S8x16x1, .f32⟩
  | 98 => ⟨S8x16x256, .f32⟩
  | 99 => ⟨S8x16x256, .f32⟩
  | 100 => ⟨S8x16x256, .i1⟩
  | 101 => ⟨S8x16x256, .i32⟩
  | 102 => ⟨S_, .i32⟩
  | 103 => ⟨S8x16, .i32⟩
  | 104 => ⟨S_, .i32⟩
  | 105 => ⟨S8x16, .i32⟩
  | 106 => ⟨S8x16, .i1⟩
  | 107 => ⟨S8x16, .f32⟩
  | 108 => ⟨S8x16, .f32⟩
  | 109 => ⟨S_, .f32⟩
  | 110 => ⟨S8, .f32⟩
  | 111 => ⟨S8x1, .f32⟩
  | 112 => ⟨S8x16, .f32⟩
  | 113 => ⟨S8x16, .f32⟩
  | 114 => ⟨S_, .f32⟩
  | 115 => ⟨S8, .f32⟩
  | 116 => ⟨S8x1, .f32⟩
  | 117 => ⟨S8x1, .f32⟩
  | 118 => ⟨S1x16, .f32⟩
  | 119 => ⟨S8x16, .f32⟩
  | 120 => ⟨S8x16, .f32⟩
  | 121 => ⟨S8x16, .f32⟩
  | 122 => ⟨S8x16, .f32⟩
  | 123 => ⟨S8x16, .f32⟩
  | 124 => ⟨S8x1x256, .f32⟩
  | 125 => ⟨S8x16x1, .f32⟩
  | 126 => ⟨S8x16x256, .f32⟩
  | 127 => ⟨S8x16x256, .f32⟩
  | _ => ⟨S8x256, .f32⟩

abbrev hbmTy0_1 (i : Nat) : BufTy := match i % 128 with
  | 0 => ⟨S8x16x256, .i1⟩
  | 1 => ⟨S8x16x256, .i32⟩
  | 2 => ⟨S_, .i32⟩
  | 3 => ⟨S8x16, .i32⟩
  | 4 => ⟨S_, .i32⟩
  | 5 => ⟨S8x16, .i32⟩
  | 6 => ⟨S8x16, .i1⟩
  | 7 => ⟨S8x16, .f32⟩
  | 8 => ⟨S8x16, .f32⟩
  | 9 => ⟨S_, .f32⟩
  | 10 => ⟨S8, .f32⟩
  | 11 => ⟨S8x1, .f32⟩
  | 12 => ⟨S8x16, .f32⟩
  | 13 => ⟨S8x16, .f32⟩
  | 14 => ⟨S_, .f32⟩
  | 15 => ⟨S8, .f32⟩
  | 16 => ⟨S8x1, .f32⟩
  | 17 => ⟨S8x1, .f32⟩
  | 18 => ⟨S1x16, .f32⟩
  | 19 => ⟨S8x16, .f32⟩
  | 20 => ⟨S8x16, .f32⟩
  | 21 => ⟨S8x16, .f32⟩
  | 22 => ⟨S8x16, .f32⟩
  | 23 => ⟨S8x16, .f32⟩
  | 24 => ⟨S8x1x256, .f32⟩
  | 25 => ⟨S8x16x1, .f32⟩
  | 26 => ⟨S8x16x256, .f32⟩
  | 27 => ⟨S8x16x256, .f32⟩
  | 28 => ⟨S8x16x256, .i1⟩
  | 29 => ⟨S8x16x256, .i32⟩
  | 30 => ⟨S_, .i32⟩
  | 31 => ⟨S8x16, .i32⟩
  | 32 => ⟨S_, .i32⟩
  | 33 => ⟨S8x16, .i32⟩
  | 34 => ⟨S8x16, .i1⟩
  | 35 => ⟨S8x16, .f32⟩
  | 36 => ⟨S8x16, .f32⟩
  | 37 => ⟨S_, .f32⟩
  | 38 => ⟨S8, .f32⟩
  | 39 => ⟨S8x1, .f32⟩
  | 40 => ⟨S8x16, .f32⟩
  | 41 => ⟨S8x16, .f32⟩
  | 42 => ⟨S_, .f32⟩
  | 43 => ⟨S8, .f32⟩
  | 44 => ⟨S8x1, .f32⟩
  | 45 => ⟨S8x1, .f32⟩
  | 46 => ⟨S1x16, .f32⟩
  | 47 => ⟨S8x16, .f32⟩
  | 48 => ⟨S8x16, .f32⟩
  | 49 => ⟨S8x16, .f32⟩
  | 50 => ⟨S8x16, .f32⟩
  | 51 => ⟨S8x16, .f32⟩
  | 52 => ⟨S8x1x256, .f32⟩
  | 53 => ⟨S8x16x1, .f32⟩
  | 54 => ⟨S8x16x256, .f32⟩
  | 55 => ⟨S8x16x256, .f32⟩
  | 56 => ⟨S8x16x256, .i1⟩
  | 57 => ⟨S8x16x256, .i32⟩
  | 58 => ⟨S_, .i32⟩
  | 59 => ⟨S8x16, .i32⟩
  | 60 => ⟨S_, .i32⟩
  | 61 => ⟨S8x16, .i32⟩
  | 62 => ⟨S8x16, .i1⟩
  | 63 => ⟨S8x16, .f32⟩
  | 64 => ⟨S8x16, .f32⟩
  | 65 => ⟨S_, .f32⟩
  | 66 => ⟨S8, .f32⟩
  | 67 => ⟨S8x1, .f32⟩
  | 68 => ⟨S8x16, .f32⟩
  | 69 => ⟨S8x16, .f32⟩
  | 70 => ⟨S_, .f32⟩
  | 71 => ⟨S8, .f32⟩
  | 72 => ⟨S8x1, .f32⟩
  | 73 => ⟨S8x1, .f32⟩
  | 74 => ⟨S1x16, .f32⟩
  | 75 => ⟨S8x16, .f32⟩
  | 76 => ⟨S8x16, .f32⟩
  | 77 => ⟨S8x16, .f32⟩
  | 78 => ⟨S8x16, .f32⟩
  | 79 => ⟨S8x16, .f32⟩
  | 80 => ⟨S8x1x256, .f32⟩
  | 81 => ⟨S8x16x1, .f32⟩
  | 82 => ⟨S8x16x256, .f32⟩
  | 83 => ⟨S8x16x256, .f32⟩
  | 84 => ⟨S8x16x256, .i1⟩
  | 85 => ⟨S8x16x256, .i32⟩
  | 86 => ⟨S_, .i32⟩
  | 87 => ⟨S8x16, .i32⟩
  | 88 => ⟨S_, .i32⟩
  | 89 => ⟨S8x16, .i32⟩
  | 90 => ⟨S8x16, .i1⟩
  | 91 => ⟨S8x16, .f32⟩
  | 92 => ⟨S8x16, .f32⟩
  | 93 => ⟨S_, .f32⟩
  | 94 => ⟨S8, .f32⟩
  | 95 => ⟨S8x1, .f32⟩
  | 96 => ⟨S8x16, .f32⟩
  | 97 => ⟨S8x16, .f32⟩
  | 98 => ⟨S_, .f32⟩
  | 99 => ⟨S8, .f32⟩
  | 100 => ⟨S8x1, .f32⟩
  | 101 => ⟨S8x1, .f32⟩
  | 102 => ⟨S1x16, .f32⟩
  | 103 => ⟨S8x16, .f32⟩
  | 104 => ⟨S8x16, .f32⟩
  | 105 => ⟨S8x16, .f32⟩
  | 106 => ⟨S8x16, .f32⟩
  | 107 => ⟨S8x16, .f32⟩
  | 108 => ⟨S8x1x256, .f32⟩
  | 109 => ⟨S8x16x1, .f32⟩
  | 110 => ⟨S8x16x256, .f32⟩
  | 111 => ⟨S8x16x256, .f32⟩
  | 112 => ⟨S8x16x256, .i1⟩
  | 113 => ⟨S8x16x256, .i32⟩
  | 114 => ⟨S_, .i32⟩
  | 115 => ⟨S8x16, .i32⟩
  | 116 => ⟨S_, .i32⟩
  | 117 => ⟨S8x16, .i32⟩
  | 118 => ⟨S8x16, .i1⟩
  | 119 => ⟨S8x16, .f32⟩
  | 120 => ⟨S8x16, .f32⟩
  | 121 => ⟨S_, .f32⟩
  | 122 => ⟨S8, .f32⟩
  | 123 => ⟨S8x1, .f32⟩
  | 124 => ⟨S8x16, .f32⟩
  | 125 => ⟨S8x16, .f32⟩
  | 126 => ⟨S_, .f32⟩
  | 127 => ⟨S8, .f32⟩
  | _ => ⟨S8x256, .f32⟩

abbrev hbmTy0_2 (i : Nat) : BufTy := match i % 128 with
  | 0 => ⟨S8x1, .f32⟩
  | 1 => ⟨S8x1, .f32⟩
  | 2 => ⟨S1x16, .f32⟩
  | 3 => ⟨S8x16, .f32⟩
  | 4 => ⟨S8x16, .f32⟩
  | 5 => ⟨S8x16, .f32⟩
  | 6 => ⟨S8x16, .f32⟩
  | 7 => ⟨S8x16, .f32⟩
  | 8 => ⟨S8x1x256, .f32⟩
  | 9 => ⟨S8x16x1, .f32⟩
  | 10 => ⟨S8x16x256, .f32⟩
  | 11 => ⟨S8x16x256, .f32⟩
  | 12 => ⟨S8x16x256, .i1⟩
  | 13 => ⟨S8x16x256, .i32⟩
  | 14 => ⟨S_, .i32⟩
  | 15 => ⟨S8x16, .i32⟩
  | 16 => ⟨S_, .i32⟩
  | 17 => ⟨S8x16, .i32⟩
  | 18 => ⟨S8x16, .i1⟩
  | 19 => ⟨S8x16, .f32⟩
  | 20 => ⟨S8x16, .f32⟩
  | 21 => ⟨S_, .f32⟩
  | 22 => ⟨S8, .f32⟩
  | 23 => ⟨S8x1, .f32⟩
  | 24 => ⟨S8x16, .f32⟩
  | 25 => ⟨S8x16, .f32⟩
  | 26 => ⟨S_, .f32⟩
  | 27 => ⟨S8, .f32⟩
  | 28 => ⟨S8x1, .f32⟩
  | 29 => ⟨S8x1, .f32⟩
  | 30 => ⟨S1x16, .f32⟩
  | 31 => ⟨S8x16, .f32⟩
  | 32 => ⟨S8x16, .f32⟩
  | 33 => ⟨S8x16, .f32⟩
  | 34 => ⟨S8x16, .f32⟩
  | 35 => ⟨S8x16, .f32⟩
  | 36 => ⟨S8x1x256, .f32⟩
  | 37 => ⟨S8x16x1, .f32⟩
  | 38 => ⟨S8x16x256, .f32⟩
  | 39 => ⟨S8x16x256, .f32⟩
  | 40 => ⟨S8x16x256, .i1⟩
  | 41 => ⟨S8x16x256, .i32⟩
  | 42 => ⟨S_, .i32⟩
  | 43 => ⟨S8x16, .i32⟩
  | 44 => ⟨S_, .i32⟩
  | 45 => ⟨S8x16, .i32⟩
  | 46 => ⟨S8x16, .i1⟩
  | 47 => ⟨S8x16, .f32⟩
  | 48 => ⟨S8x16, .f32⟩
  | 49 => ⟨S_, .f32⟩
  | 50 => ⟨S8, .f32⟩
  | 51 => ⟨S8x1, .f32⟩
  | 52 => ⟨S8x16, .f32⟩
  | 53 => ⟨S8x16, .f32⟩
  | 54 => ⟨S_, .f32⟩
  | 55 => ⟨S8, .f32⟩
  | 56 => ⟨S8x1, .f32⟩
  | 57 => ⟨S8x256, .f32⟩
  | 58 => ⟨S8x256, .i1⟩
  | 59 => ⟨S8x256, .i32⟩
  | 60 => ⟨S_, .i32⟩
  | 61 => ⟨S8, .i32⟩
  | 62 => ⟨S8x1, .i32⟩
  | 63 => ⟨S8x256, .f32⟩
  | 64 => ⟨S8x256, .i1⟩
  | 65 => ⟨S8x256, .i32⟩
  | 66 => ⟨S_, .i32⟩
  | 67 => ⟨S8, .i32⟩
  | 68 => ⟨S8x1, .i32⟩
  | 69 => ⟨S8x256, .f32⟩
  | 70 => ⟨S8x256, .i1⟩
  | 71 => ⟨S_, .i32⟩
  | 72 => ⟨S8x1, .i32⟩
  | 73 => ⟨S8x1, .i32⟩
  | 74 => ⟨S8x1, .f32⟩
  | 75 => ⟨S8x1, .f32⟩
  | 76 => ⟨S8x1, .f32⟩
  | 77 => ⟨S_, .f32⟩
  | 78 => ⟨S_, .f32⟩
  | 79 => ⟨S8x256, .f32⟩
  | 80 => ⟨S8x256, .f32⟩
  | 81 => ⟨S8x256, .f32⟩
  | 82 => ⟨S8x256, .f32⟩
  | 83 => ⟨S8x256, .i1⟩
  | 84 => ⟨S8x256, .f32⟩
  | 85 => ⟨S8x256, .f32⟩
  | 86 => ⟨S8x256, .i1⟩
  | 87 => ⟨S_, .f32⟩
  | 88 => ⟨S_, .f32⟩
  | 89 => ⟨S8x256, .f32⟩
  | 90 => ⟨S8x256, .f32⟩
  | 91 => ⟨S_, .f32⟩
  | 92 => ⟨S8, .f32⟩
  | 93 => ⟨S8x1, .f32⟩
  | 94 => ⟨S8x256, .f32⟩
  | 95 => ⟨S8x256, .f32⟩
  | 96 => ⟨S8x256, .f32⟩
  | 97 => ⟨S8x256, .f32⟩
  | 98 => ⟨S8x256, .f32⟩
  | 99 => ⟨S_, .f32⟩
  | 100 => ⟨S8, .f32⟩
  | 101 => ⟨S8x1, .f32⟩
  | 102 => ⟨S8x256, .f32⟩
  | 103 => ⟨S8x256, .f32⟩
  | 104 => ⟨S8x256x6, .f32⟩
  | 105 => ⟨S8x256x6, .f32⟩
  | 106 => ⟨S_, .i32⟩
  | 107 => ⟨S_, .i32⟩
  | 108 => ⟨S8x256, .i32⟩
  | 109 => ⟨S8x256, .i32⟩
  | 110 => ⟨S8x256, .i32⟩
  | 111 => ⟨S_, .i32⟩
  | 112 => ⟨S8x256, .i32⟩
  | 113 => ⟨S8x256, .i1⟩
  | 114 => ⟨S8x256, .i32⟩
  | 115 => ⟨S8x256, .i32⟩
  | 116 => ⟨S_, .i32⟩
  | 117 => ⟨S8x256, .i32⟩
  | 118 => ⟨S8x256, .i1⟩
  | 119 => ⟨S8x256, .i1⟩
  | 120 => ⟨S_, .i32⟩
  | 121 => ⟨S8x256, .i32⟩
  | 122 => ⟨S8x256, .i32⟩
  | 123 => ⟨S8x256, .i32⟩
  | 124 => ⟨S6x256, .f32⟩
  | 125 => ⟨S8x256x256, .f32⟩
  | 126 => ⟨S1x1x256, .f32⟩
  | 127 => ⟨S8x256x256, .f32⟩
  | _ => ⟨S8x256, .f32⟩

abbrev hbmTy0_3 (i : Nat) : BufTy := match i % 128 with
  | 0 => ⟨S8x256x256, .f32⟩
  | 1 => ⟨S_, .f32⟩
  | 2 => ⟨S8x256x256, .f32⟩
  | 3 => ⟨S8x256x256, .f32⟩
  | 4 => ⟨S256x256, .f32⟩
  | 5 => ⟨S8x256x256, .f32⟩
  | 6 => ⟨S1x1x256, .f32⟩
  | 7 => ⟨S8x256x256, .f32⟩
  | 8 => ⟨S8x256x256, .f32⟩
  | 9 => ⟨S8x256x12, .f32⟩
  | 10 => ⟨S12x256, .f32⟩
  | 11 => ⟨S8x256x256, .f32⟩
  | 12 => ⟨S1x1x256, .f32⟩
  | 13 => ⟨S8x256x256, .f32⟩
  | 14 => ⟨S8x256x256, .f32⟩
  | 15 => ⟨S_, .f32⟩
  | 16 => ⟨S8x256x256, .f32⟩
  | 17 => ⟨S8x256x256, .f32⟩
  | 18 => ⟨S256x256, .f32⟩
  | 19 => ⟨S8x256x256, .f32⟩
  | 20 => ⟨S1x1x256, .f32⟩
  | 21 => ⟨S8x256x256, .f32⟩
  | 22 => ⟨S8x256x256, .f32⟩
  | 23 => ⟨S_, .i32⟩
  | 24 => ⟨S8x256, .i32⟩
  | 25 => ⟨S8x256, .i32⟩
  | 26 => ⟨S8x256, .i32⟩
  | 27 => ⟨S8x256, .i1⟩
  | 28 => ⟨S8x256x1, .i1⟩
  | 29 => ⟨S8x256x256, .i1⟩
  | 30 => ⟨S8x256x256, .f32⟩
  | 31 => ⟨S8x256x1, .f32⟩
  | 32 => ⟨S8x256x256, .f32⟩
  | 33 => ⟨S8x256x256, .f32⟩
  | 34 => ⟨S_, .f32⟩
  | 35 => ⟨S8x256, .f32⟩
  | 36 => ⟨S256x256, .f32⟩
  | 37 => ⟨S8x256, .f32⟩
  | 38 => ⟨S1x256, .f32⟩
  | 39 => ⟨S8x256, .f32⟩
  | 40 => ⟨S8x256, .f32⟩
  | 41 => ⟨S_, .f32⟩
  | 42 => ⟨S8x256, .f32⟩
  | 43 => ⟨S8x256, .f32⟩
  | 44 => ⟨S256x128, .f32⟩
  | 45 => ⟨S8x128, .f32⟩
  | 46 => ⟨S1x128, .f32⟩
  | 47 => ⟨S8x128, .f32⟩
  | 48 => ⟨S8x128, .f32⟩
  | 49 => ⟨S8x1x128, .f32⟩
  | _ => ⟨S8x256, .f32⟩

abbrev hbmTy (i : Nat) : BufTy := match i / 128 with
  | 0 => hbmTy0_0 i
  | 1 => hbmTy0_1 i
  | 2 => hbmTy0_2 i
  | 3 => hbmTy0_3 i
  | _ => ⟨S8x256, .f32⟩

abbrev bufTy : (tb : Table) → Fin (tcTables nBuf tb) → BufTy
  | .hbm, ⟨i, _⟩ => hbmTy i
  | _, _ => ⟨S8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c : Ref sig .tc := ⟨.hbm, 46, rfl⟩
abbrev main_v25 : Ref sig .tc := ⟨.hbm, 47, rfl⟩
abbrev main_c_3 : Ref sig .tc := ⟨.hbm, 48, rfl⟩
abbrev main_v26 : Ref sig .tc := ⟨.hbm, 49, rfl⟩
abbrev main_v27 : Ref sig .tc := ⟨.hbm, 50, rfl⟩
abbrev main_call0_v0 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_v30 : Ref sig .tc := ⟨.hbm, 55, rfl⟩
abbrev main_call1_v0 : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_6 : Ref sig .tc := ⟨.hbm, 74, rfl⟩
abbrev main_v47 : Ref sig .tc := ⟨.hbm, 75, rfl⟩
abbrev main_c_7 : Ref sig .tc := ⟨.hbm, 76, rfl⟩
abbrev main_v48 : Ref sig .tc := ⟨.hbm, 77, rfl⟩
abbrev main_v49 : Ref sig .tc := ⟨.hbm, 78, rfl⟩
abbrev main_call2_v0 : Ref sig .tc := ⟨.hbm, 79, rfl⟩
abbrev main_v50 : Ref sig .tc := ⟨.hbm, 80, rfl⟩
abbrev main_cst_8 : Ref sig .tc := ⟨.hbm, 81, rfl⟩
abbrev main_v51 : Ref sig .tc := ⟨.hbm, 82, rfl⟩
abbrev main_v52 : Ref sig .tc := ⟨.hbm, 83, rfl⟩
abbrev main_call3_v0 : Ref sig .tc := ⟨.hbm, 84, rfl⟩
abbrev main_v53 : Ref sig .tc := ⟨.hbm, 85, rfl⟩
abbrev main_cst_9 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_c_10 : Ref sig .tc := ⟨.hbm, 102, rfl⟩
abbrev main_v69 : Ref sig .tc := ⟨.hbm, 103, rfl⟩
abbrev main_c_11 : Ref sig .tc := ⟨.hbm, 104, rfl⟩
abbrev main_v70 : Ref sig .tc := ⟨.hbm, 105, rfl⟩
abbrev main_v71 : Ref sig .tc := ⟨.hbm, 106, rfl⟩
abbrev main_call4_v0 : Ref sig .tc := ⟨.hbm, 107, rfl⟩
abbrev main_v72 : Ref sig .tc := ⟨.hbm, 108, rfl⟩
abbrev main_cst_12 : Ref sig .tc := ⟨.hbm, 109, rfl⟩
abbrev main_v73 : Ref sig .tc := ⟨.hbm, 110, rfl⟩
abbrev main_v74 : Ref sig .tc := ⟨.hbm, 111, rfl⟩
abbrev main_call5_v0 : Ref sig .tc := ⟨.hbm, 112, rfl⟩
abbrev main_v75 : Ref sig .tc := ⟨.hbm, 113, rfl⟩
abbrev main_cst_13 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_c_14 : Ref sig .tc := ⟨.hbm, 130, rfl⟩
abbrev main_v91 : Ref sig .tc := ⟨.hbm, 131, rfl⟩
abbrev main_c_15 : Ref sig .tc := ⟨.hbm, 132, rfl⟩
abbrev main_v92 : Ref sig .tc := ⟨.hbm, 133, rfl⟩
abbrev main_v93 : Ref sig .tc := ⟨.hbm, 134, rfl⟩
abbrev main_call6_v0 : Ref sig .tc := ⟨.hbm, 135, rfl⟩
abbrev main_v94 : Ref sig .tc := ⟨.hbm, 136, rfl⟩
abbrev main_cst_16 : Ref sig .tc := ⟨.hbm, 137, rfl⟩
abbrev main_v95 : Ref sig .tc := ⟨.hbm, 138, rfl⟩
abbrev main_v96 : Ref sig .tc := ⟨.hbm, 139, rfl⟩
abbrev main_call7_v0 : Ref sig .tc := ⟨.hbm, 140, rfl⟩
abbrev main_v97 : Ref sig .tc := ⟨.hbm, 141, rfl⟩
abbrev main_cst_17 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_c_18 : Ref sig .tc := ⟨.hbm, 158, rfl⟩
abbrev main_v113 : Ref sig .tc := ⟨.hbm, 159, rfl⟩
abbrev main_c_19 : Ref sig .tc := ⟨.hbm, 160, rfl⟩
abbrev main_v114 : Ref sig .tc := ⟨.hbm, 161, rfl⟩
abbrev main_v115 : Ref sig .tc := ⟨.hbm, 162, rfl⟩
abbrev main_call8_v0 : Ref sig .tc := ⟨.hbm, 163, rfl⟩
abbrev main_v116 : Ref sig .tc := ⟨.hbm, 164, rfl⟩
abbrev main_cst_20 : Ref sig .tc := ⟨.hbm, 165, rfl⟩
abbrev main_v117 : Ref sig .tc := ⟨.hbm, 166, rfl⟩
abbrev main_v118 : Ref sig .tc := ⟨.hbm, 167, rfl⟩
abbrev main_call9_v0 : Ref sig .tc := ⟨.hbm, 168, rfl⟩
abbrev main_v119 : Ref sig .tc := ⟨.hbm, 169, rfl⟩
abbrev main_cst_21 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_c_22 : Ref sig .tc := ⟨.hbm, 186, rfl⟩
abbrev main_v135 : Ref sig .tc := ⟨.hbm, 187, rfl⟩
abbrev main_c_23 : Ref sig .tc := ⟨.hbm, 188, rfl⟩
abbrev main_v136 : Ref sig .tc := ⟨.hbm, 189, rfl⟩
abbrev main_v137 : Ref sig .tc := ⟨.hbm, 190, rfl⟩
abbrev main_call10_v0 : Ref sig .tc := ⟨.hbm, 191, rfl⟩
abbrev main_v138 : Ref sig .tc := ⟨.hbm, 192, rfl⟩
abbrev main_cst_24 : Ref sig .tc := ⟨.hbm, 193, rfl⟩
abbrev main_v139 : Ref sig .tc := ⟨.hbm, 194, rfl⟩
abbrev main_v140 : Ref sig .tc := ⟨.hbm, 195, rfl⟩
abbrev main_call11_v0 : Ref sig .tc := ⟨.hbm, 196, rfl⟩
abbrev main_v141 : Ref sig .tc := ⟨.hbm, 197, rfl⟩
abbrev main_cst_25 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_c_26 : Ref sig .tc := ⟨.hbm, 214, rfl⟩
abbrev main_v157 : Ref sig .tc := ⟨.hbm, 215, rfl⟩
abbrev main_c_27 : Ref sig .tc := ⟨.hbm, 216, rfl⟩
abbrev main_v158 : Ref sig .tc := ⟨.hbm, 217, rfl⟩
abbrev main_v159 : Ref sig .tc := ⟨.hbm, 218, rfl⟩
abbrev main_call12_v0 : Ref sig .tc := ⟨.hbm, 219, rfl⟩
abbrev main_v160 : Ref sig .tc := ⟨.hbm, 220, rfl⟩
abbrev main_cst_28 : Ref sig .tc := ⟨.hbm, 221, rfl⟩
abbrev main_v161 : Ref sig .tc := ⟨.hbm, 222, rfl⟩
abbrev main_v162 : Ref sig .tc := ⟨.hbm, 223, rfl⟩
abbrev main_call13_v0 : Ref sig .tc := ⟨.hbm, 224, rfl⟩
abbrev main_v163 : Ref sig .tc := ⟨.hbm, 225, rfl⟩
abbrev main_cst_29 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_c_30 : Ref sig .tc := ⟨.hbm, 242, rfl⟩
abbrev main_v179 : Ref sig .tc := ⟨.hbm, 243, rfl⟩
abbrev main_c_31 : Ref sig .tc := ⟨.hbm, 244, rfl⟩
abbrev main_v180 : Ref sig .tc := ⟨.hbm, 245, rfl⟩
abbrev main_v181 : Ref sig .tc := ⟨.hbm, 246, rfl⟩
abbrev main_call14_v0 : Ref sig .tc := ⟨.hbm, 247, rfl⟩
abbrev main_v182 : Ref sig .tc := ⟨.hbm, 248, rfl⟩
abbrev main_cst_32 : Ref sig .tc := ⟨.hbm, 249, rfl⟩
abbrev main_v183 : Ref sig .tc := ⟨.hbm, 250, rfl⟩
abbrev main_v184 : Ref sig .tc := ⟨.hbm, 251, rfl⟩
abbrev main_call15_v0 : Ref sig .tc := ⟨.hbm, 252, rfl⟩
abbrev main_v185 : Ref sig .tc := ⟨.hbm, 253, rfl⟩
abbrev main_cst_33 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_c_34 : Ref sig .tc := ⟨.hbm, 270, rfl⟩
abbrev main_v201 : Ref sig .tc := ⟨.hbm, 271, rfl⟩
abbrev main_c_35 : Ref sig .tc := ⟨.hbm, 272, rfl⟩
abbrev main_v202 : Ref sig .tc := ⟨.hbm, 273, rfl⟩
abbrev main_v203 : Ref sig .tc := ⟨.hbm, 274, rfl⟩
abbrev main_call16_v0 : Ref sig .tc := ⟨.hbm, 275, rfl⟩
abbrev main_v204 : Ref sig .tc := ⟨.hbm, 276, rfl⟩
abbrev main_cst_36 : Ref sig .tc := ⟨.hbm, 277, rfl⟩
abbrev main_v205 : Ref sig .tc := ⟨.hbm, 278, rfl⟩
abbrev main_v206 : Ref sig .tc := ⟨.hbm, 279, rfl⟩
abbrev main_call17_v0 : Ref sig .tc := ⟨.hbm, 280, rfl⟩
abbrev main_v207 : Ref sig .tc := ⟨.hbm, 281, rfl⟩
abbrev main_cst_37 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_v212 : Ref sig .tc := ⟨.hbm, 287, rfl⟩
abbrev main_v213 : Ref sig .tc := ⟨.hbm, 288, rfl⟩
abbrev main_v214 : Ref sig .tc := ⟨.hbm, 289, rfl⟩
abbrev main_v215 : Ref sig .tc := ⟨.hbm, 290, rfl⟩
abbrev main_v216 : Ref sig .tc := ⟨.hbm, 291, rfl⟩
abbrev main_v217 : Ref sig .tc := ⟨.hbm, 292, rfl⟩
abbrev main_v218 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_v222 : Ref sig .tc := ⟨.hbm, 297, rfl⟩
abbrev main_c_38 : Ref sig .tc := ⟨.hbm, 298, rfl⟩
abbrev main_v223 : Ref sig .tc := ⟨.hbm, 299, rfl⟩
abbrev main_c_39 : Ref sig .tc := ⟨.hbm, 300, rfl⟩
abbrev main_v224 : Ref sig .tc := ⟨.hbm, 301, rfl⟩
abbrev main_v225 : Ref sig .tc := ⟨.hbm, 302, rfl⟩
abbrev main_call18_v0 : Ref sig .tc := ⟨.hbm, 303, rfl⟩
abbrev main_v226 : Ref sig .tc := ⟨.hbm, 304, rfl⟩
abbrev main_cst_40 : Ref sig .tc := ⟨.hbm, 305, rfl⟩
abbrev main_v227 : Ref sig .tc := ⟨.hbm, 306, rfl⟩
abbrev main_v228 : Ref sig .tc := ⟨.hbm, 307, rfl⟩
abbrev main_call19_v0 : Ref sig .tc := ⟨.hbm, 308, rfl⟩
abbrev main_v229 : Ref sig .tc := ⟨.hbm, 309, rfl⟩
abbrev main_cst_41 : Ref sig .tc := ⟨.hbm, 310, rfl⟩
abbrev main_v230 : Ref sig .tc := ⟨.hbm, 311, rfl⟩
abbrev main_v231 : Ref sig .tc := ⟨.hbm, 312, rfl⟩
abbrev main_v232 : Ref sig .tc := ⟨.hbm, 313, rfl⟩
abbrev main_v233 : Ref sig .tc := ⟨.hbm, 314, rfl⟩
abbrev main_v234 : Ref sig .tc := ⟨.hbm, 315, rfl⟩
abbrev main_c_42 : Ref sig .tc := ⟨.hbm, 316, rfl⟩
abbrev main_v235 : Ref sig .tc := ⟨.hbm, 317, rfl⟩
abbrev main_v236 : Ref sig .tc := ⟨.hbm, 318, rfl⟩
abbrev main_v237 : Ref sig .tc := ⟨.hbm, 319, rfl⟩
abbrev main_v238 : Ref sig .tc := ⟨.hbm, 320, rfl⟩
abbrev main_v239 : Ref sig .tc := ⟨.hbm, 321, rfl⟩
abbrev main_c_43 : Ref sig .tc := ⟨.hbm, 322, rfl⟩
abbrev main_v240 : Ref sig .tc := ⟨.hbm, 323, rfl⟩
abbrev main_v241 : Ref sig .tc := ⟨.hbm, 324, rfl⟩
abbrev main_v242 : Ref sig .tc := ⟨.hbm, 325, rfl⟩
abbrev main_v243 : Ref sig .tc := ⟨.hbm, 326, rfl⟩
abbrev main_c_44 : Ref sig .tc := ⟨.hbm, 327, rfl⟩
abbrev main_v244 : Ref sig .tc := ⟨.hbm, 328, rfl⟩
abbrev main_v245 : Ref sig .tc := ⟨.hbm, 329, rfl⟩
abbrev main_v246 : Ref sig .tc := ⟨.hbm, 330, rfl⟩
abbrev main_v247 : Ref sig .tc := ⟨.hbm, 331, rfl⟩
abbrev main_v248 : Ref sig .tc := ⟨.hbm, 332, rfl⟩
abbrev main_cst_45 : Ref sig .tc := ⟨.hbm, 333, rfl⟩
abbrev main_call20_v0 : Ref sig .tc := ⟨.hbm, 334, rfl⟩
abbrev main_call20_v1 : Ref sig .tc := ⟨.hbm, 335, rfl⟩
abbrev main_call20_v2 : Ref sig .tc := ⟨.hbm, 336, rfl⟩
abbrev main_v249 : Ref sig .tc := ⟨.hbm, 337, rfl⟩
abbrev main_v250 : Ref sig .tc := ⟨.hbm, 338, rfl⟩
abbrev main_v251 : Ref sig .tc := ⟨.hbm, 339, rfl⟩
abbrev main_v252 : Ref sig .tc := ⟨.hbm, 340, rfl⟩
abbrev main_v253 : Ref sig .tc := ⟨.hbm, 341, rfl⟩
abbrev main_v254 : Ref sig .tc := ⟨.hbm, 342, rfl⟩
abbrev main_cst_46 : Ref sig .tc := ⟨.hbm, 343, rfl⟩
abbrev main_call21_v0 : Ref sig .tc := ⟨.hbm, 344, rfl⟩
abbrev main_call21_v1 : Ref sig .tc := ⟨.hbm, 345, rfl⟩
abbrev main_v255 : Ref sig .tc := ⟨.hbm, 346, rfl⟩
abbrev main_cst_47 : Ref sig .tc := ⟨.hbm, 347, rfl⟩
abbrev main_v256 : Ref sig .tc := ⟨.hbm, 348, rfl⟩
abbrev main_v257 : Ref sig .tc := ⟨.hbm, 349, rfl⟩
abbrev main_v258 : Ref sig .tc := ⟨.hbm, 350, rfl⟩
abbrev main_v259 : Ref sig .tc := ⟨.hbm, 351, rfl⟩
abbrev main_v260 : Ref sig .tc := ⟨.hbm, 352, rfl⟩
abbrev main_v261 : Ref sig .tc := ⟨.hbm, 353, rfl⟩
abbrev main_v262 : Ref sig .tc := ⟨.hbm, 354, rfl⟩
abbrev main_cst_48 : Ref sig .tc := ⟨.hbm, 355, rfl⟩
abbrev main_v263 : Ref sig .tc := ⟨.hbm, 356, rfl⟩
abbrev main_v264 : Ref sig .tc := ⟨.hbm, 357, rfl⟩
abbrev main_v265 : Ref sig .tc := ⟨.hbm, 358, rfl⟩
abbrev main_v266 : Ref sig .tc := ⟨.hbm, 359, rfl⟩
abbrev main_v267 : Ref sig .tc := ⟨.hbm, 360, rfl⟩
abbrev main_v268 : Ref sig .tc := ⟨.hbm, 361, rfl⟩
abbrev main_c_49 : Ref sig .tc := ⟨.hbm, 362, rfl⟩
abbrev main_call22_v0 : Ref sig .tc := ⟨.hbm, 363, rfl⟩
abbrev main_call22_v1 : Ref sig .tc := ⟨.hbm, 364, rfl⟩
abbrev main_call22_v2 : Ref sig .tc := ⟨.hbm, 365, rfl⟩
abbrev main_call22_v3 : Ref sig .tc := ⟨.hbm, 366, rfl⟩
abbrev main_call22_v4 : Ref sig .tc := ⟨.hbm, 367, rfl⟩
abbrev main_call22_v5 : Ref sig .tc := ⟨.hbm, 368, rfl⟩
abbrev main_call22_v6 : Ref sig .tc := ⟨.hbm, 369, rfl⟩
abbrev main_call22_v7 : Ref sig .tc := ⟨.hbm, 370, rfl⟩
abbrev main_call22_v8 : Ref sig .tc := ⟨.hbm, 371, rfl⟩
abbrev main_call22_c : Ref sig .tc := ⟨.hbm, 372, rfl⟩
abbrev main_call22_v9 : Ref sig .tc := ⟨.hbm, 373, rfl⟩
abbrev main_call22_v10 : Ref sig .tc := ⟨.hbm, 374, rfl⟩
abbrev main_call22_v11 : Ref sig .tc := ⟨.hbm, 375, rfl⟩
abbrev main_call22_c_0 : Ref sig .tc := ⟨.hbm, 376, rfl⟩
abbrev main_call22_v12 : Ref sig .tc := ⟨.hbm, 377, rfl⟩
abbrev main_call22_v13 : Ref sig .tc := ⟨.hbm, 378, rfl⟩
abbrev main_v269 : Ref sig .tc := ⟨.hbm, 379, rfl⟩
abbrev main_v270 : Ref sig .tc := ⟨.hbm, 380, rfl⟩
abbrev main_v271 : Ref sig .tc := ⟨.hbm, 381, rfl⟩
abbrev main_v272 : Ref sig .tc := ⟨.hbm, 382, rfl⟩
abbrev main_v273 : Ref sig .tc := ⟨.hbm, 383, rfl⟩
abbrev main_v274 : Ref sig .tc := ⟨.hbm, 384, rfl⟩
abbrev main_cst_50 : Ref sig .tc := ⟨.hbm, 385, rfl⟩
abbrev main_v275 : Ref sig .tc := ⟨.hbm, 386, rfl⟩
abbrev main_v276 : Ref sig .tc := ⟨.hbm, 387, rfl⟩
abbrev main_v277 : Ref sig .tc := ⟨.hbm, 388, rfl⟩
abbrev main_v278 : Ref sig .tc := ⟨.hbm, 389, rfl⟩
abbrev main_v279 : Ref sig .tc := ⟨.hbm, 390, rfl⟩
abbrev main_v280 : Ref sig .tc := ⟨.hbm, 391, rfl⟩
abbrev main_v281 : Ref sig .tc := ⟨.hbm, 392, rfl⟩
abbrev main_v282 : Ref sig .tc := ⟨.hbm, 393, rfl⟩
abbrev main_v283 : Ref sig .tc := ⟨.hbm, 394, rfl⟩
abbrev main_v284 : Ref sig .tc := ⟨.hbm, 395, rfl⟩
abbrev main_v285 : Ref sig .tc := ⟨.hbm, 396, rfl⟩
abbrev main_v286 : Ref sig .tc := ⟨.hbm, 397, rfl⟩
abbrev main_v287 : Ref sig .tc := ⟨.hbm, 398, rfl⟩
abbrev main_cst_51 : Ref sig .tc := ⟨.hbm, 399, rfl⟩
abbrev main_v288 : Ref sig .tc := ⟨.hbm, 400, rfl⟩
abbrev main_v289 : Ref sig .tc := ⟨.hbm, 401, rfl⟩
abbrev main_v290 : Ref sig .tc := ⟨.hbm, 402, rfl⟩
abbrev main_v291 : Ref sig .tc := ⟨.hbm, 403, rfl⟩
abbrev main_v292 : Ref sig .tc := ⟨.hbm, 404, rfl⟩
abbrev main_v293 : Ref sig .tc := ⟨.hbm, 405, rfl⟩
abbrev main_v294 : Ref sig .tc := ⟨.hbm, 406, rfl⟩
abbrev main_c_52 : Ref sig .tc := ⟨.hbm, 407, rfl⟩
abbrev main_v295 : Ref sig .tc := ⟨.hbm, 408, rfl⟩
abbrev main_v296 : Ref sig .tc := ⟨.hbm, 409, rfl⟩
abbrev main_v297 : Ref sig .tc := ⟨.hbm, 410, rfl⟩
abbrev main_v298 : Ref sig .tc := ⟨.hbm, 411, rfl⟩
abbrev main_v299 : Ref sig .tc := ⟨.hbm, 412, rfl⟩
abbrev main_call23_v0 : Ref sig .tc := ⟨.hbm, 413, rfl⟩
abbrev main_v300 : Ref sig .tc := ⟨.hbm, 414, rfl⟩
abbrev main_v301 : Ref sig .tc := ⟨.hbm, 415, rfl⟩
abbrev main_v302 : Ref sig .tc := ⟨.hbm, 416, rfl⟩
abbrev main_v303 : Ref sig .tc := ⟨.hbm, 417, rfl⟩
abbrev main_cst_53 : Ref sig .tc := ⟨.hbm, 418, rfl⟩
abbrev main_v304 : Ref sig .tc := ⟨.hbm, 419, rfl⟩
abbrev main_v305 : Ref sig .tc := ⟨.hbm, 420, rfl⟩
abbrev main_v306 : Ref sig .tc := ⟨.hbm, 421, rfl⟩
abbrev main_v307 : Ref sig .tc := ⟨.hbm, 422, rfl⟩
abbrev main_v308 : Ref sig .tc := ⟨.hbm, 423, rfl⟩
abbrev main_v309 : Ref sig .tc := ⟨.hbm, 424, rfl⟩
abbrev main_cst_54 : Ref sig .tc := ⟨.hbm, 425, rfl⟩
abbrev main_v310 : Ref sig .tc := ⟨.hbm, 426, rfl⟩
abbrev main_v311 : Ref sig .tc := ⟨.hbm, 427, rfl⟩
abbrev main_v312 : Ref sig .tc := ⟨.hbm, 428, rfl⟩
abbrev main_v313 : Ref sig .tc := ⟨.hbm, 429, rfl⟩
abbrev main_v314 : Ref sig .tc := ⟨.hbm, 430, rfl⟩
abbrev main_v315 : Ref sig .tc := ⟨.hbm, 431, rfl⟩
abbrev main_v316 : Ref sig .tc := ⟨.hbm, 432, rfl⟩
abbrev main_v317 : Ref sig .tc := ⟨.hbm, 433, rfl⟩

abbrev nD : Nat := 1
abbrev τ : Topo := Topo.v7x

variable {F : FTy → Type} [FloatOps F]
-- ==== Proof.Compact.lean ====
/-
  Compaction of a masked sequence into sixty-four slots, over natural numbers.

  A sequence of elements is visited in order; each hit is written to the slot numbered by the hits before it, and
  every hit past the sixty-third goes to the last slot. `fill` states in closed form what the slots hold after the
  first `n` elements; `fill_hit` and `fill_miss` are the step.
-/
module

public import Idealize.ShloMosaic.Lib.Routing.OpsOne

@[expose] public section

namespace Cert.Proof

section Fill

variable (m : ℕ → Prop) [DecidablePred m]

/-- The prefix count at which slot `k`'s element ends, when `c` elements are hits: `k` itself, but for the last slot
    the number of all hits but one (each later hit overwrites it). -/
def want (c k : ℕ) : ℕ := if k = 63 then max (c - 1) 63 else k

/-- The element of the first `n` that slot `k` holds: the number of elements whose prefix count of hits is at most
    `want`. -/
def place (n k : ℕ) : ℕ := ((Finset.range n).filter fun i => Nat.count m (i + 1) ≤ want (Nat.count m n) k).card

/-- What slot `k` holds after the first `n` elements: the value of its element, or the default when no hit reached it. -/
def fill {α : Type} (val d : ℕ → α) (n k : ℕ) : α := if k < min (Nat.count m n) 64 then val (place m n k) else d k

theorem want_lt {c k : ℕ} (h : k < c) : want c k < c := by
  unfold want; split <;> omega

theorem place_le (n k : ℕ) : place m n k ≤ n := by
  unfold place; exact (Finset.card_filter_le _ _).trans (Finset.card_range n).le

/-- A filled slot's element is one of those visited. -/
theorem place_lt {n k : ℕ} (h : k < Nat.count m n) : place m n k < n := by
  have hn : 0 < n := by
    rcases Nat.eq_zero_or_pos n with h0 | h0
    · subst h0; simp at h
    · exact h0
  unfold place
  calc _ < (Finset.range n).card := by
        apply Finset.card_lt_card
        rw [Finset.filter_ssubset]
        refine ⟨n - 1, Finset.mem_range.mpr (by omega), ?_⟩
        rw [show n - 1 + 1 = n by omega]
        exact not_le.mpr (want_lt h)
    _ = n := Finset.card_range n

theorem place_succ_of {n k w : ℕ} (hw : want (Nat.count m (n + 1)) k = w) (hlt : w < Nat.count m (n + 1)) :
    place m (n + 1) k = ((Finset.range n).filter fun i => Nat.count m (i + 1) ≤ w).card := by
  unfold place
  rw [hw, Finset.range_add_one, Finset.filter_insert, if_neg (not_le.mpr hlt)]

/-- An element that is no hit changes no slot. -/
theorem fill_miss {α : Type} (val d : ℕ → α) {n : ℕ} (h : ¬ m n) (k : ℕ) : fill m val d (n + 1) k = fill m val d n k := by
  have hc : Nat.count m (n + 1) = Nat.count m n := by rw [Nat.count_succ, if_neg h, Nat.add_zero]
  unfold fill
  rw [hc]
  split
  · rename_i hk
    congr 1
    rw [place_succ_of m (w := want (Nat.count m n) k) (by rw [hc]) (by rw [hc]; exact want_lt (by omega))]
    rfl
  · rfl

/-- A hit changes one slot: the one numbered by the hits before it, the last at most. -/
theorem fill_hit {α : Type} (val d : ℕ → α) {n : ℕ} (h : m n) {k : ℕ} (hk : k < 64) :
    fill m val d (n + 1) k = if k = min (Nat.count m n) 63 then val n else fill m val d n k := by
  have hc : Nat.count m (n + 1) = Nat.count m n + 1 := by rw [Nat.count_succ, if_pos h]
  split
  · rename_i he
    unfold fill
    rw [if_pos (by rw [hc]; omega)]
    congr 1
    have hw : want (Nat.count m (n + 1)) k = Nat.count m n := by
      rw [hc]; unfold want; split <;> omega
    rw [place_succ_of m hw (by omega)]
    rw [Finset.filter_true_of_mem, Finset.card_range]
    intro i hi
    exact Nat.count_monotone m (by have := Finset.mem_range.mp hi; omega)
  · rename_i hne
    unfold fill
    by_cases hlt : k < min (Nat.count m n) 64
    · rw [if_pos (by rw [hc]; omega), if_pos hlt]
      congr 1
      have hk63 : k ≠ 63 := by omega
      rw [place_succ_of m (w := k) (by unfold want; rw [if_neg hk63]) (by omega)]
      unfold place want
      rw [if_neg hk63]
    · rw [if_neg (by rw [hc]; omega), if_neg hlt]

/-- Elements that are no hits change no slot. -/
theorem fill_of_no_hit {α : Type} (val d : ℕ → α) {a b : ℕ} (hab : a ≤ b) (h : ∀ i, a ≤ i → i < b → ¬ m i) (k : ℕ) :
    fill m val d b k = fill m val d a k := by
  induction b, hab using Nat.le_induction with
  | base => rfl
  | succ b hb ih => rw [fill_miss m val d (h b hb (by omega)), ih fun i h1 h2 => h i h1 (by omega)]

/-- and no count. -/
theorem count_of_no_hit {a b : ℕ} (hab : a ≤ b) (h : ∀ i, a ≤ i → i < b → ¬ m i) : Nat.count m b = Nat.count m a := by
  induction b, hab using Nat.le_induction with
  | base => rfl
  | succ b hb ih => rw [Nat.count_succ, if_neg (h b hb (by omega)), Nat.add_zero, ih fun i h1 h2 => h i h1 (by omega)]

/-- Nothing visited, every slot holds its default. -/
theorem fill_zero {α : Type} (val d : ℕ → α) (k : ℕ) : fill m val d 0 k = d k := by
  unfold fill; rw [if_neg (by simp)]

/-- Sequences with the same hits and, at the hits, the same values fill the slots alike: here for the values. -/
theorem fill_congr {α : Type} {val val' d d' : ℕ → α} {n : ℕ} (hv : ∀ i, i < n → val i = val' i) {k : ℕ} (hd : d k = d' k) :
    fill m val d n k = fill m val' d' n k := by
  unfold fill
  split
  · rename_i h; exact hv _ (place_lt m (by omega))
  · exact hd

end Fill

/-! ## The sixteen-lane step -/

/-- A fold over the sixteen lanes, by what holds after the first `j` of them. -/
theorem foldl_lanes {β : Type} {N : ℕ} (f : β → Fin N → β) (I : ℕ → β → Prop) {b : β} (h0 : I 0 b)
    (hs : ∀ (k : Fin N) (x : β), I k.val x → I (k.val + 1) (f x k)) : I N ((List.finRange N).foldl f b) := by
  induction N with
  | zero => simpa using h0
  | succ N ih =>
    rw [List.finRange_succ_last, List.foldl_append, List.foldl_map]
    have := ih (fun x k => f x k.castSucc) (fun k x hx => hs k.castSucc x hx)
    simpa using hs (Fin.last N) _ this

open Idealize.ShloMosaic

variable {F : FTy → Type} [FloatOps F]

/-- Lane `l` of a sixteen-lane vector. -/
def lane (l : Fin 16) : (⟨1, ![16]⟩ : Shape).Idx := Shape.ofLane (d := ![16]) l

theorem eq_lane (x : (⟨1, ![16]⟩ : Shape).Idx) : x = lane (x 0) := by
  funext a; obtain rfl := Fin.eq_zero a; rfl

section Step

variable (m : ℕ → Prop) [DecidablePred m]

/-- One masked indexed store of sixteen lanes takes the slots after `n` elements to the slots after `n + 16`: where the
    mask marks the hits, and each hit's lane names the slot of the hits before it and carries the element's value. -/
theorem storeIdx_fill {s : Shape} {e : EltTy} (slot : s.Idx → ℕ) (hslot : ∀ j, slot j < 64) {g : Vec F s e}
    {idxs : Fin s.rank → IVec ⟨1, ![16]⟩ 32} {v : Vec F ⟨1, ![16]⟩ e} {mask : IVec ⟨1, ![16]⟩ 1} {h : ∀ a x, (idxs a x).toNat < s.size a}
    {val d : ℕ → Elt F e} {n : ℕ}
    (hm : ∀ l : Fin 16, mask (lane l) = 1 ↔ m (n + l.val))
    (hp : ∀ l : Fin 16, m (n + l.val) → ∀ j : s.Idx,
      (∀ a, (j a).val = (idxs a (lane l)).toNat) ↔ slot j = min (Nat.count m (n + l.val)) 63)
    (hv : ∀ l : Fin 16, m (n + l.val) → v (lane l) = val (n + l.val))
    (hg : ∀ j, g j = fill m val d n (slot j)) (j : s.Idx) :
    storeIdx g idxs v mask false h j = fill m val d (n + 16) (slot j) := by
  revert j
  unfold storeIdx
  refine foldl_lanes (N := 16) _ (fun k (x : Vec F s e) => ∀ j, x j = fill m val d (n + k) (slot j)) hg ?_
  intro l x hx j
  simp only [Bool.false_eq_true, if_false]
  have hm' : mask (Shape.ofLane (d := ![16]) l) = 1 ↔ m (n + l.val) := hm l
  rw [← Nat.add_assoc]
  by_cases hh : m (n + l.val)
  · rw [if_pos (hm'.mpr hh), fill_hit m val d hh (hslot j)]
    by_cases hj : slot j = min (Nat.count m (n + l.val)) 63
    · rw [if_pos hj]
      exact (if_pos ((hp l hh j).mpr hj)).trans (hv l hh)
    · rw [if_neg hj]
      exact (if_neg (fun hc => hj ((hp l hh j).mp hc))).trans (hx j)
  · rw [if_neg (fun hc => hh (hm'.mp hc)), fill_miss m val d hh, hx j]

end Step

theorem lanes_succ : ∀ l : Fin 15, ((List.finRange 16).filter fun k => decide (0 < k.val ∧ k.val ≤ l.val + 1))
    = ((List.finRange 16).filter fun k => decide (0 < k.val ∧ k.val ≤ l.val)) ++ [(⟨l.val + 1, by omega⟩ : Fin 16)] := by decide

/-- The running sum of the sixteen lanes of a mask widened to words. -/
theorem scan_mask (m : ℕ → Prop) [DecidablePred m] {n : ℕ} {mask : IVec ⟨1, ![16]⟩ 1} {hw : 1 < 32}
    (hm : ∀ l : Fin 16, mask (lane l) = 1 ↔ m (n + l.val)) (l : Fin 16) :
    scan .sum (extui 32 mask hw) (lane l) = BitVec.ofNat 32 (Nat.count m (n + l.val + 1) - Nat.count m n) := by
  have hbit : ∀ l : Fin 16, extui 32 mask hw (lane l)
      = BitVec.ofNat 32 (Nat.count m (n + l.val + 1) - Nat.count m (n + l.val)) := by
    intro l
    rw [Nat.count_succ, Nat.add_sub_cancel_left]
    show (mask (lane l)).setWidth 32 = _
    have hb : ∀ b : BitVec 1, b = 1 ∨ b = 0 := by decide
    rcases hb (mask (lane l)) with h | h
    · rw [if_pos ((hm l).mp h), h]; rfl
    · rw [if_neg (fun hc => by have := (hm l).mpr hc; rw [h] at this; exact absurd this (by decide)), h]; rfl
  obtain ⟨l, hl⟩ := l
  induction l with
  | zero =>
    exact hbit ⟨0, hl⟩
  | succ l ih =>
    have hl' : l < 16 := by omega
    have e1 : scan .sum (extui 32 mask hw) (lane ⟨l + 1, hl⟩)
        = scan .sum (extui 32 mask hw) (lane ⟨l, hl'⟩) + extui 32 mask hw (lane ⟨l + 1, hl⟩) := by
      show ((List.finRange 16).filter fun k => decide (0 < k.val ∧ k.val ≤ l + 1)).foldl
        (fun (r : BitVec 32) (k : Fin 16) => r + extui 32 mask hw (lane k)) (extui 32 mask hw (lane 0)) = _
      rw [lanes_succ ⟨l, by omega⟩, List.foldl_append]
      rfl
    have hmono : Nat.count m n ≤ Nat.count m (n + l + 1) := Nat.count_monotone m (by omega)
    have hmono' : Nat.count m (n + l + 1) ≤ Nat.count m (n + l + 1 + 1) := Nat.count_monotone m (by omega)
    rw [e1, ih hl', hbit, ← BitVec.ofNat_add]
    congr 1
    show _ + (Nat.count m (n + l + 1 + 1) - Nat.count m (n + l + 1)) = Nat.count m (n + l + 1 + 1) - _
    show Nat.count m (n + l + 1) - _ + _ = _
    omega

/-- The words below the sixty-four slots: the larger of zero and the smaller of sixty-three and a word one below a count. -/
theorem slot_word {c : ℕ} (hc : c < 2 ^ 30) :
    IntOp.maxsi (IntOp.minsi (BitVec.ofNat 32 c - 1#32) 63#32) 0#32 = BitVec.ofNat 32 (min (c - 1) 63) := by
  unfold IntOp.maxsi IntOp.minsi
  rcases Nat.eq_zero_or_pos c with h0 | h0
  · subst h0; decide
  · have e : BitVec.ofNat 32 c - 1#32 = BitVec.ofNat 32 (c - 1) := by
      apply BitVec.eq_of_toNat_eq
      rw [BitVec.toNat_sub]; simp; omega
    rw [e]
    have hc1 : c - 1 < 2 ^ 30 := by omega
    generalize c - 1 = x at *
    by_cases hx : x < 63
    · have h1 : (BitVec.ofNat 32 x).slt 63#32 = true := by
        rw [BitVec.slt, decide_eq_true_iff, StableHlo.Predicate.toInt_ofNat_small _ (by omega)]
        rw [show (63#32 : BitVec 32).toInt = 63 from rfl]; omega
      rw [if_pos h1, min_eq_left (by omega)]
      split
      · rfl
      · rename_i h2
        rw [BitVec.slt, decide_eq_true_iff, StableHlo.Predicate.toInt_ofNat_small x (by omega),
          show (0#32 : BitVec 32).toInt = ((0 : ℕ) : ℤ) from rfl] at h2
        rw [show x = 0 by omega]
    · have h1 : ¬ (BitVec.ofNat 32 x).slt 63#32 = true := by
        rw [BitVec.slt, decide_eq_true_iff, StableHlo.Predicate.toInt_ofNat_small _ (by omega)]
        rw [show (63#32 : BitVec 32).toInt = 63 from rfl]; omega
      rw [if_neg h1, min_eq_right (by omega)]; decide

/-- The lanes' slots, from the count before the sixteen lanes and their mask. -/
theorem pos_lane (m : ℕ → Prop) [DecidablePred m] {n : ℕ} {c : BitVec 32} {mask : IVec ⟨1, ![16]⟩ 1} {hw : 1 < 32}
    (hn : n < 2 ^ 20) (hc : c = BitVec.ofNat 32 (Nat.count m n))
    (hm : ∀ l : Fin 16, mask (lane l) = 1 ↔ m (n + l.val)) (l : Fin 16) :
    maxsi (minsi (subi (addi (broadcast ⟨1, ![16]⟩ c) (scan .sum (extui 32 mask hw))) (broadcast ⟨1, ![16]⟩ 1#32)) (broadcast ⟨1, ![16]⟩ 63#32))
      (broadcast ⟨1, ![16]⟩ 0#32) (lane l) = BitVec.ofNat 32 (min (Nat.count m (n + l.val + 1) - 1) 63) := by
  have hle : Nat.count m (n + l.val + 1) ≤ n + l.val + 1 := Nat.count_le _
  have hmono : Nat.count m n ≤ Nat.count m (n + l.val + 1) := Nat.count_monotone m (by omega)
  rw [← slot_word (by omega)]
  show IntOp.maxsi (IntOp.minsi (c + scan .sum (extui 32 mask hw) (lane l) - 1#32) 63#32) 0#32 = _
  rw [scan_mask m hm l, hc, ← BitVec.ofNat_add]
  congr 4
  omega

/-- The count after the sixteen lanes: the count before them and the scan's last lane. -/
theorem count_lane (m : ℕ → Prop) [DecidablePred m] {n : ℕ} {c : BitVec 32} {mask : IVec ⟨1, ![16]⟩ 1} {hw : 1 < 32}
    (hc : c = BitVec.ofNat 32 (Nat.count m n))
    (hm : ∀ l : Fin 16, mask (lane l) = 1 ↔ m (n + l.val)) :
    c + scan .sum (extui 32 mask hw) (lane 15) = BitVec.ofNat 32 (Nat.count m (n + 16)) := by
  have hmono : Nat.count m n ≤ Nat.count m (n + 16) := Nat.count_monotone m (by omega)
  rw [scan_mask m hm, hc, ← BitVec.ofNat_add]
  congr 1
  show _ + (Nat.count m (n + 16) - _) = _
  omega

end Cert.Proof
-- ==== Proof.Spec.lean ====
/-
  What the selection computes, over arrays indexed by natural numbers.

  `p` is a task's number, four tasks to a batch: task `p` reads batch `p / 4` and the `p % 4`-th quarter of its chunk
  maxima. A chunk is 128 scores, numbered within the quarter by `c`: row block `blk p c`, column `key c`.
-/
module

public import proofs.«01_k».proof.Proof.Compact

@[expose] public section

noncomputable section

namespace Cert.Proof

open Idealize.ShloMosaic

variable {F : FTy → Type} [FloatOps F]

/-- The four arguments, flat: the scores, the chunk maxima, each batch's threshold, the rows of `x` (its first six
    lanes, the rest at the padding value). -/
structure Src (F : FTy → Type) where
  s : ℕ → F .f32
  cm : ℕ → F .f32
  t : ℕ → F .f32
  x6 : ℕ → ℕ → F .f32

/-- The value of a slot no score reached. -/
def neg : F .f32 := FloatOps.ofBits .f32 0xF149F2CA#32

/-- At least, as the float comparison answers it. -/
def Ge (a b : F .f32) : Prop := FloatOps.cmpf .oge a b = 1#1

instance (a b : F .f32) : Decidable (Ge a b) := by unfold Ge; infer_instance

variable (A : Src F) (p : ℕ)

/-- Chunk `i` of task `p`'s quarter is hot: its maximum is at least the batch's threshold. -/
def hot (i : ℕ) : Prop := Ge (A.cm (p * 2048 + i)) (A.t (p / 4))

instance : DecidablePred (hot A p) := fun i => by unfold hot; infer_instance

def nhot : ℕ := Nat.count (hot A p) 2048

/-- The chunk in slot `k`. -/
def chunk (k : ℕ) : ℕ := if k < nhot A p then place (hot A p) 2048 k else 0

def blk (c : ℕ) : ℕ := p % 4 * 2 + c / 1024
def key (c : ℕ) : ℕ := c % 1024

/-- The 128-score row of the scores that is chunk `c`. -/
def srow (c : ℕ) : ℕ := p / 4 * 8192 + key c * 8 + blk p c

/-- Score `l` of the chunk in slot `k`. -/
def score (k l : ℕ) : F .f32 := A.s (srow p (chunk A p k) * 128 + l)

/-- Element `e` of the chosen chunks' scores is a candidate: its slot holds a hot chunk, and it is at least the
    threshold. -/
def live (e : ℕ) : Prop := e / 128 < nhot A p ∧ Ge (score A p (e / 128) (e % 128)) (A.t (p / 4))

instance : DecidablePred (live A p) := fun e => by unfold live; infer_instance

def nlive : ℕ := Nat.count (live A p) 8192

/-- The element in slot `k`. -/
def spot (k : ℕ) : ℕ := if k < nlive A p then place (live A p) 8192 k else 0

/-- The chunk of the element in slot `k`. -/
def found (k : ℕ) : ℕ := chunk A p (spot A p k / 128)

def row (k : ℕ) : ℕ := if 0 < nhot A p then blk p (found A p k) * 128 + spot A p k % 128 else 0
def col (k : ℕ) : ℕ := if 0 < nhot A p then key (found A p k) else 0

/-- The value of candidate `k`: its score, or the padding value when there are fewer candidates. -/
def val (k : ℕ) : F .f32 := if k < nlive A p then A.s ((p / 4 * 1024 + col A p k) * 1024 + row A p k) else neg

/-! ## Ranges -/

theorem key_lt (c : ℕ) : key c < 1024 := Nat.mod_lt _ (by omega)

theorem blk_lt {c : ℕ} (hc : c < 2048) : blk p c < 8 := by unfold blk; omega

omit [FloatOps F] in
/-- What one of the sixty-four slots holds. -/
theorem fill_lt {α : Type} (m : ℕ → Prop) [DecidablePred m] (v d : ℕ → α) {n c k : ℕ} (hc : Nat.count m n = c) (hk : k < 64) :
    fill m v d n k = if k < c then v (place m n k) else d k := by
  unfold fill
  rw [hc]
  by_cases h : k < c
  · rw [if_pos (lt_min h hk), if_pos h]
  · rw [if_neg (fun h' => h (lt_of_lt_of_le h' (min_le_left _ _))), if_neg h]

theorem chunk_lt (k : ℕ) : chunk A p k < 2048 := by
  unfold chunk; split
  · rename_i h; exact place_lt _ h
  · omega

theorem nhot_le : nhot A p ≤ 2048 := Nat.count_le _

/-- The elements past the hot chunks' are no candidates. -/
theorem not_live {e : ℕ} (h : 128 * min (nhot A p) 64 ≤ e) (he : e < 8192) : ¬ live A p e := by
  rintro ⟨h1, -⟩; omega

theorem nlive_eq : Nat.count (live A p) (128 * min (nhot A p) 64) = nlive A p :=
  (count_of_no_hit _ (by omega) fun _ h1 h2 => not_live A p h1 h2).symm

/-- Filling the slots from the hot chunks' elements alone fills them from all. -/
theorem fill_live {α : Type} (v d : ℕ → α) (k : ℕ) :
    fill (live A p) v d (128 * min (nhot A p) 64) k = fill (live A p) v d 8192 k :=
  (fill_of_no_hit _ v d (by omega) (fun _ h1 h2 => not_live A p h1 h2) k).symm

theorem count_live : Nat.count (live A p) 8192 = nlive A p := by unfold nlive; rfl
theorem count_hot : Nat.count (hot A p) 2048 = nhot A p := by unfold nhot; rfl

theorem fill_spot {k : ℕ} (hk : k < 64) : fill (live A p) id (fun _ => 0) 8192 k = spot A p k := by
  rw [fill_lt _ _ _ (count_live A p) hk]; unfold spot; simp only [id]

/-- A filled slot's element lies in a hot chunk's slot. -/
theorem place_live_lt {k : ℕ} (h : k < nlive A p) (hk : k < 64) : place (live A p) 8192 k < 128 * min (nhot A p) 64 := by
  have e := fill_live A p id (fun _ => 0) k
  rw [fill_lt _ _ _ (nlive_eq A p) hk, fill_lt _ _ _ (count_live A p) hk, if_pos h, if_pos h] at e
  simp only [id] at e
  rw [← e]
  exact place_lt _ (by rw [nlive_eq]; exact h)

theorem spot_lt {k : ℕ} (hk : k < 64) (h0 : 0 < nhot A p) : spot A p k < 128 * min (nhot A p) 64 := by
  unfold spot; split
  · rename_i h; exact place_live_lt A p h hk
  · omega

/-- With no hot chunk there is no candidate. -/
theorem nlive_zero (h0 : nhot A p = 0) : nlive A p = 0 := by rw [← nlive_eq, h0]; rfl

theorem spot_zero (h0 : nhot A p = 0) (k : ℕ) : spot A p k = 0 := by
  unfold spot; rw [if_neg (by rw [nlive_zero A p h0]; omega)]

theorem spot_lt' {k : ℕ} (hk : k < 64) : spot A p k < 8192 := by
  rcases Nat.eq_zero_or_pos (nhot A p) with h0 | h0
  · rw [spot_zero A p h0]; omega
  · have := spot_lt A p hk h0; omega

theorem row_lt {k : ℕ} : row A p k < 1024 := by
  unfold row; split
  · have := blk_lt p (chunk_lt A p (spot A p k / 128)); unfold found; omega
  · omega

theorem col_lt {k : ℕ} : col A p k < 1024 := by
  unfold col; split
  · exact key_lt _
  · omega

/-- What the slots of chunk names hold when every chunk was visited: the name of the chunk in the slot. -/
theorem fill_hot {α : Type} (v : ℕ → α) (d : ℕ → α) {k : ℕ} (hk : k < 64) :
    fill (hot A p) v d 2048 k = if k < nhot A p then v (chunk A p k) else d k := by
  rw [fill_lt _ _ _ (count_hot A p) hk]; unfold chunk
  split <;> rfl

/-- The name of the found chunk, with the element's place in it, is the candidate's row and column in one number. -/
theorem name_eq {k : ℕ} (hk : k < 64) :
    fill (hot A p) (fun c => blk p c * 131072 + key c) (fun _ => 0) 2048 (spot A p k / 128) + spot A p k % 128 * 1024
      = row A p k * 1024 + col A p k := by
  rcases Nat.eq_zero_or_pos (nhot A p) with h0 | h0
  · rw [spot_zero A p h0, fill_hot A p _ _ (by omega), if_neg (by omega)]
    unfold row col; rw [if_neg (by omega), if_neg (by omega)]
  · have h := spot_lt A p hk h0
    rw [fill_hot A p _ _ (by omega), if_pos (by omega)]
    unfold row col found; rw [if_pos h0, if_pos h0]
    generalize blk p _ = x; generalize spot A p k % 128 = y; generalize key _ = z
    omega

/-- The slots of scores hold the candidates' values. -/
theorem fill_val {k : ℕ} (hk : k < 64) :
    fill (live A p) (fun e => score A p (e / 128) (e % 128)) (fun _ => neg) 8192 k = val A p k := by
  rw [fill_lt _ _ _ (count_live A p) hk]
  by_cases h : k < nlive A p
  · have h0 : 0 < nhot A p := by
      rcases Nat.eq_zero_or_pos (nhot A p) with h0 | h0
      · rw [nlive_zero A p h0] at h; omega
      · exact h0
    have hs : spot A p k = place (live A p) 8192 k := by unfold spot; rw [if_pos h]
    unfold val row col found
    rw [if_pos h, if_pos h, if_pos h0, if_pos h0, ← hs]
    generalize spot A p k = e
    have hr : ∀ x y z : ℕ, (p / 4 * 8192 + z * 8 + x) * 128 + y = (p / 4 * 1024 + z) * 1024 + (x * 128 + y) := by omega
    unfold score srow
    rw [hr]
  · unfold val; rw [if_neg h, if_neg h]

/-! ## The four results -/

/-- The task of column `c` of batch `b`'s results, and the slot. -/
def task (b c : ℕ) : ℕ := b * 4 + c / 64

/-- The values. -/
def outVal : (⟨2, ![8, 256]⟩ : Shape).Idx → F .f32 := fun j => val A (task (j 0).val (j 1).val) ((j 1).val % 64)
/-- Each candidate's place in its batch's scores, row times 1024 plus column. -/
def outIdx : (⟨2, ![8, 256]⟩ : Shape).Idx → BitVec 32 := fun j =>
  BitVec.ofNat 32 (row A (task (j 0).val (j 1).val) ((j 1).val % 64) * 1024 + col A (task (j 0).val (j 1).val) ((j 1).val % 64))
/-- The row of `x` at the candidate's row, -/
def outRow : (⟨3, ![8, 256, 128]⟩ : Shape).Idx → F .f32 := fun j =>
  A.x6 (task (j 0).val (j 1).val / 4 * 1024 + row A (task (j 0).val (j 1).val) ((j 1).val % 64)) (j 2).val
/-- and at its column. -/
def outCol : (⟨3, ![8, 256, 128]⟩ : Shape).Idx → F .f32 := fun j =>
  A.x6 (task (j 0).val (j 1).val / 4 * 1024 + col A (task (j 0).val (j 1).val) ((j 1).val % 64)) (j 2).val

end Cert.Proof
-- ==== Proof.Setup.lean ====
/-
  The kernel's program as the launch theorem sees it, its buffers, and the steps of a task's body: a load of sixteen
  lanes, and the masked indexed store of sixteen lanes into sixty-four slots.
-/
module

public import proofs.«01_k».proof.Defs
public import proofs.«01_k».proof.Proof.Spec
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program and the ghost state -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable (d : Dev nD) (L : grid0.Coords)

abbrev cV (L : grid0.Coords) : Fin τ.nSC := (L 0).castLE hcore0
abbrev jV (L : grid0.Coords) : Fin τ.nSub := (L 1).castLE hsub0

/-- The thread of the task on vector subcore `(L 0, L 1)` of device `d`. -/
abbrev thr : Thread nD τ := V d (cV L) (jV L)

variable [FloatOps F]

/-! ## The steps of a task's body -/

/-- A scratch buffer, owned whole, that reads `G`. -/
def Has {cs : CoreSpace} {s : Shape} {e : EltTy} (base : Memref sig .scVector cs s e) (G : s.Idx → Elt F e) : sProp 𝕄 :=
  iprop(∃ f, ⌜∀ j, base.view.read (Elt F) f j = G j⌝ ∗ (base.view.loc (thr d L) ↦{fullShare} f))

omit [FloatOps F] in
theorem Has.congr {cs : CoreSpace} {s : Shape} {e : EltTy} {base : Memref sig .scVector cs s e} {G G' : s.Idx → Elt F e}
    (h : ∀ j, G j = G' j) : (Has d L base G : sProp 𝕄) ⊢ Has d L base G' := by
  rw [show G = G' from funext h]

omit [FloatOps F] in
theorem Has.intro {cs : CoreSpace} {s : Shape} {e : EltTy} {base : Memref sig .scVector cs s e} {f : Buf (Elt F) (base.view.loc (thr d L))} :
    (base.view.loc (thr d L) ↦{fullShare} f : sProp 𝕄) ⊢ Has d L base (base.view.read (Elt F) f) := by
  unfold Has
  iintro H
  iexists f
  isplitr
  · ipureintro; exact fun _ => rfl
  · iexact H

section Steps

variable {α : Type}

/-- A load through a rectangle: what the buffer reads there. -/
theorem wp_ld {s : Shape} {e : EltTy} {base : Memref sig .scVector .vmem s e} {r : LoadRect s} {hl : base.view.LoadsAt r}
    {k : (r.shape.Idx → Elt F e) → Prog (TpuEff nD τ sig (Elt F) Λ₀ (.scVector (cV L) (jV L))) α} {G : s.Idx → Elt F e} {Q : α → sProp 𝕄} :
    (Has d L base G : sProp 𝕄)
      ⊢ iprop((∀ v, ⌜∀ x, v x = G (r.idx x)⌝ -∗ Has d L base G -∗ wp frame (wpE (defs₀ (F := F)) 𝒱₀ (thr d L) none) Set.univ (k v) Q)
        -∗ wp frame (wpE (defs₀ (F := F)) 𝒱₀ (thr d L) none) Set.univ (.op (.load base r hl) k) Q) := by
  unfold Has
  iintro ⟨%f, %hf, H⟩ Hk
  iapply (wp_load (c := thr d L) 𝒱₀ none Set.univ (m := base) (r := r) (S := Finset.univ) (Finset.subset_univ _)) $$ H
  iintro H
  iapply Hk $$ %(base.view.readAt (Elt F) r f) %(fun x => hf (r.idx x))
  iexists f
  isplitr
  · ipureintro; exact hf
  · iexact H

/-- A check whose condition holds. -/
theorem wp_chk {P : Prop} {dc : Decidable P} {k : PLift P → Prog (TpuEff nD τ sig (Elt F) Λ₀ (.scVector (cV L) (jV L))) α} {Q : α → sProp 𝕄} (h : P) :
    (wp frame (wpE (defs₀ (F := F)) 𝒱₀ (thr d L) none) Set.univ (k ⟨h⟩) Q : sProp 𝕄)
      ⊢ wp frame (wpE (defs₀ (F := F)) 𝒱₀ (thr d L) none) Set.univ (.op (.assume P dc) k) Q :=
  wp_assume (c := thr d L) 𝒱₀ none Set.univ h

/-- A store through a rectangle: the new values there, the old ones elsewhere. -/
theorem wp_st {s : Shape} {e : EltTy} {base : Memref sig .scVector .vmem s e} {r : Rect s} {w : r.shape.Idx → Elt F e}
    {hx : (base.access r).Stores Finset.univ} {hm : (Finset.univ : Finset r.shape.Idx) = Finset.univ ∨ ∀ a, r.stride a = 1}
    {k : PUnit → Prog (TpuEff nD τ sig (Elt F) Λ₀ (.scVector (cV L) (jV L))) α} {G : s.Idx → Elt F e} {Q : α → sProp 𝕄} (G' : s.Idx → Elt F e)
    (hin : ∀ x, G' (r.emb x) = w x) (hout : ∀ j, j ∉ r.set → G' j = G j) :
    (Has d L base G : sProp 𝕄)
      ⊢ iprop((Has d L base G' -∗ wp frame (wpE (defs₀ (F := F)) 𝒱₀ (thr d L) none) Set.univ (k ⟨⟩) Q)
        -∗ wp frame (wpE (defs₀ (F := F)) 𝒱₀ (thr d L) none) Set.univ (.op (.store base r w Finset.univ hx hm) k) Q) := by
  unfold Has
  iintro ⟨%f, %hf, H⟩ Hk
  iapply (wp_store (c := thr d L) 𝒱₀ none Set.univ (m := base) (r := r) (S := Finset.univ) (Finset.subset_univ _)) $$ H
  iintro H
  iapply Hk
  iexists ((base.access r).write (Elt F) f w Finset.univ)
  isplitr
  · ipureintro
    intro j
    by_cases hj : j ∈ r.set
    · rw [← Rect.map_emb_univ] at hj
      obtain ⟨x, -, rfl⟩ := Finset.mem_map.mp hj
      exact (View.read_slice_write_emb r f w (Finset.mem_univ x)).trans (hin x).symm
    · exact ((View.read_slice_write_of_not_mem r f w Finset.univ (by rwa [Rect.map_emb_univ])).trans (hf j)).trans (hout j hj).symm
  · iexact H

/-- A store of sixteen values at `16 * t` in a buffer of sixty-four: the slots below `16 * (t + 1)` done. -/
theorem wp_st64 {e : EltTy} {base : Memref sig .scVector .vmem S64 e} {off : Fin 1 → ℕ} {t : ℕ} (hoff : off = ![16 * t])
    {inb : ∀ a, off a + S16.size a ≤ S64.size a} {w : S16.Idx → Elt F e}
    {hx : (base.access (Rect.unit (s := S64) off S16.size inb)).Stores Finset.univ}
    {hm : (Finset.univ : Finset (Rect.unit (s := S64) off S16.size inb).shape.Idx) = Finset.univ ∨ ∀ a, (Rect.unit (s := S64) off S16.size inb).stride a = 1}
    {k : PUnit → Prog (TpuEff nD τ sig (Elt F) Λ₀ (.scVector (cV L) (jV L))) α} {Q : α → sProp 𝕄} {D E : ℕ → Elt F e}
    (hw : ∀ l : Fin 16, w (lane l) = D (16 * t + l.val)) :
    (Has d L base (fun j => if (j 0).val < 16 * t then D (j 0).val else E (j 0).val) : sProp 𝕄)
      ⊢ iprop((Has d L base (fun j => if (j 0).val < 16 * (t + 1) then D (j 0).val else E (j 0).val)
          -∗ wp frame (wpE (defs₀ (F := F)) 𝒱₀ (thr d L) none) Set.univ (k ⟨⟩) Q)
        -∗ wp frame (wpE (defs₀ (F := F)) 𝒱₀ (thr d L) none) Set.univ (.op (.store base (Rect.unit (s := S64) off S16.size inb) w Finset.univ hx hm) k) Q) := by
  subst hoff
  refine wp_st d L _ ?_ ?_
  · intro x
    have hx0 : ((Rect.unit (s := S64) ![16 * t] S16.size inb).emb x 0).val = 16 * t + (x 0).val := by
      simp [Rect.emb_apply]
    have hlt : (x 0).val < 16 := (x 0).isLt
    beta_reduce
    rw [hx0, if_pos (by omega), show x = lane ⟨(x 0).val, hlt⟩ from eq_lane x]
    exact (hw _).symm
  · intro j hj
    have hj' : ¬ (16 * t ≤ (j 0).val ∧ (j 0).val < 16 * t + 16) := by
      intro h
      exact hj (Rect.mem_set_unit.mpr fun a => by obtain rfl := Fin.eq_zero a; exact h)
    by_cases h : (j 0).val < 16 * t
    · rw [if_pos h, if_pos (by omega)]
    · rw [if_neg h, if_neg (by omega)]

/-- The same, the buffer a row of sixty-four. -/
theorem wp_st1x64 {e : EltTy} {base : Memref sig .scVector .vmem S1x64 e} {off : Fin 2 → ℕ} {t : ℕ} (hoff : off = ![0, 16 * t])
    {inb : ∀ a, off a + S1x16.size a ≤ S1x64.size a} {w : S16.Idx → Elt F e} {hc : S16.ShapeCasts S1x16}
    {hx : (base.access (Rect.unit (s := S1x64) off S1x16.size inb)).Stores Finset.univ}
    {hm : (Finset.univ : Finset (Rect.unit (s := S1x64) off S1x16.size inb).shape.Idx) = Finset.univ ∨ ∀ a, (Rect.unit (s := S1x64) off S1x16.size inb).stride a = 1}
    {k : PUnit → Prog (TpuEff nD τ sig (Elt F) Λ₀ (.scVector (cV L) (jV L))) α} {Q : α → sProp 𝕄} {D E : ℕ → Elt F e}
    (hw : ∀ l : Fin 16, w (lane l) = D (16 * t + l.val)) :
    (Has d L base (fun j => if (j 1).val < 16 * t then D (j 1).val else E (j 1).val) : sProp 𝕄)
      ⊢ iprop((Has d L base (fun j => if (j 1).val < 16 * (t + 1) then D (j 1).val else E (j 1).val)
          -∗ wp frame (wpE (defs₀ (F := F)) 𝒱₀ (thr d L) none) Set.univ (k ⟨⟩) Q)
        -∗ wp frame (wpE (defs₀ (F := F)) 𝒱₀ (thr d L) none) Set.univ
            (.op (.store base (Rect.unit (s := S1x64) off S1x16.size inb) (shapeCast S1x16 w hc) Finset.univ hx hm) k) Q) := by
  subst hoff
  refine wp_st d L _ ?_ ?_
  · intro x
    have hx1 : ((Rect.unit (s := S1x64) ![0, 16 * t] S1x16.size inb).emb x 1).val = 16 * t + (x 1).val := by
      simp [Rect.emb_apply]
    have hlt : (x 1).val < 16 := (x 1).isLt
    have hlt0 : (x 0).val < 1 := (x 0).isLt
    beta_reduce
    rw [hx1, if_pos (by omega), ← hw ⟨(x 1).val, hlt⟩]
    refine (shapeCast_apply (t := S1x16) w hc x (lane ⟨(x 1).val, hlt⟩) ?_).symm
    rw [Shape.rowMajor_val_one, Shape.rowMajor_val_two]
    show (x 1).val = (x 0).val * 16 + (x 1).val
    omega
  · intro j hj
    have hlt0 : (j 0).val < 1 := (j 0).isLt
    have hj' : ¬ (16 * t ≤ (j 1).val ∧ (j 1).val < 16 * t + 16) := by
      intro h
      refine hj (Rect.mem_set_unit.mpr fun a => ?_)
      match a with
      | 0 => exact ⟨Nat.zero_le _, hlt0⟩
      | 1 => exact h
    by_cases h : (j 1).val < 16 * t
    · rw [if_pos h, if_pos (by omega)]
    · rw [if_neg h, if_neg (by omega)]

/-- The masked indexed store of sixteen lanes, on a buffer whose elements are the slots: the slots after `n` elements
    become those after `n + 16` (`storeIdx_fill`). -/
theorem wp_fill {s : Shape} {e : EltTy} {base : Memref sig .scVector .vmem s e} (m : ℕ → Prop) [DecidablePred m] (slot : s.Idx → ℕ)
    (hslot : ∀ j, slot j < 64) {idxs : Fin s.rank → IVec ⟨1, ![16]⟩ 32} {v : Vec F ⟨1, ![16]⟩ e} {mask : IVec ⟨1, ![16]⟩ 1}
    {h : ∀ a x, (idxs a x).toNat < s.size a} {hs : (base.access (.whole s)).Stores Finset.univ}
    {k : PUnit → Prog (TpuEff nD τ sig (Elt F) Λ₀ (.scVector (cV L) (jV L))) α}
    {val dflt : ℕ → Elt F e} {n : ℕ} {Q : α → sProp 𝕄} (hset : (base.access (.whole s)).set = Finset.univ)
    (hm : ∀ l : Fin 16, mask (lane l) = 1 ↔ m (n + l.val))
    (hp : ∀ l : Fin 16, m (n + l.val) → ∀ j : s.Idx,
      (∀ a, (j a).val = (idxs a (lane l)).toNat) ↔ slot j = min (Nat.count m (n + l.val)) 63)
    (hv : ∀ l : Fin 16, m (n + l.val) → v (lane l) = val (n + l.val)) :
    (Has d L base (fun j => fill m val dflt n (slot j)) : sProp 𝕄)
      ⊢ iprop((Has d L base (fun j => fill m val dflt (n + 16) (slot j))
            -∗ wp frame (wpE (defs₀ (F := F)) 𝒱₀ (thr d L) none) Set.univ (k ⟨⟩) Q)
        -∗ wp frame (wpE (defs₀ (F := F)) 𝒱₀ (thr d L) none) Set.univ (SparseCore.vectorStoreIdx base idxs v mask false h hs >>= k) Q) := by
  unfold Has
  iintro ⟨%f, %hf, H⟩ Hk
  have hread : ∀ (g : Buf (Elt F) (base.view.loc (thr d L))), (base.access (.whole s)).read (Elt F) g = base.view.read (Elt F) g := by
    intro g
    funext j
    show base.view.read (Elt F) g ((Rect.whole s).emb j) = _
    rw [Rect.emb_whole_apply]
  ihave H' := (Entails.of_eq (show (base.view.loc (thr d L) ↦{fullShare} f : sProp 𝕄)
      = (base.access (.whole s)).loc (thr d L) ↦[(base.access (.whole s)).set]{fullShare} f by rw [hset])) $$ H
  iapply (SparseCore.wp_vectorStoreIdx 𝒱₀ (thr d L) none Set.univ (base := base)) $$ H'
  iintro H'
  ihave H := (Entails.of_eq (show ((base.access (.whole s)).loc (thr d L) ↦[(base.access (.whole s)).set]{fullShare} _ : sProp 𝕄)
      = base.view.loc (thr d L) ↦{fullShare} _ by rw [hset])) $$ H'
  have hfill : ∀ j, base.view.read (Elt F) ((base.access (.whole s)).write (Elt F) f
      (storeIdx ((base.access (.whole s)).read (Elt F) f) idxs v mask false h) Finset.univ) j = fill m val dflt (n + 16) (slot j) := by
    intro j
    rw [← hread, View.read_write_univ]
    exact storeIdx_fill m slot hslot hm hp hv (fun j => by rw [hread]; exact hf j) j
  iapply Hk
  iexists _
  isplitr
  · ipureintro; exact hfill
  · iexact H

/-- The lanes of one group: which are marked, and their slots' words. -/
structure Lanes (m : ℕ → Prop) [DecidablePred m] (n : ℕ) (mask : IVec S16 1) (pos : IVec S16 32) : Prop where
  hm : ∀ l : Fin 16, mask (lane l) = 1 ↔ m (n + l.val)
  hpos : ∀ l : Fin 16, pos (lane l) = BitVec.ofNat 32 (min (Nat.count m (n + l.val + 1) - 1) 63)

variable {m : ℕ → Prop} [DecidablePred m] {n : ℕ} {mask : IVec S16 1} {pos : IVec S16 32}

theorem Lanes.toNat (h : Lanes m n mask pos) (l : Fin 16) : (pos (lane l)).toNat = min (Nat.count m (n + l.val + 1) - 1) 63 := by
  rw [h.hpos, BitVec.toNat_ofNat, Nat.mod_eq_of_lt]
  omega

/-- Every lane's slot is one of the sixty-four. -/
theorem Lanes.lt (h : Lanes m n mask pos) (x : S16.Idx) : (pos x).toNat < 64 := by
  rw [eq_lane x]; exact (h.toNat (x 0)).trans_lt (by omega)

theorem Lanes.inb (h : Lanes m n mask pos) : ∀ a x, ((![pos] : Fin 1 → IVec S16 32) a x).toNat < S64.size a := by
  intro a x; obtain rfl := Fin.eq_zero a; exact h.lt x

theorem Lanes.slot (h : Lanes m n mask pos) (l : Fin 16) (hl : m (n + l.val)) : (pos (lane l)).toNat = min (Nat.count m (n + l.val)) 63 := by
  rw [h.toNat, Nat.count_succ, if_pos hl]; omega

theorem Lanes.of {c : BitVec 32} {hw : 1 < 32} (hn : n < 2 ^ 20) (hc : c = BitVec.ofNat 32 (Nat.count m n))
    (hm : ∀ l : Fin 16, mask (lane l) = 1 ↔ m (n + l.val)) :
    Lanes m n mask (maxsi (minsi (subi (addi (broadcast S16 c) (scan .sum (extui 32 mask hw))) (broadcast S16 1#32)) (broadcast S16 63#32)) (broadcast S16 0#32)) :=
  ⟨hm, fun l => pos_lane m hn hc hm l⟩

/-- The masked indexed store of sixteen lanes in a buffer of sixty-four. -/
theorem wp_fill64 {e : EltTy} {base : Memref sig .scVector .vmem S64 e} (hset : (base.access (.whole S64)).set = Finset.univ)
    (hL : Lanes m n mask pos) {v : Vec F S16 e}
    {h : ∀ a x, ((![pos] : Fin 1 → IVec S16 32) a x).toNat < S64.size a} {hs : (base.access (.whole S64)).Stores Finset.univ}
    {k : PUnit → Prog (TpuEff nD τ sig (Elt F) Λ₀ (.scVector (cV L) (jV L))) α} {val dflt : ℕ → Elt F e} {Q : α → sProp 𝕄}
    (hv : ∀ l : Fin 16, v (lane l) = val (n + l.val)) :
    (Has d L base (fun j => fill m val dflt n (j 0).val) : sProp 𝕄)
      ⊢ iprop((Has d L base (fun j => fill m val dflt (n + 16) (j 0).val)
            -∗ wp frame (wpE (defs₀ (F := F)) 𝒱₀ (thr d L) none) Set.univ (k ⟨⟩) Q)
        -∗ wp frame (wpE (defs₀ (F := F)) 𝒱₀ (thr d L) none) Set.univ (SparseCore.vectorStoreIdx base ![pos] v mask false h hs >>= k) Q) := by
  refine wp_fill d L m (fun j => (j 0).val) (fun j => (j 0).isLt) hset hL.hm ?_ fun l _ => hv l
  intro l hl j
  rw [← hL.slot l hl]
  constructor
  · intro h; exact h 0
  · intro h a; obtain rfl := Fin.eq_zero a; exact h

/-- The same, the buffer a row of sixty-four, its row index the slots' difference with themselves. -/
theorem wp_fill1x64 {e : EltTy} {base : Memref sig .scVector .vmem S1x64 e} (hset : (base.access (.whole S1x64)).set = Finset.univ)
    (hL : Lanes m n mask pos) {v : Vec F S16 e}
    {h : ∀ a x, ((![subi pos pos, pos] : Fin 2 → IVec S16 32) a x).toNat < S1x64.size a} {hs : (base.access (.whole S1x64)).Stores Finset.univ}
    {k : PUnit → Prog (TpuEff nD τ sig (Elt F) Λ₀ (.scVector (cV L) (jV L))) α} {val dflt : ℕ → Elt F e} {Q : α → sProp 𝕄}
    (hv : ∀ l : Fin 16, v (lane l) = val (n + l.val)) :
    (Has d L base (fun j => fill m val dflt n (j 1).val) : sProp 𝕄)
      ⊢ iprop((Has d L base (fun j => fill m val dflt (n + 16) (j 1).val)
            -∗ wp frame (wpE (defs₀ (F := F)) 𝒱₀ (thr d L) none) Set.univ (k ⟨⟩) Q)
        -∗ wp frame (wpE (defs₀ (F := F)) 𝒱₀ (thr d L) none) Set.univ (SparseCore.vectorStoreIdx base ![subi pos pos, pos] v mask false h hs >>= k) Q) := by
  refine wp_fill d L m (fun j => (j 1).val) (fun j => (j 1).isLt) hset hL.hm ?_ fun l _ => hv l
  intro l hl j
  have h0 : (j 0).val < 1 := (j 0).isLt
  rw [← hL.slot l hl]
  constructor
  · intro h; exact h 1
  · intro h a
    match a with
    | 0 =>
      show (j 0).val = (pos (lane l) - pos (lane l)).toNat
      rw [BitVec.sub_self]; show (j 0).val = 0; omega
    | 1 => exact h

end Steps

end Cert.Proof

end
-- ==== Proof.Moves.lean ====
/-
  The copies of a task: a plain copy with its wait, into a scratch buffer or out of one, and the gather of sixty-four
  rows with its wait.
-/
module

public import proofs.«01_k».proof.Proof.Setup

@[expose] public section

noncomputable section

namespace Cert.Proof

open Cert.KernelIdeal Cert.KernelIdeal.Gen

open Idealize.ShloMosaic
open Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx)

variable {F : FTy → Type}

local notation "𝕄" => MT nD τ sig (HIx 1) (Elt F) ℕ UU ℕ

variable (d : Dev nD) (L : grid0.Coords)

/-- What the task owes is `O`, and it waited on nothing but its own semaphores beyond `W`. -/
def Owing (O : CellTallies nD τ sig (HIx 1)) (W : Waits sig (HIx 1)) : sProp 𝕄 :=
  iprop(∃ W', ⌜∀ p ∈ W', p ∈ W ∨ p.2 = none⌝ ∗ owes (thr d L) O W')

/-- A semaphore of the task at zero. -/
abbrev Zero (sem : DmaSem sig) : sProp 𝕄 := semVal (thr d L, SemLoc.dma sem) 0

variable [FloatOps F] {α : Type} {O : CellTallies nD τ sig (HIx 1)} {W : Waits sig (HIx 1)}

/-- A copy and its wait: the destination written with what the source reads. -/
theorem wp_move {sp sp' : Space} {s s' : Shape} {e e' : EltTy} {sp'' : Space} {src : Memref sig .scVector sp s e} {dst : Memref sig .scVector sp' s e}
    {srcw : Memref sig .scVector sp'' s' e'} {sem : DmaSem sig} {h1 h2 h3} {h4 : srcw.view.WordExact} {h5}
    {k : PUnit → Prog (TpuEff nD τ sig (Elt F) Λ₀ (.scVector (cV L) (jV L))) α} {Q : α → sProp 𝕄} {q : PosShare TreeShare}
    {fs : Buf (Elt F) (src.view.loc (thr d L))} {Sd : Finset (Idx (dst.view.loc (thr d L)))} {fd : Buf (Elt F) (dst.view.loc (thr d L))}
    (hN : 0 < dst.view.dmaCredit) (hSd : dst.view.set ⊆ Sd) :
    iprop((src.view.loc (thr d L) ↦[src.view.set]{q} fs) ∗ (dst.view.loc (thr d L) ↦[Sd]{fullShare} fd) ∗ Zero d L sem ∗ Owing d L O W
        ∗ Transfers.MayWaits (thr d L) (default : HIx 1) O)
      ⊢ iprop((((dst.view.loc (thr d L) ↦[Sd]{fullShare} (dst.view.write (Elt F) fd (src.view.read (Elt F) fs) Finset.univ))
              ∗ (src.view.loc (thr d L) ↦[src.view.set]{q} fs) ∗ Zero d L sem ∗ Owing d L O W)
            -∗ wp frame (wpE (defs₀ (F := F)) 𝒱₀ (thr d L) none) Set.univ (k ⟨⟩) Q)
        -∗ wp frame (wpE (defs₀ (F := F)) 𝒱₀ (thr d L) none) Set.univ
            (.op (.enqueueDma src (.here dst) (.dma sem) h1 h2 h3) fun _ => .op (.waitDma2 sem srcw dst h4 h5) k) Q) := by
  unfold Owing
  iintro ⟨Hs, Hd, Hv, ⟨%W', %hW, HO⟩, Hmw⟩ Hk
  iapply (Transfers.wp_dmaLocal countersEmb 𝒱₀ (thr d L) none (default : HIx 1) dst.view.dmaCredit rfl hN hSd) $$ [Hs Hd Hv]
  · isplitl [Hs]; · iexact Hs
    isplitl [Hd]; · iexact Hd
    iexact Hv
  iintro Hfl
  iapply (Transfers.wp_waitLocalO countersEmb 𝒱₀ (thr d L) none (default : HIx 1) (rfl : dst.view.dmaCredit = _)) $$ [Hfl HO Hmw]
  · isplitl [Hfl]; · iexact Hfl
    isplitl [HO]; · iexact HO
    iapply (Transfers.MayWaits.elim (SemLoc.dma sem)) $$ Hmw
  iintro ⟨⟨Hd, Hs⟩, Hv, HO⟩
  iapply Hk
  isplitl [Hd]; · iexact Hd
  isplitl [Hs]; · iexact Hs
  isplitl [Hv]; · iexact Hv
  iexists _
  isplitr
  swap; · iexact HO
  ipureintro
  intro p hp
  rcases Finset.mem_insert.mp hp with hp | hp
  · exact .inr (hp ▸ rfl)
  · exact hW p hp

/-- A fetch: the scratch buffer then reads what the source reads. -/
theorem wp_fetch {sp : Space} {s s' : Shape} {e e' : EltTy} {sp'' : Space} {src : Memref sig .scVector sp s e} {dst : Memref sig .scVector .vmem s e}
    {srcw : Memref sig .scVector sp'' s' e'} {sem : DmaSem sig} {h1 h2 h3} {h4 : srcw.view.WordExact} {h5}
    {k : PUnit → Prog (TpuEff nD τ sig (Elt F) Λ₀ (.scVector (cV L) (jV L))) α} {Q : α → sProp 𝕄} {q : PosShare TreeShare}
    {Sd : Finset (Idx (src.view.loc (thr d L)))}
    {fs : Buf (Elt F) (src.view.loc (thr d L))} {G R : s.Idx → Elt F e} (hN : 0 < dst.view.dmaCredit) (hSd : src.view.set ⊆ Sd)
    (hR : ∀ j, src.view.read (Elt F) fs j = R j) :
    iprop((src.view.loc (thr d L) ↦[Sd]{q} fs) ∗ Has d L dst G ∗ Zero d L sem ∗ Owing d L O W ∗ Transfers.MayWaits (thr d L) (default : HIx 1) O)
      ⊢ iprop(((Has d L dst R ∗ (src.view.loc (thr d L) ↦[Sd]{q} fs) ∗ Zero d L sem ∗ Owing d L O W)
            -∗ wp frame (wpE (defs₀ (F := F)) 𝒱₀ (thr d L) none) Set.univ (k ⟨⟩) Q)
        -∗ wp frame (wpE (defs₀ (F := F)) 𝒱₀ (thr d L) none) Set.univ
            (.op (.enqueueDma src (.here dst) (.dma sem) h1 h2 h3) fun _ => .op (.waitDma2 sem srcw dst h4 h5) k) Q) := by
  unfold Has
  iintro ⟨Hs, ⟨%f, -, Hd⟩, Hv, HO, Hmw⟩ Hk
  ihave Hs := (pointsTo_split_subset (q := q) (f := fs) (S := Sd) hSd).1 $$ Hs
  icases Hs with ⟨Hs, Hr⟩
  have hmv := wp_move (F := F) d L (k := k) (Q := Q) (srcw := srcw) (sem := sem) (h1 := h1) (h2 := h2) (h3 := h3) (h4 := h4) (h5 := h5) (O := O) (W := W) (q := q) (Sd := Finset.univ) (fs := fs) (fd := f) hN (Finset.subset_univ _)
  iapply hmv $$ [Hs Hd Hv HO Hmw]
  · isplitl [Hs]; · iexact Hs
    isplitl [Hd]; · iexact Hd
    isplitl [Hv]; · iexact Hv
    isplitl [HO]; · iexact HO
    iexact Hmw
  iintro ⟨Hd, Hs, Hv, HO⟩
  ihave Hs := (pointsTo_split_subset (q := q) (f := fs) (S := Sd) hSd).2 $$ [Hs Hr]
  · isplitl [Hs] <;> iassumption
  iapply Hk
  isplitl [Hd]
  · iexists _
    isplitr
    swap; · iexact Hd
    ipureintro
    intro j
    rw [View.read_write_univ]; exact hR j
  isplitl [Hs]; · iexact Hs
  isplitl [Hv] <;> iassumption

/-- A write-out: the piece of the array written then holds what `out` holds there, where `out`'s piece reads what the
    scratch buffer reads. -/
theorem wp_put {sp : Space} {s s' : Shape} {e e' : EltTy} {sp'' : Space} {src : Memref sig .scVector .vmem s e} {dst : Memref sig .scVector sp s e}
    {srcw : Memref sig .scVector sp'' s' e'} {sem : DmaSem sig} {h1 h2 h3} {h4 : srcw.view.WordExact} {h5}
    {k : PUnit → Prog (TpuEff nD τ sig (Elt F) Λ₀ (.scVector (cV L) (jV L))) α} {Q : α → sProp 𝕄}
    {fd : Buf (Elt F) (dst.view.loc (thr d L))} {G : s.Idx → Elt F e} (out : Buf (Elt F) (dst.view.loc (thr d L)))
    (hN : 0 < dst.view.dmaCredit) (hset : src.view.set = Finset.univ) (hR : ∀ j, dst.view.read (Elt F) out j = G j) :
    iprop(Has d L src G ∗ (dst.view.loc (thr d L) ↦[dst.view.set]{fullShare} fd) ∗ Zero d L sem ∗ Owing d L O W ∗ Transfers.MayWaits (thr d L) (default : HIx 1) O)
      ⊢ iprop((((dst.view.loc (thr d L) ↦[dst.view.set]{fullShare} out) ∗ Has d L src G ∗ Zero d L sem ∗ Owing d L O W)
            -∗ wp frame (wpE (defs₀ (F := F)) 𝒱₀ (thr d L) none) Set.univ (k ⟨⟩) Q)
        -∗ wp frame (wpE (defs₀ (F := F)) 𝒱₀ (thr d L) none) Set.univ
            (.op (.enqueueDma src (.here dst) (.dma sem) h1 h2 h3) fun _ => .op (.waitDma2 sem srcw dst h4 h5) k) Q) := by
  unfold Has
  iintro ⟨⟨%f, %hf, Hs⟩, Hd, Hv, HO, Hmw⟩ Hk
  ihave Hs := (Entails.of_eq (show (src.view.loc (thr d L) ↦{fullShare} f : sProp 𝕄)
      = (src.view.loc (thr d L) ↦[src.view.set]{fullShare} f) by rw [hset])) $$ Hs
  have hmv := wp_move (F := F) d L (k := k) (Q := Q) (srcw := srcw) (sem := sem) (h1 := h1) (h2 := h2) (h3 := h3) (h4 := h4) (h5 := h5) (O := O) (W := W) (q := fullShare) (Sd := dst.view.set) (fs := f) (fd := fd) hN (Finset.Subset.refl _)
  iapply hmv $$ [Hs Hd Hv HO Hmw]
  · isplitl [Hs]; · iexact Hs
    isplitl [Hd]; · iexact Hd
    isplitl [Hv]; · iexact Hv
    isplitl [HO]; · iexact HO
    iexact Hmw
  iintro ⟨Hd, Hs, Hv, HO⟩
  ihave Hs := (Entails.of_eq (show (src.view.loc (thr d L) ↦[src.view.set]{fullShare} f : sProp 𝕄)
      = (src.view.loc (thr d L) ↦{fullShare} f) by rw [hset])) $$ Hs
  have hw : src.view.read (Elt F) f = dst.view.read (Elt F) out := funext fun j => (hf j).trans (hR j).symm
  ihave Hd := (Entails.of_eq (show (dst.view.loc (thr d L) ↦[dst.view.set]{fullShare}
        (dst.view.write (Elt F) fd (src.view.read (Elt F) f) Finset.univ) : sProp 𝕄)
      = (dst.view.loc (thr d L) ↦[dst.view.set]{fullShare} out) by
    rw [hw, View.write_read_eq_piecewise]
    exact pointsTo_congr fun i hi => Finset.piecewise_eq_of_mem _ _ _ hi)) $$ Hd
  iapply Hk
  isplitl [Hd]; · iexact Hd
  isplitl [Hs]
  · iexists f
    isplitr
    · ipureintro; exact hf
    · iexact Hs
  isplitl [Hv] <;> iassumption

/-- All of a table, as the gather addresses it. -/
abbrev tableAll {N : ℕ} (tab : Memref sig .scVector .hbm ⟨2, ![N, 128]⟩ .f32) (hi : ∀ a, (![0, 0] : Fin 2 → ℕ) a + (⟨2, ![N, 128]⟩ : Shape).size a ≤ (⟨2, ![N, 128]⟩ : Shape).size a) :
    Memref sig .scVector .hbm ⟨2, ![N, 128]⟩ .f32 :=
  tab.slice (Rect.unit (s := ⟨2, ![N, 128]⟩) ![0, 0] (⟨2, ![N, 128]⟩ : Shape).size hi) (fun _ => rfl)

/-- All of a list of sixty-four words, as the gather addresses it. -/
abbrev listAll (lst : Memref sig .scVector .vmem S1x64 .i32) : Memref sig .scVector .vmem S64 .i32 :=
  (lst.slice (Rect.unit (s := S1x64) ![0, 0] S1x64.size inb_S1x64_S1x64_0_0) (fun _ => rfl)).squeeze S64 squeezes_S1x64_S64

theorem read_tableAll {N : ℕ} (tab : Memref sig .scVector .hbm ⟨2, ![N, 128]⟩ .f32) (hi) (f : tab.view.ty.Contents (Elt F)) (j) :
    (tableAll tab hi).view.read (Elt F) f j = tab.view.read (Elt F) f j := by
  show tab.view.read (Elt F) f ((Rect.unit (s := ⟨2, ![N, 128]⟩) ![0, 0] (⟨2, ![N, 128]⟩ : Shape).size hi).emb j) = _
  congr 1
  funext a
  apply Fin.ext
  rw [Rect.emb_apply]
  match a with
  | 0 => simp
  | 1 => simp

theorem read_listAll (lst : Memref sig .scVector .vmem S1x64 .i32) (f : lst.view.ty.Contents (Elt F)) (x : S64.Idx) :
    (listAll lst).view.read (Elt F) f x = lst.view.read (Elt F) f (ix2 0 (x 0)) := by
  show lst.view.read (Elt F) f ((Rect.unit (s := S1x64) ![0, 0] S1x64.size inb_S1x64_S1x64_0_0).emb (Shape.reshapeEquiv squeezes_S1x64_S64.numel_eq x)) = _
  rw [Shape.reshapeEquiv_eq_of_rowMajor (y := ix2 0 (x 0)) squeezes_S1x64_S64.numel_eq (by
    rw [Shape.rowMajor_val_one, Shape.rowMajor_val_two]; show 0 * 64 + (x 0).val = (x 0).val; omega)]
  congr 1
  funext a
  apply Fin.ext
  rw [Rect.emb_apply]
  match a with
  | 0 => simp
  | 1 => simp

omit [FloatOps F] in
/-- What the gather delivers, index by index. -/
theorem gather_apply {N : ℕ} (hg : (⟨2, ![N, 128]⟩ : Shape).Gathers 0 S64x128) (g : (⟨2, ![N, 128]⟩ : Shape).Idx → Elt F .f32) (idx : S64.Idx → Elt F .i32)
    (hn : S64.numel = S64x128.size hg.axis') (hin : ∀ x, (idx x).toNat < (⟨2, ![N, 128]⟩ : Shape).size hg.axis) {T : ℕ → ℕ → F .f32} {l : ℕ → BitVec 32}
    (hT : ∀ j, g j = T (j 0).val (j 1).val) (hl : ∀ x, idx x = l (x 0).val) (j : S64x128.Idx) :
    SparseCore.gatherPayload hg g (SparseCore.rows idx hn hin) j = T (l (j 0).val).toNat (j 1).val := by
  unfold SparseCore.gatherPayload
  rw [hT]
  have h1 : (hg.idx (SparseCore.rows idx hn hin) j 1).val = (j 1).val := Shape.Gathers.idx_of_ne hg _ j 1 (show (1 : ℕ) ≠ 0 by decide)
  have h0 : (hg.idx (SparseCore.rows idx hn hin) j 0).val = (l (j 0).val).toNat := by
    refine (congrArg Fin.val (Shape.Gathers.idx_axis hg (SparseCore.rows idx hn hin) j)).trans ?_
    unfold SparseCore.rows
    show (idx _).toNat = _
    rw [hl]
    have := Shape.rowMajor_val_one (S64.rowMajor.symm ((j hg.axis').cast hn.symm))
    rw [Equiv.apply_symm_apply] at this
    rw [← this]
    rfl
  rw [h0, h1]

set_option maxHeartbeats 1000000 in
/-- The gather of sixty-four rows and its wait: row `k` of the destination is the table's row that word `k` of the list
    names. -/
theorem wp_rows {N : ℕ} {tab : Memref sig .scVector .hbm ⟨2, ![N, 128]⟩ .f32} {hi}
    {dst : Memref sig .scVector .vmem S64x128 .f32} {lst : Memref sig .scVector .vmem S1x64 .i32} {hg : (⟨2, ![N, 128]⟩ : Shape).Gathers 0 S64x128}
    {hp} {hn : S64.numel = S64x128.size hg.axis'} {sem : DmaSem sig} {hsrc : (tableAll tab hi).view.WordExact} {he hsp hr}
    {h4 : (tableAll tab hi).view.WordExact} {h5}
    {k : PUnit → Prog (TpuEff nD τ sig (Elt F) Λ₀ (.scVector (cV L) (jV L))) α} {Q : α → sProp 𝕄} {q : PosShare TreeShare}
    {ft : Buf (Elt F) (tab.view.loc (thr d L))} {G : S64x128.Idx → F .f32} {T : ℕ → ℕ → F .f32} {l : ℕ → BitVec 32}
    (hN : ∑ j, (dst.slice (S64x128.rowRect hg.axis' j) (S64x128.stride_rowRect hg.axis' j)).view.dmaCredit = dst.view.dmaCredit)
    (hset : dst.view.set = Finset.univ)
    (hT : ∀ j, tab.view.read (Elt F) ft j = T (j 0).val (j 1).val)
    (hl : ∀ k, k < 64 → (l k).toNat < N) :
    iprop((tab.view.loc (thr d L) ↦{q} ft) ∗ Has d L dst G ∗ Has d L lst (fun j => l (j 1).val) ∗ Zero d L sem ∗ Owing d L O W
        ∗ Transfers.MayWaits (thr d L) (default : HIx 1) O)
      ⊢ iprop(((Has d L dst (fun j => T (l (j 0).val).toNat (j 1).val) ∗ (tab.view.loc (thr d L) ↦{q} ft)
              ∗ Has d L lst (fun j => l (j 1).val) ∗ Zero d L sem ∗ Owing d L O W)
            -∗ wp frame (wpE (defs₀ (F := F)) 𝒱₀ (thr d L) none) Set.univ (k ⟨⟩) Q)
        -∗ wp frame (wpE (defs₀ (F := F)) 𝒱₀ (thr d L) none) Set.univ
            (SparseCore.enqueueIndirectGather hp (tableAll tab hi) dst hg (listAll lst) hn sem hsrc he hsp hr
              >>= fun _ => SparseCore.waitIndirectGather sem (tableAll tab hi) dst h4 h5 >>= k) Q) := by
  unfold Has Owing
  iintro ⟨Ht, ⟨%fd, -, Hd⟩, ⟨%fl, %hfl, Hl⟩, Hv, ⟨%W', %hW, HO⟩, Hmw⟩ Hk
  ihave Ht := (pointsTo_split_subset (q := q) (f := ft) (S := Finset.univ) (Finset.subset_univ (tableAll tab hi).view.set)).1 $$ Ht
  icases Ht with ⟨Ht, Htr⟩
  ihave Hl := (pointsTo_split_subset (ℓ := lst.view.loc (thr d L)) (q := fullShare) (f := fl) (S := Finset.univ) (Finset.subset_univ (listAll lst).view.set)).1 $$ Hl
  icases Hl with ⟨Hl, Hlr⟩
  ihave Hd := (Entails.of_eq (show (dst.view.loc (thr d L) ↦{fullShare} fd : sProp 𝕄)
      = (dst.view.loc (thr d L) ↦[dst.view.set]{fullShare} fd) by rw [hset])) $$ Hd
  have hlist : ∀ x, (listAll lst).view.read (Elt F) fl x = l (x 0).val := fun x => (read_listAll lst fl x).trans (hfl _)
  have hin : ∀ x, ((listAll lst).view.read (Elt F) fl x).toNat < (⟨2, ![N, 128]⟩ : Shape).size hg.axis := by
    intro x; rw [hlist x]; exact hl _ (x 0).isLt
  iapply (SparseCore.wp_indirectGatherLocal countersEmb 𝒱₀ (thr d L) none (hg := hg) (default : HIx 1)
      dst.view.dmaCredit hN (by decide) hin) $$ [Ht Hd Hl Hv]
  · isplitl [Ht]; · iexact Ht
    isplitl [Hd]; · iexact Hd
    isplitl [Hl]; · iexact Hl
    iexact Hv
  iintro Hfl
  iapply (Transfers.wp_waitLocalO countersEmb 𝒱₀ (thr d L) none (default : HIx 1) (rfl : dst.view.dmaCredit = _)) $$ [Hfl HO Hmw]
  · isplitl [Hfl]; · iexact Hfl
    isplitl [HO]; · iexact HO
    iapply (Transfers.MayWaits.elim (SemLoc.dma sem)) $$ Hmw
  iintro ⟨⟨Hd, Ht, Hl⟩, Hv, HO⟩
  ihave Ht := (pointsTo_split_subset (q := q) (f := ft) (S := Finset.univ) (Finset.subset_univ (tableAll tab hi).view.set)).2 $$ [Ht Htr]
  · isplitl [Ht] <;> iassumption
  ihave Hl := (pointsTo_split_subset (ℓ := lst.view.loc (thr d L)) (q := fullShare) (f := fl) (S := Finset.univ) (Finset.subset_univ (listAll lst).view.set)).2 $$ [Hl Hlr]
  · isplitl [Hl] <;> iassumption
  ihave Hd := (Entails.of_eq (show (dst.view.loc (thr d L) ↦[dst.view.set]{fullShare} _ : sProp 𝕄)
      = (dst.view.loc (thr d L) ↦{fullShare} _) by rw [hset])) $$ Hd
  iapply Hk
  isplitl [Hd]
  · iexists _
    isplitr
    swap; · iexact Hd
    ipureintro
    intro j
    rw [View.read_write_univ]
    exact gather_apply hg _ _ hn hin (fun j => (read_tableAll tab hi ft j).trans (hT j)) hlist j
  isplitl [Ht]; · iexact Ht
  isplitl [Hl]
  · iexists fl
    isplitr
    · ipureintro; exact hfl
    · iexact Hl
  isplitl [Hv]; · iexact Hv
  iexists _
  isplitr
  swap; · iexact HO
  ipureintro
  intro p hp
  rcases Finset.mem_insert.mp hp with hp | hp
  · exact .inr (hp ▸ rfl)
  · exact hW p hp

end Cert.Proof

end
-- ==== Proof.Loops.lean ====
/-
  The counted loops of a task: the slots set to their defaults, the chunks visited, the chosen chunks' scores visited,
  the found elements named by row and column. Each loop's invariant says what every buffer holds after so many trips.
-/
module

public import proofs.«01_k».proof.Proof.Setup

@[expose] public section

noncomputable section

namespace Cert.Proof

open Cert.KernelIdeal Cert.KernelIdeal.Gen

open Idealize.ShloMosaic
open Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx)

variable {F : FTy → Type}

local notation "𝕄" => MT nD τ sig (HIx 1) (Elt F) ℕ UU ℕ

/-! ## Words -/

theorem iv_word (k : ℕ) : Scf.iv 0#32 1#32 k = BitVec.ofNat 32 k := by
  unfold Scf.iv; simp

/-- The low `k` bits of a word. -/
theorem and_word (x k : ℕ) (hx : x < 2 ^ 32) (hk : k ≤ 32) : BitVec.ofNat 32 x &&& BitVec.ofNat 32 (2 ^ k - 1) = BitVec.ofNat 32 (x % 2 ^ k) := by
  have h1 : 2 ^ k ≤ 2 ^ 32 := Nat.pow_le_pow_right (by omega) hk
  have h0 : 0 < 2 ^ k := Nat.two_pow_pos k
  apply BitVec.eq_of_toNat_eq
  rw [BitVec.toNat_and, BitVec.toNat_ofNat, BitVec.toNat_ofNat, BitVec.toNat_ofNat, Nat.mod_eq_of_lt hx,
    Nat.mod_eq_of_lt (show 2 ^ k - 1 < 2 ^ 32 by omega), Nat.and_two_pow_sub_one_eq_mod,
    Nat.mod_eq_of_lt (lt_of_le_of_lt (Nat.mod_le _ _) hx)]

/-- A nonnegative word shifted right by `k`. -/
theorem shr_word (u : ArithUnit) (x k : ℕ) (hx : x < 2 ^ 31) (hk : k < 32) :
    IntOp.shrsi u (BitVec.ofNat 32 x) (BitVec.ofNat 32 k) = BitVec.ofNat 32 (x / 2 ^ k) := by
  have hk' : (BitVec.ofNat 32 k).toNat = k := by rw [BitVec.toNat_ofNat, Nat.mod_eq_of_lt (by omega)]
  have hx' : (BitVec.ofNat 32 x).toNat = x := by rw [BitVec.toNat_ofNat, Nat.mod_eq_of_lt (by omega)]
  have hm : (BitVec.ofNat 32 x).msb = false := by
    rw [BitVec.msb_eq_false_iff_two_mul_lt, hx']; omega
  rw [IntOp.shrsi, if_pos (by omega), BitVec.sshiftRight', hk', BitVec.sshiftRight_eq_of_msb_false hm]
  apply BitVec.eq_of_toNat_eq
  rw [BitVec.toNat_ushiftRight, hx', BitVec.toNat_ofNat, Nat.shiftRight_eq_div_pow,
    Nat.mod_eq_of_lt (lt_of_le_of_lt (Nat.div_le_self _ _) (by omega))]

abbrev lanes : IVec S16 32 := iota .scVector S16 32 [0] iota_S16_d0_w32_scVector

theorem lanes_word (l : Fin 16) : lanes (lane l) = BitVec.ofNat 32 l.val := by
  show BitVec.ofNat 32 (0 * 16 + l.val) = _
  rw [Nat.zero_mul, Nat.zero_add]

variable (d : Dev nD) (L : grid0.Coords) [FloatOps F]

/-! ## The buffers of a task -/

abbrev a2 : Memref sig .scVector .hbm S65536x128 .f32 := Memref.whole main_v0_scv
abbrev a3 : Memref sig .scVector .hbm S8x8192 .f32 := Memref.whole main_v1_scv
abbrev a4 : Memref sig .scVector .hbm S8x128 .f32 := Memref.whole main_v2_scv
abbrev a5 : Memref sig .scVector .hbm S8192x128 .f32 := Memref.whole main_v5_scv
abbrev a6 : Memref sig .scVector .hbm S8x256 .f32 := Memref.whole main_v6_0_scv
abbrev a7 : Memref sig .scVector .hbm S8x256 .i32 := Memref.whole main_v6_1_scv
abbrev a8 : Memref sig .scVector .hbm S8x256x128 .f32 := Memref.whole main_v6_2_scv
abbrev a9 : Memref sig .scVector .hbm S8x256x128 .f32 := Memref.whole main_v6_3_scv
abbrev a10 : Memref sig .scVector .vmem S2048 .f32 := Memref.whole cc0_scratch0
abbrev a11 : Memref sig .scVector .vmem S1x64 .i32 := Memref.whole cc0_scratch1
abbrev a12 : Memref sig .scVector .vmem S64 .i32 := Memref.whole cc0_scratch2
abbrev a13 : Memref sig .scVector .vmem S64x128 .f32 := Memref.whole cc0_scratch3
abbrev a14 : Memref sig .scVector .vmem S64 .f32 := Memref.whole cc0_scratch4
abbrev a15 : Memref sig .scVector .vmem S64 .i32 := Memref.whole cc0_scratch5
abbrev a16 : Memref sig .scVector .vmem S128 .f32 := Memref.whole cc0_scratch6
abbrev a17 : Memref sig .scVector .vmem S1x64 .i32 := Memref.whole cc0_scratch7
abbrev a18 : Memref sig .scVector .vmem S1x64 .i32 := Memref.whole cc0_scratch8
abbrev a19 : Memref sig .scVector .vmem S64x128 .f32 := Memref.whole cc0_scratch9
abbrev a20 : Memref sig .scVector .vmem S64x128 .f32 := Memref.whole cc0_scratch10

abbrev w2 := Memref.isWhole_whole (κ := .scVector) main_v0_scv
abbrev w3 := Memref.isWhole_whole (κ := .scVector) main_v1_scv
abbrev w4 := Memref.isWhole_whole (κ := .scVector) main_v2_scv
abbrev w5 := Memref.isWhole_whole (κ := .scVector) main_v5_scv
abbrev w6 := Memref.isWhole_whole (κ := .scVector) main_v6_0_scv
abbrev w7 := Memref.isWhole_whole (κ := .scVector) main_v6_1_scv
abbrev w8 := Memref.isWhole_whole (κ := .scVector) main_v6_2_scv
abbrev w9 := Memref.isWhole_whole (κ := .scVector) main_v6_3_scv
abbrev w10 := Memref.isWhole_whole (κ := .scVector) cc0_scratch0
abbrev w11 := Memref.isWhole_whole (κ := .scVector) cc0_scratch1
abbrev w12 := Memref.isWhole_whole (κ := .scVector) cc0_scratch2
abbrev w13 := Memref.isWhole_whole (κ := .scVector) cc0_scratch3
abbrev w14 := Memref.isWhole_whole (κ := .scVector) cc0_scratch4
abbrev w15 := Memref.isWhole_whole (κ := .scVector) cc0_scratch5
abbrev w16 := Memref.isWhole_whole (κ := .scVector) cc0_scratch6
abbrev w17 := Memref.isWhole_whole (κ := .scVector) cc0_scratch7
abbrev w18 := Memref.isWhole_whole (κ := .scVector) cc0_scratch8
abbrev w19 := Memref.isWhole_whole (κ := .scVector) cc0_scratch9
abbrev w20 := Memref.isWhole_whole (κ := .scVector) cc0_scratch10

abbrev body1 := k0_t1_body (F := F) L a2 w2 a3 w3 a4 w4 a5 w5 a6 w6 a7 w7 a8 w8 a9 w9 a10 w10 a11 w11 a12 w12 a13 w13 a14 w14 a15 w15
  a16 w16 a17 w17 a18 w18 a19 w19 a20 w20 cc0_scratch11 cc0_scoped0 cc0_scoped1 cc0_scoped2 cc0_scoped3 cc0_scoped4 cc0_scoped5
abbrev body2 := k0_t2_body (F := F) L a2 w2 a3 w3 a4 w4 a5 w5 a6 w6 a7 w7 a8 w8 a9 w9 a10 w10 a11 w11 a12 w12 a13 w13 a14 w14 a15 w15
  a16 w16 a17 w17 a18 w18 a19 w19 a20 w20 cc0_scratch11 cc0_scoped0 cc0_scoped1 cc0_scoped2 cc0_scoped3 cc0_scoped4 cc0_scoped5
abbrev body3 := k0_t3_body (F := F) L a2 w2 a3 w3 a4 w4 a5 w5 a6 w6 a7 w7 a8 w8 a9 w9 a10 w10 a11 w11 a12 w12 a13 w13 a14 w14 a15 w15
  a16 w16 a17 w17 a18 w18 a19 w19 a20 w20 cc0_scratch11 cc0_scoped0 cc0_scoped1 cc0_scoped2 cc0_scoped3 cc0_scoped4 cc0_scoped5
abbrev body5 := k0_t5_body (F := F) L a2 w2 a3 w3 a4 w4 a5 w5 a6 w6 a7 w7 a8 w8 a9 w9 a10 w10 a11 w11 a12 w12 a13 w13 a14 w14 a15 w15
  a16 w16 a17 w17 a18 w18 a19 w19 a20 w20 cc0_scratch11 cc0_scoped0 cc0_scoped1 cc0_scoped2 cc0_scoped3 cc0_scoped4 cc0_scoped5

/-! ## The visited chunks -/

variable (A : Src F) (b w : ℕ)

/-- The row name of chunk `c`, as a word, and the default of slot `k`. -/
def srowW (c : ℕ) : BitVec 32 := BitVec.ofNat 32 (srow (b * 4 + w) c)
def srowD (k : ℕ) : BitVec 32 := BitVec.ofNat 32 (b * 8192 + k)
/-- The place of chunk `c` in its batch's scores, as a word. -/
def nameW (c : ℕ) : BitVec 32 := BitVec.ofNat 32 (blk (b * 4 + w) c * 131072 + key c)

theorem task_div {b w : ℕ} (hw : w < 4) : (b * 4 + w) / 4 = b := by omega
theorem task_mod {b w : ℕ} (hw : w < 4) : (b * 4 + w) % 4 = w := by omega

/-- After `t` trips the slots hold the names of the first `16 * t` chunks' hot ones. -/
def inv2 (t : ℕ) (c : BitVec 32) : sProp 𝕄 :=
  iprop(⌜c = BitVec.ofNat 32 (Nat.count (hot A (b * 4 + w)) (16 * t))⌝
    ∗ Has d L a10 (fun j => A.cm ((b * 4 + w) * 2048 + (j 0).val))
    ∗ Has d L a11 (fun j => fill (hot A (b * 4 + w)) (srowW b w) (srowD b) (16 * t) (j 1).val)
    ∗ Has d L a12 (fun j => fill (hot A (b * 4 + w)) (nameW b w) (fun _ => 0#32) (16 * t) (j 0).val))

theorem pay2_word (hb : b < 8) (hw : w < 4) (t : Fin k0_t2_loop.trips) (l : Fin 16) :
    k0_pay2 (BitVec.ofNat 32 w) lanes 0#32 1#32 t (lane l)
      = BitVec.ofNat 32 (key (16 * t.val + l.val) * 8 + blk (b * 4 + w) (16 * t.val + l.val)) := by
  have ht : t.val < 128 := t.isLt
  have hg : BitVec.ofNat 32 w * 2048#32 + Scf.iv 0#32 1#32 t.val * 16#32 + lanes (lane l)
      = BitVec.ofNat 32 (w * 2048 + t.val * 16 + l.val) := by
    rw [iv_word, lanes_word, BitVec.ofNat_add, BitVec.ofNat_add, BitVec.ofNat_mul, BitVec.ofNat_mul]
  show ((BitVec.ofNat 32 w * 2048#32 + Scf.iv 0#32 1#32 t.val * 16#32 + lanes (lane l)) &&& 1023#32) * 8#32
    + IntOp.shrsi .vector (BitVec.ofNat 32 w * 2048#32 + Scf.iv 0#32 1#32 t.val * 16#32 + lanes (lane l)) 10#32 = _
  rw [hg, show (1023#32 : BitVec 32) = BitVec.ofNat 32 (2 ^ 10 - 1) from rfl, and_word _ 10 (by omega) (by omega),
    shr_word _ _ 10 (by omega) (by omega), ← BitVec.ofNat_mul, ← BitVec.ofNat_add]
  congr 1
  unfold key blk
  rw [task_mod hw]
  omega

theorem pay4_word (hb : b < 8) (hw : w < 4) (t : Fin k0_t2_loop.trips) (l : Fin 16) :
    k0_pay4 (BitVec.ofNat 32 b) (BitVec.ofNat 32 w) lanes 0#32 1#32 t (lane l) = srowW b w (16 * t.val + l.val) := by
  show BitVec.ofNat 32 b * 8192#32 + k0_pay2 (BitVec.ofNat 32 w) lanes 0#32 1#32 t (lane l) = _
  rw [pay2_word b w hb hw, ← BitVec.ofNat_mul, ← BitVec.ofNat_add]
  unfold srowW srow
  rw [task_div hw, Nat.add_assoc]

theorem pay5_word (hb : b < 8) (hw : w < 4) (t : Fin k0_t2_loop.trips) (l : Fin 16) :
    k0_pay5 (BitVec.ofNat 32 w) lanes 0#32 1#32 t (lane l) = nameW b w (16 * t.val + l.val) := by
  have ht : t.val < 128 := t.isLt
  have hblk : blk (b * 4 + w) (16 * t.val + l.val) < 8 := blk_lt _ (by omega)
  have hkey := key_lt (16 * t.val + l.val)
  show (k0_pay2 (BitVec.ofNat 32 w) lanes 0#32 1#32 t (lane l) &&& 7#32) * 131072#32
    + IntOp.shrsi .vector (k0_pay2 (BitVec.ofNat 32 w) lanes 0#32 1#32 t (lane l)) 3#32 = _
  rw [pay2_word b w hb hw, show (7#32 : BitVec 32) = BitVec.ofNat 32 (2 ^ 3 - 1) from rfl, and_word _ 3 (by omega) (by omega),
    shr_word _ _ 3 (by omega) (by omega), ← BitVec.ofNat_mul, ← BitVec.ofNat_add]
  exact congrArg (BitVec.ofNat 32) (by omega)

theorem set11 : (a11.access (.whole S1x64)).set = Finset.univ := Memref.set_access_whole _
theorem set12 : (a12.access (.whole S64)).set = Finset.univ := Memref.set_access_whole _
theorem set14 : (a14.access (.whole S64)).set = Finset.univ := Memref.set_access_whole _
theorem set15 : (a15.access (.whole S64)).set = Finset.univ := Memref.set_access_whole _

/-- Element fifteen of a vector of sixteen is its last lane's. -/
theorem extract_last (x : IVec S16 32) : extractAt ![15] x inpos_S16_p15 = x (lane 15) := by
  refine congrArg x (funext fun a => ?_)
  obtain rfl := Fin.eq_zero a
  exact Fin.ext rfl

/-- The count carried to the next sixteen: what it was, plus the last running sum of the mask. -/
theorem carry {m : ℕ → Prop} [DecidablePred m] {n : ℕ} {c : BitVec 32} {mask : IVec S16 1} (hc : c = BitVec.ofNat 32 (Nat.count m n))
    (hm : ∀ l : Fin 16, mask (lane l) = 1 ↔ m (n + l.val)) :
    Scalar.addi c (extractAt ![15] (scan .sum (extui 32 mask natLt_1_32)) inpos_S16_p15) = BitVec.ofNat 32 (Nat.count m (n + 16)) := by
  rw [extract_last, ← count_lane (hw := natLt_1_32) m hc hm]
  unfold Scalar.addi IntOp.addi
  rfl

/-- A lane of a load of sixteen at `o` reads the element at `o` plus the lane. -/
theorem idx16 {N : ℕ} {off : Fin 1 → ℕ} {o : ℕ} (hoff : off = ![o]) {inb : ∀ a, off a + S16.size a ≤ (⟨1, ![N]⟩ : Shape).size a} (l : Fin 16) :
    ((Rect.unit (s := ⟨1, ![N]⟩) off S16.size inb).toLoadRect.idx (lane l) 0).val = o + l.val := by
  subst hoff
  show o + 1 * l.val = _
  omega

theorem inv2_step (hb : b < 8) (hw : w < 4) {v30 : Vec F S16 .f32} (h30 : k0_pay77 v30 = A.t b) (t : Fin k0_t2_loop.trips) (c : BitVec 32) :
    inv2 d L A b w t.val c
      ⊢ wp frame (wpE (defs₀ (F := F)) 𝒱₀ (thr d L) none) Set.univ (body2 L (BitVec.ofNat 32 b) (BitVec.ofNat 32 w) v30 lanes t c)
          (inv2 d L A b w (t.val + 1)) := by
  have ht : t.val < 128 := t.isLt
  unfold inv2
  iintro ⟨%hc, H10, H11, H12⟩
  unfold body2 k0_t2_body
  simp only [k0_part1_eq_skeleton]
  unfold k0_part1_skel
  simp only [Prog.lift, Prog.bind_op, Prog.bind_ret, Prog.pure_eq_ret, Prog.bind_assoc]
  iapply (wp_ld d L) $$ H10
  iintro %v %hv H10
  have hm : ∀ l : Fin 16, k0_pay1 (k0_pay77 v30) v (lane l) = 1 ↔ hot A (b * 4 + w) (16 * t.val + l.val) := by
    intro l
    show FloatOps.cmpf .oge (v (lane l)) (k0_pay77 v30) = 1 ↔ _
    rw [hv, idx16 (k0_off5_eq t), h30]
    unfold hot Ge
    rw [task_div hw]
    exact Iff.rfl
  have hL : Lanes (hot A (b * 4 + w)) (16 * t.val) (k0_pay1 (k0_pay77 v30) v) (k0_pay3 (k0_pay77 v30) c v) :=
    Lanes.of (hw := natLt_1_32) (by omega) hc hm
  iapply (wp_chk d L (show k0_chk2 (k0_pay3 (k0_pay77 v30) c v) from hL.inb))
  iapply (wp_chk d L (show k0_chk1 (k0_pay3 (k0_pay77 v30) c v) (subi (k0_pay3 (k0_pay77 v30) c v) (k0_pay3 (k0_pay77 v30) c v)) from by
    intro a x
    match a with
    | 0 =>
      show (k0_pay3 (k0_pay77 v30) c v x - k0_pay3 (k0_pay77 v30) c v x).toNat < 1
      rw [BitVec.sub_self]; exact Nat.one_pos
    | 1 => exact hL.lt x))
  have hz : Scalar.addi c (extractAt ![15] (k0_pay82 (k0_pay6 (k0_pay77 v30) v)) inpos_S16_p15)
      = BitVec.ofNat 32 (Nat.count (hot A (b * 4 + w)) (16 * t.val + 16)) := by
    unfold k0_pay82 k0_pay6
    exact carry hc hm
  have h4 := fun l => pay4_word b w hb hw t l
  have h5 := fun l => pay5_word b w hb hw t l
  generalize k0_pay4 (BitVec.ofNat 32 b) (BitVec.ofNat 32 w) lanes 0#32 1#32 t = q4 at h4 ⊢
  generalize k0_pay5 (BitVec.ofNat 32 w) lanes 0#32 1#32 t = q5 at h5 ⊢
  generalize Scalar.addi c (extractAt ![15] (k0_pay82 (k0_pay6 (k0_pay77 v30) v)) inpos_S16_p15) = c' at hz ⊢
  generalize k0_pay3 (k0_pay77 v30) c v = pos at hL ⊢
  generalize k0_pay1 (k0_pay77 v30) v = mask at hL ⊢
  iapply (wp_fill1x64 d L set11 hL (val := srowW b w) (dflt := srowD b) h4) $$ H11
  iintro H11
  iapply (wp_fill64 d L set12 hL (val := nameW b w) (dflt := fun _ => 0#32) h5) $$ H12
  iintro H12
  sl_step
  isplitr
  · ipureintro
    exact hz
  isplitl [H10]; · iexact H10
  isplitl [H11]; · iexact H11
  iexact H12

end Cert.Proof

end
-- ==== Proof.Visit.lean ====
/-
  The loop over the chosen chunks' scores: one trip visits a chunk's 128 scores in eight groups of sixteen and stores
  the scores at least the threshold, and their places, in the slots after those already filled.
-/
module

public import proofs.«01_k».proof.Proof.Loops

@[expose] public section

noncomputable section

namespace Cert.Proof

open Cert.KernelIdeal Cert.KernelIdeal.Gen

open Idealize.ShloMosaic
open Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx)

variable {F : FTy → Type}

local notation "𝕄" => MT nD τ sig (HIx 1) (Elt F) ℕ UU ℕ

/-! ## How many chunks are visited -/

theorem min_word {n : ℕ} (hn : n ≤ 2048) : Scalar.minsi (BitVec.ofNat 32 n) 64#32 = BitVec.ofNat 32 (min n 64) := by
  have hi : (BitVec.ofNat 32 n).toInt = n := by
    have hu : (BitVec.ofNat 32 n).toNat = n := by rw [BitVec.toNat_ofNat, Nat.mod_eq_of_lt (by omega)]
    rw [BitVec.toInt_eq_toNat_of_lt (by omega), hu]
  have h : (BitVec.ofNat 32 n).slt 64#32 = decide (n < 64) := by
    rw [BitVec.slt_eq_decide, hi, show (64#32 : BitVec 32).toInt = 64 from rfl]
    exact decide_eq_decide.mpr (by omega)
  unfold Scalar.minsi IntOp.minsi
  rw [h]
  by_cases hlt : n < 64
  · rw [if_pos (by simpa using hlt), Nat.min_eq_left hlt.le]
  · rw [if_neg (by simpa using hlt), Nat.min_eq_right (by omega)]

theorem round_word : ∀ m : Fin 65, Scalar.addi 0#32 (Scalar.muli (Scalar.divsi (Scalar.subi (BitVec.ofNat 32 m.val) 0#32) 1#32) 1#32)
    = BitVec.ofNat 32 m.val := by decide

theorem trips_word : ∀ m : Fin 65, Scf.trips 0#32 (BitVec.ofNat 32 m.val) 1#32 = m.val := by decide

theorem ok_word : ∀ m : Fin 65, Scf.OK 0#32 (BitVec.ofNat 32 m.val) 1#32 := by decide

theorem rest_word : ∀ m : Fin 65, Scf.trips (BitVec.ofNat 32 m.val) (Scalar.addi 0#32 (Scalar.subi (BitVec.ofNat 32 m.val) 0#32)) 1#32 = 0
    ∧ Scf.OK (BitVec.ofNat 32 m.val) (Scalar.addi 0#32 (Scalar.subi (BitVec.ofNat 32 m.val) 0#32)) 1#32 := by decide

variable {n : ℕ} (hn : n ≤ 2048)
include hn

theorem end_word : Scalar.addi 0#32 (Scalar.muli (Scalar.divsi (Scalar.subi (Scalar.minsi (BitVec.ofNat 32 n) 64#32) 0#32) 1#32) 1#32)
    = BitVec.ofNat 32 (min n 64) := by
  rw [min_word hn]; exact round_word ⟨min n 64, by omega⟩

theorem trips3 : (k0_t3_loop (BitVec.ofNat 32 n)).trips = min n 64 := by
  show Scf.trips 0#32 (Scalar.addi 0#32 (Scalar.muli (Scalar.divsi (Scalar.subi (Scalar.minsi (BitVec.ofNat 32 n) 64#32) 0#32) 1#32) 1#32)) 1#32 = _
  rw [end_word hn]; exact trips_word ⟨min n 64, by omega⟩

theorem ok3 : (k0_t3_loop (BitVec.ofNat 32 n)).OK := by
  show Scf.OK 0#32 (Scalar.addi 0#32 (Scalar.muli (Scalar.divsi (Scalar.subi (Scalar.minsi (BitVec.ofNat 32 n) 64#32) 0#32) 1#32) 1#32)) 1#32
  rw [end_word hn]; exact ok_word ⟨min n 64, by omega⟩

theorem trips4 : (k0_t4_loop (BitVec.ofNat 32 n)).trips = 0 := by
  show Scf.trips (Scalar.addi 0#32 (Scalar.muli (Scalar.divsi (Scalar.subi (Scalar.minsi (BitVec.ofNat 32 n) 64#32) 0#32) 1#32) 1#32))
    (Scalar.addi 0#32 (Scalar.subi (Scalar.minsi (BitVec.ofNat 32 n) 64#32) 0#32)) 1#32 = _
  rw [end_word hn, min_word hn]; exact (rest_word ⟨min n 64, by omega⟩).1

theorem ok4 : (k0_t4_loop (BitVec.ofNat 32 n)).OK := by
  show Scf.OK (Scalar.addi 0#32 (Scalar.muli (Scalar.divsi (Scalar.subi (Scalar.minsi (BitVec.ofNat 32 n) 64#32) 0#32) 1#32) 1#32))
    (Scalar.addi 0#32 (Scalar.subi (Scalar.minsi (BitVec.ofNat 32 n) 64#32) 0#32)) 1#32
  rw [end_word hn, min_word hn]; exact (rest_word ⟨min n 64, by omega⟩).2

/-- The row a trip reads. -/
theorem trip_row (t : Fin (k0_t3_loop (BitVec.ofNat 32 n)).trips) : (Scf.iv 0#32 1#32 t.val).toNat = t.val ∧ t.val < min n 64 := by
  have h : t.val < min n 64 := (trips3 hn) ▸ t.isLt
  rw [iv_word, BitVec.toNat_ofNat, Nat.mod_eq_of_lt (by omega)]
  exact ⟨rfl, h⟩

theorem row_inb {r o : ℕ} (hr : r < min n 64) (ho : o + 16 ≤ 128) : ∀ a, (![r, o] : Fin 2 → ℕ) a + S1x16.size a ≤ S64x128.size a := by
  intro a
  match a with
  | 0 => show r + 1 ≤ 64; omega
  | 1 => exact ho

/-- The loop's bounds and every load of a trip are in order. -/
theorem chk3_of : k0_chk3 (BitVec.ofNat 32 n) := by
  have e : ∀ (o : ℕ), o + 16 ≤ 128 → ∀ t : Fin (k0_t3_loop (BitVec.ofNat 32 n)).trips, ∀ a,
      (![(Scf.iv 0#32 1#32 t.val).toNat, o] : Fin 2 → ℕ) a + S1x16.size a ≤ S64x128.size a := fun o ho t => by
    rw [(trip_row hn t).1]; exact row_inb hn (trip_row hn t).2 ho
  have z : ∀ {p : Fin (k0_t4_loop (BitVec.ofNat 32 n)).trips → Prop}, ∀ t, p t := fun t => absurd (lt_of_lt_of_eq t.isLt (trips4 hn)) (by omega)
  exact ⟨ok3 hn, e 0 (by omega), e 16 (by omega), e 32 (by omega), e 48 (by omega), e 64 (by omega), e 80 (by omega), e 96 (by omega), e 112 (by omega),
    ok4 hn, z, z, z, z, z, z, z, z⟩

omit hn

/-! ## One group -/

variable [FloatOps F] (d : Dev nD) (L : grid0.Coords) (A : Src F) (b w : ℕ)

/-- What a group's sixteen scores give: the scores themselves, the slots of those at least the threshold, the count of
    candidates past the group. -/
theorem group (hw : w < 4) {r j : ℕ} (hj : j < 8) (hr : r < min (nhot A (b * 4 + w)) 64) {x32 : F .f32} (h32 : x32 = A.t b) {c : BitVec 32}
    (hc : c = BitVec.ofNat 32 (Nat.count (live A (b * 4 + w)) (128 * r + 16 * j))) {ld : Vec F S1x16 .f32}
    (hld : ∀ l : Fin 16, ld (ix2 0 l) = score A (b * 4 + w) r (16 * j + l.val)) :
    (∀ l : Fin 16, shapeCast S16 ld shapeCasts_S1x16_S16 (lane l)
        = score A (b * 4 + w) ((128 * r + 16 * j + l.val) / 128) ((128 * r + 16 * j + l.val) % 128))
      ∧ Lanes (live A (b * 4 + w)) (128 * r + 16 * j) (cmpf .oge (shapeCast S16 ld shapeCasts_S1x16_S16) (broadcast S16 x32))
          (maxsi (minsi (subi (addi (broadcast S16 c) (scan .sum (extui 32 (cmpf .oge (shapeCast S16 ld shapeCasts_S1x16_S16) (broadcast S16 x32)) natLt_1_32)))
            (broadcast S16 1#32)) (broadcast S16 63#32)) (broadcast S16 0#32))
      ∧ Scalar.addi c (extractAt ![15] (scan .sum (extui 32 (cmpf .oge (shapeCast S16 ld shapeCasts_S1x16_S16) (broadcast S16 x32)) natLt_1_32)) inpos_S16_p15)
          = BitVec.ofNat 32 (Nat.count (live A (b * 4 + w)) (128 * r + 16 * j + 16)) := by
  have hsc : ∀ l : Fin 16, shapeCast S16 ld shapeCasts_S1x16_S16 (lane l) = score A (b * 4 + w) r (16 * j + l.val) := by
    intro l
    refine (shapeCast_apply (t := S16) ld shapeCasts_S1x16_S16 (lane l) (ix2 0 l) ?_).trans (hld l)
    rw [Shape.rowMajor_val_one, Shape.rowMajor_val_two]
    show 0 * 16 + l.val = l.val
    omega
  have hq : ∀ l : Fin 16, (128 * r + 16 * j + l.val) / 128 = r ∧ (128 * r + 16 * j + l.val) % 128 = 16 * j + l.val := fun l => by omega
  have hm : ∀ l : Fin 16, cmpf .oge (shapeCast S16 ld shapeCasts_S1x16_S16) (broadcast S16 x32) (lane l) = 1
      ↔ live A (b * 4 + w) (128 * r + 16 * j + l.val) := by
    intro l
    show FloatOps.cmpf .oge (shapeCast S16 ld shapeCasts_S1x16_S16 (lane l)) x32 = 1 ↔ _
    unfold live Ge
    rw [hsc, h32, (hq l).1, (hq l).2, task_div hw]
    exact ⟨fun h => ⟨by omega, h⟩, fun h => h.2⟩
  refine ⟨fun l => ?_, Lanes.of (by omega) hc hm, carry hc hm⟩
  rw [hsc, (hq l).1, (hq l).2]

/-- The places of a group's scores. -/
theorem place_word {r : ℕ} (o : ℕ) (l : Fin 16) :
    addi (broadcast S16 (Scalar.addi (Scalar.muli (Scf.iv 0#32 1#32 r) 128#32) (BitVec.ofNat 32 o))) lanes (lane l)
      = BitVec.ofNat 32 (128 * r + o + l.val) := by
  show Scf.iv 0#32 1#32 r * 128#32 + BitVec.ofNat 32 o + lanes (lane l) = _
  rw [iv_word, lanes_word, BitVec.ofNat_add, BitVec.ofNat_add, Nat.mul_comm, BitVec.ofNat_mul]

/-- Lane `l` of the load at row `r`, column `o`. -/
theorem at_row {r o : ℕ} {off : Fin 2 → ℕ} {inb : ∀ a, off a + S1x16.size a ≤ S64x128.size a} (hoff : off = ![r, o]) (l : Fin 16) :
    (((Rect.unit (s := S64x128) off S1x16.size inb).toLoadRect.idx (ix2 0 l) 0).val = r)
      ∧ (((Rect.unit (s := S64x128) off S1x16.size inb).toLoadRect.idx (ix2 0 l) 1).val = o + l.val) := by
  subst hoff
  constructor
  · show r + 1 * 0 = r; omega
  · show o + 1 * l.val = o + l.val; omega

/-! ## One trip -/

/-- After `r` trips the slots hold the candidates among the first `r` chunks' scores. -/
def inv3 (G : S64x128.Idx → F .f32) (r : ℕ) (c : BitVec 32) : sProp 𝕄 :=
  iprop(⌜c = BitVec.ofNat 32 (Nat.count (live A (b * 4 + w)) (128 * r))⌝
    ∗ Has d L a13 G
    ∗ Has d L a14 (fun j => fill (live A (b * 4 + w)) (fun e => score A (b * 4 + w) (e / 128) (e % 128)) (fun _ => neg) (128 * r) (j 0).val)
    ∗ Has d L a15 (fun j => fill (live A (b * 4 + w)) (fun e => BitVec.ofNat 32 e) (fun _ => 0#32) (128 * r) (j 0).val))

set_option maxHeartbeats 2000000 in
theorem inv3_step (hw : w < 4) {v30 : Vec F S16 .f32} (h30 : k0_pay77 v30 = A.t b) {G : S64x128.Idx → F .f32}
    (hG : ∀ (r o : ℕ), r < min (nhot A (b * 4 + w)) 64 → ∀ j, (j 0).val = r ∧ (j 1).val = o → G j = score A (b * 4 + w) r o)
    (h3 : k0_chk3 (BitVec.ofNat 32 (nhot A (b * 4 + w)))) (t : Fin (k0_t3_loop (BitVec.ofNat 32 (nhot A (b * 4 + w)))).trips) (c : BitVec 32) :
    inv3 d L A b w G t.val c
      ⊢ wp frame (wpE (defs₀ (F := F)) 𝒱₀ (thr d L) none) Set.univ
          (body3 L (BitVec.ofNat 32 b) (BitVec.ofNat 32 w) v30 lanes (BitVec.ofNat 32 (nhot A (b * 4 + w))) h3 t c)
          (inv3 d L A b w G (t.val + 1)) := by
  obtain ⟨hrow, hr⟩ := trip_row (nhot_le A (b * 4 + w)) t
  unfold inv3
  iintro ⟨%hc, H13, H14, H15⟩
  unfold body3 k0_t3_body
  simp only [k0_part2_eq_skeleton, k0_part3_eq_skeleton, k0_part4_eq_skeleton, k0_part5_eq_skeleton]
  unfold k0_part2_skel k0_part3_skel k0_part4_skel k0_part5_skel
  simp only [Prog.lift, Prog.bind_op, Prog.bind_ret, Prog.pure_eq_ret, Prog.bind_assoc]
  dsimp only [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay83, k0_pay84, k0_pay85, k0_pay86, k0_pay87, k0_pay88, k0_pay89]

  -- group 0
  iapply (wp_ld d L) $$ H13
  iintro %v %hv H13
  obtain ⟨hd, hL, hc⟩ := group A b w hw (r := t.val) (j := 0) (by omega) hr h30 hc fun l => (hv _).trans (hG _ _ hr _ (at_row (o := 0) (by show ![(Scf.iv 0#32 1#32 t.val).toNat, 0] = _; rw [hrow]) l))
  have hw' := fun l => place_word (r := t.val) 0 l
  iapply (wp_chk d L ⟨hL.inb, hL.inb⟩)
  iapply (wp_fill64 d L set14 hL (val := fun e => score A (b * 4 + w) (e / 128) (e % 128)) (dflt := fun _ => neg) hd) $$ H14
  iintro H14
  iapply (wp_fill64 d L set15 hL (val := fun e => BitVec.ofNat 32 e) (dflt := fun _ => 0#32) hw') $$ H15
  iintro H15

  -- group 1
  iapply (wp_ld d L) $$ H13
  iintro %v %hv H13
  obtain ⟨hd, hL, hc⟩ := group A b w hw (r := t.val) (j := 1) (by omega) hr h30 hc fun l => (hv _).trans (hG _ _ hr _ (at_row (o := 16) (by show ![(Scf.iv 0#32 1#32 t.val).toNat, 16] = _; rw [hrow]) l))
  have hw' := fun l => place_word (r := t.val) 16 l
  iapply (wp_chk d L ⟨hL.inb, hL.inb⟩)
  iapply (wp_fill64 d L set14 hL (val := fun e => score A (b * 4 + w) (e / 128) (e % 128)) (dflt := fun _ => neg) hd) $$ H14
  iintro H14
  iapply (wp_fill64 d L set15 hL (val := fun e => BitVec.ofNat 32 e) (dflt := fun _ => 0#32) hw') $$ H15
  iintro H15

  -- group 2
  iapply (wp_ld d L) $$ H13
  iintro %v %hv H13
  obtain ⟨hd, hL, hc⟩ := group A b w hw (r := t.val) (j := 2) (by omega) hr h30 hc fun l => (hv _).trans (hG _ _ hr _ (at_row (o := 32) (by show ![(Scf.iv 0#32 1#32 t.val).toNat, 32] = _; rw [hrow]) l))
  have hw' := fun l => place_word (r := t.val) 32 l
  iapply (wp_chk d L ⟨hL.inb, hL.inb⟩)
  iapply (wp_fill64 d L set14 hL (val := fun e => score A (b * 4 + w) (e / 128) (e % 128)) (dflt := fun _ => neg) hd) $$ H14
  iintro H14
  iapply (wp_fill64 d L set15 hL (val := fun e => BitVec.ofNat 32 e) (dflt := fun _ => 0#32) hw') $$ H15
  iintro H15

  -- group 3
  iapply (wp_ld d L) $$ H13
  iintro %v %hv H13
  obtain ⟨hd, hL, hc⟩ := group A b w hw (r := t.val) (j := 3) (by omega) hr h30 hc fun l => (hv _).trans (hG _ _ hr _ (at_row (o := 48) (by show ![(Scf.iv 0#32 1#32 t.val).toNat, 48] = _; rw [hrow]) l))
  have hw' := fun l => place_word (r := t.val) 48 l
  iapply (wp_chk d L ⟨hL.inb, hL.inb⟩)
  iapply (wp_fill64 d L set14 hL (val := fun e => score A (b * 4 + w) (e / 128) (e % 128)) (dflt := fun _ => neg) hd) $$ H14
  iintro H14
  iapply (wp_fill64 d L set15 hL (val := fun e => BitVec.ofNat 32 e) (dflt := fun _ => 0#32) hw') $$ H15
  iintro H15

  -- group 4
  iapply (wp_ld d L) $$ H13
  iintro %v %hv H13
  obtain ⟨hd, hL, hc⟩ := group A b w hw (r := t.val) (j := 4) (by omega) hr h30 hc fun l => (hv _).trans (hG _ _ hr _ (at_row (o := 64) (by show ![(Scf.iv 0#32 1#32 t.val).toNat, 64] = _; rw [hrow]) l))
  have hw' := fun l => place_word (r := t.val) 64 l
  iapply (wp_chk d L ⟨hL.inb, hL.inb⟩)
  iapply (wp_fill64 d L set14 hL (val := fun e => score A (b * 4 + w) (e / 128) (e % 128)) (dflt := fun _ => neg) hd) $$ H14
  iintro H14
  iapply (wp_fill64 d L set15 hL (val := fun e => BitVec.ofNat 32 e) (dflt := fun _ => 0#32) hw') $$ H15
  iintro H15

  -- group 5
  iapply (wp_ld d L) $$ H13
  iintro %v %hv H13
  obtain ⟨hd, hL, hc⟩ := group A b w hw (r := t.val) (j := 5) (by omega) hr h30 hc fun l => (hv _).trans (hG _ _ hr _ (at_row (o := 80) (by show ![(Scf.iv 0#32 1#32 t.val).toNat, 80] = _; rw [hrow]) l))
  have hw' := fun l => place_word (r := t.val) 80 l
  iapply (wp_chk d L ⟨hL.inb, hL.inb⟩)
  iapply (wp_fill64 d L set14 hL (val := fun e => score A (b * 4 + w) (e / 128) (e % 128)) (dflt := fun _ => neg) hd) $$ H14
  iintro H14
  iapply (wp_fill64 d L set15 hL (val := fun e => BitVec.ofNat 32 e) (dflt := fun _ => 0#32) hw') $$ H15
  iintro H15

  -- group 6
  iapply (wp_ld d L) $$ H13
  iintro %v %hv H13
  obtain ⟨hd, hL, hc⟩ := group A b w hw (r := t.val) (j := 6) (by omega) hr h30 hc fun l => (hv _).trans (hG _ _ hr _ (at_row (o := 96) (by show ![(Scf.iv 0#32 1#32 t.val).toNat, 96] = _; rw [hrow]) l))
  have hw' := fun l => place_word (r := t.val) 96 l
  iapply (wp_chk d L ⟨hL.inb, hL.inb⟩)
  iapply (wp_fill64 d L set14 hL (val := fun e => score A (b * 4 + w) (e / 128) (e % 128)) (dflt := fun _ => neg) hd) $$ H14
  iintro H14
  iapply (wp_fill64 d L set15 hL (val := fun e => BitVec.ofNat 32 e) (dflt := fun _ => 0#32) hw') $$ H15
  iintro H15

  -- group 7
  iapply (wp_ld d L) $$ H13
  iintro %v %hv H13
  obtain ⟨hd, hL, hc⟩ := group A b w hw (r := t.val) (j := 7) (by omega) hr h30 hc fun l => (hv _).trans (hG _ _ hr _ (at_row (o := 112) (by show ![(Scf.iv 0#32 1#32 t.val).toNat, 112] = _; rw [hrow]) l))
  have hw' := fun l => place_word (r := t.val) 112 l
  iapply (wp_chk d L ⟨hL.inb, hL.inb⟩)
  iapply (wp_fill64 d L set14 hL (val := fun e => score A (b * 4 + w) (e / 128) (e % 128)) (dflt := fun _ => neg) hd) $$ H14
  iintro H14
  iapply (wp_fill64 d L set15 hL (val := fun e => BitVec.ofNat 32 e) (dflt := fun _ => 0#32) hw') $$ H15
  iintro H15

  sl_step
  isplitr
  · ipureintro
    exact hc
  isplitl [H13]; · iexact H13
  isplitl [H14]; · iexact H14
  iexact H15

end Cert.Proof

end
-- ==== Proof.Names.lean ====
/-
  The two loops of stores: the slots set to their defaults before the visits, and after them each slot's element named
  by its row and column.
-/
module

public import proofs.«01_k».proof.Proof.Visit

@[expose] public section

noncomputable section

namespace Cert.Proof

open Cert.KernelIdeal Cert.KernelIdeal.Gen

open Idealize.ShloMosaic
open Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx)

variable {F : FTy → Type}

local notation "𝕄" => MT nD τ sig (HIx 1) (Elt F) ℕ UU ℕ

variable (d : Dev nD) (L : grid0.Coords) [FloatOps F] (A : Src F) (b w : ℕ)

/-! ## The defaults -/

/-- After `t` trips the first `16 * t` slots hold their defaults. -/
def inv1 (E11 E12 : ℕ → BitVec 32) (E14 : ℕ → F .f32) (E15 : ℕ → BitVec 32) (t : ℕ) (_ : Unit) : sProp 𝕄 :=
  iprop(Has d L a11 (fun j => if (j 1).val < 16 * t then srowD b (j 1).val else E11 (j 1).val)
    ∗ Has d L a12 (fun j => if (j 0).val < 16 * t then (fun _ => 0#32 : ℕ → BitVec 32) (j 0).val else E12 (j 0).val)
    ∗ Has d L a14 (fun j => if (j 0).val < 16 * t then (fun _ => neg : ℕ → F .f32) (j 0).val else E14 (j 0).val)
    ∗ Has d L a15 (fun j => if (j 0).val < 16 * t then (fun _ => 0#32 : ℕ → BitVec 32) (j 0).val else E15 (j 0).val))

theorem default_word (t : Fin k0_t1_loop.trips) (l : Fin 16) : k0_pay78 (BitVec.ofNat 32 b) t (lane l) = srowD b (16 * t.val + l.val) := by
  show BitVec.ofNat 32 b * 8192#32 + (0#32 + Scf.iv 0#32 1#32 t.val * 16#32) + lanes (lane l) = _
  rw [iv_word, lanes_word, BitVec.zero_add]
  unfold srowD
  rw [BitVec.ofNat_add, BitVec.ofNat_add, BitVec.ofNat_mul, BitVec.ofNat_mul, BitVec.add_assoc, BitVec.mul_comm (BitVec.ofNat 32 t.val)]

theorem inv1_step {E11 E12 : ℕ → BitVec 32} {E14 : ℕ → F .f32} {E15 : ℕ → BitVec 32} {v28 : BitVec 32} (t : Fin k0_t1_loop.trips) (u : Unit) :
    inv1 d L b E11 E12 E14 E15 t.val u
      ⊢ wp frame (wpE (defs₀ (F := F)) 𝒱₀ (thr d L) none) Set.univ (body1 L (BitVec.ofNat 32 b) v28 t u)
          (inv1 d L b E11 E12 E14 E15 (t.val + 1)) := by
  unfold inv1
  iintro ⟨H11, H12, H14, H15⟩
  unfold body1 k0_t1_body
  simp only [Prog.lift, Prog.bind_op, Prog.bind_ret, Prog.pure_eq_ret, Prog.bind_assoc]
  iapply (wp_ld d L) $$ H11
  iintro %v %hv H11
  iapply (wp_st1x64 d L (k0_off3_eq t) (D := srowD b) (default_word b t)) $$ H11
  iintro H11
  iapply (wp_ld d L) $$ H14
  iintro %v %hv H14
  iapply (wp_st64 d L (k0_off4_eq t) (w := k0_pay79 (F := F)) (D := fun _ => neg) (fun l => rfl)) $$ H14
  iintro H14
  iapply (wp_ld d L) $$ H15
  iintro %v %hv H15
  iapply (wp_st64 d L (k0_off4_eq t) (w := k0_pay80) (D := fun _ => 0#32) (fun l => rfl)) $$ H15
  iintro H15
  iapply (wp_ld d L) $$ H12
  iintro %v %hv H12
  iapply (wp_st64 d L (k0_off4_eq t) (w := k0_pay81) (D := fun _ => 0#32) (fun l => rfl)) $$ H12
  iintro H12
  sl_step
  isplitl [H11]; · iexact H11
  isplitl [H12]; · iexact H12
  isplitl [H14]; · iexact H14
  iexact H15

/-! ## The names -/

def idxW (k : ℕ) : BitVec 32 := BitVec.ofNat 32 (row A (b * 4 + w) k * 1024 + col A (b * 4 + w) k)
def rowW (k : ℕ) : BitVec 32 := BitVec.ofNat 32 (b * 1024 + row A (b * 4 + w) k)
def colW (k : ℕ) : BitVec 32 := BitVec.ofNat 32 (b * 1024 + col A (b * 4 + w) k)
def spotW (k : ℕ) : BitVec 32 := BitVec.ofNat 32 (spot A (b * 4 + w) k)

/-- After `t` trips the first `16 * t` slots hold names. -/
def inv5 (E17 E18 : ℕ → BitVec 32) (t : ℕ) (_ : Unit) : sProp 𝕄 :=
  iprop(Has d L a12 (fun j => fill (hot A (b * 4 + w)) (nameW b w) (fun _ => 0#32) 2048 (j 0).val)
    ∗ Has d L a15 (fun j => if (j 0).val < 16 * t then idxW A b w (j 0).val else spotW A b w (j 0).val)
    ∗ Has d L a17 (fun j => if (j 1).val < 16 * t then rowW A b w (j 1).val else E17 (j 1).val)
    ∗ Has d L a18 (fun j => if (j 1).val < 16 * t then colW A b w (j 1).val else E18 (j 1).val))

theorem name_word (k : ℕ) : fill (hot A (b * 4 + w)) (nameW b w) (fun _ => 0#32) 2048 k
    = BitVec.ofNat 32 (fill (hot A (b * 4 + w)) (fun c => blk (b * 4 + w) c * 131072 + key c) (fun _ => 0) 2048 k) := by
  unfold fill nameW
  split <;> rfl

/-- A slot's row and column from its element's place and its chunk's name. -/
theorem name_words (hb : b < 8) {v71 v74 : IVec S16 32} {k : ℕ} {l : Fin 16} (hk : k < 64) (h71 : v71 (lane l) = spotW A b w k)
    (h74 : v74 (lane l) = fill (hot A (b * 4 + w)) (nameW b w) (fun _ => 0#32) 2048 (spot A (b * 4 + w) k / 128)) :
    k0_pay98 (F := F) v71 v74 (lane l) = idxW A b w k ∧ k0_pay99 (F := F) (BitVec.ofNat 32 b) v71 v74 (lane l) = rowW A b w k
      ∧ k0_pay100 (F := F) (BitVec.ofNat 32 b) v71 v74 (lane l) = colW A b w k := by
  have hs := spot_lt' A (b * 4 + w) hk
  have hr := row_lt A (b * 4 + w) (k := k)
  have hc := col_lt A (b * 4 + w) (k := k)
  have h98 : k0_pay98 (F := F) v71 v74 (lane l) = idxW A b w k := by
    show v74 (lane l) + (v71 (lane l) &&& 127#32) * 1024#32 = _
    rw [h71, h74, name_word, spotW, show (127#32 : BitVec 32) = BitVec.ofNat 32 (2 ^ 7 - 1) from rfl, and_word _ 7 (by omega) (by omega),
      ← BitVec.ofNat_mul, ← BitVec.ofNat_add]
    exact congrArg (BitVec.ofNat 32) (name_eq A (b * 4 + w) hk)
  refine ⟨h98, ?_, ?_⟩
  · show BitVec.ofNat 32 b * 1024#32 + IntOp.shrsi .vector (k0_pay98 (F := F) v71 v74 (lane l)) 10#32 = _
    rw [h98, idxW, shr_word _ _ 10 (by omega) (by omega), ← BitVec.ofNat_mul, ← BitVec.ofNat_add]
    exact congrArg (BitVec.ofNat 32) (by omega)
  · show BitVec.ofNat 32 b * 1024#32 + (k0_pay98 (F := F) v71 v74 (lane l) &&& 1023#32) = _
    rw [h98, idxW, show (1023#32 : BitVec 32) = BitVec.ofNat 32 (2 ^ 10 - 1) from rfl, and_word _ 10 (by omega) (by omega),
      ← BitVec.ofNat_mul, ← BitVec.ofNat_add]
    exact congrArg (BitVec.ofNat 32) (by omega)

/-- The indexed load of sixteen elements of a buffer of sixty-four. -/
theorem wp_pick {α : Type} {e : EltTy} {base : Memref sig .scVector .vmem S64 e}
    {pos : IVec S16 32} {h : ∀ a x, ((![pos] : Fin 1 → IVec S16 32) a x).toNat < S64.size a} {hl : base.view.Loads}
    {k : Vec F S16 e → Prog (TpuEff nD τ sig (Elt F) Λ₀ (.scVector (cV L) (jV L))) α} {G : S64.Idx → Elt F e} {Q : α → sProp 𝕄} :
    (Has d L base G : sProp 𝕄)
      ⊢ iprop((∀ v, ⌜∀ x, ∃ j : S64.Idx, (j 0).val = (pos x).toNat ∧ v x = G j⌝ -∗ Has d L base G
            -∗ wp frame (wpE (defs₀ (F := F)) 𝒱₀ (thr d L) none) Set.univ (k v) Q)
        -∗ wp frame (wpE (defs₀ (F := F)) 𝒱₀ (thr d L) none) Set.univ (SparseCore.vectorLoadIdx base ![pos] h hl >>= k) Q) := by
  unfold Has
  iintro ⟨%f, %hf, H⟩ Hk
  iapply (SparseCore.wp_vectorLoadIdx (base := base) 𝒱₀ (thr d L) none Set.univ (S := Finset.univ) (Finset.subset_univ _)) $$ H
  iintro H
  iapply Hk $$ %(loadIdx ((base.access (.whole S64)).read (Elt F) f) ![pos] h) %(fun x => ⟨idxAt ![pos] h x, rfl, by
    show (base.access (.whole S64)).read (Elt F) f (idxAt ![pos] h x) = _
    show base.view.read (Elt F) f ((Rect.whole S64).emb _) = _
    rw [Rect.emb_whole_apply]; exact hf _⟩)
  iexists f
  isplitr
  · ipureintro; exact hf
  · iexact H

theorem inv5_step (hb : b < 8) {E17 E18 : ℕ → BitVec 32} (t : Fin k0_t5_loop.trips) (u : Unit) {v28 : BitVec 32} :
    inv5 d L A b w E17 E18 t.val u
      ⊢ wp frame (wpE (defs₀ (F := F)) 𝒱₀ (thr d L) none) Set.univ (body5 L (BitVec.ofNat 32 b) v28 t u)
          (inv5 d L A b w E17 E18 (t.val + 1)) := by
  have ht : t.val < 4 := t.isLt
  unfold inv5
  iintro ⟨H12, H15, H17, H18⟩
  unfold body5 k0_t5_body
  simp only [Prog.lift, Prog.bind_op, Prog.bind_ret, Prog.pure_eq_ret, Prog.bind_assoc]
  iapply (wp_ld d L) $$ H15
  iintro %v71 %h71 H15
  have e71 : ∀ l : Fin 16, v71 (lane l) = spotW A b w (16 * t.val + l.val) := by
    intro l
    refine (h71 (lane l)).trans ?_
    rw [idx16 (k0_off22_eq t), if_neg (by omega)]
  have hpos : ∀ l : Fin 16, (k0_pay97 (F := F) v71 (lane l)).toNat = spot A (b * 4 + w) (16 * t.val + l.val) / 128 := by
    intro l
    have hs := spot_lt' A (b * 4 + w) (k := 16 * t.val + l.val) (by omega)
    show (IntOp.shrsi .vector (v71 (lane l)) 7#32).toNat = _
    rw [e71, spotW, shr_word _ _ 7 (by omega) (by omega), BitVec.toNat_ofNat, Nat.mod_eq_of_lt (by omega)]
    omega
  iapply (wp_chk d L (show k0_chk20 (k0_pay97 (F := F) v71) from by
    intro a x
    obtain rfl := Fin.eq_zero a
    have hs := spot_lt' A (b * 4 + w) (k := 16 * t.val + (x 0).val) (by have : (x 0).val < 16 := (x 0).isLt; omega)
    show (k0_pay97 (F := F) v71 x).toNat < 64
    rw [eq_lane x]
    exact (hpos (x 0)).trans_lt (by omega)))
  iapply (wp_pick d L) $$ H12
  iintro %v74 %h74 H12
  have e74 : ∀ l : Fin 16, v74 (lane l)
      = fill (hot A (b * 4 + w)) (nameW b w) (fun _ => 0#32) 2048 (spot A (b * 4 + w) (16 * t.val + l.val) / 128) := by
    intro l
    obtain ⟨j, hj, hv⟩ := h74 (lane l)
    rw [hv, hj, hpos]
  have hN := fun l : Fin 16 => name_words (F := F) A b w hb (k := 16 * t.val + l.val) (by omega) (e71 l) (e74 l)
  iapply (wp_ld d L) $$ H15
  iintro %v %hv H15
  iapply (wp_st64 d L (k0_off23_eq t) (w := k0_pay98 (F := F) v71 v74) (D := idxW A b w) (fun l => (hN l).1)) $$ H15
  iintro H15
  iapply (wp_ld d L) $$ H17
  iintro %v %hv H17
  iapply (wp_st1x64 d L (k0_off24_eq t) (w := k0_pay99 (F := F) (BitVec.ofNat 32 b) v71 v74) (D := rowW A b w) (fun l => (hN l).2.1)) $$ H17
  iintro H17
  iapply (wp_ld d L) $$ H18
  iintro %v %hv H18
  iapply (wp_st1x64 d L (k0_off24_eq t) (w := k0_pay100 (F := F) (BitVec.ofNat 32 b) v71 v74) (D := colW A b w) (fun l => (hN l).2.2)) $$ H18
  iintro H18
  sl_step
  isplitl [H12]; · iexact H12
  isplitl [H15]; · iexact H15
  isplitl [H17]; · iexact H17
  iexact H18

end Cert.Proof

end
-- ==== Proof.Tile.lean ====
/-
  One task, step by step: its chunk maxima and its threshold fetched, the slots reset, the chunks and then the chosen
  chunks' scores visited, the candidates named, their rows of `x` gathered, the four pieces written out.
-/
module

public import proofs.«01_k».proof.Proof.Moves
public import proofs.«01_k».proof.Proof.Names

@[expose] public section

noncomputable section

namespace Cert.Proof

open Cert.KernelIdeal Cert.KernelIdeal.Gen

open Idealize.ShloMosaic
open Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx)

variable {F : FTy → Type}

local notation "𝕄" => MT nD τ sig (HIx 1) (Elt F) ℕ UU ℕ

/-! ## Where a task works -/

/-- The batch of task `L` and its quarter. -/
abbrev bb (L : grid0.Coords) : ℕ := (L 0).val * 4 + (L 1).val / 4
abbrev ww (L : grid0.Coords) : ℕ := (L 1).val % 4

theorem bb_lt (L : grid0.Coords) : bb L < 8 := by
  have h0 : (L 0).val < 2 := (L 0).isLt
  have h1 : (L 1).val < 16 := (L 1).isLt
  unfold bb; omega
theorem ww_lt (L : grid0.Coords) : ww L < 4 := Nat.mod_lt _ (by omega)

theorem off1_eq (L : grid0.Coords) : k0_off1 L = ![bb L, ww L * 2048] :=
  funext ((by decide +kernel : ∀ L : grid0.Coords, ∀ a, k0_off1 L a = (![bb L, ww L * 2048] : Fin 2 → ℕ) a) L)
theorem off2_eq (L : grid0.Coords) : k0_off2 L = ![bb L, 0] :=
  funext ((by decide +kernel : ∀ L : grid0.Coords, ∀ a, k0_off2 L a = (![bb L, 0] : Fin 2 → ℕ) a) L)
theorem off25_eq (L : grid0.Coords) : k0_off25 L = ![bb L, ww L * 64] :=
  funext ((by decide +kernel : ∀ L : grid0.Coords, ∀ a, k0_off25 L a = (![bb L, ww L * 64] : Fin 2 → ℕ) a) L)
theorem off26_eq (L : grid0.Coords) : k0_off26 L = ![bb L, ww L * 64, 0] :=
  funext ((by decide +kernel : ∀ L : grid0.Coords, ∀ a, k0_off26 L a = (![bb L, ww L * 64, 0] : Fin 3 → ℕ) a) L)

theorem batch_word : ∀ L : grid0.Coords,
    Scalar.addi (Scalar.muli (BitVec.ofNat 32 (L 0).val) 4#32) (Scalar.select (Scalar.andi (Scalar.cmpi .ne (Scalar.subi (Scalar.extui (Scalar.cmpi .sgt (BitVec.ofNat 32 (L 1).val) 0#32)) (Scalar.extui (Scalar.cmpi .slt (BitVec.ofNat 32 (L 1).val) 0#32))) (Scalar.subi (Scalar.extui (Scalar.cmpi .sgt 4#32 0#32)) (Scalar.extui (Scalar.cmpi .slt 4#32 0#32)))) (Scalar.cmpi .ne (Scalar.remsi (BitVec.ofNat 32 (L 1).val) 4#32) 0#32)) (Scalar.subi (Scalar.divsi (BitVec.ofNat 32 (L 1).val) 4#32) 1#32) (Scalar.divsi (BitVec.ofNat 32 (L 1).val) 4#32))
      = BitVec.ofNat 32 (bb L) := by decide +kernel

theorem quarter_word : ∀ L : grid0.Coords,
    Scalar.select (Scalar.andi (Scalar.xori (Scalar.cmpi .slt (Scalar.remsi (BitVec.ofNat 32 (L 1).val) (Scalar.select (Scalar.cmpi .eq 4#32 0#32) 1#32 4#32)) 0#32)
        (Scalar.cmpi .slt (Scalar.select (Scalar.cmpi .eq 4#32 0#32) 1#32 4#32) 0#32)) (Scalar.cmpi .ne (Scalar.remsi (BitVec.ofNat 32 (L 1).val) (Scalar.select (Scalar.cmpi .eq 4#32 0#32) 1#32 4#32)) 0#32))
        (Scalar.addi (Scalar.remsi (BitVec.ofNat 32 (L 1).val) (Scalar.select (Scalar.cmpi .eq 4#32 0#32) 1#32 4#32)) (Scalar.select (Scalar.cmpi .eq 4#32 0#32) 1#32 4#32))
        (Scalar.remsi (BitVec.ofNat 32 (L 1).val) (Scalar.select (Scalar.cmpi .eq 4#32 0#32) 1#32 4#32))
      = BitVec.ofNat 32 (ww L) := by decide +kernel

/-- A row's piece of a matrix, read as a vector. -/
theorem read_row {sp : Space} {e : EltTy} {R C N : ℕ} (M : Memref sig .scVector sp ⟨2, ![R, C]⟩ e) {off : Fin 2 → ℕ} {r o : ℕ} (hoff : off = ![r, o])
    {inb : ∀ a, off a + (⟨2, ![1, N]⟩ : Shape).size a ≤ (⟨2, ![R, C]⟩ : Shape).size a} {hq : (⟨2, ![1, N]⟩ : Shape).Squeezes ⟨1, ![N]⟩}
    {f : M.view.ty.Contents (Elt F)} {G : ℕ → ℕ → Elt F e} (hG : ∀ j, M.view.read (Elt F) f j = G (j 0).val (j 1).val) (x : (⟨1, ![N]⟩ : Shape).Idx) :
    ((M.slice (Rect.unit (s := ⟨2, ![R, C]⟩) off (⟨2, ![1, N]⟩ : Shape).size inb) (fun _ => rfl)).squeeze ⟨1, ![N]⟩ hq).view.read (Elt F) f x = G r (o + (x 0).val) := by
  subst hoff
  have hx : (x 0).val < N := (x 0).isLt
  show M.view.read (Elt F) f ((Rect.unit (s := ⟨2, ![R, C]⟩) ![r, o] (⟨2, ![1, N]⟩ : Shape).size inb).emb (Shape.reshapeEquiv hq.numel_eq x)) = _
  rw [Shape.reshapeEquiv_eq_of_rowMajor (s := ⟨2, ![1, N]⟩) (y := ix2 0 (x 0)) hq.numel_eq (by
    rw [Shape.rowMajor_val_one, Shape.rowMajor_val_two]; show 0 * N + (x 0).val = (x 0).val; omega), hG, Rect.emb_apply, Rect.emb_apply]
  congr 1
  simp; rfl

/-- A block of rows of one matrix of a stack, read as a matrix. -/
theorem read_block {sp : Space} {e : EltTy} {B R C N : ℕ} (M : Memref sig .scVector sp ⟨3, ![B, R, C]⟩ e) {off : Fin 3 → ℕ} {r o : ℕ} (hoff : off = ![r, o, 0])
    {inb : ∀ a, off a + (⟨3, ![1, N, C]⟩ : Shape).size a ≤ (⟨3, ![B, R, C]⟩ : Shape).size a} {hq : (⟨3, ![1, N, C]⟩ : Shape).Squeezes ⟨2, ![N, C]⟩}
    {f : M.view.ty.Contents (Elt F)} {G : ℕ → ℕ → ℕ → Elt F e} (hG : ∀ j, M.view.read (Elt F) f j = G (j 0).val (j 1).val (j 2).val)
    (x : (⟨2, ![N, C]⟩ : Shape).Idx) :
    ((M.slice (Rect.unit (s := ⟨3, ![B, R, C]⟩) off (⟨3, ![1, N, C]⟩ : Shape).size inb) (fun _ => rfl)).squeeze ⟨2, ![N, C]⟩ hq).view.read (Elt F) f x
      = G r (o + (x 0).val) (x 1).val := by
  subst hoff
  show M.view.read (Elt F) f ((Rect.unit (s := ⟨3, ![B, R, C]⟩) ![r, o, 0] (⟨3, ![1, N, C]⟩ : Shape).size inb).emb (Shape.reshapeEquiv hq.numel_eq x)) = _
  rw [Shape.reshapeEquiv_eq_of_rowMajor (s := ⟨3, ![1, N, C]⟩) (y := ix3 0 (x 0) (x 1)) hq.numel_eq (by
    rw [Shape.rowMajor_val_two, Shape.rowMajor_val_three]; show (0 * N + (x 0).val) * C + (x 1).val = (x 0).val * C + (x 1).val
    rw [Nat.zero_mul, Nat.zero_add]), hG, Rect.emb_apply, Rect.emb_apply, Rect.emb_apply]
  congr 1
  · simp; rfl
  · simp; rfl

variable (d : Dev nD) (L : grid0.Coords)

/-- The quarter of the chunk maxima the task fetches, -/
abbrev s3 : Memref sig .scVector .hbm S2048 .f32 :=
  (a3.slice (Rect.unit (s := S8x8192) (k0_off1 L) S1x2048.size (k0_off1_inb L)) (fun _ => rfl)).squeeze S2048 squeezes_S1x2048_S2048
/-- the threshold, -/
abbrev s4 : Memref sig .scVector .hbm S128 .f32 :=
  (a4.slice (Rect.unit (s := S8x128) (k0_off2 L) S1x128.size (k0_off2_inb L)) (fun _ => rfl)).squeeze S128 squeezes_S1x128_S128
/-- and the task's pieces of the four results. -/
abbrev s6 : Memref sig .scVector .hbm S64 .f32 :=
  (a6.slice (Rect.unit (s := S8x256) (k0_off25 L) S1x64.size (k0_off25_inb L)) (fun _ => rfl)).squeeze S64 squeezes_S1x64_S64
abbrev s7 : Memref sig .scVector .hbm S64 .i32 :=
  (a7.slice (Rect.unit (s := S8x256) (k0_off25 L) S1x64.size (k0_off25_inb L)) (fun _ => rfl)).squeeze S64 squeezes_S1x64_S64
abbrev s8 : Memref sig .scVector .hbm S64x128 .f32 :=
  (a8.slice (Rect.unit (s := S8x256x128) (k0_off26 L) S1x64x128.size (k0_off26_inb L)) (fun _ => rfl)).squeeze S64x128 squeezes_S1x64x128_S64x128
abbrev s9 : Memref sig .scVector .hbm S64x128 .f32 :=
  (a9.slice (Rect.unit (s := S8x256x128) (k0_off26 L) S1x64x128.size (k0_off26_inb L)) (fun _ => rfl)).squeeze S64x128 squeezes_S1x64x128_S64x128

/-- A scratch buffer, owned whole, whatever it holds. -/
def Any {cs : CoreSpace} {s : Shape} {e : EltTy} (base : Memref sig .scVector cs s e) : sProp 𝕄 :=
  iprop(∃ f, base.view.loc (thr d L) ↦{fullShare} f)

theorem Has.any {cs : CoreSpace} {s : Shape} {e : EltTy} {base : Memref sig .scVector cs s e} {G : s.Idx → Elt F e} :
    (Has d L base G : sProp 𝕄) ⊢ Any d L base := by
  unfold Has Any
  iintro ⟨%f, -, H⟩
  iexists f
  iexact H

theorem Any.has {cs : CoreSpace} {s : Shape} {e : EltTy} {base : Memref sig .scVector cs s e} :
    (Any d L base : sProp 𝕄) ⊢ iprop(∃ G, Has d L base G) := by
  unfold Any
  iintro ⟨%f, H⟩
  iexists _
  iapply (Has.intro d L) $$ H

/-- A buffer of sixty-four, its contents by slot. -/
theorem Any.slots {cs : CoreSpace} {e : EltTy} {base : Memref sig .scVector cs S64 e} :
    (Any d L base : sProp 𝕄) ⊢ iprop(∃ E : ℕ → Elt F e, Has d L base (fun j => E (j 0).val)) := by
  iintro H
  ihave H := (Any.has d L) $$ H
  icases H with ⟨%G, H⟩
  iexists fun k => G (ix1 ⟨k % 64, Nat.mod_lt _ (by omega)⟩)
  iapply (Has.congr d L (fun j => ?_)) $$ H
  congr 1
  funext a
  obtain rfl := Fin.eq_zero a
  exact Fin.ext (Nat.mod_eq_of_lt (j 0).isLt).symm

theorem Any.slots1 {cs : CoreSpace} {e : EltTy} {base : Memref sig .scVector cs S1x64 e} :
    (Any d L base : sProp 𝕄) ⊢ iprop(∃ E : ℕ → Elt F e, Has d L base (fun j => E (j 1).val)) := by
  iintro H
  ihave H := (Any.has d L) $$ H
  icases H with ⟨%G, H⟩
  iexists fun k => G (ix2 0 ⟨k % 64, Nat.mod_lt _ (by omega)⟩)
  iapply (Has.congr d L (fun j => ?_)) $$ H
  congr 1
  funext a
  match a with
  | 0 => exact Fin.ext (by have : (j 0).val < 1 := (j 0).isLt; show (j 0).val = 0; omega)
  | 1 => exact Fin.ext (Nat.mod_eq_of_lt (j 1).isLt).symm

variable [FloatOps F] (A : Src F) {α : Type} {O : CellTallies nD τ sig (HIx 1)} {W : Waits sig (HIx 1)}

/-- The task's first part: its batch, its quarter, its chunk maxima fetched. -/
theorem part10_run {q : PosShare TreeShare} {f3 : Buf (Elt F) (a3.view.loc (thr d L))}
    (h3 : ∀ j, a3.view.read (Elt F) f3 j = A.cm ((j 0).val * 8192 + (j 1).val))
    {k : (Σ' (v18 : BitVec 32), BitVec 32) → Prog (TpuEff nD τ sig (Elt F) Λ₀ (.scVector (cV L) (jV L))) α} {Q : α → sProp 𝕄} :
    iprop((a3.view.loc (thr d L) ↦{q} f3) ∗ Any d L a10 ∗ Zero d L cc0_scoped0.sem ∗ Owing d L O W ∗ Transfers.MayWaits (thr d L) (default : HIx 1) O)
      ⊢ iprop(((Has d L a10 (fun j => A.cm ((bb L * 4 + ww L) * 2048 + (j 0).val)) ∗ (a3.view.loc (thr d L) ↦{q} f3) ∗ Zero d L cc0_scoped0.sem ∗ Owing d L O W)
            -∗ wp frame (wpE (defs₀ (F := F)) 𝒱₀ (thr d L) none) Set.univ (k ⟨BitVec.ofNat 32 (bb L), BitVec.ofNat 32 (ww L)⟩) Q)
        -∗ wp frame (wpE (defs₀ (F := F)) 𝒱₀ (thr d L) none) Set.univ
            (k0_part10 (F := F) L a2 w2 a3 w3 a4 w4 a5 w5 a6 w6 a7 w7 a8 w8 a9 w9 a10 w10 a11 w11 a12 w12 a13 w13 a14 w14 a15 w15 a16 w16 a17 w17 a18 w18
              a19 w19 a20 w20 cc0_scratch11 cc0_scoped0 cc0_scoped1 cc0_scoped2 cc0_scoped3 cc0_scoped4 cc0_scoped5 >>= k) Q) := by
  simp only [k0_part10_eq_skeleton]
  unfold k0_part10_skel
  simp only [Prog.lift, Prog.bind_op, Prog.bind_ret, Prog.pure_eq_ret, Prog.bind_assoc]
  iintro ⟨H3, H10, Hv, HO, Hmw⟩ Hk
  ihave H10 := (Any.has d L) $$ H10
  icases H10 with ⟨%G, H10⟩
  have hR : ∀ j : S2048.Idx, (s3 L).view.read (Elt F) f3 j = A.cm ((bb L * 4 + ww L) * 2048 + (j 0).val) := fun j =>
    (read_row a3 (off1_eq L) (G := fun r c => A.cm (r * 8192 + c)) h3 j).trans (congrArg A.cm (by omega))
  iapply (wp_fetch (F := F) d L (src := s3 L) (dst := a10) (Sd := Finset.univ) (fs := f3) (show 0 < a10.view.dmaCredit by decide) (Finset.subset_univ _) hR) $$ [H3 H10 Hv HO Hmw]
  · isplitl [H3]; · iexact H3
    isplitl [H10]; · iexact H10
    isplitl [Hv]; · iexact Hv
    isplitl [HO]; · iexact HO
    iexact Hmw
  iintro ⟨H10, H3, Hv, HO⟩
  rw [batch_word, quarter_word]
  iapply Hk
  isplitl [H10]; · iexact H10
  isplitl [H3]; · iexact H3
  isplitl [Hv] <;> iassumption

theorem trips1 : Scf.trips k0_t1_loop.lb k0_t1_loop.ub k0_t1_loop.st = 4 := by decide
theorem trips2 : Scf.trips k0_t2_loop.lb k0_t2_loop.ub k0_t2_loop.st = 128 := by decide
theorem trips5 : Scf.trips k0_t5_loop.lb k0_t5_loop.ub k0_t5_loop.st = 4 := by decide

/-- The threshold, off the vector of its copies. -/
theorem threshold {v : Vec F S16 .f32} {x : F .f32} (h : v (lane 0) = x) : k0_pay77 v = x := by
  rw [← h]; unfold k0_pay77
  refine congrArg v (funext fun a => ?_)
  obtain rfl := Fin.eq_zero a
  exact Fin.ext rfl

/-- The number of a chunk's row of scores is a row of the table. -/
theorem list_lt {b w : ℕ} (hb : b < 8) (hw : w < 4) {k : ℕ} (hk : k < 64) :
    (fill (hot A (b * 4 + w)) (srowW b w) (srowD b) 2048 k).toNat < 65536 := by
  have h1 : srow (b * 4 + w) (chunk A (b * 4 + w) k) < 65536 := by
    have h2 := key_lt (chunk A (b * 4 + w) k)
    have h3 := blk_lt (b * 4 + w) (chunk_lt A (b * 4 + w) k)
    unfold srow; rw [task_div hw]; omega
  rw [fill_hot A _ _ _ hk]
  split
  · unfold srowW; rw [BitVec.toNat_ofNat, Nat.mod_eq_of_lt (by omega)]; exact h1
  · unfold srowD; rw [BitVec.toNat_ofNat, Nat.mod_eq_of_lt (by omega)]; omega

/-- The row gathered for a hot chunk's slot is the chunk's scores. -/
theorem list_score {b w : ℕ} (hb : b < 8) (hw : w < 4) {r o : ℕ} (hr : r < min (nhot A (b * 4 + w)) 64) :
    A.s ((fill (hot A (b * 4 + w)) (srowW b w) (srowD b) 2048 r).toNat * 128 + o) = score A (b * 4 + w) r o := by
  have h1 : srow (b * 4 + w) (chunk A (b * 4 + w) r) < 65536 := by
    have h2 := key_lt (chunk A (b * 4 + w) r)
    have h3 := blk_lt (b * 4 + w) (chunk_lt A (b * 4 + w) r)
    unfold srow; rw [task_div hw]; omega
  rw [fill_hot A _ _ _ (by omega), if_pos (by omega)]
  unfold srowW score; rw [BitVec.toNat_ofNat, Nat.mod_eq_of_lt (by omega)]

/-- The slots of elements hold the elements' numbers. -/
theorem fill_spotW {b w k : ℕ} (hk : k < 64) :
    fill (live A (b * 4 + w)) (fun e => BitVec.ofNat 32 e) (fun _ => 0#32) 8192 k = spotW A b w k := by
  unfold spotW
  rw [← fill_spot A (b * 4 + w) hk, fill_lt _ _ _ (count_live A _) hk, fill_lt _ _ _ (count_live A _) hk]
  by_cases h : k < nlive A (b * 4 + w)
  · rw [if_pos h, if_pos h, id]
  · rw [if_neg h, if_neg h]

set_option maxHeartbeats 2000000 in
/-- The task's second part: the threshold fetched, the slots reset, the chunks visited, the chosen chunks' scores
    gathered and visited. -/
theorem part11_run {q : PosShare TreeShare} {f2 : Buf (Elt F) (a2.view.loc (thr d L))} {f4 : Buf (Elt F) (a4.view.loc (thr d L))}
    (h2 : ∀ j, a2.view.read (Elt F) f2 j = A.s ((j 0).val * 128 + (j 1).val)) {T4 : ℕ → ℕ → F .f32}
    (h4 : ∀ j, a4.view.read (Elt F) f4 j = T4 (j 0).val (j 1).val) (h40 : T4 (bb L) 0 = A.t (bb L))
    {k : PUnit → Prog (TpuEff nD τ sig (Elt F) Λ₀ (.scVector (cV L) (jV L))) α} {Q : α → sProp 𝕄} :
    iprop((a2.view.loc (thr d L) ↦{q} f2) ∗ (a4.view.loc (thr d L) ↦{q} f4)
        ∗ Has d L a10 (fun j => A.cm ((bb L * 4 + ww L) * 2048 + (j 0).val)) ∗ Any d L a11 ∗ Any d L a12 ∗ Any d L a13 ∗ Any d L a14 ∗ Any d L a15 ∗ Any d L a16
        ∗ Zero d L cc0_scratch11.sem ∗ Zero d L cc0_scoped1.sem ∗ Owing d L O W ∗ Transfers.MayWaits (thr d L) (default : HIx 1) O)
      ⊢ iprop((((a2.view.loc (thr d L) ↦{q} f2) ∗ (a4.view.loc (thr d L) ↦{q} f4) ∗ Any d L a10 ∗ Any d L a11
              ∗ Has d L a12 (fun j => fill (hot A (bb L * 4 + ww L)) (nameW (bb L) (ww L)) (fun _ => 0#32) 2048 (j 0).val) ∗ Any d L a13
              ∗ Has d L a14 (fun j => val A (bb L * 4 + ww L) (j 0).val) ∗ Has d L a15 (fun j => spotW A (bb L) (ww L) (j 0).val) ∗ Any d L a16
              ∗ Zero d L cc0_scratch11.sem ∗ Zero d L cc0_scoped1.sem ∗ Owing d L O W)
            -∗ wp frame (wpE (defs₀ (F := F)) 𝒱₀ (thr d L) none) Set.univ (k ⟨⟩) Q)
        -∗ wp frame (wpE (defs₀ (F := F)) 𝒱₀ (thr d L) none) Set.univ
            (k0_part11 (F := F) L a2 w2 a3 w3 a4 w4 a5 w5 a6 w6 a7 w7 a8 w8 a9 w9 a10 w10 a11 w11 a12 w12 a13 w13 a14 w14 a15 w15 a16 w16 a17 w17 a18 w18
              a19 w19 a20 w20 cc0_scratch11 cc0_scoped0 cc0_scoped1 cc0_scoped2 cc0_scoped3 cc0_scoped4 cc0_scoped5
              (BitVec.ofNat 32 (bb L)) (BitVec.ofNat 32 (ww L)) >>= k) Q) := by
  have hb := bb_lt L
  have hw := ww_lt L
  simp only [k0_part11_eq_skeleton]
  unfold k0_part11_skel
  simp only [Prog.lift, Prog.bind_op, Prog.bind_ret, Prog.pure_eq_ret, Prog.bind_assoc]
  iintro ⟨H2, H4, H10, H11, H12, H13, H14, H15, H16, Hv, Hv1, HO, #Hmw⟩ Hk
  ihave H16 := (Any.has d L) $$ H16
  icases H16 with ⟨%G16, H16⟩
  have hR : ∀ j : S128.Idx, (s4 L).view.read (Elt F) f4 j = T4 (bb L) (0 + (j 0).val) := fun j => read_row a4 (off2_eq L) h4 j
  iapply (wp_fetch (F := F) d L (src := s4 L) (dst := a16) (Sd := Finset.univ) (fs := f4) (show 0 < a16.view.dmaCredit by decide) (Finset.subset_univ _) hR)
    $$ [H4 H16 Hv1 HO]
  · isplitl [H4]; · iexact H4
    isplitl [H16]; · iexact H16
    isplitl [Hv1]; · iexact Hv1
    isplitl [HO]; · iexact HO
    iexact Hmw
  iintro ⟨H16, H4, Hv1, HO⟩
  iapply (wp_ld d L) $$ H16
  iintro %v30 %hv H16
  have h30 : k0_pay77 v30 = A.t (bb L) := threshold ((hv (lane 0)).trans h40)
  ihave H11 := (Any.slots1 d L) $$ H11
  icases H11 with ⟨%E11, H11⟩
  ihave H12 := (Any.slots d L) $$ H12
  icases H12 with ⟨%E12, H12⟩
  ihave H14 := (Any.slots d L) $$ H14
  icases H14 with ⟨%E14, H14⟩
  ihave H15 := (Any.slots d L) $$ H15
  icases H15 with ⟨%E15, H15⟩
  iapply (Scf.wp_for_bind _ _ _ _ _ _ _ _ _ (inv1 d L (bb L) E11 E12 E14 E15) (fun t u => inv1_step d L (bb L) t u)) $$ [H11 H12 H14 H15]
  · unfold inv1
    isplitl [H11]
    · iapply (Has.congr d L (fun j => ?_)) $$ H11
      rw [if_neg (by omega)]
    isplitl [H12]
    · iapply (Has.congr d L (fun j => ?_)) $$ H12
      rw [if_neg (by omega)]
    isplitl [H14]
    · iapply (Has.congr d L (fun j => ?_)) $$ H14
      rw [if_neg (by omega)]
    · iapply (Has.congr d L (fun j => ?_)) $$ H15
      rw [if_neg (by omega)]
  iintro %u H
  rw [trips1]
  unfold inv1
  icases H with ⟨H11, H12, H14, H15⟩
  ihave H11 := (Has.congr d L (G' := fun j => fill (hot A (bb L * 4 + ww L)) (srowW (bb L) (ww L)) (srowD (bb L)) (16 * 0) (j 1).val) (fun j => by
    have hj : (j 1).val < 64 := (j 1).isLt
    rw [if_pos (by omega), Nat.mul_zero, fill_zero])) $$ H11
  ihave H12 := (Has.congr d L (G' := fun j => fill (hot A (bb L * 4 + ww L)) (nameW (bb L) (ww L)) (fun _ => 0#32) (16 * 0) (j 0).val) (fun j => by
    have hj : (j 0).val < 64 := (j 0).isLt
    rw [if_pos (by omega), Nat.mul_zero, fill_zero])) $$ H12
  iapply (Scf.wp_for_bind _ _ _ _ _ _ _ _ _ (inv2 d L A (bb L) (ww L)) (fun t c => inv2_step d L A (bb L) (ww L) hb hw h30 t c)) $$ [H10 H11 H12]
  · unfold inv2
    isplitr
    · ipureintro; rw [Nat.mul_zero, Nat.count_zero]
    isplitl [H10]; · iexact H10
    isplitl [H11]; · iexact H11
    iexact H12
  iintro %c2 H
  rw [trips2]
  unfold inv2
  icases H with ⟨%hc2, H10, H11, H12⟩
  have hc2' : c2 = BitVec.ofNat 32 (nhot A (bb L * 4 + ww L)) := hc2.trans (congrArg (BitVec.ofNat 32) (count_hot A _))
  clear hc2
  subst hc2'
  have hchk := chk3_of (nhot_le A (bb L * 4 + ww L))
  iapply (wp_chk d L hchk)
  ihave H13 := (Any.has d L) $$ H13
  icases H13 with ⟨%G13, H13⟩
  iapply (wp_rows (F := F) d L (tab := a2) (dst := a13) (lst := a11) (T := fun r o => A.s (r * 128 + o)) (l := fun k => fill (hot A (bb L * 4 + ww L)) (srowW (bb L) (ww L)) (srowD (bb L)) 2048 k)
    (by decide) (View.set_whole _) h2 (fun k hk => list_lt A hb hw hk)) $$ [H2 H13 H11 Hv HO]
  · isplitl [H2]; · iexact H2
    isplitl [H13]; · iexact H13
    isplitl [H11]; · iexact H11
    isplitl [Hv]; · iexact Hv
    isplitl [HO]; · iexact HO
    iexact Hmw
  iintro ⟨H13, H2, H11, Hv, HO⟩
  ihave H14 := (Has.congr d L (G' := fun j => fill (live A (bb L * 4 + ww L)) (fun e => score A (bb L * 4 + ww L) (e / 128) (e % 128)) (fun _ => neg) (128 * 0) (j 0).val) (fun j => by
    have hj : (j 0).val < 64 := (j 0).isLt
    rw [if_pos (by omega), Nat.mul_zero, fill_zero])) $$ H14
  ihave H15 := (Has.congr d L (G' := fun j => fill (live A (bb L * 4 + ww L)) (fun e => BitVec.ofNat 32 e) (fun _ => 0#32) (128 * 0) (j 0).val) (fun j => by
    have hj : (j 0).val < 64 := (j 0).isLt
    rw [if_pos (by omega), Nat.mul_zero, fill_zero])) $$ H15
  iapply (Scf.wp_for_bind _ _ _ _ _ _ _ _ _ (inv3 d L A (bb L) (ww L) (fun j => A.s ((fill (hot A (bb L * 4 + ww L)) (srowW (bb L) (ww L)) (srowD (bb L)) 2048 (j 0).val).toNat * 128 + (j 1).val)))
    (fun t c => inv3_step d L A (bb L) (ww L) hw h30 (fun r o hr j hj => by rw [hj.1, hj.2]; exact list_score A hb hw hr) hchk t c)) $$ [H13 H14 H15]
  · unfold inv3
    isplitr
    · ipureintro; rw [Nat.mul_zero, Nat.count_zero]
    isplitl [H13]; · iexact H13
    isplitl [H14]; · iexact H14
    iexact H15
  iintro %c3 H
  rw [show Scf.trips _ _ _ = min (nhot A (bb L * 4 + ww L)) 64 from trips3 (nhot_le A _)]
  unfold inv3
  icases H with ⟨_, H13, H14, H15⟩
  ihave H14 := (Has.congr d L (G' := fun j => val A (bb L * 4 + ww L) (j 0).val) (fun j => by
    have hj : (j 0).val < 64 := (j 0).isLt
    rw [fill_live, fill_val A _ hj])) $$ H14
  ihave H15 := (Has.congr d L (G' := fun j => spotW A (bb L) (ww L) (j 0).val) (fun j => by
    have hj : (j 0).val < 64 := (j 0).isLt
    rw [fill_live, fill_spotW A hj])) $$ H15
  iapply (Scf.wp_for_bind _ _ _ _ _ _ _ _ _ (fun _ _ => iprop(Has d L a14 (fun j => val A (bb L * 4 + ww L) (j 0).val)))
    (fun t _ => absurd (lt_of_lt_of_eq t.isLt (trips4 (nhot_le A (bb L * 4 + ww L)))) (Nat.not_lt_zero _))) $$ [H14]
  · iexact H14
  iintro %_ H14
  iapply Hk
  isplitl [H2]; · iexact H2
  isplitl [H4]; · iexact H4
  isplitl [H10]; · iapply (Has.any d L) $$ H10
  isplitl [H11]; · iapply (Has.any d L) $$ H11
  isplitl [H12]; · iexact H12
  isplitl [H13]; · iapply (Has.any d L) $$ H13
  isplitl [H14]; · iexact H14
  isplitl [H15]; · iexact H15
  isplitl [H16]; · iapply (Has.any d L) $$ H16
  isplitl [Hv]; · iexact Hv
  isplitl [Hv1] <;> iassumption

end Cert.Proof

end
-- ==== Proof.Task.lean ====
/-
  One task whole: the last part, which names the candidates, gathers their rows of `x` and writes the four pieces out, and the
  three parts in order.
-/
module

public import proofs.«01_k».proof.Proof.Tile

@[expose] public section

noncomputable section

namespace Cert.Proof

open Cert.KernelIdeal Cert.KernelIdeal.Gen

open Idealize.ShloMosaic
open Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx)

variable {F : FTy → Type}

local notation "𝕄" => MT nD τ sig (HIx 1) (Elt F) ℕ UU ℕ

variable [FloatOps F] (A : Src F) (d : Dev nD) (L : grid0.Coords) {O : CellTallies nD τ sig (HIx 1)} {W : Waits sig (HIx 1)}

/-! ## The pieces of the four results -/

theorem task_at {b w k : ℕ} (hk : k < 64) : task b (w * 64 + k) = b * 4 + w := by unfold task; omega
theorem slot_at {w k : ℕ} (hk : k < 64) : (w * 64 + k) % 64 = k := by omega

/-- A candidate's value, by its batch and its column there. -/
def valG (r c : ℕ) : F .f32 := val A (task r c) (c % 64)

theorem outVal_eq (j : S8x256.Idx) : outVal A j = valG A (j 0).val (j 1).val := by unfold outVal valG; with_reducible rfl

theorem read6 (f : S8x256.Idx → F .f32) (j : S8x256.Idx) : a6.view.read (Elt F) f j = f j := rfl

theorem out6 (j : S64.Idx) : (s6 L).view.read (Elt F) (outVal A) j = val A (bb L * 4 + ww L) (j 0).val := by
  have hj : (j 0).val < 64 := (j 0).isLt
  refine (read_row a6 (off25_eq L) (G := valG A) (fun j => (read6 (outVal A) j).trans (outVal_eq A j)) j).trans ?_
  unfold valG
  rw [task_at hj, slot_at hj]

/-- A candidate's place, by its batch and its column there. -/
def idxG (r c : ℕ) : BitVec 32 := BitVec.ofNat 32 (row A (task r c) (c % 64) * 1024 + col A (task r c) (c % 64))

theorem out7 (j : S64.Idx) : (s7 L).view.read (Elt F) (outIdx A) j = idxW A (bb L) (ww L) (j 0).val := by
  have hj : (j 0).val < 64 := (j 0).isLt
  refine (read_row a7 (off25_eq L) (G := idxG A) (fun _ => rfl) j).trans ?_
  unfold idxG
  rw [task_at hj, slot_at hj, idxW]

theorem out8 (j : S64x128.Idx) : (s8 L).view.read (Elt F) (outRow A) j = A.x6 (rowW A (bb L) (ww L) (j 0).val).toNat (j 1).val := by
  have hj : (j 0).val < 64 := (j 0).isLt
  have hb := bb_lt L
  have hr := row_lt A (bb L * 4 + ww L) (k := (j 0).val)
  refine (read_block a8 (off26_eq L) (G := fun r c l => A.x6 (task r c / 4 * 1024 + row A (task r c) (c % 64)) l) (fun _ => rfl) j).trans ?_
  dsimp only
  rw [task_at hj, slot_at hj, task_div (ww_lt L), rowW, BitVec.toNat_ofNat, Nat.mod_eq_of_lt (by omega)]

theorem out9 (j : S64x128.Idx) : (s9 L).view.read (Elt F) (outCol A) j = A.x6 (colW A (bb L) (ww L) (j 0).val).toNat (j 1).val := by
  have hj : (j 0).val < 64 := (j 0).isLt
  have hb := bb_lt L
  have hr := col_lt A (bb L * 4 + ww L) (k := (j 0).val)
  refine (read_block a9 (off26_eq L) (G := fun r c l => A.x6 (task r c / 4 * 1024 + col A (task r c) (c % 64)) l) (fun _ => rfl) j).trans ?_
  dsimp only
  rw [task_at hj, slot_at hj, task_div (ww_lt L), colW, BitVec.toNat_ofNat, Nat.mod_eq_of_lt (by omega)]

/-! ## The task -/

/-- The four tables a task reads, at its share of each. -/
def Ins (q : PosShare TreeShare) (f2 : Buf (Elt F) (a2.view.loc (thr d L))) (f3 : Buf (Elt F) (a3.view.loc (thr d L))) (f4 : Buf (Elt F) (a4.view.loc (thr d L)))
    (f5 : Buf (Elt F) (a5.view.loc (thr d L))) : sProp 𝕄 :=
  iprop((a2.view.loc (thr d L) ↦{q} f2) ∗ (a3.view.loc (thr d L) ↦{q} f3) ∗ (a4.view.loc (thr d L) ↦{q} f4) ∗ (a5.view.loc (thr d L) ↦{q} f5))

/-- The task's pieces of the four results, holding what the arrays `g6`…`g9` hold there. -/
def Outs (g6 : Buf (Elt F) (a6.view.loc (thr d L))) (g7 : Buf (Elt F) (a7.view.loc (thr d L))) (g8 : Buf (Elt F) (a8.view.loc (thr d L)))
    (g9 : Buf (Elt F) (a9.view.loc (thr d L))) : sProp 𝕄 :=
  iprop(((s6 L).view.loc (thr d L) ↦[(s6 L).view.set]{fullShare} g6) ∗ ((s7 L).view.loc (thr d L) ↦[(s7 L).view.set]{fullShare} g7)
    ∗ ((s8 L).view.loc (thr d L) ↦[(s8 L).view.set]{fullShare} g8) ∗ ((s9 L).view.loc (thr d L) ↦[(s9 L).view.set]{fullShare} g9))

/-- The task's eleven scratch buffers. -/
def Scratch : sProp 𝕄 :=
  iprop(Any (F := F) d L a10 ∗ Any d L a11 ∗ Any d L a12 ∗ Any d L a13 ∗ Any d L a14 ∗ Any d L a15 ∗ Any d L a16 ∗ Any d L a17 ∗ Any d L a18 ∗ Any d L a19 ∗ Any d L a20)

/-- Its seven semaphores, all at zero. -/
def Sems : sProp 𝕄 :=
  iprop(Zero d L cc0_scratch11.sem ∗ Zero d L cc0_scoped0.sem ∗ Zero d L cc0_scoped1.sem ∗ Zero d L cc0_scoped2.sem ∗ Zero d L cc0_scoped3.sem
    ∗ Zero d L cc0_scoped4.sem ∗ Zero d L cc0_scoped5.sem)

/-- The program of task `L`. -/
abbrev sel : Prog (TpuEff nD τ sig (Elt F) Λ₀ (.scVector (cV L) (jV L))) PUnit :=
  cc0_sel (F := F) L a2 w2 a3 w3 a4 w4 a5 w5 a6 w6 a7 w7 a8 w8 a9 w9 a10 w10 a11 w11 a12 w12 a13 w13 a14 w14 a15 w15 a16 w16 a17 w17 a18 w18
    a19 w19 a20 w20 cc0_scratch11 cc0_scoped0 cc0_scoped1 cc0_scoped2 cc0_scoped3 cc0_scoped4 cc0_scoped5

set_option maxHeartbeats 2000000 in
/-- The task reads its four tables and leaves its pieces of the four results. -/
theorem sel_run {q : PosShare TreeShare} {f2 : Buf (Elt F) (a2.view.loc (thr d L))} {f3 : Buf (Elt F) (a3.view.loc (thr d L))}
    {f4 : Buf (Elt F) (a4.view.loc (thr d L))} {f5 : Buf (Elt F) (a5.view.loc (thr d L))}
    {g6 : Buf (Elt F) (a6.view.loc (thr d L))} {g7 : Buf (Elt F) (a7.view.loc (thr d L))} {g8 : Buf (Elt F) (a8.view.loc (thr d L))}
    {g9 : Buf (Elt F) (a9.view.loc (thr d L))}
    (h2 : ∀ j, a2.view.read (Elt F) f2 j = A.s ((j 0).val * 128 + (j 1).val)) (h3 : ∀ j, a3.view.read (Elt F) f3 j = A.cm ((j 0).val * 8192 + (j 1).val))
    {T4 : ℕ → ℕ → F .f32} (h4 : ∀ j, a4.view.read (Elt F) f4 j = T4 (j 0).val (j 1).val) (h40 : T4 (bb L) 0 = A.t (bb L))
    (h5 : ∀ j, a5.view.read (Elt F) f5 j = A.x6 (j 0).val (j 1).val) :
    iprop(Ins d L q f2 f3 f4 f5 ∗ Outs d L g6 g7 g8 g9 ∗ Scratch (F := F) d L ∗ Sems (F := F) d L ∗ Owing d L O W ∗ Transfers.MayWaits (thr d L) (default : HIx 1) O)
      ⊢ wp frame (wpE (defs₀ (F := F)) 𝒱₀ (thr d L) none) Set.univ (sel L)
          fun _ => iprop(Ins d L q f2 f3 f4 f5 ∗ Outs d L (outVal A) (outIdx A) (outRow A) (outCol A) ∗ Scratch (F := F) d L ∗ Sems (F := F) d L ∗ Owing d L O W) := by
  have hb := bb_lt L
  have hw := ww_lt L
  unfold Ins Outs Scratch Sems sel
  simp only [cc0_sel_eq_skeleton]
  unfold cc0_sel_skel
  iintro ⟨⟨H2, H3, H4, H5⟩, ⟨H6, H7, H8, H9⟩, ⟨H10, H11, H12, H13, H14, H15, H16, H17, H18, H19, H20⟩, ⟨Hv, Hv0, Hv1, Hv2, Hv3, Hv4, Hv5⟩, HO, #Hmw⟩
  iapply (part10_run (F := F) d L A h3) $$ [H3 H10 Hv0 HO]
  · isplitl [H3]; · iexact H3
    isplitl [H10]; · iexact H10
    isplitl [Hv0]; · iexact Hv0
    isplitl [HO]; · iexact HO
    iexact Hmw
  iintro ⟨H10, H3, Hv0, HO⟩
  dsimp only
  iapply (part11_run (F := F) d L A h2 h4 h40) $$ [H2 H4 H10 H11 H12 H13 H14 H15 H16 Hv Hv1 HO]
  · isplitl [H2]; · iexact H2
    isplitl [H4]; · iexact H4
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [Hv]; · iexact Hv
    isplitl [Hv1]; · iexact Hv1
    isplitl [HO]; · iexact HO
    iexact Hmw
  iintro ⟨H2, H4, H10, H11, H12, H13, H14, H15, H16, Hv, Hv1, HO⟩
  simp only [k0_part12_eq_skeleton]
  unfold k0_part12_skel
  simp only [Prog.lift, Prog.bind_op, Prog.bind_ret, Prog.pure_eq_ret, Prog.bind_assoc]
  ihave H17 := (Any.slots1 d L) $$ H17
  icases H17 with ⟨%E17, H17⟩
  ihave H18 := (Any.slots1 d L) $$ H18
  icases H18 with ⟨%E18, H18⟩
  iapply (Scf.wp_for_bind _ _ _ _ _ _ _ _ _ (inv5 d L A (bb L) (ww L) E17 E18) (fun t u => inv5_step d L A (bb L) (ww L) hb t u)) $$ [H12 H15 H17 H18]
  · unfold inv5
    isplitl [H12]; · iexact H12
    isplitl [H15]
    · iapply (Has.congr d L (fun j => ?_)) $$ H15
      rw [if_neg (by omega)]
    isplitl [H17]
    · iapply (Has.congr d L (fun j => ?_)) $$ H17
      rw [if_neg (by omega)]
    · iapply (Has.congr d L (fun j => ?_)) $$ H18
      rw [if_neg (by omega)]
  iintro %u H
  rw [trips5]
  unfold inv5
  icases H with ⟨H12, H15, H17, H18⟩
  ihave H15 := (Has.congr d L (G' := fun j => idxW A (bb L) (ww L) (j 0).val) (fun j => by
    have hj : (j 0).val < 64 := (j 0).isLt
    rw [if_pos (by omega)])) $$ H15
  ihave H17 := (Has.congr d L (G' := fun j => rowW A (bb L) (ww L) (j 1).val) (fun j => by
    have hj : (j 1).val < 64 := (j 1).isLt
    rw [if_pos (by omega)])) $$ H17
  ihave H18 := (Has.congr d L (G' := fun j => colW A (bb L) (ww L) (j 1).val) (fun j => by
    have hj : (j 1).val < 64 := (j 1).isLt
    rw [if_pos (by omega)])) $$ H18
  have hrow : ∀ k, k < 64 → (rowW A (bb L) (ww L) k).toNat < 8192 := fun k _ => by
    have hr := row_lt A (bb L * 4 + ww L) (k := k)
    rw [rowW, BitVec.toNat_ofNat, Nat.mod_eq_of_lt (by omega)]; omega
  have hcol : ∀ k, k < 64 → (colW A (bb L) (ww L) k).toNat < 8192 := fun k _ => by
    have hr := col_lt A (bb L * 4 + ww L) (k := k)
    rw [colW, BitVec.toNat_ofNat, Nat.mod_eq_of_lt (by omega)]; omega
  ihave H19 := (Any.has d L) $$ H19
  icases H19 with ⟨%G19, H19⟩
  iapply (wp_rows (F := F) d L (tab := a5) (dst := a19) (lst := a17) (T := A.x6) (l := rowW A (bb L) (ww L))
    (by decide) (View.set_whole _) h5 hrow) $$ [H5 H19 H17 Hv HO]
  · isplitl [H5]; · iexact H5
    isplitl [H19]; · iexact H19
    isplitl [H17]; · iexact H17
    isplitl [Hv]; · iexact Hv
    isplitl [HO]; · iexact HO
    iexact Hmw
  iintro ⟨H19, H5, H17, Hv, HO⟩
  ihave H20 := (Any.has d L) $$ H20
  icases H20 with ⟨%G20, H20⟩
  iapply (wp_rows (F := F) d L (tab := a5) (dst := a20) (lst := a18) (T := A.x6) (l := colW A (bb L) (ww L))
    (by decide) (View.set_whole _) h5 hcol) $$ [H5 H20 H18 Hv HO]
  · isplitl [H5]; · iexact H5
    isplitl [H20]; · iexact H20
    isplitl [H18]; · iexact H18
    isplitl [Hv]; · iexact Hv
    isplitl [HO]; · iexact HO
    iexact Hmw
  iintro ⟨H20, H5, H18, Hv, HO⟩
  iapply (wp_put (F := F) d L (src := a14) (dst := s6 L) (fd := g6) (outVal A) (View.dmaCredit_pos (s6 L).view (by decide)) (View.set_whole _) (out6 A L)) $$ [H14 H6 Hv2 HO]
  · isplitl [H14]; · iexact H14
    isplitl [H6]; · iexact H6
    isplitl [Hv2]; · iexact Hv2
    isplitl [HO]; · iexact HO
    iexact Hmw
  iintro ⟨H6, H14, Hv2, HO⟩
  iapply (wp_put (F := F) d L (src := a15) (dst := s7 L) (fd := g7) (outIdx A) (View.dmaCredit_pos (s7 L).view (by decide)) (View.set_whole _) (out7 A L)) $$ [H15 H7 Hv3 HO]
  · isplitl [H15]; · iexact H15
    isplitl [H7]; · iexact H7
    isplitl [Hv3]; · iexact Hv3
    isplitl [HO]; · iexact HO
    iexact Hmw
  iintro ⟨H7, H15, Hv3, HO⟩
  iapply (wp_put (F := F) d L (src := a19) (dst := s8 L) (fd := g8) (outRow A) (View.dmaCredit_pos (s8 L).view (by decide)) (View.set_whole _) (out8 A L)) $$ [H19 H8 Hv4 HO]
  · isplitl [H19]; · iexact H19
    isplitl [H8]; · iexact H8
    isplitl [Hv4]; · iexact Hv4
    isplitl [HO]; · iexact HO
    iexact Hmw
  iintro ⟨H8, H19, Hv4, HO⟩
  iapply (wp_put (F := F) d L (src := a20) (dst := s9 L) (fd := g9) (outCol A) (View.dmaCredit_pos (s9 L).view (by decide)) (View.set_whole _) (out9 A L)) $$ [H20 H9 Hv5 HO]
  · isplitl [H20]; · iexact H20
    isplitl [H9]; · iexact H9
    isplitl [Hv5]; · iexact Hv5
    isplitl [HO]; · iexact HO
    iexact Hmw
  iintro ⟨H9, H20, Hv5, HO⟩
  sl_step
  isplitl [H2 H3 H4 H5]
  · isplitl [H2]; · iexact H2
    isplitl [H3]; · iexact H3
    isplitl [H4] <;> iassumption
  isplitl [H6 H7 H8 H9]
  · isplitl [H6]; · iexact H6
    isplitl [H7]; · iexact H7
    isplitl [H8] <;> iassumption
  isplitl [H10 H11 H12 H13 H14 H15 H16 H17 H18 H19 H20]
  · isplitl [H10]; · iexact H10
    isplitl [H11]; · iexact H11
    isplitl [H12]; · iapply (Has.any d L) $$ H12
    isplitl [H13]; · iexact H13
    isplitl [H14]; · iapply (Has.any d L) $$ H14
    isplitl [H15]; · iapply (Has.any d L) $$ H15
    isplitl [H16]; · iexact H16
    isplitl [H17]; · iapply (Has.any d L) $$ H17
    isplitl [H18]; · iapply (Has.any d L) $$ H18
    isplitl [H19]; · iapply (Has.any d L) $$ H19
    iapply (Has.any d L) $$ H20
  isplitr [HO]
  · isplitl [Hv]; · iexact Hv
    isplitl [Hv0]; · iexact Hv0
    isplitl [Hv1]; · iexact Hv1
    isplitl [Hv2]; · iexact Hv2
    isplitl [Hv3]; · iexact Hv3
    isplitl [Hv4] <;> iassumption
  iexact HO

end Cert.Proof

end
-- ==== Proof.Deal.lean ====
/-
  What the launch deals the tasks: the subcore's own semaphores and buffers, and the task run from them.
-/
module

public import proofs.«01_k».proof.Proof.Task

@[expose] public section

noncomputable section

namespace Cert.Proof

open Cert.KernelIdeal Cert.KernelIdeal.Gen

open Idealize.ShloMosaic
open Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx Pay ownBufs ownSems0 ownCells ownRefs mem_ownCells mem_ownRefs)
open Idealize.ShloMosaic.Rounds

variable {F : FTy → Type}

local notation "𝕄" => MT nD τ sig (HIx 1) (Elt F) ℕ UU ℕ

variable (d : Dev nD) (L : grid0.Coords)

/-! ## The subcore's semaphores and buffers -/

abbrev cellOf (s : DmaSem sig) : GSem nD τ sig := (thr d L, .dma s)
abbrev refOf (b : Ref sig .scVector) : DevRef τ sig := (Proc.scVector (cV L) (jV L)).devRef b

theorem cell_ne {s t : DmaSem sig} (h : s ≠ t) : cellOf d L s ≠ cellOf d L t := fun e => h (SemLoc.dma.inj (Prod.ext_iff.mp e).2)
theorem mem_cell {s : DmaSem sig} (h : (SemLoc.dma s : SemLoc sig).isScoped .scVector = true) : cellOf d L s ∈ ownCells (thr d L) := mem_ownCells.mpr ⟨rfl, h⟩
theorem ref_ne {b b' : Ref sig .scVector} (h : b ≠ b') : refOf L b ≠ refOf L b' := fun e => h (Proc.devRef_injective _ e)
theorem mem_ref (b : Ref sig .scVector) (h : (refOf L b).owner = .proc (.scVector (cV L) (jV L))) : refOf L b ∈ ownRefs (τ := τ) (.scVector (cV L) (jV L)) :=
  SparseCore.Cfg.mem_ownRefs_of_owner h

/-- The seven semaphores are among the subcore's own. -/
theorem ownSems0_tile :
    (ownSems0 (thr d L) : sProp 𝕄)
      = iprop(semVal (cellOf d L cc0_scratch11.sem) 0 ∗ semVal (cellOf d L cc0_scoped0.sem) 0 ∗ semVal (cellOf d L cc0_scoped1.sem) 0 ∗ semVal (cellOf d L cc0_scoped2.sem) 0 ∗ semVal (cellOf d L cc0_scoped3.sem) 0 ∗ semVal (cellOf d L cc0_scoped4.sem) 0 ∗ semVal (cellOf d L cc0_scoped5.sem) 0
          ∗ bigSep ((((((((((((((ownCells (thr d L)).erase (cellOf d L cc0_scratch11.sem))).erase (cellOf d L cc0_scoped0.sem))).erase (cellOf d L cc0_scoped1.sem))).erase (cellOf d L cc0_scoped2.sem))).erase (cellOf d L cc0_scoped3.sem))).erase (cellOf d L cc0_scoped4.sem))).erase (cellOf d L cc0_scoped5.sem)) fun g => semVal g 0) := by
  unfold SparseCore.Cfg.ownSems0
  rw [SparseCore.bigSep_erase' (mem_cell d L (s := cc0_scratch11.sem) (by decide)),
    SparseCore.bigSep_erase' (Finset.mem_erase.mpr ⟨cell_ne d L (s := cc0_scoped0.sem) (t := cc0_scratch11.sem) (by decide), mem_cell d L (s := cc0_scoped0.sem) (by decide)⟩),
    SparseCore.bigSep_erase' (Finset.mem_erase.mpr ⟨cell_ne d L (s := cc0_scoped1.sem) (t := cc0_scoped0.sem) (by decide), Finset.mem_erase.mpr ⟨cell_ne d L (s := cc0_scoped1.sem) (t := cc0_scratch11.sem) (by decide), mem_cell d L (s := cc0_scoped1.sem) (by decide)⟩⟩),
    SparseCore.bigSep_erase' (Finset.mem_erase.mpr ⟨cell_ne d L (s := cc0_scoped2.sem) (t := cc0_scoped1.sem) (by decide), Finset.mem_erase.mpr ⟨cell_ne d L (s := cc0_scoped2.sem) (t := cc0_scoped0.sem) (by decide), Finset.mem_erase.mpr ⟨cell_ne d L (s := cc0_scoped2.sem) (t := cc0_scratch11.sem) (by decide), mem_cell d L (s := cc0_scoped2.sem) (by decide)⟩⟩⟩),
    SparseCore.bigSep_erase' (Finset.mem_erase.mpr ⟨cell_ne d L (s := cc0_scoped3.sem) (t := cc0_scoped2.sem) (by decide), Finset.mem_erase.mpr ⟨cell_ne d L (s := cc0_scoped3.sem) (t := cc0_scoped1.sem) (by decide), Finset.mem_erase.mpr ⟨cell_ne d L (s := cc0_scoped3.sem) (t := cc0_scoped0.sem) (by decide), Finset.mem_erase.mpr ⟨cell_ne d L (s := cc0_scoped3.sem) (t := cc0_scratch11.sem) (by decide), mem_cell d L (s := cc0_scoped3.sem) (by decide)⟩⟩⟩⟩),
    SparseCore.bigSep_erase' (Finset.mem_erase.mpr ⟨cell_ne d L (s := cc0_scoped4.sem) (t := cc0_scoped3.sem) (by decide), Finset.mem_erase.mpr ⟨cell_ne d L (s := cc0_scoped4.sem) (t := cc0_scoped2.sem) (by decide), Finset.mem_erase.mpr ⟨cell_ne d L (s := cc0_scoped4.sem) (t := cc0_scoped1.sem) (by decide), Finset.mem_erase.mpr ⟨cell_ne d L (s := cc0_scoped4.sem) (t := cc0_scoped0.sem) (by decide), Finset.mem_erase.mpr ⟨cell_ne d L (s := cc0_scoped4.sem) (t := cc0_scratch11.sem) (by decide), mem_cell d L (s := cc0_scoped4.sem) (by decide)⟩⟩⟩⟩⟩),
    SparseCore.bigSep_erase' (Finset.mem_erase.mpr ⟨cell_ne d L (s := cc0_scoped5.sem) (t := cc0_scoped4.sem) (by decide), Finset.mem_erase.mpr ⟨cell_ne d L (s := cc0_scoped5.sem) (t := cc0_scoped3.sem) (by decide), Finset.mem_erase.mpr ⟨cell_ne d L (s := cc0_scoped5.sem) (t := cc0_scoped2.sem) (by decide), Finset.mem_erase.mpr ⟨cell_ne d L (s := cc0_scoped5.sem) (t := cc0_scoped1.sem) (by decide), Finset.mem_erase.mpr ⟨cell_ne d L (s := cc0_scoped5.sem) (t := cc0_scoped0.sem) (by decide), Finset.mem_erase.mpr ⟨cell_ne d L (s := cc0_scoped5.sem) (t := cc0_scratch11.sem) (by decide), mem_cell d L (s := cc0_scoped5.sem) (by decide)⟩⟩⟩⟩⟩⟩)]

/-- The eleven scratch buffers are among the subcore's own. -/
theorem ownBufs_tile :
    (ownBufs (thr d L) : sProp 𝕄)
      = iprop((∃ f, ((d, refOf L cc0_scratch0) : Loc nD τ sig) ↦{fullShare} f) ∗ (∃ f, ((d, refOf L cc0_scratch1) : Loc nD τ sig) ↦{fullShare} f) ∗ (∃ f, ((d, refOf L cc0_scratch2) : Loc nD τ sig) ↦{fullShare} f) ∗ (∃ f, ((d, refOf L cc0_scratch3) : Loc nD τ sig) ↦{fullShare} f) ∗ (∃ f, ((d, refOf L cc0_scratch4) : Loc nD τ sig) ↦{fullShare} f) ∗ (∃ f, ((d, refOf L cc0_scratch5) : Loc nD τ sig) ↦{fullShare} f) ∗ (∃ f, ((d, refOf L cc0_scratch6) : Loc nD τ sig) ↦{fullShare} f) ∗ (∃ f, ((d, refOf L cc0_scratch7) : Loc nD τ sig) ↦{fullShare} f) ∗ (∃ f, ((d, refOf L cc0_scratch8) : Loc nD τ sig) ↦{fullShare} f) ∗ (∃ f, ((d, refOf L cc0_scratch9) : Loc nD τ sig) ↦{fullShare} f) ∗ (∃ f, ((d, refOf L cc0_scratch10) : Loc nD τ sig) ↦{fullShare} f)
          ∗ bigSep ((((((((((((((((((((((ownRefs (τ := τ) (.scVector (cV L) (jV L))).erase (refOf L cc0_scratch0))).erase (refOf L cc0_scratch1))).erase (refOf L cc0_scratch2))).erase (refOf L cc0_scratch3))).erase (refOf L cc0_scratch4))).erase (refOf L cc0_scratch5))).erase (refOf L cc0_scratch6))).erase (refOf L cc0_scratch7))).erase (refOf L cc0_scratch8))).erase (refOf L cc0_scratch9))).erase (refOf L cc0_scratch10)) fun b => iprop(∃ f, ((d, b) : Loc nD τ sig) ↦{fullShare} f)) := by
  unfold SparseCore.Cfg.ownBufs
  rw [SparseCore.bigSep_erase' (mem_ref L cc0_scratch0 rfl),
    SparseCore.bigSep_erase' (Finset.mem_erase.mpr ⟨ref_ne L (b := cc0_scratch1) (b' := cc0_scratch0) (by decide), mem_ref L cc0_scratch1 rfl⟩),
    SparseCore.bigSep_erase' (Finset.mem_erase.mpr ⟨ref_ne L (b := cc0_scratch2) (b' := cc0_scratch1) (by decide), Finset.mem_erase.mpr ⟨ref_ne L (b := cc0_scratch2) (b' := cc0_scratch0) (by decide), mem_ref L cc0_scratch2 rfl⟩⟩),
    SparseCore.bigSep_erase' (Finset.mem_erase.mpr ⟨ref_ne L (b := cc0_scratch3) (b' := cc0_scratch2) (by decide), Finset.mem_erase.mpr ⟨ref_ne L (b := cc0_scratch3) (b' := cc0_scratch1) (by decide), Finset.mem_erase.mpr ⟨ref_ne L (b := cc0_scratch3) (b' := cc0_scratch0) (by decide), mem_ref L cc0_scratch3 rfl⟩⟩⟩),
    SparseCore.bigSep_erase' (Finset.mem_erase.mpr ⟨ref_ne L (b := cc0_scratch4) (b' := cc0_scratch3) (by decide), Finset.mem_erase.mpr ⟨ref_ne L (b := cc0_scratch4) (b' := cc0_scratch2) (by decide), Finset.mem_erase.mpr ⟨ref_ne L (b := cc0_scratch4) (b' := cc0_scratch1) (by decide), Finset.mem_erase.mpr ⟨ref_ne L (b := cc0_scratch4) (b' := cc0_scratch0) (by decide), mem_ref L cc0_scratch4 rfl⟩⟩⟩⟩),
    SparseCore.bigSep_erase' (Finset.mem_erase.mpr ⟨ref_ne L (b := cc0_scratch5) (b' := cc0_scratch4) (by decide), Finset.mem_erase.mpr ⟨ref_ne L (b := cc0_scratch5) (b' := cc0_scratch3) (by decide), Finset.mem_erase.mpr ⟨ref_ne L (b := cc0_scratch5) (b' := cc0_scratch2) (by decide), Finset.mem_erase.mpr ⟨ref_ne L (b := cc0_scratch5) (b' := cc0_scratch1) (by decide), Finset.mem_erase.mpr ⟨ref_ne L (b := cc0_scratch5) (b' := cc0_scratch0) (by decide), mem_ref L cc0_scratch5 rfl⟩⟩⟩⟩⟩),
    SparseCore.bigSep_erase' (Finset.mem_erase.mpr ⟨ref_ne L (b := cc0_scratch6) (b' := cc0_scratch5) (by decide), Finset.mem_erase.mpr ⟨ref_ne L (b := cc0_scratch6) (b' := cc0_scratch4) (by decide), Finset.mem_erase.mpr ⟨ref_ne L (b := cc0_scratch6) (b' := cc0_scratch3) (by decide), Finset.mem_erase.mpr ⟨ref_ne L (b := cc0_scratch6) (b' := cc0_scratch2) (by decide), Finset.mem_erase.mpr ⟨ref_ne L (b := cc0_scratch6) (b' := cc0_scratch1) (by decide), Finset.mem_erase.mpr ⟨ref_ne L (b := cc0_scratch6) (b' := cc0_scratch0) (by decide), mem_ref L cc0_scratch6 rfl⟩⟩⟩⟩⟩⟩),
    SparseCore.bigSep_erase' (Finset.mem_erase.mpr ⟨ref_ne L (b := cc0_scratch7) (b' := cc0_scratch6) (by decide), Finset.mem_erase.mpr ⟨ref_ne L (b := cc0_scratch7) (b' := cc0_scratch5) (by decide), Finset.mem_erase.mpr ⟨ref_ne L (b := cc0_scratch7) (b' := cc0_scratch4) (by decide), Finset.mem_erase.mpr ⟨ref_ne L (b := cc0_scratch7) (b' := cc0_scratch3) (by decide), Finset.mem_erase.mpr ⟨ref_ne L (b := cc0_scratch7) (b' := cc0_scratch2) (by decide), Finset.mem_erase.mpr ⟨ref_ne L (b := cc0_scratch7) (b' := cc0_scratch1) (by decide), Finset.mem_erase.mpr ⟨ref_ne L (b := cc0_scratch7) (b' := cc0_scratch0) (by decide), mem_ref L cc0_scratch7 rfl⟩⟩⟩⟩⟩⟩⟩),
    SparseCore.bigSep_erase' (Finset.mem_erase.mpr ⟨ref_ne L (b := cc0_scratch8) (b' := cc0_scratch7) (by decide), Finset.mem_erase.mpr ⟨ref_ne L (b := cc0_scratch8) (b' := cc0_scratch6) (by decide), Finset.mem_erase.mpr ⟨ref_ne L (b := cc0_scratch8) (b' := cc0_scratch5) (by decide), Finset.mem_erase.mpr ⟨ref_ne L (b := cc0_scratch8) (b' := cc0_scratch4) (by decide), Finset.mem_erase.mpr ⟨ref_ne L (b := cc0_scratch8) (b' := cc0_scratch3) (by decide), Finset.mem_erase.mpr ⟨ref_ne L (b := cc0_scratch8) (b' := cc0_scratch2) (by decide), Finset.mem_erase.mpr ⟨ref_ne L (b := cc0_scratch8) (b' := cc0_scratch1) (by decide), Finset.mem_erase.mpr ⟨ref_ne L (b := cc0_scratch8) (b' := cc0_scratch0) (by decide), mem_ref L cc0_scratch8 rfl⟩⟩⟩⟩⟩⟩⟩⟩),
    SparseCore.bigSep_erase' (Finset.mem_erase.mpr ⟨ref_ne L (b := cc0_scratch9) (b' := cc0_scratch8) (by decide), Finset.mem_erase.mpr ⟨ref_ne L (b := cc0_scratch9) (b' := cc0_scratch7) (by decide), Finset.mem_erase.mpr ⟨ref_ne L (b := cc0_scratch9) (b' := cc0_scratch6) (by decide), Finset.mem_erase.mpr ⟨ref_ne L (b := cc0_scratch9) (b' := cc0_scratch5) (by decide), Finset.mem_erase.mpr ⟨ref_ne L (b := cc0_scratch9) (b' := cc0_scratch4) (by decide), Finset.mem_erase.mpr ⟨ref_ne L (b := cc0_scratch9) (b' := cc0_scratch3) (by decide), Finset.mem_erase.mpr ⟨ref_ne L (b := cc0_scratch9) (b' := cc0_scratch2) (by decide), Finset.mem_erase.mpr ⟨ref_ne L (b := cc0_scratch9) (b' := cc0_scratch1) (by decide), Finset.mem_erase.mpr ⟨ref_ne L (b := cc0_scratch9) (b' := cc0_scratch0) (by decide), mem_ref L cc0_scratch9 rfl⟩⟩⟩⟩⟩⟩⟩⟩⟩),
    SparseCore.bigSep_erase' (Finset.mem_erase.mpr ⟨ref_ne L (b := cc0_scratch10) (b' := cc0_scratch9) (by decide), Finset.mem_erase.mpr ⟨ref_ne L (b := cc0_scratch10) (b' := cc0_scratch8) (by decide), Finset.mem_erase.mpr ⟨ref_ne L (b := cc0_scratch10) (b' := cc0_scratch7) (by decide), Finset.mem_erase.mpr ⟨ref_ne L (b := cc0_scratch10) (b' := cc0_scratch6) (by decide), Finset.mem_erase.mpr ⟨ref_ne L (b := cc0_scratch10) (b' := cc0_scratch5) (by decide), Finset.mem_erase.mpr ⟨ref_ne L (b := cc0_scratch10) (b' := cc0_scratch4) (by decide), Finset.mem_erase.mpr ⟨ref_ne L (b := cc0_scratch10) (b' := cc0_scratch3) (by decide), Finset.mem_erase.mpr ⟨ref_ne L (b := cc0_scratch10) (b' := cc0_scratch2) (by decide), Finset.mem_erase.mpr ⟨ref_ne L (b := cc0_scratch10) (b' := cc0_scratch1) (by decide), Finset.mem_erase.mpr ⟨ref_ne L (b := cc0_scratch10) (b' := cc0_scratch0) (by decide), mem_ref L cc0_scratch10 rfl⟩⟩⟩⟩⟩⟩⟩⟩⟩⟩)] <;> rfl

end Cert.Proof

end
-- ==== Proof.Launch.lean ====
/-
  The kernel's launch: what the call hands each task and what comes back, the shares of the four tables and the pieces of
  the four results.
-/
module

public import proofs.«01_k».proof.Proof.Deal

@[expose] public section

noncomputable section

namespace Cert.Proof

open Cert.KernelIdeal Cert.KernelIdeal.Gen

open Idealize.ShloMosaic
open Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx Pay ownBufs ownSems0 ownCells ownRefs mem_ownCells mem_ownRefs)
open Idealize.ShloMosaic.Rounds

variable {F : FTy → Type}

local notation "𝕄" => MT nD τ sig (HIx 1) (Elt F) ℕ UU ℕ

/-! ## The tables' shares -/

/-- A points-to at a share splits over any finite set, with something left. -/
theorem shares {I : Type} [DecidableEq I] (S : Finset I) : ∀ q : PosShare TreeShare, ∃ qs : I → PosShare TreeShare, ∃ r : PosShare TreeShare,
    ∀ (ℓ : Loc nD τ sig) (f : Buf (Elt F) ℓ), (ℓ ↦{q} f : sProp 𝕄) ⊢ iprop((bigSep S fun i => ℓ ↦{qs i} f) ∗ ℓ ↦{r} f) := by
  induction S using Finset.induction_on with
  | empty =>
    intro q
    refine ⟨fun _ => q, q, fun ℓ f => ?_⟩
    rw [bigSep_empty]
    iintro H
    isplitr; · iempintro
    iexact H
  | insert a S ha ih =>
    intro q
    obtain ⟨qs, r, h⟩ := ih q.right
    refine ⟨Function.update qs a q.left, r, fun ℓ f => ?_⟩
    rw [SparseCore.bigSep_insert' ha, Function.update_self,
      bigSep_congr (Φ := fun i => (ℓ ↦{Function.update qs a q.left i} f : sProp 𝕄)) (Ψ := fun i => (ℓ ↦{qs i} f : sProp 𝕄)) (fun i hi => by
        rw [Function.update_of_ne (fun e : i = a => ha (e ▸ hi))])]
    iintro H
    ihave H := (pointsTo_share (ℓ := ℓ) (f := f) (PosShare.mem_left_op_right q)).1 $$ H
    icases H with ⟨H1, H2⟩
    ihave H2 := (h ℓ f) $$ H2
    icases H2 with ⟨H2, H3⟩
    isplitr [H3]
    · isplitl [H1]; · iexact H1
      iexact H2
    iexact H3

variable (F) in
/-- The share of each table task `(c, i)` holds. -/
def share : Fin 2 × Fin 16 → PosShare TreeShare := Classical.choose (shares (F := F) (Finset.univ : Finset (Fin 2 × Fin 16)) fullShare)

theorem share_deal (ℓ : Loc nD τ sig) (f : Buf (Elt F) ℓ) :
    (ℓ ↦{fullShare} f : sProp 𝕄) ⊢ bigSep Finset.univ fun p : Fin 2 × Fin 16 => ℓ ↦{share F p} f := by
  obtain ⟨r, h⟩ := Classical.choose_spec (shares (F := F) (Finset.univ : Finset (Fin 2 × Fin 16)) fullShare)
  iintro H
  ihave H := (h ℓ f) $$ H
  icases H with ⟨H, -⟩
  iexact H

/-! ## The results' pieces -/

def coordsV (c : Fin (grid0.bound 0)) (s : Fin (grid0.bound 1)) : grid0.Coords :=
  fun | 0 => c | 1 => s | ⟨_ + 2, h⟩ => absurd h (Nat.not_lt.2 (Nat.le_add_left _ _))

/-- The task of a pair. -/
abbrev at' (p : Fin 2 × Fin 16) : grid0.Coords := coordsV p.1 p.2

theorem mem6 (L : grid0.Coords) (j : S8x256.Idx) :
    j ∈ (s6 L).view.set ↔ (j 0).val = bb L ∧ ww L * 64 ≤ (j 1).val ∧ (j 1).val < ww L * 64 + 64 := by
  have e : (s6 L).view.set = (Rect.unit (s := S8x256) (k0_off25 L) S1x64.size (k0_off25_inb L)).set := by
    show ((a6.view.slice (Rect.unit (s := S8x256) (k0_off25 L) S1x64.size (k0_off25_inb L))).reshape S64 squeezes_S1x64_S64.numel_eq).set = _
    rw [View.set_reshape, View.set_slice]; exact Finset.map_refl
  refine (Finset.ext_iff.mp e j).trans ?_
  rw [Rect.mem_set_unit, off25_eq]
  refine ⟨fun h => ?_, fun h a => ?_⟩
  · have h0 := h 0
    have h1 := h 1
    change bb L ≤ (j 0).val ∧ (j 0).val < bb L + 1 at h0
    change ww L * 64 ≤ (j 1).val ∧ (j 1).val < ww L * 64 + 64 at h1
    omega
  · match a with
    | 0 => show bb L ≤ (j 0).val ∧ (j 0).val < bb L + 1; omega
    | 1 => exact h.2

theorem mem8 (L : grid0.Coords) (j : S8x256x128.Idx) :
    j ∈ (s8 L).view.set ↔ (j 0).val = bb L ∧ ww L * 64 ≤ (j 1).val ∧ (j 1).val < ww L * 64 + 64 := by
  have e : (s8 L).view.set = (Rect.unit (s := S8x256x128) (k0_off26 L) S1x64x128.size (k0_off26_inb L)).set := by
    show ((a8.view.slice (Rect.unit (s := S8x256x128) (k0_off26 L) S1x64x128.size (k0_off26_inb L))).reshape S64x128 squeezes_S1x64x128_S64x128.numel_eq).set = _
    rw [View.set_reshape, View.set_slice]; exact Finset.map_refl
  refine (Finset.ext_iff.mp e j).trans ?_
  rw [Rect.mem_set_unit, off26_eq]
  refine ⟨fun h => ?_, fun h a => ?_⟩
  · have h0 := h 0
    have h1 := h 1
    change bb L ≤ (j 0).val ∧ (j 0).val < bb L + 1 at h0
    change ww L * 64 ≤ (j 1).val ∧ (j 1).val < ww L * 64 + 64 at h1
    omega
  · match a with
    | 0 => show bb L ≤ (j 0).val ∧ (j 0).val < bb L + 1; omega
    | 1 => exact h.2
    | 2 => show 0 ≤ (j 2).val ∧ (j 2).val < 0 + 128; exact ⟨Nat.zero_le _, lt_of_lt_of_eq (j 2).isLt rfl⟩

theorem mem7 (L : grid0.Coords) (j : S8x256.Idx) :
    j ∈ (s7 L).view.set ↔ (j 0).val = bb L ∧ ww L * 64 ≤ (j 1).val ∧ (j 1).val < ww L * 64 + 64 := mem6 L j
theorem mem9 (L : grid0.Coords) (j : S8x256x128.Idx) :
    j ∈ (s9 L).view.set ↔ (j 0).val = bb L ∧ ww L * 64 ≤ (j 1).val ∧ (j 1).val < ww L * 64 + 64 := mem8 L j

/-- A task is told by its batch and its quarter, -/
theorem task_inj {p p' : Fin 2 × Fin 16} (hb : bb (at' p) = bb (at' p')) (hw : ww (at' p) = ww (at' p')) : p = p' := by
  change p.1.val * 4 + p.2.val / 4 = p'.1.val * 4 + p'.2.val / 4 at hb
  change p.2.val % 4 = p'.2.val % 4 at hw
  have h1 := p.2.isLt
  have h2 := p'.2.isLt
  exact Prod.ext (Fin.ext (by omega)) (Fin.ext (by omega))

/-- and each batch and quarter has one. -/
theorem task_surj {b w : ℕ} (hb : b < 8) (hw : w < 4) : ∃ p : Fin 2 × Fin 16, bb (at' p) = b ∧ ww (at' p) = w := by
  refine ⟨(⟨b / 4, by omega⟩, ⟨b % 4 * 4 + w, by omega⟩), ?_, ?_⟩
  · show b / 4 * 4 + (b % 4 * 4 + w) / 4 = b; omega
  · show (b % 4 * 4 + w) % 4 = w; omega

/-- Pieces told apart so are disjoint and cover. -/
theorem pieces_disjoint {I : Type} [DecidableEq I] {K : Fin 2 × Fin 16 → Finset I} {r c : I → ℕ}
    (h : ∀ p j, j ∈ K p ↔ r j = bb (at' p) ∧ ww (at' p) * 64 ≤ c j ∧ c j < ww (at' p) * 64 + 64) :
    ∀ p ∈ (Finset.univ : Finset (Fin 2 × Fin 16)), ∀ p' ∈ (Finset.univ : Finset (Fin 2 × Fin 16)), p ≠ p' → Disjoint (K p) (K p') := by
  intro p _ p' _ hne
  rw [Finset.disjoint_left]
  intro j hj hj'
  rw [h] at hj hj'
  exact hne (task_inj (hj.1.symm.trans hj'.1) (by omega))

theorem pieces_cover {I : Type} [DecidableEq I] [Fintype I] {K : Fin 2 × Fin 16 → Finset I} {r c : I → ℕ}
    (h : ∀ p j, j ∈ K p ↔ r j = bb (at' p) ∧ ww (at' p) * 64 ≤ c j ∧ c j < ww (at' p) * 64 + 64) (hr : ∀ j, r j < 8) (hc : ∀ j, c j < 256) :
    (Finset.univ : Finset (Fin 2 × Fin 16)).biUnion K = Finset.univ := by
  refine Finset.eq_univ_iff_forall.mpr fun j => Finset.mem_biUnion.mpr ?_
  have h1 := hc j
  obtain ⟨p, hb, hw⟩ := task_surj (hr j) (w := c j / 64) (by omega)
  exact ⟨p, Finset.mem_univ _, (h p j).mpr ⟨hb.symm, by omega, by omega⟩⟩

abbrev l6 (d : Dev nD) : Loc nD τ sig := (SparseCore.T d).loc main_v6_0
abbrev l7 (d : Dev nD) : Loc nD τ sig := (SparseCore.T d).loc main_v6_1
abbrev l8 (d : Dev nD) : Loc nD τ sig := (SparseCore.T d).loc main_v6_2
abbrev l9 (d : Dev nD) : Loc nD τ sig := (SparseCore.T d).loc main_v6_3
abbrev set6 (p : Fin 2 × Fin 16) : Finset S8x256.Idx := (s6 (at' p)).view.set
abbrev set7 (p : Fin 2 × Fin 16) : Finset S8x256.Idx := (s7 (at' p)).view.set
abbrev set8 (p : Fin 2 × Fin 16) : Finset S8x256x128.Idx := (s8 (at' p)).view.set
abbrev set9 (p : Fin 2 × Fin 16) : Finset S8x256x128.Idx := (s9 (at' p)).view.set

theorem pieces6 (d : Dev nD) (f : Buf (Elt F) (l6 d)) :
    (l6 d ↦{fullShare} f : sProp 𝕄) = bigSep Finset.univ fun p : Fin 2 × Fin 16 => l6 d ↦[set6 p]{fullShare} f := by
  have hm := fun p (j : S8x256.Idx) => mem6 (at' p) j
  rw [← pointsTo_biUnion Finset.univ (ℓ := l6 d) set6 (pieces_disjoint (r := fun j : S8x256.Idx => (j 0).val) (c := fun j => (j 1).val) hm)]
  exact congrArg (fun s => (l6 d ↦[s]{fullShare} f : sProp 𝕄)) (pieces_cover (r := fun j : S8x256.Idx => (j 0).val) (c := fun j => (j 1).val) hm (fun j => (j 0).isLt) (fun j => (j 1).isLt)).symm
theorem pieces7 (d : Dev nD) (f : Buf (Elt F) (l7 d)) :
    (l7 d ↦{fullShare} f : sProp 𝕄) = bigSep Finset.univ fun p : Fin 2 × Fin 16 => l7 d ↦[set7 p]{fullShare} f := by
  have hm := fun p (j : S8x256.Idx) => mem7 (at' p) j
  rw [← pointsTo_biUnion Finset.univ (ℓ := l7 d) set7 (pieces_disjoint (r := fun j : S8x256.Idx => (j 0).val) (c := fun j => (j 1).val) hm)]
  exact congrArg (fun s => (l7 d ↦[s]{fullShare} f : sProp 𝕄)) (pieces_cover (r := fun j : S8x256.Idx => (j 0).val) (c := fun j => (j 1).val) hm (fun j => (j 0).isLt) (fun j => (j 1).isLt)).symm
theorem pieces8 (d : Dev nD) (f : Buf (Elt F) (l8 d)) :
    (l8 d ↦{fullShare} f : sProp 𝕄) = bigSep Finset.univ fun p : Fin 2 × Fin 16 => l8 d ↦[set8 p]{fullShare} f := by
  have hm := fun p (j : S8x256x128.Idx) => mem8 (at' p) j
  rw [← pointsTo_biUnion Finset.univ (ℓ := l8 d) set8 (pieces_disjoint (r := fun j : S8x256x128.Idx => (j 0).val) (c := fun j => (j 1).val) hm)]
  exact congrArg (fun s => (l8 d ↦[s]{fullShare} f : sProp 𝕄)) (pieces_cover (r := fun j : S8x256x128.Idx => (j 0).val) (c := fun j => (j 1).val) hm (fun j => (j 0).isLt) (fun j => (j 1).isLt)).symm
theorem pieces9 (d : Dev nD) (f : Buf (Elt F) (l9 d)) :
    (l9 d ↦{fullShare} f : sProp 𝕄) = bigSep Finset.univ fun p : Fin 2 × Fin 16 => l9 d ↦[set9 p]{fullShare} f := by
  have hm := fun p (j : S8x256x128.Idx) => mem9 (at' p) j
  rw [← pointsTo_biUnion Finset.univ (ℓ := l9 d) set9 (pieces_disjoint (r := fun j : S8x256x128.Idx => (j 0).val) (c := fun j => (j 1).val) hm)]
  exact congrArg (fun s => (l9 d ↦[s]{fullShare} f : sProp 𝕄)) (pieces_cover (r := fun j : S8x256x128.Idx => (j 0).val) (c := fun j => (j 1).val) hm (fun j => (j 0).isLt) (fun j => (j 1).isLt)).symm

/-! ## What the handshakes carry -/

abbrev b0 : DevRef τ sig := Proc.devRef .tc (main_v0 : Ref sig .tc)
abbrev b1 : DevRef τ sig := Proc.devRef .tc (main_v1 : Ref sig .tc)
abbrev b2 : DevRef τ sig := Proc.devRef .tc (main_v2 : Ref sig .tc)
abbrev b5 : DevRef τ sig := Proc.devRef .tc (main_v5 : Ref sig .tc)
abbrev b6 : DevRef τ sig := Proc.devRef .tc (main_v6_0 : Ref sig .tc)
abbrev b7 : DevRef τ sig := Proc.devRef .tc (main_v6_1 : Ref sig .tc)
abbrev b8 : DevRef τ sig := Proc.devRef .tc (main_v6_2 : Ref sig .tc)
abbrev b9 : DevRef τ sig := Proc.devRef .tc (main_v6_3 : Ref sig .tc)

variable [FloatOps F] (Wd : Dev nD → Valuation τ sig (Elt F)) (A : Dev nD → Src F)

/-- The four tables hold what the sources say. -/
structure Reads (V : Valuation τ sig (Elt F)) (A : Src F) : Prop where
  h2 : ∀ j : S65536x128.Idx, V b0 j = A.s ((j 0).val * 128 + (j 1).val)
  h3 : ∀ j : S8x8192.Idx, V b1 j = A.cm ((j 0).val * 8192 + (j 1).val)
  h4 : ∃ T4 : ℕ → ℕ → F .f32, (∀ j : S8x128.Idx, V b2 j = T4 (j 0).val (j 1).val) ∧ ∀ b, b < 8 → T4 b 0 = A.t b
  h5 : ∀ j : S8192x128.Idx, V b5 j = A.x6 (j 0).val (j 1).val

/-- What task `L` gets: its share of each table, its pieces of the results at what they hold. -/
def goAt (d : Dev nD) (p : Fin 2 × Fin 16) : sProp 𝕄 :=
  iprop(Ins (F := F) d (at' p) (share F p) (Wd d b0) (Wd d b1) (Wd d b2) (Wd d b5)
    ∗ Outs d (at' p) (Wd d b6) (Wd d b7) (Wd d b8) (Wd d b9))
/-- What it leaves: its pieces, selected. -/
def tdAt (d : Dev nD) (p : Fin 2 × Fin 16) : sProp 𝕄 := Outs d (at' p) (outVal (A d)) (outIdx (A d)) (outRow (A d)) (outCol (A d))

instance goAt_storable (d : Dev nD) (p : Fin 2 × Fin 16) : BI.Storable (upEmb : UEmb _ 𝕄) (goAt Wd d p) := by
  unfold goAt Ins Outs; infer_instance
instance tdAt_storable (d : Dev nD) (p : Fin 2 × Fin 16) : BI.Storable (upEmb : UEmb _ 𝕄) (tdAt A d p) := by
  unfold tdAt Outs; infer_instance

/-- The call takes each core's tasks' parts and brings back what they leave. -/
def P : (K (F := F)).Pay (nD := nD) (Val := Elt F) (Name := ℕ) (U := UU) where
  st := fun q d c => match q with | 0 => bigSep Finset.univ fun i : Fin 16 => goAt Wd d (Fin.cast nCore_zero c, i)
  dn := fun q d c => match q with | 0 => bigSep Finset.univ fun i : Fin 16 => tdAt A d (Fin.cast nCore_zero c, i)
  go := fun q d c i => match q with | 0 => goAt Wd d (Fin.cast nCore_zero c, Fin.cast nSub_zero i)
  td := fun q d c i => match q with | 0 => tdAt A d (Fin.cast nCore_zero c, Fin.cast nSub_zero i)
  x := fun _ _ => iprop(emp)

instance P_storable : (P (F := F) Wd A).IsStorable where
  st q d c := match q with
    | 0 => (inferInstance : BI.Storable (upEmb : UEmb _ 𝕄) (bigSep Finset.univ fun i : Fin 16 => goAt Wd d (Fin.cast nCore_zero c, i)))
  dn q d c := match q with
    | 0 => (inferInstance : BI.Storable (upEmb : UEmb _ 𝕄) (bigSep Finset.univ fun i : Fin 16 => tdAt A d (Fin.cast nCore_zero c, i)))
  go q d c i := match q with
    | 0 => (inferInstance : BI.Storable (upEmb : UEmb _ 𝕄) (goAt Wd d (Fin.cast nCore_zero c, Fin.cast nSub_zero i)))
  td q d c i := match q with
    | 0 => (inferInstance : BI.Storable (upEmb : UEmb _ 𝕄) (tdAt A d (Fin.cast nCore_zero c, Fin.cast nSub_zero i)))

/-! ## The task's obligation -/

section Tile

variable (d : Dev nD)

set_option maxHeartbeats 2000000 in
/-- The task of a pair, from what the launch hands its subcore. -/
theorem tile_body (hF : (K (F := F)).Facts) (hR : Reads (Wd d) (A d)) (p : Fin 2 × Fin 16) (O : CellTallies nD τ sig (HIx 1)) (W : Waits sig (HIx 1)) (hO : ∀ g, O g none = 0) :
    iprop(levAts (K (F := F)).L (K (F := F)).lev ∗ emp ∗ goAt Wd d p
        ∗ scopedBufs (V d (cV (at' p)) (jV (at' p))) ∗ scopedSems0 (V d (cV (at' p)) (jV (at' p))) ∗ owes (V d (cV (at' p)) (jV (at' p))) O W)
      ⊢ wp frame (wpE (defs₀ (F := F)) 𝒱₀ (V d (cV (at' p)) (jV (at' p))) none) Set.univ (sel (at' p))
          fun _ => iprop(tdAt A d p
            ∗ scopedBufs (V d (cV (at' p)) (jV (at' p))) ∗ scopedSems0 (V d (cV (at' p)) (jV (at' p)))
            ∗ ∃ W', ⌜∀ p ∈ W', p ∈ W ∨ p.2 = none⌝ ∗ owes (V d (cV (at' p)) (jV (at' p))) O W') := by
  obtain ⟨T4, h4, h40⟩ := hR.h4
  rw [(K (F := F)).scopedBufs_V hF d (cV (at' p)) (jV (at' p)), SparseCore.Cfg.scopedSems0_V (Val := Elt F) d (cV (at' p)) (jV (at' p)), ownSems0_tile, ownBufs_tile]
  unfold goAt tdAt
  iintro ⟨#Hlv, -, ⟨Hins, Houts⟩, ⟨B0, B1, B2, B3, B4, B5, B6, B7, B8, B9, B10, HB⟩, ⟨S0, S1, S2, S3, S4, S5, S6, HS⟩, HO⟩
  ihave Hmw := (show levAts (K (F := F)).L (K (F := F)).lev ⊢ Transfers.MayWaits (V d (cV (at' p)) (jV (at' p))) (default : HIx 1) O from
    (K (F := F)).mayWaits_none (thr := V d (cV (at' p)) (jV (at' p))) hO) $$ Hlv
  iapply (wp_wand frame _ _) $$ [Hins Houts B0 B1 B2 B3 B4 B5 B6 B7 B8 B9 B10 S0 S1 S2 S3 S4 S5 S6 HO Hmw]
  · iapply (sel_run (F := F) (A d) d (at' p) (O := O) (W := W) hR.h2 hR.h3 h4 (h40 _ (bb_lt _)) hR.h5)
    isplitl [Hins]; · iexact Hins
    isplitl [Houts]; · iexact Houts
    isplitl [B0 B1 B2 B3 B4 B5 B6 B7 B8 B9 B10]
    · unfold Scratch Any
      isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      iexact B10
    isplitl [S0 S1 S2 S3 S4 S5 S6]
    · unfold Sems Zero
      isplitl [S0]; · iexact S0
      isplitl [S1]; · iexact S1
      isplitl [S2]; · iexact S2
      isplitl [S3]; · iexact S3
      isplitl [S4]; · iexact S4
      isplitl [S5]; · iexact S5
      iexact S6
    isplitl [HO]
    · unfold Owing
      iexists W
      isplitr
      · ipureintro; exact fun _ h => Or.inl h
      iexact HO
    iexact Hmw
  iintro %u ⟨-, Houts, Hsc, Hse, HO⟩
  unfold Scratch Any Sems Zero Owing
  icases Hsc with ⟨B0, B1, B2, B3, B4, B5, B6, B7, B8, B9, B10⟩
  icases Hse with ⟨S0, S1, S2, S3, S4, S5, S6⟩
  isplitl [Houts]; · iexact Houts
  isplitl [HB B0 B1 B2 B3 B4 B5 B6 B7 B8 B9 B10]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    iexact HB
  isplitl [HS S0 S1 S2 S3 S4 S5 S6]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact HS
  iexact HO

theorem defs₀_vector (c : Fin τ.nSC) (s : Fin τ.nSub) :
    defs₀ (F := F) (.scVector c s) 0 () = SparseCore.onTile hcore0 hsub0 (fun c s => sel (F := F) (coordsV c s)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Tile

set_option maxRecDepth 16384 in
theorem tileObl (hF : (K (F := F)).Facts) (hR : ∀ d, Reads (Wd d) (A d)) : (K (F := F)).TileObl (D (F := F)) 𝒱 (P Wd A) v₀ 0 := by
  intro d c i O W hO _ _
  simp only [show (P Wd A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body Wd A d hF (hR d) (Fin.cast nCore_zero c, Fin.cast nSub_zero i) O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem go0_eq (d : Dev nD) (c : Fin ((K (F := F)).nCore 0)) :
    (bigSep Finset.univ fun i : Fin ((K (F := F)).nSub 0) => (P Wd A).go 0 d c i) = bigSep Finset.univ fun i : Fin 16 => goAt Wd d (Fin.cast nCore_zero c, i) :=
  bigSep_tasks (F := F) (fun i => goAt Wd d (Fin.cast nCore_zero c, i))
theorem td0_eq (d : Dev nD) (c : Fin ((K (F := F)).nCore 0)) :
    (bigSep Finset.univ fun i : Fin ((K (F := F)).nSub 0) => (P Wd A).td 0 d c i) = bigSep Finset.univ fun i : Fin 16 => tdAt A d (Fin.cast nCore_zero c, i) :=
  bigSep_tasks (F := F) (fun i => tdAt A d (Fin.cast nCore_zero c, i))

theorem st_eq (d : Dev nD) (c : Fin ((K (F := F)).nCore 0)) :
    (P Wd A).st 0 d c = bigSep Finset.univ fun i : Fin 16 => goAt Wd d (Fin.cast nCore_zero c, i) := rfl
theorem dn_eq (d : Dev nD) (c : Fin ((K (F := F)).nCore 0)) :
    (P Wd A).dn 0 d c = bigSep Finset.univ fun i : Fin 16 => tdAt A d (Fin.cast nCore_zero c, i) := rfl

theorem vecSplit : (K (F := F)).VecSplit' (P Wd A) 0 := by
  intro d c
  rw [go0_eq, td0_eq]
  rw [st_eq, dn_eq]
  generalize (bigSep Finset.univ fun i : Fin 16 => goAt Wd d (Fin.cast nCore_zero c, i) : sProp 𝕄) = X
  generalize (bigSep Finset.univ fun i : Fin 16 => tdAt A d (Fin.cast nCore_zero c, i) : sProp 𝕄) = Y
  iintro H; imodintro
  isplitl [H]; · iexact H
  iintro H
  iexact H

/-! ## The call's parts, from the arrays whole and back -/

theorem st0_eq (d : Dev nD) : (bigSep Finset.univ fun c : Fin ((K (F := F)).nCore 0) => (P Wd A).st 0 d c)
    = bigSep Finset.univ fun p : Fin 2 × Fin 16 => goAt Wd d p := by
  rw [bigSep_univ_prod]
  exact bigSep_cores (fun c => bigSep Finset.univ fun i : Fin 16 => goAt Wd d (c, i))
theorem dn0_eq (d : Dev nD) : (bigSep Finset.univ fun c : Fin ((K (F := F)).nCore 0) => (P Wd A).dn 0 d c)
    = bigSep Finset.univ fun p : Fin 2 × Fin 16 => tdAt A d p := by
  rw [bigSep_univ_prod]
  exact bigSep_cores (fun c => bigSep Finset.univ fun i : Fin 16 => tdAt A d (c, i))

/-- The four tables and the four results, whole, are the tasks' parts. -/
theorem go_of (d : Dev nD) :
    iprop((((d, b0) : Loc nD τ sig) ↦{fullShare} Wd d b0) ∗ (((d, b1) : Loc nD τ sig) ↦{fullShare} Wd d b1) ∗ (((d, b2) : Loc nD τ sig) ↦{fullShare} Wd d b2)
        ∗ (((d, b5) : Loc nD τ sig) ↦{fullShare} Wd d b5) ∗ (l6 d ↦{fullShare} Wd d b6) ∗ (l7 d ↦{fullShare} Wd d b7) ∗ (l8 d ↦{fullShare} Wd d b8) ∗ (l9 d ↦{fullShare} Wd d b9))
      ⊢ (bigSep Finset.univ fun p : Fin 2 × Fin 16 => goAt Wd d p : sProp 𝕄) := by
  unfold goAt Ins Outs
  rw [bigSep_sep', bigSep_sep', bigSep_sep', bigSep_sep', bigSep_sep', bigSep_sep', bigSep_sep']
  iintro ⟨H0, H1, H2, H5, H6, H7, H8, H9⟩
  isplitl [H0 H1 H2 H5]
  · isplitl [H0]; · iapply (share_deal (F := F) (d, b0) (Wd d b0)) $$ H0
    isplitl [H1]; · iapply (share_deal (F := F) (d, b1) (Wd d b1)) $$ H1
    isplitl [H2]; · iapply (share_deal (F := F) (d, b2) (Wd d b2)) $$ H2
    iapply (share_deal (F := F) (d, b5) (Wd d b5)) $$ H5
  · isplitl [H6]; · iapply (Entails.of_eq (pieces6 (F := F) d (Wd d b6))) $$ H6
    isplitl [H7]; · iapply (Entails.of_eq (pieces7 (F := F) d (Wd d b7))) $$ H7
    isplitl [H8]; · iapply (Entails.of_eq (pieces8 (F := F) d (Wd d b8))) $$ H8
    iapply (Entails.of_eq (pieces9 (F := F) d (Wd d b9))) $$ H9

/-- The pieces the tasks leave are the four results whole. -/
theorem td_to (d : Dev nD) :
    (bigSep Finset.univ fun p : Fin 2 × Fin 16 => tdAt A d p : sProp 𝕄)
      ⊢ iprop((l6 d ↦{fullShare} outVal (A d)) ∗ (l7 d ↦{fullShare} outIdx (A d)) ∗ (l8 d ↦{fullShare} outRow (A d)) ∗ (l9 d ↦{fullShare} outCol (A d))) := by
  unfold tdAt Outs
  rw [bigSep_sep', bigSep_sep', bigSep_sep']
  iintro ⟨H6, H7, H8, H9⟩
  isplitl [H6]; · iapply (Entails.of_eq (pieces6 (F := F) d (outVal (A d))).symm) $$ H6
  isplitl [H7]; · iapply (Entails.of_eq (pieces7 (F := F) d (outIdx (A d))).symm) $$ H7
  isplitl [H8]; · iapply (Entails.of_eq (pieces8 (F := F) d (outRow (A d))).symm) $$ H8
  iapply (Entails.of_eq (pieces9 (F := F) d (outCol (A d))).symm) $$ H9

end Cert.Proof

end
-- ==== Proof.Host.lean ====
/-
  What the four tables hold when the call starts: the arguments reshaped, and `x` cut to its first six lanes and padded back.
-/
module

public import proofs.«01_k».proof.Proof.Launch
public import Idealize.ShloMosaic.Lib.KernelVsHost
public import Idealize.ShloMosaic.Lib.Pipeline.Value

@[expose] public section

noncomputable section

namespace Cert.Proof

open Cert.KernelIdeal Cert.KernelIdeal.Gen

open Idealize.ShloMosaic
open Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx Pay ownBufs ownSems0 ownCells ownRefs mem_ownCells mem_ownRefs)
open Idealize.ShloMosaic.Rounds
open Idealize.ShloMosaic.StableHlo

variable {F : FTy → Type}

local notation "𝕄" => MT nD τ sig (HIx 1) (Elt F) ℕ UU ℕ

/-! ## The sources -/

/-- The sources of the selection, by flat position, of the four arguments and the padding lane. -/
def src (f0 : S8x1024x1024.Idx → F .f32) (f1 : S8x8x1024.Idx → F .f32) (f2 : S8x1x128.Idx → F .f32) (f3 : S8x1024x128.Idx → F .f32) (z : F .f32) : Src F where
  s n := f0 (ValueIdx.ix3 ⟨n / 1048576 % 8, Nat.mod_lt _ (by omega)⟩ ⟨n / 1024 % 1024, Nat.mod_lt _ (by omega)⟩ ⟨n % 1024, Nat.mod_lt _ (by omega)⟩)
  cm n := f1 (ValueIdx.ix3 ⟨n / 8192 % 8, Nat.mod_lt _ (by omega)⟩ ⟨n / 1024 % 8, Nat.mod_lt _ (by omega)⟩ ⟨n % 1024, Nat.mod_lt _ (by omega)⟩)
  t b := f2 (ValueIdx.ix3 ⟨b % 8, Nat.mod_lt _ (by omega)⟩ 0 0)
  x6 r l := if l < 6 then f3 (ValueIdx.ix3 ⟨r / 1024 % 8, Nat.mod_lt _ (by omega)⟩ ⟨r % 1024, Nat.mod_lt _ (by omega)⟩ ⟨l % 128, Nat.mod_lt _ (by omega)⟩) else z

abbrev c0 : DevRef τ sig := Proc.devRef .tc (main_arg0 : Ref sig .tc)
abbrev c1 : DevRef τ sig := Proc.devRef .tc (main_arg1 : Ref sig .tc)
abbrev c2 : DevRef τ sig := Proc.devRef .tc (main_arg2 : Ref sig .tc)
abbrev c3 : DevRef τ sig := Proc.devRef .tc (main_arg3 : Ref sig .tc)
abbrev e3 : DevRef τ sig := Proc.devRef .tc (main_v3 : Ref sig .tc)
abbrev ec : DevRef τ sig := Proc.devRef .tc (main_c : Ref sig .tc)
abbrev e0 : DevRef τ sig := Proc.devRef .tc (main_call0_v0 : Ref sig .tc)
abbrev e4 : DevRef τ sig := Proc.devRef .tc (main_v4 : Ref sig .tc)

variable [FloatOps F]

/-- The lane the kernel pads with. -/
def zero : F .f32 := FloatOps.sitofp .f32 (0#32 : BitVec 32)

/-- The host operations before the call. -/
abbrev hops : List (HloOp τ sig (Elt F)) :=
  [StableHlo.reshape main_arg0 main_v0 (rfl : (.f32 : EltTy) = .f32) shapeCasts_S8x1024x1024_S65536x128,
   StableHlo.reshape main_arg1 main_v1 (rfl : (.f32 : EltTy) = .f32) shapeCasts_S8x8x1024_S8x8192,
   StableHlo.reshape main_arg2 main_v2 (rfl : (.f32 : EltTy) = .f32) shapeCasts_S8x1x128_S8x128,
   StableHlo.unary main_arg3 main_v3 ((extractStridedSlice S8x1024x6 ![0, 0, 0] · slices_S8x1024x128_S8x1024x6_0_0_0) : (⟨S8x1024x128, .f32⟩ : BufTy).Contents (Elt F) → (⟨S8x1024x6, .f32⟩ : BufTy).Contents (Elt F)),
   StableHlo.nullary main_c (constantI S_ 32 0#32),
   StableHlo.TRef.unary (StableHlo.TRef.of (T := ⟨S_, .i32⟩) main_c) (StableHlo.TRef.of (T := ⟨S_, .f32⟩) main_call0_v0) (sitofp .f32),
   StableHlo.TRef.binary (StableHlo.TRef.of (T := ⟨S8x1024x6, .f32⟩) main_v3) (StableHlo.TRef.of (T := ⟨S_, .f32⟩) main_call0_v0) (StableHlo.TRef.of (T := ⟨S8x1024x128, .f32⟩) main_v4) (fun x v => pad S8x1024x128 ![0, 0, 0] ![0, 0, 122] ![0, 0, 0] x v pads_S8x1024x6_S8x1024x128_000_000_01220 h_S_),
   StableHlo.reshape main_v4 main_v5 (rfl : (.f32 : EltTy) = .f32) shapeCasts_S8x1024x128_S8192x128]

theorem main_eq (d : Dev nD) : main (F := F) d = (seq hops >>= fun _ => sc.run d 0 >>= fun _ => pure ⟨⟩) := rfl

variable (m : (ℓ : Loc nD τ sig) → Buf (Elt F) ℓ) (ρ : Dev nD → PrngReg)

def V0 (d : Dev nD) : Valuation τ sig (Elt F) := fun b => m (d, b)
/-- What the arrays hold when the call starts. -/
def V1 (d : Dev nD) : Valuation τ sig (Elt F) := after hops (V0 m d)

/-- The sources the launch memory gives. -/
def A1 (d : Dev nD) : Src F := src (m (d, c0)) (m (d, c1)) (m (d, c2)) (m (d, c3)) zero

theorem V1_b0 (d : Dev nD) : V1 m d b0 = shapeCast S65536x128 (m (d, c0)) shapeCasts_S8x1024x1024_S65536x128 := by
  unfold V1
  simp only [hops, StableHlo.TRef.binary, StableHlo.TRef.unary, StableHlo.TRef.toBuf, StableHlo.TRef.ofBuf, cast_eq]
  after_results_simp
  rfl
theorem V1_b1 (d : Dev nD) : V1 m d b1 = shapeCast S8x8192 (m (d, c1)) shapeCasts_S8x8x1024_S8x8192 := by
  unfold V1
  simp only [hops, StableHlo.TRef.binary, StableHlo.TRef.unary, StableHlo.TRef.toBuf, StableHlo.TRef.ofBuf, cast_eq]
  after_results_simp
  rfl
theorem V1_b2 (d : Dev nD) : V1 m d b2 = shapeCast S8x128 (m (d, c2)) shapeCasts_S8x1x128_S8x128 := by
  unfold V1
  simp only [hops, StableHlo.TRef.binary, StableHlo.TRef.unary, StableHlo.TRef.toBuf, StableHlo.TRef.ofBuf, cast_eq]
  after_results_simp
  rfl
theorem V1_b5 (d : Dev nD) : V1 m d b5 = shapeCast S8192x128 (pad S8x1024x128 ![0, 0, 0] ![0, 0, 122] ![0, 0, 0]
    (extractStridedSlice S8x1024x6 ![0, 0, 0] (m (d, c3)) slices_S8x1024x128_S8x1024x6_0_0_0) (sitofp (F := F) .f32 (constantI S_ 32 0#32))
    pads_S8x1024x6_S8x1024x128_000_000_01220 h_S_) shapeCasts_S8x1024x128_S8192x128 := by
  unfold V1
  simp only [hops, StableHlo.TRef.binary, StableHlo.TRef.unary, StableHlo.TRef.toBuf, StableHlo.TRef.ofBuf, cast_eq]
  after_results_simp
  rfl
theorem V1_c0 (d : Dev nD) : V1 m d c0 = m (d, c0) := by
  unfold V1
  simp only [hops, StableHlo.TRef.binary, StableHlo.TRef.unary, StableHlo.TRef.toBuf, StableHlo.TRef.ofBuf, cast_eq]
  after_results_simp
  rfl
theorem V1_c1 (d : Dev nD) : V1 m d c1 = m (d, c1) := by
  unfold V1
  simp only [hops, StableHlo.TRef.binary, StableHlo.TRef.unary, StableHlo.TRef.toBuf, StableHlo.TRef.ofBuf, cast_eq]
  after_results_simp
  rfl
theorem V1_c2 (d : Dev nD) : V1 m d c2 = m (d, c2) := by
  unfold V1
  simp only [hops, StableHlo.TRef.binary, StableHlo.TRef.unary, StableHlo.TRef.toBuf, StableHlo.TRef.ofBuf, cast_eq]
  after_results_simp
  rfl
theorem V1_c3 (d : Dev nD) : V1 m d c3 = m (d, c3) := by
  unfold V1
  simp only [hops, StableHlo.TRef.binary, StableHlo.TRef.unary, StableHlo.TRef.toBuf, StableHlo.TRef.ofBuf, cast_eq]
  after_results_simp
  rfl

/-- The tables hold what the sources say. -/
theorem reads (d : Dev nD) : Reads (V1 m d) (A1 m d) where
  h2 j := by
    have h0 : (j 0).val < 65536 := (j 0).isLt
    have h1 : (j 1).val < 128 := (j 1).isLt
    rw [V1_b0]
    refine shapeCast_apply (s := S8x1024x1024) (t := S65536x128) _ _ j _ ?_
    rw [Shape.rowMajor_val_two, Shape.rowMajor_val_three]
    show (((j 0).val * 128 + (j 1).val) / 1048576 % 8 * 1024 + ((j 0).val * 128 + (j 1).val) / 1024 % 1024) * 1024 + ((j 0).val * 128 + (j 1).val) % 1024 = (j 0).val * 128 + (j 1).val
    omega
  h3 j := by
    have h0 : (j 0).val < 8 := (j 0).isLt
    have h1 : (j 1).val < 8192 := (j 1).isLt
    rw [V1_b1]
    refine shapeCast_apply (s := S8x8x1024) (t := S8x8192) _ _ j _ ?_
    rw [Shape.rowMajor_val_two, Shape.rowMajor_val_three]
    show (((j 0).val * 8192 + (j 1).val) / 8192 % 8 * 8 + ((j 0).val * 8192 + (j 1).val) / 1024 % 8) * 1024 + ((j 0).val * 8192 + (j 1).val) % 1024 = (j 0).val * 8192 + (j 1).val
    omega
  h4 := by
    refine ⟨fun b l => (m (d, c2) : S8x1x128.Idx → F .f32) (ValueIdx.ix3 ⟨b % 8, Nat.mod_lt _ (by omega)⟩ 0 ⟨l % 128, Nat.mod_lt _ (by omega)⟩), fun j => ?_, fun b hb => rfl⟩
    have h0 : (j 0).val < 8 := (j 0).isLt
    have h1 : (j 1).val < 128 := (j 1).isLt
    rw [V1_b2]
    refine shapeCast_apply (s := S8x1x128) (t := S8x128) _ _ j _ ?_
    rw [Shape.rowMajor_val_two, Shape.rowMajor_val_three]
    show ((j 0).val % 8 * 1 + 0) * 128 + (j 1).val % 128 = (j 0).val * 128 + (j 1).val
    omega
  h5 j := by
    have h0 : (j 0).val < 8192 := (j 0).isLt
    have h1 : (j 1).val < 128 := (j 1).isLt
    rw [V1_b5]
    refine (shapeCast_apply (s := S8x1024x128) (t := S8192x128) _ _ j
      (ValueIdx.ix3 ⟨(j 0).val / 1024 % 8, Nat.mod_lt _ (by omega)⟩ ⟨(j 0).val % 1024, Nat.mod_lt _ (by omega)⟩ ⟨(j 1).val % 128, Nat.mod_lt _ (by omega)⟩) ?_).trans ?_
    · rw [Shape.rowMajor_val_two, Shape.rowMajor_val_three]
      show ((j 0).val / 1024 % 8 * 1024 + (j 0).val % 1024) * 128 + (j 1).val % 128 = (j 0).val * 128 + (j 1).val
      omega
    · unfold A1 src
      dsimp only
      by_cases hl : (j 1).val < 6
      · rw [if_pos hl]
        refine (pad_apply_of_inside (s := S8x1024x6) (t := S8x1024x128) ![0, 0, 0] ![0, 0, 122] ![0, 0, 0] _ _ _ _ _
          (ValueIdx.ix3 ⟨(j 0).val / 1024 % 8, Nat.mod_lt _ (by omega)⟩ ⟨(j 0).val % 1024, Nat.mod_lt _ (by omega)⟩ ⟨(j 1).val % 6, Nat.mod_lt _ (by omega)⟩) ?_).trans ?_
        · intro a
          match a with
          | 0 => show (j 0).val / 1024 % 8 = 0 + (j 0).val / 1024 % 8 * (0 + 1); omega
          | 1 => show (j 0).val % 1024 = 0 + (j 0).val % 1024 * (0 + 1); omega
          | 2 => show (j 1).val % 128 = 0 + (j 1).val % 6 * (0 + 1); omega
        · refine extractStridedSlice_apply (s := S8x1024x128) (t := S8x1024x6) ![0, 0, 0] _ _ _ _ fun a => ?_
          match a with
          | 0 => show (j 0).val / 1024 % 8 = 0 + (j 0).val / 1024 % 8; omega
          | 1 => show (j 0).val % 1024 = 0 + (j 0).val % 1024; omega
          | 2 => show (j 1).val % 128 = 0 + (j 1).val % 6; omega
      · rw [if_neg hl]
        refine (pad_apply_of_not_inside (s := S8x1024x6) (t := S8x1024x128) ![0, 0, 0] ![0, 0, 122] ![0, 0, 0] _ _ _ _ _ 2 ?_).trans rfl
        intro h
        have h := h.2.2
        change ((j 1).val % 128 - 0) / (0 + 1) < 6 at h
        omega

/-! ## The arrays of the TensorCore -/

/-- The sixteen arrays, all unscoped. -/
abbrev S16 : Finset (DevRef τ sig) := {b0, b1, b2, b5, b6, b7, b8, b9, c0, c1, c2, c3, e3, ec, e0, e4}

theorem held_S16 (d : Dev nD) (W : Valuation τ sig (Elt F)) :
    (held (T d) S16 W : sProp 𝕄)
      = iprop((((d, b0) : Loc nD τ sig) ↦{fullShare} W b0) ∗ (((d, b1) : Loc nD τ sig) ↦{fullShare} W b1) ∗ (((d, b2) : Loc nD τ sig) ↦{fullShare} W b2) ∗ (((d, b5) : Loc nD τ sig) ↦{fullShare} W b5) ∗ (((d, b6) : Loc nD τ sig) ↦{fullShare} W b6) ∗ (((d, b7) : Loc nD τ sig) ↦{fullShare} W b7) ∗ (((d, b8) : Loc nD τ sig) ↦{fullShare} W b8) ∗ (((d, b9) : Loc nD τ sig) ↦{fullShare} W b9) ∗ (((d, c0) : Loc nD τ sig) ↦{fullShare} W c0) ∗ (((d, c1) : Loc nD τ sig) ↦{fullShare} W c1) ∗ (((d, c2) : Loc nD τ sig) ↦{fullShare} W c2) ∗ (((d, c3) : Loc nD τ sig) ↦{fullShare} W c3) ∗ (((d, e3) : Loc nD τ sig) ↦{fullShare} W e3) ∗ (((d, ec) : Loc nD τ sig) ↦{fullShare} W ec) ∗ (((d, e0) : Loc nD τ sig) ↦{fullShare} W e0) ∗ (((d, e4) : Loc nD τ sig) ↦{fullShare} W e4)) := by
  unfold held S16
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) S16 (V0 m d) := by
  rw [held_S16]
  unfold unscopedBufs
  rw [show (Finset.univ.filter fun b : Ref sig .tc => ¬ b.isScoped) = {main_v0, main_v1, main_v2, main_v5, main_v6_0, main_v6_1, main_v6_2, main_v6_3, main_arg0, main_arg1, main_arg2, main_arg3, main_v3, main_c, main_call0_v0, main_v4} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

theorem hops_sub : (hops : List (HloOp τ sig (Elt F))).Forall fun op => op.bufs ⊆ S16 := by
  refine ⟨?_, ?_, ?_, ?_, ?_, ?_, ?_, ?_⟩
  · exact show ({c0, b0} : Finset (DevRef τ sig)) ⊆ S16 by decide
  · exact show ({c1, b1} : Finset (DevRef τ sig)) ⊆ S16 by decide
  · exact show ({c2, b2} : Finset (DevRef τ sig)) ⊆ S16 by decide
  · exact show ({c3, e3} : Finset (DevRef τ sig)) ⊆ S16 by decide
  · exact show ({ec} : Finset (DevRef τ sig)) ⊆ S16 by decide
  · exact show ({ec, e0} : Finset (DevRef τ sig)) ⊆ S16 by decide
  · exact show ({e3, e0, e4} : Finset (DevRef τ sig)) ⊆ S16 by decide
  · exact show ({e4, b5} : Finset (DevRef τ sig)) ⊆ S16 by decide

theorem hops_fresh : ∀ op ∈ (hops : List (HloOp τ sig (Elt F))), op.fresh = ∅ := by
  intro _ h
  (repeat (cases h with | head => rfl | tail _ h => ?_)); exact nomatch h

end Cert.Proof

end
-- ==== Proof.Main.lean ====
/-
  The kernel's run: from any memory, every execution ends with the arguments as they were, the four results selected, and every
  semaphore at zero.
-/
module

public import proofs.«01_k».proof.Proof.Host

@[expose] public section

noncomputable section

namespace Cert.Proof

open Cert.KernelIdeal Cert.KernelIdeal.Gen

open Idealize.ShloMosaic
open Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx Pay ownBufs ownSems0 ownCells ownRefs mem_ownCells mem_ownRefs)
open Idealize.ShloMosaic.Rounds
open Idealize.ShloMosaic.StableHlo

variable {F : FTy → Type}

local notation "𝕄" => MT nD τ sig (HIx 1) (Elt F) ℕ UU ℕ

variable [FloatOps F] (m : (ℓ : Loc nD τ sig) → Buf (Elt F) ℓ) (ρ : Dev nD → PrngReg)

/-! ## The launch element of the certificate's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (V1 m) (A1 m)).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) (V1 m) (A1 m)).x q thr) = bigSep Finset.univ fun _ => iprop(emp) from
    bigSep_congr fun _ _ => bigSep_univ_of_subsingleton (0 : Fin 1), bigSep_emp']
  iempintro

/-! ## @main on the TensorCore -/

/-- What @main leaves the claims: the arguments at their launch contents, the results selected. -/
def FIN (d : Dev nD) : sProp 𝕄 :=
  iprop((((d, c0) : Loc nD τ sig) ↦{fullShare} m (d, c0)) ∗ (((d, c1) : Loc nD τ sig) ↦{fullShare} m (d, c1)) ∗ (((d, c2) : Loc nD τ sig) ↦{fullShare} m (d, c2)) ∗ (((d, c3) : Loc nD τ sig) ↦{fullShare} m (d, c3)) ∗ (((d, b6) : Loc nD τ sig) ↦{fullShare} outVal (A1 m d)) ∗ (((d, b7) : Loc nD τ sig) ↦{fullShare} outIdx (A1 m d)) ∗ (((d, b8) : Loc nD τ sig) ↦{fullShare} outRow (A1 m d)) ∗ (((d, b9) : Loc nD τ sig) ↦{fullShare} outCol (A1 m d)))

/-- @main on device `d`'s TensorCore: the host operations, then the call from the tables and the results. -/
theorem hmain (κ : GSem nD τ sig → ℕ) (d : Dev nD) :
    iprop((K (F := F)).ctx EH (P (V1 m) (A1 m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d S16 (fun _ => sc.run d 0 >>= fun _ => pure ⟨⟩) hops (List.forall_iff_forall_mem.mp hops_sub) hops_fresh (V0 m d)) $$ [Hb Hheld]
  · isplitl [Hb] <;> iassumption
  iintro ⟨Hb, Hheld⟩
  ihave Hh := (Entails.of_eq (held_S16 (F := F) d (after hops (V0 m d)))) $$ Hheld
  icases Hh with ⟨Hb0, Hb1, Hb2, Hb5, Hb6, Hb7, Hb8, Hb9, Hc0, Hc1, Hc2, Hc3, -, -, -, -⟩
  rw [wp_bind]
  iapply ((K (F := F)).wp_run (D (F := F)) 𝒱 (EH := EH) (P := P (V1 m) (A1 m)) κ d 0) $$ [Hst Hb Hts Hb0 Hb1 Hb2 Hb5 Hb6 Hb7 Hb8 Hb9 Hc0 Hc1 Hc2 Hc3]
  isplitr; · iexact Hctx
  isplitl [Hst]; · iexact Hst
  isplitl [Hb0 Hb1 Hb2 Hb5 Hb6 Hb7 Hb8 Hb9]
  · rw [st0_eq]
    iapply (go_of (V1 m) d)
    isplitl [Hb0]; · iexact Hb0
    isplitl [Hb1]; · iexact Hb1
    isplitl [Hb2]; · iexact Hb2
    isplitl [Hb5]; · iexact Hb5
    isplitl [Hb6]; · iexact Hb6
    isplitl [Hb7]; · iexact Hb7
    isplitl [Hb8]; · iexact Hb8
    iexact Hb9
  iintro ⟨Hst, Hdn⟩
  ihave Hdn := (Entails.of_eq (dn0_eq (V1 m) (A1 m) d)) $$ Hdn
  ihave Hdn := (td_to (A1 m) d) $$ Hdn
  icases Hdn with ⟨Hb6, Hb7, Hb8, Hb9⟩
  rw [wp_pure]
  imodintro
  isplitl [Hst]; · iexact Hst
  isplitr [Hb Hts]
  · unfold FIN
    rw [← V1_c0 m d, ← V1_c1 m d, ← V1_c2 m d, ← V1_c3 m d]
    isplitl [Hc0]; · iexact Hc0
    isplitl [Hc1]; · iexact Hc1
    isplitl [Hc2]; · iexact Hc2
    isplitl [Hc3]; · iexact Hc3
    isplitl [Hb6]; · iexact Hb6
    isplitl [Hb7]; · iexact Hb7
    isplitl [Hb8]; · iexact Hb8
    iexact Hb9
  isplitl [Hb] <;> iassumption

/-! ## The final state -/

/-- What the claims read of device `d`'s final state. -/
def fq (d : Dev nD) (s' : Phys nD τ sig (Elt F)) : Prop :=
  s'.mem.mem (d, c0) = m (d, c0) ∧ s'.mem.mem (d, c1) = m (d, c1) ∧ s'.mem.mem (d, c2) = m (d, c2) ∧ s'.mem.mem (d, c3) = m (d, c3) ∧ s'.mem.mem (d, b6) = outVal (A1 m d) ∧ s'.mem.mem (d, b7) = outIdx (A1 m d) ∧ s'.mem.mem (d, b8) = outRow (A1 m d) ∧ s'.mem.mem (d, b9) = outCol (A1 m d)

set_option maxRecDepth 16384 in
theorem hfin (d : Dev nD) (s' : Phys nD τ sig (Elt F)) : iprop(FIN m d ∗ SI s') ⊢ (⌜fq m d s'⌝ : sProp 𝕄) := by
  unfold FIN
  iintro ⟨⟨Hc0, Hc1, Hc2, Hc3, Hb6, Hb7, Hb8, Hb9⟩, HSI⟩
  ihave H := (persistent_entails_right (SI_pointsTo_agree (st := s') (ℓ := (d, c0)) (I := Finset.univ) (q := fullShare) (f := m (d, c0)))) $$ [HSI Hc0]
  · isplitl [HSI] <;> iassumption
  icases H with ⟨%h0, HSI, -⟩
  ihave H := (persistent_entails_right (SI_pointsTo_agree (st := s') (ℓ := (d, c1)) (I := Finset.univ) (q := fullShare) (f := m (d, c1)))) $$ [HSI Hc1]
  · isplitl [HSI] <;> iassumption
  icases H with ⟨%h1, HSI, -⟩
  ihave H := (persistent_entails_right (SI_pointsTo_agree (st := s') (ℓ := (d, c2)) (I := Finset.univ) (q := fullShare) (f := m (d, c2)))) $$ [HSI Hc2]
  · isplitl [HSI] <;> iassumption
  icases H with ⟨%h2, HSI, -⟩
  ihave H := (persistent_entails_right (SI_pointsTo_agree (st := s') (ℓ := (d, c3)) (I := Finset.univ) (q := fullShare) (f := m (d, c3)))) $$ [HSI Hc3]
  · isplitl [HSI] <;> iassumption
  icases H with ⟨%h3, HSI, -⟩
  ihave H := (persistent_entails_right (SI_pointsTo_agree (st := s') (ℓ := (d, b6)) (I := Finset.univ) (q := fullShare) (f := outVal (A1 m d)))) $$ [HSI Hb6]
  · isplitl [HSI] <;> iassumption
  icases H with ⟨%h4, HSI, -⟩
  ihave H := (persistent_entails_right (SI_pointsTo_agree (st := s') (ℓ := (d, b7)) (I := Finset.univ) (q := fullShare) (f := outIdx (A1 m d)))) $$ [HSI Hb7]
  · isplitl [HSI] <;> iassumption
  icases H with ⟨%h5, HSI, -⟩
  ihave H := (persistent_entails_right (SI_pointsTo_agree (st := s') (ℓ := (d, b8)) (I := Finset.univ) (q := fullShare) (f := outRow (A1 m d)))) $$ [HSI Hb8]
  · isplitl [HSI] <;> iassumption
  icases H with ⟨%h6, HSI, -⟩
  ihave H := (persistent_entails_right (SI_pointsTo_agree (st := s') (ℓ := (d, b9)) (I := Finset.univ) (q := fullShare) (f := outCol (A1 m d)))) $$ [HSI Hb9]
  · isplitl [HSI] <;> iassumption
  icases H with ⟨%h7, HSI, -⟩
  ipureintro
  exact ⟨funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i), funext fun i => h6 i (Finset.mem_univ i), funext fun i => h7 i (Finset.mem_univ i)⟩

/-! ## The run -/

/-- Every device's arguments as they were and its results selected, every semaphore at zero. -/
def QC : PUnit × MemSt nD τ sig (Elt F) → Prop := fun r =>
  (∀ d : Dev nD, r.2.mem (d, c0) = m (d, c0) ∧ r.2.mem (d, c1) = m (d, c1) ∧ r.2.mem (d, c2) = m (d, c2) ∧ r.2.mem (d, c3) = m (d, c3) ∧ r.2.mem (d, b6) = outVal (A1 m d) ∧ r.2.mem (d, b7) = outIdx (A1 m d) ∧ r.2.mem (d, b8) = outRow (A1 m d) ∧ r.2.mem (d, b9) = outCol (A1 m d)) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (V1 m) (A1 m)) (A := ∅) facts v₀
    (fun q hq => match q with | 0 => nomatch hq)
    (fun q _ => match q with | 0 => tileObl (V1 m) (A1 m) facts (reads m))
    (fun q _ => match q with | 0 => SparseCore.Cfg.VecSplit.of_plain (vecSplit (V1 m) (A1 m)))
    m ρ main (fun _ => iprop(emp)) (FIN m) (u₀ (F := F)) (sep_elim_left.trans (hu₀ m)) (hmain m ρ) (fq m) (hfin m) (QC m) (fun _ h hz => ⟨h, hz⟩)

end Cert.Proof

end
-- ==== Proof.Frames.lean ====
/-
  The four frames: each program runs, leaves its arguments as they were and every semaphore at zero. The kernel's two are
  its one run read at the two float instances, the reference's two likewise.
-/
module

public import proofs.«01_k».proof.Proof.Main
public import proofs.«01_k».proof.Proof.Gen.Kernel
public import proofs.«01_k».proof.Proof.Gen.ReferenceIdeal.Run

@[expose] public section

noncomputable section

/-! ## The reference's side conditions, those of its ideal reading -/

namespace Cert.Reference.Gen

instance facts₀ : Cert.Reference.Facts₀ where
  bcast_S64_S1x64_1 := @Cert.ReferenceIdeal.Gen.bcast_S64_S1x64_1
  bcast_S32_S32x1_0 := @Cert.ReferenceIdeal.Gen.bcast_S32_S32x1_0
  bcast_S_S32x1 := @Cert.ReferenceIdeal.Gen.bcast_S_S32x1
  slices_S8x1x128_S8x1x1_0_0_0 := @Cert.ReferenceIdeal.Gen.slices_S8x1x128_S8x1x1_0_0_0
  shapeCasts_S8x1x1_S8 := @Cert.ReferenceIdeal.Gen.shapeCasts_S8x1x1_S8
  bcast_S8_S8x4_0 := @Cert.ReferenceIdeal.Gen.bcast_S8_S8x4_0
  shapeCasts_S8x4_S32 := @Cert.ReferenceIdeal.Gen.shapeCasts_S8x4_S32
  shapeCasts_S8x8x1024_S32x2048 := @Cert.ReferenceIdeal.Gen.shapeCasts_S8x8x1024_S32x2048
  bcast_S32x1_S32x2048_0_1 := @Cert.ReferenceIdeal.Gen.bcast_S32x1_S32x2048_0_1
  transposes_S32x2048_S2048x32_1_0 := @Cert.ReferenceIdeal.Gen.transposes_S32x2048_S2048x32_1_0
  natLt_1_32 := @Cert.ReferenceIdeal.Gen.natLt_1_32
  reducesTo_S2048x32_S32_d0 := @Cert.ReferenceIdeal.Gen.reducesTo_S2048x32_S32_d0
  h_S_ := @Cert.ReferenceIdeal.Gen.h_S_
  bcast_S_S_ := @Cert.ReferenceIdeal.Gen.bcast_S_S_
  reduceWindows_S2048x32_S2048x32_w2048s1p2047_0_w1s1p0_0 := @Cert.ReferenceIdeal.Gen.reduceWindows_S2048x32_S2048x32_w2048s1p2047_0_w1s1p0_0
  bcast_S_S1x64 := @Cert.ReferenceIdeal.Gen.bcast_S_S1x64
  bcast_S1x64_S32x64_0_1 := @Cert.ReferenceIdeal.Gen.bcast_S1x64_S32x64_0_1
  bcast_S32x1_S32x64_0_1 := @Cert.ReferenceIdeal.Gen.bcast_S32x1_S32x64_0_1
  bcast_S2048x32_S2048x32x1_0_1 := @Cert.ReferenceIdeal.Gen.bcast_S2048x32_S2048x32x1_0_1
  bcast_S32x64_S1x32x64_1_2 := @Cert.ReferenceIdeal.Gen.bcast_S32x64_S1x32x64_1_2
  bcast_S2048x32x1_S2048x32x64_0_1_2 := @Cert.ReferenceIdeal.Gen.bcast_S2048x32x1_S2048x32x64_0_1_2
  bcast_S1x32x64_S2048x32x64_0_1_2 := @Cert.ReferenceIdeal.Gen.bcast_S1x32x64_S2048x32x64_0_1_2
  reducesTo_S2048x32x64_S32x64_d0 := @Cert.ReferenceIdeal.Gen.reducesTo_S2048x32x64_S32x64_d0
  bcast_S_S32x64 := @Cert.ReferenceIdeal.Gen.bcast_S_S32x64
  shapeCasts_S8x1024x1024_S65536x128 := @Cert.ReferenceIdeal.Gen.shapeCasts_S8x1024x1024_S65536x128
  shapeCasts_S32x64_S2048 := @Cert.ReferenceIdeal.Gen.shapeCasts_S32x64_S2048
  bcast_S_S2048 := @Cert.ReferenceIdeal.Gen.bcast_S_S2048
  bcast_S2048_S2048x1_0 := @Cert.ReferenceIdeal.Gen.bcast_S2048_S2048x1_0
  shapeCasts_S2048x128_S32x64x128 := @Cert.ReferenceIdeal.Gen.shapeCasts_S2048x128_S32x64x128
  bcast_S32_S32x1x1_0 := @Cert.ReferenceIdeal.Gen.bcast_S32_S32x1x1_0
  bcast_S32x1x1_S32x64x128_0_1_2 := @Cert.ReferenceIdeal.Gen.bcast_S32x1x1_S32x64x128_0_1_2
  bcast_S32x64_S32x64x1_0_1 := @Cert.ReferenceIdeal.Gen.bcast_S32x64_S32x64x1_0_1
  bcast_S32x64x1_S32x64x128_0_1_2 := @Cert.ReferenceIdeal.Gen.bcast_S32x64x1_S32x64x128_0_1_2
  shapeCasts_S32x64x128_S32x8192 := @Cert.ReferenceIdeal.Gen.shapeCasts_S32x64x128_S32x8192
  transposes_S32x8192_S8192x32_1_0 := @Cert.ReferenceIdeal.Gen.transposes_S32x8192_S8192x32_1_0
  reducesTo_S8192x32_S32_d0 := @Cert.ReferenceIdeal.Gen.reducesTo_S8192x32_S32_d0
  reduceWindows_S8192x32_S8192x32_w8192s1p8191_0_w1s1p0_0 := @Cert.ReferenceIdeal.Gen.reduceWindows_S8192x32_S8192x32_w8192s1p8191_0_w1s1p0_0
  bcast_S8192x32_S8192x32x1_0_1 := @Cert.ReferenceIdeal.Gen.bcast_S8192x32_S8192x32x1_0_1
  bcast_S8192x32x1_S8192x32x64_0_1_2 := @Cert.ReferenceIdeal.Gen.bcast_S8192x32x1_S8192x32x64_0_1_2
  bcast_S1x32x64_S8192x32x64_0_1_2 := @Cert.ReferenceIdeal.Gen.bcast_S1x32x64_S8192x32x64_0_1_2
  reducesTo_S8192x32x64_S32x64_d0 := @Cert.ReferenceIdeal.Gen.reducesTo_S8192x32x64_S32x64_d0
  shapeCasts_S2048_S32x64 := @Cert.ReferenceIdeal.Gen.shapeCasts_S2048_S32x64
  shapeCasts_S8x1024x1024_S8388608 := @Cert.ReferenceIdeal.Gen.shapeCasts_S8x1024x1024_S8388608
  bcast_S_S128 := @Cert.ReferenceIdeal.Gen.bcast_S_S128
  bcast_S128_S8x1024x128_2 := @Cert.ReferenceIdeal.Gen.bcast_S128_S8x1024x128_2
  bcast_S_S8x1024x128 := @Cert.ReferenceIdeal.Gen.bcast_S_S8x1024x128
  shapeCasts_S8x1024x128_S8192x128 := @Cert.ReferenceIdeal.Gen.shapeCasts_S8x1024x128_S8192x128
  shapeCasts_S32x64_S8x256 := @Cert.ReferenceIdeal.Gen.shapeCasts_S32x64_S8x256
  shapeCasts_S2048x128_S8x256x128 := @Cert.ReferenceIdeal.Gen.shapeCasts_S2048x128_S8x256x128
  gather_S65536x128_S2048x1_S2048x128_1_0_n_n_0_1_1128_wf := @Cert.ReferenceIdeal.Gen.gather_S65536x128_S2048x1_S2048x128_1_0_n_n_0_1_1128_wf
  gather_S2048_S2048x1_S2048_n_0_n_n_0_1_1_wf := @Cert.ReferenceIdeal.Gen.gather_S2048_S2048x1_S2048_n_0_n_n_0_1_1_wf
  gather_S8388608_S2048x1_S2048_n_0_n_n_0_1_1_wf := @Cert.ReferenceIdeal.Gen.gather_S8388608_S2048x1_S2048_n_0_n_n_0_1_1_wf
  gather_S8192x128_S2048x1_S2048x128_1_0_n_n_0_1_1128_wf := @Cert.ReferenceIdeal.Gen.gather_S8192x128_S2048x1_S2048x128_1_0_n_n_0_1_1128_wf

instance facts : Cert.Reference.Facts where

end Cert.Reference.Gen

namespace Cert.Proof

open Idealize.ShloMosaic Idealize.SL.Sem

/-- The kernel at the ideal instance leaves its arguments as they were and the semaphores at zero. -/
theorem frame_kernel_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1, (h.1 c).2.2.1, (h.1 c).2.2.2.1⟩, h.2⟩)
    (run_main (F := Ideal) m ρ)

/-- The same at the bits. -/
theorem frame_kernel : Cert.quiescent_Kernel (hKernel := Cert.Kernel.Gen.facts) := fun m ρ _ =>
  (θ_run Cert.KernelIdeal.defs _ _).mono (fun _ h => ⟨fun c => ⟨(h.1 c).1, (h.1 c).2.1, (h.1 c).2.2.1, (h.1 c).2.2.2.1⟩, h.2⟩)
    (run_main (F := Bits) m ρ)

/-- The reference at the ideal instance leaves its arguments as they were. -/
theorem frame_reference_ideal : Cert.quiescent_ReferenceIdeal (hReferenceIdeal := Cert.ReferenceIdeal.Gen.facts) := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The same at the bits. -/
theorem frame_reference : Cert.quiescent_Reference (hReference := Cert.Reference.Gen.facts) := fun m ρ _ =>
  (θ_run Cert.ReferenceIdeal.defs _ _).mono (fun r h => ⟨fun c => (h c).2.2.2.2, sem_eq_zero_of_no_sems (by decide) r.2⟩)
    (Cert.ReferenceIdeal.Value.run (F := Bits) m ρ)

end Cert.Proof

end
-- ==== Proof.RefOps.lean ====
/-
  The reference's operations read at one element, on words that hold small naturals: the mask counted, its prefix counts,
  the place of each slot's entry, and the takes.
-/
module

public import proofs.«01_k».proof.Proof.Spec
public import Idealize.ShloMosaic.Lib.Routing.Words
public import Idealize.ShloMosaic.Lib.Routing.OpsOne
public import Idealize.ShloMosaic.Lib.Routing.OpsSet
public import Idealize.ShloMosaic.Lib.StableHlo.Predicate
public import Idealize.ShloMosaic.Lib.Pipeline.Value

@[expose] public section

namespace Cert.Proof.Ref

open Idealize.ShloMosaic
open Idealize.ShloMosaic.Routing (shape0 shape1 shape2 shape3)

/-! ## Words -/

theorem w_add (a b : ℕ) : IntOp.addi (BitVec.ofNat 32 a) (BitVec.ofNat 32 b) = BitVec.ofNat 32 (a + b) := (BitVec.ofNat_add a b).symm

theorem w_mul (a b : ℕ) : IntOp.muli (BitVec.ofNat 32 a) (BitVec.ofNat 32 b) = BitVec.ofNat 32 (a * b) := (BitVec.ofNat_mul a b).symm

/-- An arithmetic right shift of a nonnegative word divides. -/
theorem w_shr (u : ArithUnit) {a : ℕ} (s : ℕ) (ha : a < 2 ^ 31) (hs : s < 32) :
    IntOp.shrsi u (BitVec.ofNat 32 a) (BitVec.ofNat 32 s) = BitVec.ofNat 32 (a / 2 ^ s) := by
  have hs' : (BitVec.ofNat 32 s).toNat = s := by rw [BitVec.toNat_ofNat]; omega
  have hm : (BitVec.ofNat 32 a).msb = false := BitVec.msb_eq_false_iff_two_mul_lt.mpr (by rw [BitVec.toNat_ofNat]; omega)
  unfold IntOp.shrsi
  rw [if_pos (by rw [hs']; exact hs)]
  refine BitVec.eq_of_toNat_eq ?_
  show ((BitVec.ofNat 32 a).sshiftRight (BitVec.ofNat 32 s).toNat).toNat = _
  have h2 : a / 2 ^ s ≤ a := Nat.div_le_self _ _
  rw [hs', BitVec.sshiftRight_eq_of_msb_false hm, BitVec.toNat_ushiftRight, BitVec.toNat_ofNat, BitVec.toNat_ofNat, Nat.shiftRight_eq_div_pow,
    Nat.mod_eq_of_lt (by omega), Nat.mod_eq_of_lt (by omega)]

/-- Masking the low bits is the remainder. -/
theorem w_and {a : ℕ} (s : ℕ) (ha : a < 2 ^ 31) (hs : s < 32) :
    IntOp.andi (BitVec.ofNat 32 a) (BitVec.ofNat 32 (2 ^ s - 1)) = BitVec.ofNat 32 (a % 2 ^ s) := by
  have h1 : 2 ^ s ≤ 2 ^ 31 := Nat.pow_le_pow_right (by omega) (by omega)
  have h2 : a % 2 ^ s ≤ a := Nat.mod_le _ _
  refine BitVec.eq_of_toNat_eq ?_
  show (BitVec.ofNat 32 a &&& BitVec.ofNat 32 (2 ^ s - 1)).toNat = _
  rw [BitVec.toNat_and, BitVec.toNat_ofNat, BitVec.toNat_ofNat, BitVec.toNat_ofNat, Nat.mod_eq_of_lt (a := a) (by omega),
    Nat.mod_eq_of_lt (a := 2 ^ s - 1) (by omega), Nat.mod_eq_of_lt (a := a % 2 ^ s) (by omega), Nat.and_two_pow_sub_one_eq_mod]

theorem w_slt {a b : ℕ} (ha : a < 2 ^ 31) (hb : b < 2 ^ 31) :
    IntOp.cmpi .slt (BitVec.ofNat 32 a) (BitVec.ofNat 32 b) = 1#1 ↔ a < b := StableHlo.Predicate.slt_ofNat_iff a b ha hb

theorem w_sgt {a b : ℕ} (ha : a < 2 ^ 31) (hb : b < 2 ^ 31) :
    IntOp.cmpi .sgt (BitVec.ofNat 32 a) (BitVec.ofNat 32 b) = 1#1 ↔ b < a := StableHlo.Predicate.slt_ofNat_iff b a hb ha

theorem w_sle {a b : ℕ} (ha : a < 2 ^ 31) (hb : b < 2 ^ 31) :
    IntOp.cmpi .sle (BitVec.ofNat 32 a) (BitVec.ofNat 32 b) = 1#1 ↔ a ≤ b := StableHlo.Predicate.sle_ofNat_iff a b ha hb

theorem w_eq {a b : ℕ} (ha : a < 2 ^ 31) (hb : b < 2 ^ 31) :
    IntOp.cmpi .eq (BitVec.ofNat 32 a) (BitVec.ofNat 32 b) = 1#1 ↔ a = b := by
  rw [StableHlo.Predicate.cmpi_eq_iff]
  constructor
  · intro h
    have := congrArg BitVec.toNat h
    rw [BitVec.toNat_ofNat, BitVec.toNat_ofNat] at this
    omega
  · intro h; rw [h]

/-- A selection between two words on a condition that decides `c`. -/
theorem w_sel {c : Prop} [Decidable c] {α : Type} {q : BitVec 1} (h : q = 1#1 ↔ c) (x y : α) :
    Scalar.select q x y = if c then x else y := by
  unfold Scalar.select
  by_cases hc : c
  · rw [if_pos hc]; exact if_pos (h.2 hc)
  · rw [if_neg hc]; exact if_neg fun e => hc (h.1 e)

theorem w_ite (c : Prop) [Decidable c] (a b : ℕ) :
    (if c then BitVec.ofNat 32 a else BitVec.ofNat 32 b) = BitVec.ofNat 32 (if c then a else b) := by split <;> rfl

/-- The larger of 63 and a count less one. -/
theorem w_last {c : ℕ} (hc : c < 2 ^ 31) :
    IntOp.maxsi (IntOp.subi (BitVec.ofNat 32 c) (BitVec.ofNat 32 1)) (BitVec.ofNat 32 63) = BitVec.ofNat 32 (max (c - 1) 63) := by
  rcases Nat.eq_zero_or_pos c with rfl | h0
  · decide
  · have e : IntOp.subi (BitVec.ofNat 32 c) (BitVec.ofNat 32 1) = BitVec.ofNat 32 (c - 1) := StableHlo.Predicate.sub_one_ofNat c h0 (by omega)
    rw [e]
    unfold IntOp.maxsi
    rw [Routing.slt_ofNat32 (by omega) (by omega)]
    by_cases h : 63 < c - 1
    · rw [if_pos (decide_eq_true h), max_eq_left (by omega)]
    · rw [if_neg (by simpa using h), max_eq_right (by omega)]

theorem bit_and : ∀ x y : BitVec 1, IntOp.andi x y = 1#1 ↔ x = 1#1 ∧ y = 1#1 := by decide

/-! ## Broadcasts -/

section Bc
variable {α : Type} {M P K : ℕ}

theorem bc_scalar {s : Shape} (h : shape0.BroadcastsInDim s ![]) (x : shape0.Idx → α) (j : s.Idx) :
    broadcastInDim s ![] h x j = x ValueIdx.ix0 := congrArg x (ValueIdx.eq_ix0 _)

theorem bc_row (h : (shape2 1 K).BroadcastsInDim (shape2 P K) (![0, 1] : Fin 2 → Fin 2)) (x : (shape2 1 K).Idx → α) (p : Fin P) (k : Fin K) :
    broadcastInDim (shape2 P K) ![0, 1] h x (ValueIdx.ix2 p k) = x (ValueIdx.ix2 0 k) :=
  broadcastInDim_apply _ h x _ _ fun a => by
    match a with
    | ⟨0, _⟩ => rfl
    | ⟨1, _⟩ => show k.val = if K = 1 then 0 else k.val; split <;> omega

theorem bc_col (h : (shape2 P 1).BroadcastsInDim (shape2 P K) (![0, 1] : Fin 2 → Fin 2)) (x : (shape2 P 1).Idx → α) (p : Fin P) (k : Fin K) :
    broadcastInDim (shape2 P K) ![0, 1] h x (ValueIdx.ix2 p k) = x (ValueIdx.ix2 p 0) :=
  broadcastInDim_apply _ h x _ _ fun a => by
    match a with
    | ⟨0, _⟩ => show p.val = if P = 1 then 0 else p.val; split <;> omega
    | ⟨1, _⟩ => rfl

theorem bc_1c (h : (shape1 P).BroadcastsInDim (shape2 P K) (![0] : Fin 1 → Fin 2)) (x : (shape1 P).Idx → α) (p : Fin P) (k : Fin K) :
    broadcastInDim (shape2 P K) ![0] h x (ValueIdx.ix2 p k) = x (ValueIdx.ix1 p) :=
  broadcastInDim_apply _ h x _ _ fun a => by
    match a with
    | ⟨0, _⟩ => show p.val = if P = 1 then 0 else p.val; split <;> omega

theorem bc_1r (h : (shape1 K).BroadcastsInDim (shape2 P K) (![1] : Fin 1 → Fin 2)) (x : (shape1 K).Idx → α) (p : Fin P) (k : Fin K) :
    broadcastInDim (shape2 P K) ![1] h x (ValueIdx.ix2 p k) = x (ValueIdx.ix1 k) :=
  broadcastInDim_apply _ h x _ _ fun a => by
    match a with
    | ⟨0, _⟩ => show k.val = if K = 1 then 0 else k.val; split <;> omega

theorem bc_21 (h : (shape2 M P).BroadcastsInDim (shape3 M P 1) (![0, 1] : Fin 2 → Fin 3)) (x : (shape2 M P).Idx → α) (i : Fin M) (p : Fin P) :
    broadcastInDim (shape3 M P 1) ![0, 1] h x (ValueIdx.ix3 i p 0) = x (ValueIdx.ix2 i p) :=
  broadcastInDim_apply _ h x _ _ fun a => by
    match a with
    | ⟨0, _⟩ => show i.val = if M = 1 then 0 else i.val; split <;> omega
    | ⟨1, _⟩ => show p.val = if P = 1 then 0 else p.val; split <;> omega

theorem bc_lane (h : (shape3 M P 1).BroadcastsInDim (shape3 M P K) (![0, 1, 2] : Fin 3 → Fin 3)) (x : (shape3 M P 1).Idx → α)
    (i : Fin M) (p : Fin P) (k : Fin K) :
    broadcastInDim (shape3 M P K) ![0, 1, 2] h x (ValueIdx.ix3 i p k) = x (ValueIdx.ix3 i p 0) :=
  broadcastInDim_apply _ h x _ _ fun a => by
    match a with
    | ⟨0, _⟩ => show i.val = if M = 1 then 0 else i.val; split <;> omega
    | ⟨1, _⟩ => show p.val = if P = 1 then 0 else p.val; split <;> omega
    | ⟨2, _⟩ => rfl

theorem bc_12 (h : (shape2 P K).BroadcastsInDim (shape3 1 P K) (![1, 2] : Fin 2 → Fin 3)) (x : (shape2 P K).Idx → α) (p : Fin P) (k : Fin K) :
    broadcastInDim (shape3 1 P K) ![1, 2] h x (ValueIdx.ix3 0 p k) = x (ValueIdx.ix2 p k) :=
  broadcastInDim_apply _ h x _ _ fun a => by
    match a with
    | ⟨0, _⟩ => show p.val = if P = 1 then 0 else p.val; split <;> omega
    | ⟨1, _⟩ => show k.val = if K = 1 then 0 else k.val; split <;> omega

theorem bc_outer (h : (shape3 1 P K).BroadcastsInDim (shape3 M P K) (![0, 1, 2] : Fin 3 → Fin 3)) (x : (shape3 1 P K).Idx → α)
    (i : Fin M) (p : Fin P) (k : Fin K) :
    broadcastInDim (shape3 M P K) ![0, 1, 2] h x (ValueIdx.ix3 i p k) = x (ValueIdx.ix3 0 p k) :=
  broadcastInDim_apply _ h x _ _ fun a => by
    match a with
    | ⟨0, _⟩ => rfl
    | ⟨1, _⟩ => show p.val = if P = 1 then 0 else p.val; split <;> omega
    | ⟨2, _⟩ => show k.val = if K = 1 then 0 else k.val; split <;> omega

theorem bc_111 (h : (shape1 M).BroadcastsInDim (shape3 M 1 1) (![0] : Fin 1 → Fin 3)) (x : (shape1 M).Idx → α) (i : Fin M) :
    broadcastInDim (shape3 M 1 1) ![0] h x (ValueIdx.ix3 i 0 0) = x (ValueIdx.ix1 i) :=
  broadcastInDim_apply _ h x _ _ fun a => by
    match a with
    | ⟨0, _⟩ => show i.val = if M = 1 then 0 else i.val; split <;> omega

theorem bc_inner (h : (shape3 M 1 1).BroadcastsInDim (shape3 M P K) (![0, 1, 2] : Fin 3 → Fin 3)) (x : (shape3 M 1 1).Idx → α)
    (i : Fin M) (p : Fin P) (k : Fin K) :
    broadcastInDim (shape3 M P K) ![0, 1, 2] h x (ValueIdx.ix3 i p k) = x (ValueIdx.ix3 i 0 0) :=
  broadcastInDim_apply _ h x _ _ fun a => by
    match a with
    | ⟨0, _⟩ => show i.val = if M = 1 then 0 else i.val; split <;> omega
    | ⟨1, _⟩ => rfl
    | ⟨2, _⟩ => rfl

theorem bc_3 (h : (shape1 K).BroadcastsInDim (shape3 M P K) (![2] : Fin 1 → Fin 3)) (x : (shape1 K).Idx → α) (i : Fin M) (p : Fin P) (k : Fin K) :
    broadcastInDim (shape3 M P K) ![2] h x (ValueIdx.ix3 i p k) = x (ValueIdx.ix1 k) :=
  broadcastInDim_apply _ h x _ _ fun a => by
    match a with
    | ⟨0, _⟩ => show k.val = if K = 1 then 0 else k.val; split <;> omega

theorem transpose_at (h : (shape2 P M).Transposes [1, 0] (shape2 M P)) (x : (shape2 P M).Idx → α) (i : Fin M) (p : Fin P) :
    transpose (shape2 M P) [1, 0] x h (ValueIdx.ix2 i p) = x (ValueIdx.ix2 p i) :=
  transpose_apply _ x h _ _ fun b => by
    match b with
    | ⟨0, _⟩ => rfl
    | ⟨1, _⟩ => rfl

end Bc

/-! ## Counts -/

theorem sum_count (m : ℕ → Prop) [DecidablePred m] (n : ℕ) :
    ((List.range n).map fun i => if m i then 1 else 0).sum = Nat.count m n := by
  induction n with
  | zero => rfl
  | succ n ih => rw [List.range_succ, List.map_append, List.sum_append, ih, Nat.count_succ]; simp

theorem w_bit {q : BitVec 1} {c : Prop} [Decidable c] (h : q = 1#1 ↔ c) : q.setWidth 32 = BitVec.ofNat 32 (if c then 1 else 0) := by
  by_cases hc : c
  · rw [if_pos hc, h.2 hc]; rfl
  · rw [if_neg hc]
    have : q = 0#1 := by
      have : ∀ x : BitVec 1, x ≠ 1#1 → x = 0#1 := by decide
      exact this q fun e => hc (h.1 e)
    rw [this]; rfl

variable {M P K : ℕ}

/-- The sum of a widened mask's column is the number of its hits. -/
theorem reduce_rows (hM : M < 2 ^ 31) (mask : IVec (shape2 M P) 1) (q : ℕ → Prop) [DecidablePred q] (p : Fin P)
    (hm : ∀ i : Fin M, mask (ValueIdx.ix2 i p) = 1#1 ↔ q i.val) (hw : 1 < 32) (h : (shape2 M P).ReducesTo [0] (shape1 P))
    {u : Shape} (hu : 0 < u.numel) :
    Host.reduce IntOp.addi (extui 32 mask hw) (constantI u 32 0#32) h hu (ValueIdx.ix1 p) = BitVec.ofNat 32 (Nat.count q M) := by
  refine BitVec.eq_of_toNat_eq ?_
  rw [StableHlo.Predicate.toNat_reduce_count_rows (by omega) mask hw h hu, BitVec.toNat_ofNat, Nat.mod_eq_of_lt
    (lt_of_le_of_lt (Nat.count_le _) (by omega)), Nat.count_eq_card_filter_range, Finset.card_filter, Finset.card_filter,
    ← Fin.sum_univ_eq_sum_range (fun i => if q i then 1 else 0) M]
  refine Finset.sum_congr rfl fun i _ => ?_
  have e : StableHlo.Predicate.ij i p = ValueIdx.ix2 i p := by
    funext b; match b with
    | ⟨0, _⟩ => rfl
    | ⟨1, _⟩ => rfl
  show (if mask (StableHlo.Predicate.ij i p) = 1#1 then 1 else 0) = _
  rw [e]
  by_cases hq : q i.val
  · rw [if_pos ((hm i).2 hq), if_pos hq]
  · rw [if_neg fun e => hq ((hm i).1 e), if_neg hq]

/-- The sum over the first of three axes of a widened mask is the number of its hits there. -/
theorem reduce_rows3 (hM : M < 2 ^ 31) (mask : IVec (shape3 M P K) 1) (q : ℕ → Prop) [DecidablePred q] (p : Fin P) (k : Fin K)
    (hm : ∀ i : Fin M, mask (ValueIdx.ix3 i p k) = 1#1 ↔ q i.val) (hw : 1 < 32) (h : (shape3 M P K).ReducesTo [0] (shape2 P K))
    {u : Shape} (hu : 0 < u.numel) :
    Host.reduce IntOp.addi (extui 32 mask hw) (constantI u 32 0#32) h hu (ValueIdx.ix2 p k)
      = BitVec.ofNat 32 ((Finset.range M).filter q).card := by
  classical
  have hcard : ((Finset.range M).filter q).card ≤ M := (Finset.card_filter_le _ _).trans (Finset.card_range M).le
  have hdrop : ∀ i : (shape3 M P K).Idx, h.drop i = ValueIdx.ix2 p k ↔ i = ValueIdx.ix3 (i 0) p k := by
    intro i
    have h0 : (h.drop i 0 : ℕ) = i 1 := Shape.ReducesTo.drop_apply_val h i 0
    have h1 : (h.drop i 1 : ℕ) = i 2 := Shape.ReducesTo.drop_apply_val h i 1
    constructor
    · intro e
      rw [e] at h0 h1
      funext b; match b with
      | ⟨0, _⟩ => rfl
      | ⟨1, _⟩ => exact Fin.ext h0.symm
      | ⟨2, _⟩ => exact Fin.ext h1.symm
    · intro e
      rw [e] at h0 h1
      rw [e]
      funext b; match b with
      | ⟨0, _⟩ => exact Fin.ext h0
      | ⟨1, _⟩ => exact Fin.ext h1
  have hsum : ∑ i ∈ Finset.univ.filter (fun i : (shape3 M P K).Idx => h.drop i = ValueIdx.ix2 p k), (extui 32 mask hw i).toNat
      = ((Finset.range M).filter q).card := by
    rw [Finset.card_filter, ← Fin.sum_univ_eq_sum_range (fun i => if q i then 1 else 0) M]
    refine Finset.sum_bij' (fun i _ => i 0) (fun a _ => ValueIdx.ix3 a p k) (fun _ _ => Finset.mem_univ _)
      (fun a _ => Finset.mem_filter.2 ⟨Finset.mem_univ _, (hdrop _).2 rfl⟩)
      (fun i hi => ((hdrop i).1 (Finset.mem_filter.1 hi).2).symm) (fun _ _ => rfl) ?_
    intro i hi
    have e := (hdrop i).1 (Finset.mem_filter.1 hi).2
    refine (congrArg (fun z : BitVec 1 => (z.setWidth 32).toNat) (congrArg mask e)).trans ?_
    refine (congrArg BitVec.toNat (w_bit (hm (i 0)))).trans ?_
    rw [BitVec.toNat_ofNat]
    by_cases hq : q (i 0).val
    · rw [if_pos hq]
    · rw [if_neg hq]
  refine BitVec.eq_of_toNat_eq ?_
  rw [Host.reduce_eq_fold, BitVec.toNat_ofNat, Nat.mod_eq_of_lt (by omega)]
  show (Finset.fold IntOp.addi 0#32 (extui 32 mask hw) (Finset.univ.filter fun i : (shape3 M P K).Idx => h.drop i = ValueIdx.ix2 p k)).toNat = _
  rw [StableHlo.Predicate.toNat_fold_addi _ _ (by rw [hsum]; omega), hsum]

/-- The running sum of a widened mask's column is the number of its hits so far. -/
theorem cumsum_at {Mm1 : ℕ} (hR : Mm1 + 1 = M) (mask : IVec (shape2 M P) 1) (q : ℕ → ℕ → Prop) [∀ p, DecidablePred (q p)]
    (hm : ∀ (i : Fin M) (p : Fin P), mask (ValueIdx.ix2 i p) = 1#1 ↔ q p.val i.val) (hw : 1 < 32) (init : IVec shape0 32)
    (hinit : init ValueIdx.ix0 = 0#32) (h : (shape2 M P).ReduceWindows (![M, 1] : Fin 2 → ℕ) ![1, 1] ![Mm1, 0] ![0, 0] (shape2 M P))
    (hu : 0 < shape0.numel) (i : Fin M) (p : Fin P) :
    Host.reduceWindow IntOp.addi ![M, 1] ![1, 1] ![Mm1, 0] ![0, 0] (extui 32 mask hw) init h hu (ValueIdx.ix2 i p)
      = BitVec.ofNat 32 (Nat.count (q p.val) (i.val + 1)) := by
  rw [Routing.cumsum_rows hR _ (fun i p => if q p i then 1 else 0) (fun i p => w_bit (hm i p)) init hinit h hu i p, sum_count]

/-! ## Picking a mask's entries into sixty-four slots -/

section Ap
variable {s : Shape} {α : Type} (i : s.Idx)
theorem select_ap (c : IVec s 1) (x y : s.Idx → α) : select c x y i = Scalar.select (c i) (x i) (y i) := rfl
theorem cmpi_ap (o : CmpIPredicate) (x y : IVec s 32) : cmpi o x y i = IntOp.cmpi o (x i) (y i) := rfl
theorem maxsi_ap (x y : IVec s 32) : maxsi x y i = IntOp.maxsi (x i) (y i) := rfl
theorem addi_ap (x y : IVec s 32) : addi x y i = IntOp.addi (x i) (y i) := rfl
theorem subi_ap (x y : IVec s 32) : subi x y i = IntOp.subi (x i) (y i) := rfl
theorem muli_ap (x y : IVec s 32) : muli x y i = IntOp.muli (x i) (y i) := rfl
theorem andi_ap {w : ℕ} (x y : IVec s w) : andi x y i = IntOp.andi (x i) (y i) := rfl
theorem shrsi_ap (x y : IVec s 32) : Host.shrsi x y i = IntOp.shrsi .host (x i) (y i) := rfl
theorem const_ap (n : ℕ) : constantI s 32 (BitVec.ofNat 32 n) i = BitVec.ofNat 32 n := rfl
end Ap

/-- The prefix count at which slot `k`'s entry ends. -/
theorem want_at (kk : IVec (shape2 1 64) 32) (hkk : ∀ k : Fin 64, kk (ValueIdx.ix2 0 k) = BitVec.ofNat 32 k.val)
    (tot : IVec (shape2 P 1) 32) (p : Fin P) {c : ℕ} (htot : tot (ValueIdx.ix2 p 0) = BitVec.ofNat 32 c) (hc : c < 2 ^ 31)
    (h1 : (shape2 1 64).BroadcastsInDim (shape2 P 64) (![0, 1] : Fin 2 → Fin 2))
    (h2 : (shape2 P 1).BroadcastsInDim (shape2 P 64) (![0, 1] : Fin 2 → Fin 2))
    (h7 : shape0.BroadcastsInDim (shape2 1 64) ![]) (h8 : shape0.BroadcastsInDim (shape2 P 1) ![]) (k : Fin 64) :
    select (broadcastInDim (shape2 P 64) ![0, 1] h1 (cmpi .eq kk (broadcastInDim (shape2 1 64) ![] h7 (constantI shape0 32 63#32))))
      (broadcastInDim (shape2 P 64) ![0, 1] h2 (maxsi (subi tot (broadcastInDim (shape2 P 1) ![] h8 (constantI shape0 32 1#32)))
        (broadcastInDim (shape2 P 1) ![] h8 (constantI shape0 32 63#32))))
      (broadcastInDim (shape2 P 64) ![0, 1] h1 kk) (ValueIdx.ix2 p k) = BitVec.ofNat 32 (want c k.val) := by
  have hk : k.val < 2 ^ 31 := by omega
  rw [select_ap, bc_row, bc_row, bc_col, cmpi_ap, maxsi_ap, subi_ap, bc_scalar, bc_scalar, bc_scalar, const_ap, const_ap, hkk, htot, w_last hc,
    w_sel (w_eq hk (by omega)), w_ite]
  unfold want
  rfl

/-- The number of entries whose prefix count is at most `w`. -/
theorem place_at {Mm1 : ℕ} (hR : Mm1 + 1 = M) (hM : M < 2 ^ 31) (mask : IVec (shape2 M P) 1) (q : ℕ → ℕ → Prop) [∀ p, DecidablePred (q p)]
    (hm : ∀ (i : Fin M) (p : Fin P), mask (ValueIdx.ix2 i p) = 1#1 ↔ q p.val i.val) (hw hw' : 1 < 32) (init : IVec shape0 32)
    (hinit : init ValueIdx.ix0 = 0#32) (h : (shape2 M P).ReduceWindows (![M, 1] : Fin 2 → ℕ) ![1, 1] ![Mm1, 0] ![0, 0] (shape2 M P))
    (hu hu' : 0 < shape0.numel) (W : IVec (shape2 P 64) 32)
    (h3 : (shape3 M P 1).BroadcastsInDim (shape3 M P 64) (![0, 1, 2] : Fin 3 → Fin 3))
    (h4 : (shape2 M P).BroadcastsInDim (shape3 M P 1) (![0, 1] : Fin 2 → Fin 3))
    (h5 : (shape3 1 P 64).BroadcastsInDim (shape3 M P 64) (![0, 1, 2] : Fin 3 → Fin 3))
    (h6 : (shape2 P 64).BroadcastsInDim (shape3 1 P 64) (![1, 2] : Fin 2 → Fin 3))
    (hd : (shape3 M P 64).ReducesTo [0] (shape2 P 64)) (p : Fin P) (k : Fin 64) {w : ℕ}
    (hW : W (ValueIdx.ix2 p k) = BitVec.ofNat 32 w) (hwl : w < 2 ^ 31) :
    Host.reduce IntOp.addi (extui 32 (cmpi .sle
        (broadcastInDim (shape3 M P 64) ![0, 1, 2] h3 (broadcastInDim (shape3 M P 1) ![0, 1] h4
          (Host.reduceWindow IntOp.addi ![M, 1] ![1, 1] ![Mm1, 0] ![0, 0] (extui 32 mask hw) init h hu)))
        (broadcastInDim (shape3 M P 64) ![0, 1, 2] h5 (broadcastInDim (shape3 1 P 64) ![1, 2] h6 W))) hw')
        (constantI shape0 32 0#32) hd hu' (ValueIdx.ix2 p k)
      = BitVec.ofNat 32 ((Finset.range M).filter fun i => Nat.count (q p.val) (i + 1) ≤ w).card := by
  refine reduce_rows3 hM _ (fun i => Nat.count (q p.val) (i + 1) ≤ w) p k (fun i => ?_) hw' hd hu'
  rw [cmpi_ap, bc_lane, bc_21, bc_outer, bc_12, hW, cumsum_at hR mask q hm hw init hinit h hu i p]
  exact w_sle (lt_of_le_of_lt (Nat.count_le _) (by have := i.isLt; omega)) hwl

/-- A slot's place, zero where the slot has none. -/
theorem pick_at {q : ℕ → Prop} [DecidablePred q] (hM : M < 2 ^ 31) (kk : IVec (shape2 1 64) 32)
    (hkk : ∀ k : Fin 64, kk (ValueIdx.ix2 0 k) = BitVec.ofNat 32 k.val)
    (tot : IVec (shape2 P 1) 32) (p : Fin P) (htot : tot (ValueIdx.ix2 p 0) = BitVec.ofNat 32 (Nat.count q M))
    (h1 : (shape2 1 64).BroadcastsInDim (shape2 P 64) (![0, 1] : Fin 2 → Fin 2))
    (h2 : (shape2 P 1).BroadcastsInDim (shape2 P 64) (![0, 1] : Fin 2 → Fin 2))
    (h9 : shape0.BroadcastsInDim (shape2 P 64) ![]) (k : Fin 64) (R : IVec (shape2 P 64) 32)
    (hR : R (ValueIdx.ix2 p k) = BitVec.ofNat 32 ((Finset.range M).filter fun i => Nat.count q (i + 1) ≤ want (Nat.count q M) k.val).card) :
    select (cmpi .slt (broadcastInDim (shape2 P 64) ![0, 1] h1 kk) (broadcastInDim (shape2 P 64) ![0, 1] h2 tot)) R
      (broadcastInDim (shape2 P 64) ![] h9 (id (constantI shape0 32 0#32))) (ValueIdx.ix2 p k)
      = BitVec.ofNat 32 (if k.val < Nat.count q M then place q M k.val else 0) := by
  have hc : Nat.count q M < 2 ^ 31 := lt_of_le_of_lt (Nat.count_le _) hM
  have hk : k.val < 2 ^ 31 := by omega
  rw [select_ap, cmpi_ap, bc_row, bc_col, bc_scalar, id, const_ap, hR, hkk, htot, w_sel (w_slt hk hc), w_ite]
  unfold place
  rfl

/-! ## Takes -/

/-- An index that is not negative passes the wrap of negative indices as it is. -/
theorem wrap_at {n : ℕ} (v y : IVec (shape1 n) 32) (h0 : shape0.BroadcastsInDim (shape1 n) ![]) (e : Fin n) {a : ℕ}
    (hv : v (ValueIdx.ix1 e) = BitVec.ofNat 32 a) (ha : a < 2 ^ 31) :
    select (cmpi .slt v (broadcastInDim (shape1 n) ![] h0 (constantI shape0 32 0#32))) y v (ValueIdx.ix1 e) = BitVec.ofNat 32 a := by
  show Scalar.select (IntOp.cmpi .slt (v (ValueIdx.ix1 e)) (BitVec.ofNat 32 0)) (y (ValueIdx.ix1 e)) (v (ValueIdx.ix1 e)) = _
  rw [hv, w_sel (w_slt ha (by omega)), if_neg (by omega)]

/-- A take from a vector. -/
theorem take1 {α : Type} {N n : ℕ} (d : GatherDims (shape1 N) (shape2 n 1) (shape1 n)) (hcoll : d.collapsedSliceDims = [0])
    (hob : d.operandBatchingDims = []) (hsim : d.startIndexMap = [0]) (hivd : d.indexVectorDim = 1) (x : (shape1 N).Idx → α)
    (v y : IVec (shape1 n) 32) (h0 : shape0.BroadcastsInDim (shape1 n) ![])
    (h1 : (shape1 n).BroadcastsInDim (shape2 n 1) (![0] : Fin 1 → Fin 2)) (e : Fin n) (b : Fin N)
    (hv : v (ValueIdx.ix1 e) = BitVec.ofNat 32 b.val) (hN : N < 2 ^ 31) :
    Host.gather d x (broadcastInDim (shape2 n 1) ![0] h1
      (select (cmpi .slt v (broadcastInDim (shape1 n) ![] h0 (constantI shape0 32 0#32))) y v)) (ValueIdx.ix1 e) = x (ValueIdx.ix1 b) :=
  Routing.gather_take1 d hcoll hob hsim hivd x _ e b (by rw [bc_1c]; exact wrap_at v y h0 e hv (by have := b.isLt; omega)) hN

/-- A take of a table's rows. -/
theorem take2 {α : Type} {N B n : ℕ} (d : GatherDims (shape2 N B) (shape2 n 1) (shape2 n B)) (hoff : d.offsetDims = [1])
    (hcoll : d.collapsedSliceDims = [0]) (hob : d.operandBatchingDims = []) (hsim : d.startIndexMap = [0]) (hivd : d.indexVectorDim = 1)
    (x : (shape2 N B).Idx → α) (v y : IVec (shape1 n) 32) (h0 : shape0.BroadcastsInDim (shape1 n) ![])
    (h1 : (shape1 n).BroadcastsInDim (shape2 n 1) (![0] : Fin 1 → Fin 2)) (e : Fin n) (l : Fin B) (b : Fin N)
    (hv : v (ValueIdx.ix1 e) = BitVec.ofNat 32 b.val) (hN : N < 2 ^ 31) :
    Host.gather d x (broadcastInDim (shape2 n 1) ![0] h1
      (select (cmpi .slt v (broadcastInDim (shape1 n) ![] h0 (constantI shape0 32 0#32))) y v)) (ValueIdx.ix2 e l) = x (ValueIdx.ix2 b l) :=
  Routing.gather_row d hoff hcoll hob hsim hivd x _ e l b (by rw [bc_1c]; exact wrap_at v y h0 e hv (by have := b.isLt; omega)) hN

end Cert.Proof.Ref
-- ==== Proof.RefValue.lean ====
/-
  What the reference computes: its four results are the selection's, of its arguments.
-/
module

public import proofs.«01_k».proof.Proof.RefOps
public import proofs.«01_k».proof.Proof.Host
public import proofs.«01_k».proof.Proof.Gen.ReferenceIdeal.Run

@[expose] public section

noncomputable section

namespace Cert.Proof.Ref

open Cert.ReferenceIdeal Cert.ReferenceIdeal.Gen Cert.ReferenceIdeal.Value
open Idealize.ShloMosaic Idealize.ShloMosaic.StableHlo

variable {F : FTy → Type} [FloatOps F] (V0 : Valuation τ sig (Elt F))

/-- The reference's zero lane. -/
def zeroR : F .f32 := FloatOps.ofBits .f32 0x00000000#32

/-- The selection's sources, of the reference's arguments. -/
def A : Src F := src (V0 (Proc.devRef .tc main_arg0)) (V0 (Proc.devRef .tc main_arg1)) (V0 (Proc.devRef .tc main_arg2)) (V0 (Proc.devRef .tc main_arg3)) zeroR

/-- A comparison at an index. -/
theorem cmpf_ap {s : Shape} (o : CmpFPredicate) (x y : Vec F s .f32) (i : s.Idx) : cmpf o x y i = FloatOps.cmpf o (x i) (y i) := rfl

/-- The low ten bits of a word. -/
theorem and_1023 {n : ℕ} (hn : n < 2 ^ 31) : IntOp.andi (BitVec.ofNat 32 n) 1023#32 = BitVec.ofNat 32 (n % 1024) := w_and 10 hn (by omega)

/-- The low seven bits of a word. -/
theorem and_127 {n : ℕ} (hn : n < 2 ^ 31) : IntOp.andi (BitVec.ofNat 32 n) 127#32 = BitVec.ofNat 32 (n % 128) := w_and 7 hn (by omega)

/-! ## Slots, tasks and their batches -/

theorem v1_at (k : Fin 64) : res_main_v1 V0 (ValueIdx.ix2 0 k) = BitVec.ofNat 32 k.val := by
  unfold res_main_v1
  rw [bc_1r]
  rfl

theorem v3_at (p : Fin 32) : res_main_v3 V0 (ValueIdx.ix2 p 0) = BitVec.ofNat 32 p.val := by
  unfold res_main_v3
  rw [bc_1c]
  rfl

theorem v5_at (p : Fin 32) : res_main_v5 V0 (ValueIdx.ix2 p 0) = BitVec.ofNat 32 (p.val / 4) := by
  unfold res_main_v5
  rw [shrsi_ap, bc_scalar, const_ap, v3_at, w_shr _ 2 (by omega) (by omega)]
  rfl

theorem v7_at (p : Fin 32) : res_main_v7 V0 (ValueIdx.ix2 p 0) = BitVec.ofNat 32 (p.val % 4) := by
  unfold res_main_v7
  rw [andi_ap, bc_scalar, const_ap, v3_at]
  exact w_and 2 (by omega) (by omega)

/-- Each task's threshold. -/
theorem v11_at (p : Fin 32) : res_main_v11 V0 (ValueIdx.ix1 p) = (A V0).t (p.val / 4) := by
  unfold res_main_v11
  refine (shapeCast_apply (s := S8x4) (t := S32) _ _ (ValueIdx.ix1 p) (ValueIdx.ix2 ⟨p.val / 4, by omega⟩ ⟨p.val % 4, by omega⟩)
    (by rw [Shape.rowMajor_val_two, Shape.rowMajor_val_one]; show p.val / 4 * 4 + p.val % 4 = p.val; omega)).trans ?_
  rw [bc_1c,
    shapeCast_apply (s := S8x1x1) (t := S8) _ _ (ValueIdx.ix1 _) (ValueIdx.ix3 ⟨p.val / 4, by omega⟩ 0 0)
      (by rw [Shape.rowMajor_val_three, Shape.rowMajor_val_one]; show (p.val / 4 * 1 + 0) * 1 + 0 = p.val / 4; omega),
    extractStridedSlice_apply _ _ _ _ (ValueIdx.ix3 ⟨p.val / 4 % 8, Nat.mod_lt _ (by omega)⟩ 0 0) (fun a => by
      match a with
      | ⟨0, _⟩ => show p.val / 4 % 8 = 0 + p.val / 4; omega
      | ⟨1, _⟩ => rfl
      | ⟨2, _⟩ => rfl)]
  rfl

/-! ## The hot chunks -/

theorem v16_at (i : Fin 2048) (p : Fin 32) : res_main_v16 V0 (ValueIdx.ix2 i p) = 1#1 ↔ hot (A V0) p.val i.val := by
  unfold res_main_v16 hot Ge
  rw [transpose_at]
  rw [cmpf_ap, bc_col, bc_1c, v11_at,
    shapeCast_apply (s := S8x8x1024) (t := S32x2048) _ _ (ValueIdx.ix2 p i)
      (ValueIdx.ix3 ⟨(p.val * 2048 + i.val) / 8192 % 8, Nat.mod_lt _ (by omega)⟩ ⟨(p.val * 2048 + i.val) / 1024 % 8, Nat.mod_lt _ (by omega)⟩ ⟨(p.val * 2048 + i.val) % 1024, Nat.mod_lt _ (by omega)⟩)
      (by rw [Shape.rowMajor_val_three, Shape.rowMajor_val_two]
          show ((p.val * 2048 + i.val) / 8192 % 8 * 8 + (p.val * 2048 + i.val) / 1024 % 8) * 1024 + (p.val * 2048 + i.val) % 1024 = p.val * 2048 + i.val
          omega)]
  rfl

theorem v19_at (p : Fin 32) : res_main_v19 V0 (ValueIdx.ix2 p 0) = BitVec.ofNat 32 (nhot (A V0) p.val) := by
  unfold res_main_v19
  rw [bc_1c, reduce_rows (by omega) _ (hot (A V0) p.val) p (fun i => v16_at V0 i p)]
  rfl

theorem v39_at (p : Fin 32) (k : Fin 64) : res_main_v39 V0 (ValueIdx.ix2 p k) = BitVec.ofNat 32 (chunk (A V0) p.val k.val) := by
  unfold res_main_v39
  have hc : nhot (A V0) p.val < 2 ^ 31 := lt_of_le_of_lt (nhot_le _ _) (by omega)
  refine (pick_at (M := 2048) (q := hot (A V0) p.val) (by omega) _ (v1_at V0) _ p (v19_at V0 p) _ _ _ k _ ?_).trans ?_
  · exact place_at (Mm1 := 2047) rfl (by omega) _ (fun p => hot (A V0) p) (v16_at V0) _ _ _ rfl _ _ _ _ _ _ _ _ _ p k
      (want_at _ (v1_at V0) _ p (v19_at V0 p) hc _ _ _ _ k) (by rw [count_hot]; unfold want; split <;> omega)
  · rfl

/-! ## Their scores -/

theorem v56_at (p : Fin 32) (k : Fin 64) (e : Fin 2048) (he : e.val = p.val * 64 + k.val) :
    res_main_v56 V0 (ValueIdx.ix1 e) = BitVec.ofNat 32 (srow p.val (chunk (A V0) p.val k.val)) := by
  have hc := chunk_lt (A V0) p.val k.val
  unfold res_main_v56
  refine (Routing.cast21 _ _ p k e he).trans ?_
  rw [addi_ap, muli_ap, addi_ap, addi_ap, bc_col, bc_col, muli_ap, muli_ap, bc_scalar, bc_scalar, bc_scalar, andi_ap, shrsi_ap,
    bc_scalar, bc_scalar, v39_at, v5_at, v7_at, const_ap, const_ap, const_ap, const_ap, const_ap, w_shr _ 10 (by omega) (by omega),
    and_1023 (by omega),
    w_mul, w_mul, w_add, w_mul, w_add, w_add]
  unfold srow key blk
  exact congrArg (BitVec.ofNat 32) (by omega)

/-- A score of the reference's first argument, by its chunk's row and its place in it. -/
theorem score_at (r : Fin 65536) (l : Fin 128) :
    shapeCast S65536x128 (V0 (Proc.devRef .tc main_arg0)) shapeCasts_S8x1024x1024_S65536x128 (ValueIdx.ix2 r l) = (A V0).s (r.val * 128 + l.val) := by
  rw [shapeCast_apply (s := S8x1024x1024) (t := S65536x128) _ _ (ValueIdx.ix2 r l)
      (ValueIdx.ix3 ⟨(r.val * 128 + l.val) / 1048576 % 8, Nat.mod_lt _ (by omega)⟩ ⟨(r.val * 128 + l.val) / 1024 % 1024, Nat.mod_lt _ (by omega)⟩ ⟨(r.val * 128 + l.val) % 1024, Nat.mod_lt _ (by omega)⟩)
      (by rw [Shape.rowMajor_val_three, Shape.rowMajor_val_two]
          show ((r.val * 128 + l.val) / 1048576 % 8 * 1024 + (r.val * 128 + l.val) / 1024 % 1024) * 1024 + (r.val * 128 + l.val) % 1024 = r.val * 128 + l.val
          omega)]
  rfl

theorem v75_at (e : Fin 8192) (p : Fin 32) : res_main_v75 V0 (ValueIdx.ix2 e p) = 1#1 ↔ live (A V0) p.val e.val := by
  have hc := chunk_lt (A V0) p.val (e.val / 128)
  have hn := nhot_le (A V0) p.val
  have hs : srow p.val (chunk (A V0) p.val (e.val / 128)) < 65536 := by unfold srow key blk; omega
  unfold res_main_v75 live Ge score
  rw [transpose_at, shapeCast_apply (s := S32x64x128) (t := S32x8192) _ _ (ValueIdx.ix2 p e) (ValueIdx.ix3 p ⟨e.val / 128, by omega⟩ ⟨e.val % 128, by omega⟩)
    (by rw [Shape.rowMajor_val_three, Shape.rowMajor_val_two]; show (p.val * 64 + e.val / 128) * 128 + e.val % 128 = p.val * 8192 + e.val; omega),
    andi_ap, bit_and, bc_lane, bc_21, cmpi_ap, bc_row, bc_col, v1_at, v19_at, w_slt (by show e.val / 128 < 2 ^ 31; omega) (by omega), and_comm]
  refine and_congr Iff.rfl ?_
  rw [cmpf_ap, bc_inner, bc_111, v11_at, shapeCast_apply (s := S2048x128) (t := S32x64x128) _ _ (ValueIdx.ix3 p ⟨e.val / 128, by omega⟩ ⟨e.val % 128, by omega⟩)
    (ValueIdx.ix2 ⟨p.val * 64 + e.val / 128, by omega⟩ ⟨e.val % 128, by omega⟩)
    (by rw [Shape.rowMajor_val_three, Shape.rowMajor_val_two]; rfl),
    take2 _ rfl rfl rfl rfl rfl _ _ _ _ _ _ _ ⟨srow p.val (chunk (A V0) p.val (e.val / 128)), hs⟩ (v56_at V0 p ⟨e.val / 128, by omega⟩ _ rfl) (by omega), score_at]

theorem v78_at (p : Fin 32) : res_main_v78 V0 (ValueIdx.ix2 p 0) = BitVec.ofNat 32 (nlive (A V0) p.val) := by
  unfold res_main_v78
  rw [bc_1c, reduce_rows (by omega) _ (live (A V0) p.val) p (fun i => v75_at V0 i p)]
  unfold nlive
  with_reducible rfl

theorem nlive_le (B : Src F) (p : ℕ) : nlive B p ≤ 8192 := Nat.count_le _

theorem v98_at (p : Fin 32) (k : Fin 64) : res_main_v98 V0 (ValueIdx.ix2 p k) = BitVec.ofNat 32 (spot (A V0) p.val k.val) := by
  unfold res_main_v98
  have hc : nlive (A V0) p.val < 2 ^ 31 := lt_of_le_of_lt (nlive_le _ _) (by omega)
  have h78 : res_main_v78 V0 (ValueIdx.ix2 p 0) = BitVec.ofNat 32 (Nat.count (live (A V0) p.val) 8192) := by rw [v78_at, count_live]
  refine (pick_at (M := 8192) (q := live (A V0) p.val) (by omega) _ (v1_at V0) _ p h78 _ _ _ k _ ?_).trans ?_
  · exact place_at (Mm1 := 8191) rfl (by omega) _ (fun p => live (A V0) p) (v75_at V0) _ _ _ rfl _ _ _ _ _ _ _ _ _ p k
      (want_at _ (v1_at V0) _ p h78 (by rw [count_live]; exact hc) _ _ _ _ k) (by rw [count_live]; unfold want; split <;> omega)
  · rw [count_live]; unfold spot; with_reducible rfl

/-! ## The candidates -/

theorem v106_at (p : Fin 32) (k : Fin 64) (e : Fin 2048) (he : e.val = p.val * 64 + k.val) :
    res_main_v106 V0 (ValueIdx.ix1 e) = BitVec.ofNat 32 (p.val * 64 + spot (A V0) p.val k.val / 128) := by
  have hs := spot_lt' (A V0) p.val k.isLt
  unfold res_main_v106
  refine (Routing.cast21 _ _ p k e he).trans ?_
  rw [addi_ap, bc_col, muli_ap, bc_scalar, shrsi_ap, bc_scalar, v3_at, v98_at, const_ap, const_ap, w_mul,
    w_shr _ 7 (by omega) (by omega), w_add]
  rfl

theorem v114_at (p : Fin 32) (k : Fin 64) : res_main_v114 V0 (ValueIdx.ix2 p k) = BitVec.ofNat 32 (found (A V0) p.val k.val) := by
  have hs := spot_lt' (A V0) p.val k.isLt
  unfold res_main_v114
  refine (Routing.cast12 _ _ p k ⟨p.val * 64 + k.val, by omega⟩ rfl).trans ?_
  rw [take1 _ rfl rfl rfl rfl _ _ _ _ _ _ ⟨p.val * 64 + spot (A V0) p.val k.val / 128, by omega⟩ (v106_at V0 p k _ rfl) (by omega),
    Routing.cast21 _ _ p ⟨spot (A V0) p.val k.val / 128, by omega⟩ _ rfl, v39_at]
  rfl

theorem v128_at (p : Fin 32) (k : Fin 64) : res_main_v128 V0 (ValueIdx.ix2 p k) = BitVec.ofNat 32 (row (A V0) p.val k.val) := by
  have hs := spot_lt' (A V0) p.val k.isLt
  have hf : found (A V0) p.val k.val < 2048 := chunk_lt _ _ _
  have hn := nhot_le (A V0) p.val
  unfold res_main_v128
  rw [select_ap, bc_col, cmpi_ap, bc_scalar, bc_scalar, id, const_ap, v19_at, addi_ap, muli_ap, addi_ap, bc_col, muli_ap, bc_scalar, bc_scalar, shrsi_ap,
    bc_scalar, andi_ap, bc_scalar, v7_at, v114_at, v98_at, const_ap, const_ap, const_ap, const_ap, w_shr _ 10 (by omega) (by omega),
    and_127 (by omega),
    w_mul, w_add, w_mul, w_add, w_sel (w_sgt (by omega) (by omega)), w_ite]
  unfold row blk
  exact congrArg (BitVec.ofNat 32) rfl

theorem v133_at (p : Fin 32) (k : Fin 64) : res_main_v133 V0 (ValueIdx.ix2 p k) = BitVec.ofNat 32 (col (A V0) p.val k.val) := by
  have hf : found (A V0) p.val k.val < 2048 := chunk_lt _ _ _
  have hn := nhot_le (A V0) p.val
  unfold res_main_v133
  rw [select_ap, bc_col, cmpi_ap, bc_scalar, bc_scalar, id, const_ap, v19_at, andi_ap, bc_scalar, v114_at, const_ap,
    and_1023 (by omega),
    w_sel (w_sgt (by omega) (by omega)), w_ite]
  unfold col key
  exact congrArg (BitVec.ofNat 32) rfl

theorem v142_at (p : Fin 32) (k : Fin 64) (e : Fin 2048) (he : e.val = p.val * 64 + k.val) :
    res_main_v142 V0 (ValueIdx.ix1 e) = BitVec.ofNat 32 ((p.val / 4 * 1024 + col (A V0) p.val k.val) * 1024 + row (A V0) p.val k.val) := by
  unfold res_main_v142
  refine (Routing.cast21 _ _ p k e he).trans ?_
  rw [addi_ap, muli_ap, addi_ap, bc_col, muli_ap, bc_scalar, bc_scalar, v5_at, v133_at, v128_at, const_ap, w_mul, w_add, w_mul, w_add]

theorem v169_at (p : Fin 32) (k : Fin 64) (e : Fin 2048) (he : e.val = p.val * 64 + k.val) :
    res_main_v169 V0 (ValueIdx.ix1 e) = BitVec.ofNat 32 (p.val / 4 * 1024 + row (A V0) p.val k.val) := by
  unfold res_main_v169
  refine (Routing.cast21 _ _ p k e he).trans ?_
  rw [addi_ap, bc_col, muli_ap, bc_scalar, v5_at, v128_at, const_ap, w_mul, w_add]

theorem v182_at (p : Fin 32) (k : Fin 64) (e : Fin 2048) (he : e.val = p.val * 64 + k.val) :
    res_main_v182 V0 (ValueIdx.ix1 e) = BitVec.ofNat 32 (p.val / 4 * 1024 + col (A V0) p.val k.val) := by
  unfold res_main_v182
  refine (Routing.cast21 _ _ p k e he).trans ?_
  rw [addi_ap, bc_col, muli_ap, bc_scalar, v5_at, v133_at, const_ap, w_mul, w_add]

/-- The rows of `x`, cut to six lanes. -/
theorem v159_at (r : Fin 8192) (l : Fin 128) : res_main_v159 V0 (ValueIdx.ix2 r l) = (A V0).x6 r.val l.val := by
  unfold res_main_v159
  refine (shapeCast_apply (s := S8x1024x128) (t := S8192x128) _ _ (ValueIdx.ix2 r l)
      (ValueIdx.ix3 ⟨r.val / 1024 % 8, Nat.mod_lt _ (by omega)⟩ ⟨r.val % 1024, Nat.mod_lt _ (by omega)⟩ ⟨l.val % 128, Nat.mod_lt _ (by omega)⟩)
      (by rw [Shape.rowMajor_val_three, Shape.rowMajor_val_two]
          show (r.val / 1024 % 8 * 1024 + r.val % 1024) * 128 + l.val % 128 = r.val * 128 + l.val
          omega)).trans ?_
  rw [select_ap, bc_3, bc_scalar, cmpi_ap, bc_scalar, const_ap]
  refine (w_sel (c := l.val < 6) ?_ _ _).trans ?_
  · show IntOp.cmpi .slt (BitVec.ofNat 32 (l.val % 128)) (BitVec.ofNat 32 6) = 1#1 ↔ _
    rw [w_slt (by omega) (by omega), Nat.mod_eq_of_lt l.isLt]
  · rfl

end Cert.Proof.Ref

end
-- ==== Proof.Values.lean ====
/-
  The two value claims: from equal arguments the kernel and the reference leave equal results, at either float instance.
-/
module

public import proofs.«01_k».proof.Defs
public import proofs.«01_k».proof.Proof.Frames
public import proofs.«01_k».proof.Proof.RefValue
public import Idealize.ShloMosaic.Lib.NatWords
public import Idealize.ShloMosaic.Lib.KernelVsHost

@[expose] public section

noncomputable section

namespace Cert.Proof.Ref

open Cert.ReferenceIdeal Cert.ReferenceIdeal.Gen Cert.ReferenceIdeal.Value
open Idealize.ShloMosaic Idealize.ShloMosaic.StableHlo

variable {F : FTy → Type} [FloatOps F] (V0 : Valuation τ sig (Elt F))

theorem row_lt' (B : Src F) (p : ℕ) {k : ℕ} (hk : k < 64) : row B p k < 1024 := by
  have h := chunk_lt B p (spot B p k / 128)
  unfold row found blk
  split <;> omega

theorem col_lt' (B : Src F) (p k : ℕ) : col B p k < 1024 := by
  unfold col key
  split <;> omega

/-- A score of the reference's first argument, by its flat place. -/
theorem flat_at (x : Fin 8388608) :
    shapeCast S8388608 (V0 (Proc.devRef .tc main_arg0)) shapeCasts_S8x1024x1024_S8388608 (ValueIdx.ix1 x) = (A V0).s x.val := by
  rw [shapeCast_apply (s := S8x1024x1024) (t := S8388608) _ _ (ValueIdx.ix1 x)
      (ValueIdx.ix3 ⟨x.val / 1048576 % 8, Nat.mod_lt _ (by omega)⟩ ⟨x.val / 1024 % 1024, Nat.mod_lt _ (by omega)⟩ ⟨x.val % 1024, Nat.mod_lt _ (by omega)⟩)
      (by rw [Shape.rowMajor_val_three, Shape.rowMajor_val_one]
          show (x.val / 1048576 % 8 * 1024 + x.val / 1024 % 1024) * 1024 + x.val % 1024 = x.val
          omega)]
  rfl

/-! ## The results -/

/-- The values. -/
theorem res_val : shapeCast S8x256 (select (cmpi .slt (broadcastInDim S32x64 ![0, 1] bcast_S1x64_S32x64_0_1 (res_main_v1 V0)) (broadcastInDim S32x64 ![0, 1] bcast_S32x1_S32x64_0_1 (res_main_v78 V0))) (shapeCast S32x64 (Host.gather gather_S8388608_S2048x1_S2048_n_0_n_n_0_1_1 (shapeCast S8388608 (V0 (Proc.devRef .tc main_arg0)) shapeCasts_S8x1024x1024_S8388608) (broadcastInDim S2048x1 ![0] bcast_S2048_S2048x1_0 (select (cmpi .slt (res_main_v142 V0) (broadcastInDim S2048 ![] bcast_S_S2048 (constantI S_ 32 0#32))) (addi (res_main_v142 V0) (broadcastInDim S2048 ![] bcast_S_S2048 (constantI S_ 32 8388608#32))) (res_main_v142 V0)))) shapeCasts_S2048_S32x64) (broadcastInDim S32x64 ![] bcast_S_S32x64 (id (constant S_ .f32 0xF149F2CA#32)))) shapeCasts_S32x64_S8x256
    = outVal (A V0) := by
  funext j
  obtain ⟨b, c, rfl⟩ : ∃ (b : Fin 8) (c : Fin 256), j = ValueIdx.ix2 b c := ⟨j 0, j 1, ValueIdx.eq_ix2 j⟩
  have ht : task b.val c.val < 32 := by unfold task; omega
  have hr := row_lt' (A V0) (task b.val c.val) (k := c.val % 64) (by omega)
  have hc := col_lt' (A V0) (task b.val c.val) (c.val % 64)
  have hn := nlive_le (A V0) (task b.val c.val)
  rw [shapeCast_apply (s := S32x64) (t := S8x256) _ _ (ValueIdx.ix2 b c) (ValueIdx.ix2 ⟨task b.val c.val, ht⟩ ⟨c.val % 64, by omega⟩)
      (by rw [Shape.rowMajor_val_two, Shape.rowMajor_val_two]
          show (b.val * 4 + c.val / 64) * 64 + c.val % 64 = b.val * 256 + c.val
          omega),
    select_ap, cmpi_ap, bc_row, bc_col, bc_scalar, v1_at, v78_at, w_sel (w_slt (by show c.val % 64 < 2 ^ 31; omega) (by show nlive _ (task b.val c.val) < 2 ^ 31; omega)),
    Routing.cast12 _ _ ⟨task b.val c.val, ht⟩ ⟨c.val % 64, by omega⟩ ⟨task b.val c.val * 64 + c.val % 64, by omega⟩ rfl,
    take1 _ rfl rfl rfl rfl _ _ _ _ _ _
      ⟨(task b.val c.val / 4 * 1024 + col (A V0) (task b.val c.val) (c.val % 64)) * 1024 + row (A V0) (task b.val c.val) (c.val % 64), by omega⟩
      (v142_at V0 ⟨task b.val c.val, ht⟩ ⟨c.val % 64, by omega⟩ _ rfl) (by omega),
    flat_at]
  rfl

/-- The places. -/
theorem res_idx : shapeCast S8x256 (addi (muli (res_main_v128 V0) (broadcastInDim S32x64 ![] bcast_S_S32x64 (constantI S_ 32 1024#32))) (res_main_v133 V0)) shapeCasts_S32x64_S8x256
    = outIdx (A V0) := by
  funext j
  obtain ⟨b, c, rfl⟩ : ∃ (b : Fin 8) (c : Fin 256), j = ValueIdx.ix2 b c := ⟨j 0, j 1, ValueIdx.eq_ix2 j⟩
  have ht : task b.val c.val < 32 := by unfold task; omega
  rw [shapeCast_apply (s := S32x64) (t := S8x256) _ _ (ValueIdx.ix2 b c) (ValueIdx.ix2 ⟨task b.val c.val, ht⟩ ⟨c.val % 64, by omega⟩)
      (by rw [Shape.rowMajor_val_two, Shape.rowMajor_val_two]
          show (b.val * 4 + c.val / 64) * 64 + c.val % 64 = b.val * 256 + c.val
          omega),
    addi_ap, muli_ap, bc_scalar, const_ap, v128_at, v133_at, w_mul, w_add]
  rfl

/-- A take of the rows of `x` at the candidates' rows or columns, reshaped to the result. -/
theorem res_take (v y : IVec S2048 32) (f : ℕ → ℕ → ℕ) (hf : ∀ p k, f p k < 1024)
    (hv : ∀ (p : Fin 32) (k : Fin 64) (e : Fin 2048), e.val = p.val * 64 + k.val → v (ValueIdx.ix1 e) = BitVec.ofNat 32 (p.val / 4 * 1024 + f p.val k.val))
    (b : Fin 8) (c : Fin 256) (l : Fin 128) :
    shapeCast S8x256x128 (Host.gather gather_S8192x128_S2048x1_S2048x128_1_0_n_n_0_1_1128 (res_main_v159 V0) (broadcastInDim S2048x1 ![0] bcast_S2048_S2048x1_0 (select (cmpi .slt v (broadcastInDim S2048 ![] bcast_S_S2048 (constantI S_ 32 0#32))) y v))) shapeCasts_S2048x128_S8x256x128 (ValueIdx.ix3 b c l)
      = (A V0).x6 (task b.val c.val / 4 * 1024 + f (task b.val c.val) (c.val % 64)) l.val := by
  have ht : task b.val c.val < 32 := by unfold task; omega
  have hk := hf (task b.val c.val) (c.val % 64)
  rw [shapeCast_apply (s := S2048x128) (t := S8x256x128) _ _ (ValueIdx.ix3 b c l) (ValueIdx.ix2 ⟨task b.val c.val * 64 + c.val % 64, by omega⟩ l)
      (by rw [Shape.rowMajor_val_three, Shape.rowMajor_val_two]
          show ((b.val * 4 + c.val / 64) * 64 + c.val % 64) * 128 + l.val = (b.val * 256 + c.val) * 128 + l.val
          omega),
    take2 _ rfl rfl rfl rfl rfl _ _ _ _ _ _ _ ⟨task b.val c.val / 4 * 1024 + f (task b.val c.val) (c.val % 64), by omega⟩
      (hv ⟨task b.val c.val, ht⟩ ⟨c.val % 64, by omega⟩ _ rfl) (by omega), v159_at]

/-- The rows of `x` at the candidates' rows, -/
theorem res_row (y : IVec S2048 32) : shapeCast S8x256x128 (Host.gather gather_S8192x128_S2048x1_S2048x128_1_0_n_n_0_1_1128 (res_main_v159 V0) (broadcastInDim S2048x1 ![0] bcast_S2048_S2048x1_0 (select (cmpi .slt (res_main_v169 V0) (broadcastInDim S2048 ![] bcast_S_S2048 (constantI S_ 32 0#32))) y (res_main_v169 V0)))) shapeCasts_S2048x128_S8x256x128
    = outRow (A V0) := by
  funext j
  obtain ⟨b, c, l, rfl⟩ : ∃ (b : Fin 8) (c : Fin 256) (l : Fin 128), j = ValueIdx.ix3 b c l := ⟨j 0, j 1, j 2, ValueIdx.eq_ix3 j⟩
  exact res_take V0 _ y (fun p k => if k < 64 then row (A V0) p k else 0) (fun p k => by
    by_cases hk : k < 64
    · rw [if_pos hk]; exact row_lt' _ _ hk
    · rw [if_neg hk]; omega) (fun p k e he => by rw [if_pos k.isLt]; exact v169_at V0 p k e he) b c l
    |>.trans (by rw [if_pos (Nat.mod_lt _ (by omega))]; rfl)

/-- and at their columns. -/
theorem res_col (y : IVec S2048 32) : shapeCast S8x256x128 (Host.gather gather_S8192x128_S2048x1_S2048x128_1_0_n_n_0_1_1128 (res_main_v159 V0) (broadcastInDim S2048x1 ![0] bcast_S2048_S2048x1_0 (select (cmpi .slt (res_main_v182 V0) (broadcastInDim S2048 ![] bcast_S_S2048 (constantI S_ 32 0#32))) y (res_main_v182 V0)))) shapeCasts_S2048x128_S8x256x128
    = outCol (A V0) := by
  funext j
  obtain ⟨b, c, l, rfl⟩ : ∃ (b : Fin 8) (c : Fin 256) (l : Fin 128), j = ValueIdx.ix3 b c l := ⟨j 0, j 1, j 2, ValueIdx.eq_ix3 j⟩
  exact res_take V0 _ y (fun p k => col (A V0) p k) (fun p k => col_lt' _ p k) (fun p k e he => v182_at V0 p k e he) b c l

/-- The reference's run: its results are the selection's, its arguments as they were. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v160) = outVal (A (launchContents m c))
      ∧ r.2.mem ((c.tc : Thread nD τ).loc main_v164) = outIdx (A (launchContents m c))
      ∧ r.2.mem ((c.tc : Thread nD τ).loc main_v177) = outRow (A (launchContents m c))
      ∧ r.2.mem ((c.tc : Thread nD τ).loc main_v190) = outCol (A (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (res_val _), (h c).2.1.trans (res_idx _), (h c).2.2.1.trans (res_row _ _),
    (h c).2.2.2.1.trans (res_col _ _), (h c).2.2.2.2⟩) (Value.run m ρ)

end Cert.Proof.Ref

namespace Cert.Proof

open Idealize.ShloMosaic Idealize.ShloMosaic.StableHlo Idealize.SL.Sem

/-- The kernel's padding lane, an integer zero made a float, is the reference's float zero: at the ideal instance, -/
theorem zero_ideal : (zero : Ideal .f32) = Ref.zeroR :=
  (sitofp_zero (φ := .f32)).trans Ideal.ofBits_zero_f32.symm

/-- and at the bits. -/
theorem zero_bits : (zero : Bits .f32) = Ref.zeroR :=
  (Bits.sitofp32_eq_f32OfNat (0#32) (by omega) (by decide)).trans Bits.f32OfNat_zero

section
variable {F : FTy → Type} [FloatOps F]

/-- From equal arguments the two programs' sources are equal. -/
theorem src_eq (hz : (zero : F .f32) = Ref.zeroR)
    (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ) (c : Dev Cert.KernelIdeal.nD)
    (h0 : m' ((c.tc : Thread Cert.ReferenceIdeal.nD Cert.ReferenceIdeal.τ).loc Cert.ReferenceIdeal.main_arg0) = m (c, c0))
    (h1 : m' ((c.tc : Thread Cert.ReferenceIdeal.nD Cert.ReferenceIdeal.τ).loc Cert.ReferenceIdeal.main_arg1) = m (c, c1))
    (h2 : m' ((c.tc : Thread Cert.ReferenceIdeal.nD Cert.ReferenceIdeal.τ).loc Cert.ReferenceIdeal.main_arg2) = m (c, c2))
    (h3 : m' ((c.tc : Thread Cert.ReferenceIdeal.nD Cert.ReferenceIdeal.τ).loc Cert.ReferenceIdeal.main_arg3) = m (c, c3)) :
    Ref.A (launchContents m' c) = A1 m c := by
  unfold A1
  rw [← h0, ← h1, ← h2, ← h3, hz]
  rfl

end

/-- At the ideal instance, from equal arguments, the kernel and the reference leave equal values, places and rows, and
    their arguments as they were. -/
theorem algebraic : Cert.algebraic_KernelIdeal_ReferenceIdeal (hKernelIdeal := Cert.KernelIdeal.Gen.facts)
    (hReferenceIdeal := Cert.ReferenceIdeal.Gen.facts) := fun m g m' g' _ h =>
  have e := fun c => src_eq (F := Ideal) zero_ideal m m' c (h c).1 (h c).2.1 (h c).2.2.1 (h c).2.2.2
  ⟨fun c => outVal (A1 m c), fun c => outIdx (A1 m c), fun c => outRow (A1 m c), fun c => outCol (A1 m c),
    (θ_run Cert.KernelIdeal.defs _ _).mono (fun _ h c => ⟨(h.1 c).2.2.2.2.1, (h.1 c).2.2.2.2.2.1, (h.1 c).2.2.2.2.2.2.1, (h.1 c).2.2.2.2.2.2.2,
      (h.1 c).1, (h.1 c).2.1, (h.1 c).2.2.1, (h.1 c).2.2.2.1⟩) (run_main (F := Ideal) m g),
    (θ_run Cert.ReferenceIdeal.defs _ _).mono (fun _ h c => ⟨(h c).1.trans (congrArg outVal (e c)), (h c).2.1.trans (congrArg outIdx (e c)),
      (h c).2.2.1.trans (congrArg outRow (e c)), (h c).2.2.2.1.trans (congrArg outCol (e c)), (h c).2.2.2.2⟩) (Ref.run_ref (F := Ideal) m' g')⟩

/-- The same at the bits: every word of the results is the reference's. -/
theorem bitexact : Cert.bitexact_Kernel_Reference (hKernel := Cert.Kernel.Gen.facts)
    (hReference := Cert.Reference.Gen.facts) := fun m g m' g' _ h =>
  have e := fun c => src_eq (F := Bits) zero_bits m m' c (h c).1 (h c).2.1 (h c).2.2.1 (h c).2.2.2
  ⟨fun c => outVal (F := Bits) (A1 m c), fun c => outIdx (F := Bits) (A1 m c), fun c => outRow (F := Bits) (A1 m c), fun c => outCol (F := Bits) (A1 m c),
    (θ_run Cert.KernelIdeal.defs _ _).mono (fun _ h c => ⟨(h.1 c).2.2.2.2.1, (h.1 c).2.2.2.2.2.1, (h.1 c).2.2.2.2.2.2.1, (h.1 c).2.2.2.2.2.2.2,
      (h.1 c).1, (h.1 c).2.1, (h.1 c).2.2.1, (h.1 c).2.2.2.1⟩) (run_main (F := Bits) m g),
    (θ_run Cert.ReferenceIdeal.defs _ _).mono (fun _ h c => ⟨(h c).1.trans (congrArg outVal (e c)), (h c).2.1.trans (congrArg outIdx (e c)),
      (h c).2.2.1.trans (congrArg outRow (e c)), (h c).2.2.2.1.trans (congrArg outCol (e c)), (h c).2.2.2.2⟩) (Ref.run_ref (F := Bits) m' g')⟩

end Cert.Proof

end
-- ==== Proof.ScoresBody.lean ====
/-
  The scores' kernel at one grid point: what its three loops leave in the scratch array of projections and in the blocks of the
  scores, of the chunk maxima and of the threshold.
-/
module

public import proofs.«01_k».proof.Proof.Gen.ScoresIdeal.Frame
public import proofs.«01_k».proof.Proof.Gen.ScoresIdeal.Skeleton
public import proofs.«01_k».proof.Proof.Gen.ScoresIdeal.Loops
public import Idealize.ShloMosaic.Lib.Pipeline.Frame
public import Idealize.ShloMosaic.Lib.Tactic
public import Idealize.ShloMosaic.Lib.WritesUnit
public import Idealize.ShloMosaic.Lib.VecWindow
public import Idealize.ShloMosaic.Lib.ValueIdx

@[expose] public section

noncomputable section

namespace Cert.ScoresIdeal.Hand

open Cert.ScoresIdeal Cert.ScoresIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## What one point computes -/

/-- Rows `128 k, …, 128 k + 127` of the batch's block. -/
def rowsX (X1 : Vec F S1x1024x128 .f32) (k : Fin 8) : Vec F S1x128x128 .f32 := fun j =>
  X1 (ValueIdx.ix3 0 ⟨128 * k.val + (j 1).val, by have := (j 1).isLt; simp at this; omega⟩ ⟨(j 2).val, (j 2).isLt⟩)

/-- The scratch after the first loop: row `r` holds the two projections of the batch's row `r`. -/
def proj (X1 : Vec F S1x1024x128 .f32) (X2 : Vec F S512x128 .f32) (X3 : Vec F S512 .f32) : Vec F S1024x512 .f32 := fun y =>
  k0_pay1 (rowsX X1 ⟨(y 0).val / 128, by have := (y 0).isLt; simp at this; omega⟩) X2 X3
    (ValueIdx.ix2 ⟨(y 0).val % 128, by omega⟩ ⟨(y 1).val, (y 1).isLt⟩)

/-- Rows `128 k, …` of the second projection. -/
def rowsK (Y : Vec F S1024x512 .f32) (k : Fin 8) : Vec F S128x256 .f32 := fun j =>
  Y (ValueIdx.ix2 ⟨128 * k.val + (j 0).val, by have := (j 0).isLt; simp at this; omega⟩ ⟨256 + (j 1).val, by have := (j 1).isLt; simp at this; omega⟩)

/-- The first projection. -/
def colsQ (Y : Vec F S1024x512 .f32) : Vec F S1024x256 .f32 := fun j =>
  Y (ValueIdx.ix2 ⟨(j 0).val, (j 0).isLt⟩ ⟨(j 1).val, by have := (j 1).isLt; simp at this; omega⟩)

/-- The scores' block, of the scratch. -/
def blkS (Y : Vec F S1024x512 .f32) : Vec F S1x1024x1024 .f32 := fun y =>
  k0_pay3 (rowsK Y ⟨(y 1).val / 128, by have := (y 1).isLt; simp at this; omega⟩) (colsQ Y)
    (ValueIdx.ix3 0 ⟨(y 1).val % 128, by omega⟩ ⟨(y 2).val, (y 2).isLt⟩)

/-- The maxima's block, of the scratch. -/
def blkM (Y : Vec F S1024x512 .f32) : Vec F S1x8x1024 .f32 := fun y =>
  k0_pay4 (rowsK Y ⟨(y 2).val / 128, by have := (y 2).isLt; simp at this; omega⟩) (colsQ Y)
    (ValueIdx.ix3 0 ⟨(y 1).val, (y 1).isLt⟩ ⟨(y 2).val % 128, by omega⟩)

/-- The threshold's block, of the maxima's: the bisection's lower end. -/
def blkT (v2 : Vec F S1x8x1024 .f32) : Vec F S1x1x128 .f32 :=
  k0_pay11 (Scf.fold (n := k0_t3_loop.trips) (fun _ (p : F .f32 × F .f32) => (k0_pay9 v2 p.1 p.2, k0_pay10 v2 p.1 p.2)) (k0_pay6 v2, k0_pay7 v2)).1

/-! ## What the loops leave -/

theorem trips1 : k0_t1_loop.trips = 8 := by decide +kernel
theorem trips2 : k0_t2_loop.trips = 8 := by decide +kernel

/-- What trip `k` of the first loop stores. -/
theorem trip1 (𝒱 : Variants) (c : Dev nD) (bd : Option 𝒱.V) (i : grid0.Coords) (arg1 : Memref sig .tc .vmem S1x1024x128 .f32) (harg1 : arg1.IsWhole) (arg2 : Memref sig .tc .vmem S512x128 .f32) (harg2 : arg2.IsWhole) (arg3 : Memref sig .tc .vmem S512 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x1x128 .f32) (harg6 : arg6.IsWhole) (arg7 : Memref sig .tc .vmem S1024x512 .f32) (harg7 : arg7.IsWhole) (X_arg1 : BufTy.Contents (Elt F) arg1.view.ty) (X_arg2 : BufTy.Contents (Elt F) arg2.view.ty) (X_arg3 : BufTy.Contents (Elt F) arg3.view.ty) (k : Fin k0_t1_loop.trips) :
    tripL_k0_t1 (F := F) 𝒱 c bd i arg1 harg1 arg2 harg2 arg3 harg3 arg4 harg4 arg5 harg5 arg6 harg6 arg7 harg7 X_arg1 X_arg2 X_arg3 k
      = [⟨Rect.unit (s := S1024x512) (k0_off2 k) S128x512.size (k0_off2_inb k),
          k0_pay1 (View.readAt (Elt F) arg1.view (Rect.unit (s := S1x1024x128) (k0_off1 k) S1x128x128.size (k0_off1_inb k)).toLoadRect X_arg1)
            (View.readAt (Elt F) arg2.view (Rect.unit (s := S512x128) ![0, 0] S512x128.size inb_S512x128_S512x128_0_0).toLoadRect X_arg2)
            (View.readAt (Elt F) arg3.view (Rect.unit (s := S512) ![0] S512.size inb_S512_S512_0).toLoadRect X_arg3)⟩] := by
  unfold tripL_k0_t1 trip_k0_t1
  rfl

/-- What trip `k` of the second loop stores. -/
theorem trip2 (𝒱 : Variants) (c : Dev nD) (bd : Option 𝒱.V) (i : grid0.Coords) (arg1 : Memref sig .tc .vmem S1x1024x128 .f32) (harg1 : arg1.IsWhole) (arg2 : Memref sig .tc .vmem S512x128 .f32) (harg2 : arg2.IsWhole) (arg3 : Memref sig .tc .vmem S512 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x1x128 .f32) (harg6 : arg6.IsWhole) (arg7 : Memref sig .tc .vmem S1024x512 .f32) (harg7 : arg7.IsWhole) (X_arg7 : BufTy.Contents (Elt F) arg7.view.ty) (k : Fin k0_t2_loop.trips) :
    tripL_k0_t2 (F := F) 𝒱 c bd i arg1 harg1 arg2 harg2 arg3 harg3 arg4 harg4 arg5 harg5 arg6 harg6 arg7 harg7 X_arg7 k
      = ([⟨Rect.unit (s := S1x1024x1024) (k0_off4 k) S1x128x1024.size (k0_off4_inb k),
          k0_pay3 (View.readAt (Elt F) arg7.view (Rect.unit (s := S1024x512) (k0_off3 k) S128x256.size (k0_off3_inb k)).toLoadRect X_arg7)
            (View.readAt (Elt F) arg7.view (Rect.unit (s := S1024x512) ![0, 0] S1024x256.size inb_S1024x512_S1024x256_0_0).toLoadRect X_arg7)⟩],
        [⟨Rect.unit (s := S1x8x1024) (k0_off5 k) S1x8x128.size (k0_off5_inb k),
          k0_pay4 (View.readAt (Elt F) arg7.view (Rect.unit (s := S1024x512) (k0_off3 k) S128x256.size (k0_off3_inb k)).toLoadRect X_arg7)
            (View.readAt (Elt F) arg7.view (Rect.unit (s := S1024x512) ![0, 0] S1024x256.size inb_S1024x512_S1024x256_0_0).toLoadRect X_arg7)⟩]) := by
  unfold tripL_k0_t2 trip_k0_t2
  rfl

section Loads

variable {sp : Space}

theorem load_rowsX (a : Memref sig .tc .vmem S1x1024x128 .f32) (f : BufTy.Contents (Elt F) a.view.ty) (k : Fin k0_t1_loop.trips) (k' : Fin 8) (hk : k.val = k'.val) :
    View.readAt (Elt F) a.view (Rect.unit (s := S1x1024x128) (k0_off1 k) S1x128x128.size (k0_off1_inb k)).toLoadRect f = rowsX (View.read (Elt F) a.view f) k' := by
  funext j
  rw [View.readAt_apply]
  refine congrArg (View.read (Elt F) a.view f) (funext fun b => Fin.ext ?_)
  show k0_off1 k b + 1 * (j b).val = _
  refine (congrArg (· + 1 * (j b).val) (congrFun (k0_off1_eq k) b)).trans ?_
  fin_cases b
  · show 0 + 1 * (j 0).val = 0
    have := (j 0).isLt; simp at this; omega
  · show 128 * k.val + 1 * (j 1).val = 128 * k'.val + (j 1).val
    omega
  · show 0 + 1 * (j 2).val = (j 2).val
    omega

theorem load_rowsK (a : Memref sig .tc .vmem S1024x512 .f32) (f : BufTy.Contents (Elt F) a.view.ty) (k : Fin k0_t2_loop.trips) (k' : Fin 8) (hk : k.val = k'.val) :
    View.readAt (Elt F) a.view (Rect.unit (s := S1024x512) (k0_off3 k) S128x256.size (k0_off3_inb k)).toLoadRect f = rowsK (View.read (Elt F) a.view f) k' := by
  funext j
  rw [View.readAt_apply]
  refine congrArg (View.read (Elt F) a.view f) (funext fun b => Fin.ext ?_)
  show k0_off3 k b + 1 * (j b).val = _
  refine (congrArg (· + 1 * (j b).val) (congrFun (k0_off3_eq k) b)).trans ?_
  fin_cases b
  · show 128 * k.val + 1 * (j 0).val = 128 * k'.val + (j 0).val
    omega
  · show 256 + 1 * (j 1).val = 256 + (j 1).val
    omega

theorem load_colsQ (a : Memref sig .tc .vmem S1024x512 .f32) (f : BufTy.Contents (Elt F) a.view.ty) :
    View.readAt (Elt F) a.view (Rect.unit (s := S1024x512) ![0, 0] S1024x256.size inb_S1024x512_S1024x256_0_0).toLoadRect f = colsQ (View.read (Elt F) a.view f) := by
  funext j
  rw [View.readAt_apply]
  refine congrArg (View.read (Elt F) a.view f) (funext fun b => Fin.ext ?_)
  fin_cases b
  · show 0 + 1 * (j 0).val = (j 0).val
    omega
  · show 0 + 1 * (j 1).val = (j 1).val
    omega

end Loads

/-- After `n` trips of the first loop the scratch's first `128 n` rows are the projections. -/
theorem read_pb1 (𝒱 : Variants) (c : Dev nD) (bd : Option 𝒱.V) (i : grid0.Coords) (arg1 : Memref sig .tc .vmem S1x1024x128 .f32) (harg1 : arg1.IsWhole) (arg2 : Memref sig .tc .vmem S512x128 .f32) (harg2 : arg2.IsWhole) (arg3 : Memref sig .tc .vmem S512 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x1x128 .f32) (harg6 : arg6.IsWhole) (arg7 : Memref sig .tc .vmem S1024x512 .f32) (harg7 : arg7.IsWhole) (X_arg1 : BufTy.Contents (Elt F) arg1.view.ty) (X_arg2 : BufTy.Contents (Elt F) arg2.view.ty) (X_arg3 : BufTy.Contents (Elt F) arg3.view.ty) (G : BufTy.Contents (Elt F) arg7.view.ty) :
    ∀ (n : ℕ) (hn : n ≤ 8) (y : S1024x512.Idx), (y 0).val < 128 * n →
      View.read (Elt F) arg7.view (arg7.view.writes (Elt F) G (pb_k0_t1 (F := F) 𝒱 c bd i arg1 harg1 arg2 harg2 arg3 harg3 arg4 harg4 arg5 harg5 arg6 harg6 arg7 harg7 X_arg1 X_arg2 X_arg3 n)) y
        = proj (View.read (Elt F) arg1.view X_arg1) (View.read (Elt F) arg2.view X_arg2) (View.read (Elt F) arg3.view X_arg3) y := by
  intro n
  induction n with
  | zero => intro _ y h; omega
  | succ n ih =>
    intro hn y h
    have hs := pb_k0_t1_succ (F := F) 𝒱 c bd i arg1 harg1 arg2 harg2 arg3 harg3 arg4 harg4 arg5 harg5 arg6 harg6 arg7 harg7 X_arg1 X_arg2 X_arg3 ⟨n, by rw [trips1]; omega⟩
    simp only at hs
    rw [hs, trip1, List.singleton_append]
    by_cases hy : (y 0).val < 128 * n
    · refine (View.read_writes_cons_unit_of_not_mem _ _ _ _ _ y (k0_off2_eq _) 0 (Or.inl ?_)).trans (ih (by omega) y hy)
      exact hy
    · refine (View.read_writes_cons_unit_of_mem _ _ _ _ _ y (ValueIdx.ix2 ⟨(y 0).val % 128, by omega⟩ ⟨(y 1).val, (y 1).isLt⟩) (k0_off2_eq _) ?_).trans ?_
      · intro b
        fin_cases b
        · show (y 0).val = 128 * n + (y 0).val % 128
          omega
        · show (y 1).val = 0 + (y 1).val
          omega
      · unfold proj
        rw [load_rowsX _ _ _ ⟨(y 0).val / 128, by omega⟩ (by show n = (y 0).val / 128; omega), View.readAt_full, View.readAt_full]
        rfl

/-- After `n` trips of the second loop the scores' block's first `128 n` rows are the scores. -/
theorem read_pb2_S (𝒱 : Variants) (c : Dev nD) (bd : Option 𝒱.V) (i : grid0.Coords) (arg1 : Memref sig .tc .vmem S1x1024x128 .f32) (harg1 : arg1.IsWhole) (arg2 : Memref sig .tc .vmem S512x128 .f32) (harg2 : arg2.IsWhole) (arg3 : Memref sig .tc .vmem S512 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x1x128 .f32) (harg6 : arg6.IsWhole) (arg7 : Memref sig .tc .vmem S1024x512 .f32) (harg7 : arg7.IsWhole) (X_arg7 : BufTy.Contents (Elt F) arg7.view.ty) (G : BufTy.Contents (Elt F) arg4.view.ty) :
    ∀ (n : ℕ) (hn : n ≤ 8) (y : S1x1024x1024.Idx), (y 1).val < 128 * n →
      View.read (Elt F) arg4.view (arg4.view.writes (Elt F) G (pb_k0_t2 (F := F) 𝒱 c bd i arg1 harg1 arg2 harg2 arg3 harg3 arg4 harg4 arg5 harg5 arg6 harg6 arg7 harg7 X_arg7 n).1) y
        = blkS (View.read (Elt F) arg7.view X_arg7) y := by
  intro n
  induction n with
  | zero => intro _ y h; omega
  | succ n ih =>
    intro hn y h
    have hs : (pb_k0_t2 (F := F) 𝒱 c bd i arg1 harg1 arg2 harg2 arg3 harg3 arg4 harg4 arg5 harg5 arg6 harg6 arg7 harg7 X_arg7 (n + 1)).1 = (tripL_k0_t2 (F := F) 𝒱 c bd i arg1 harg1 arg2 harg2 arg3 harg3 arg4 harg4 arg5 harg5 arg6 harg6 arg7 harg7 X_arg7 ⟨n, by rw [trips2]; omega⟩).1 ++ (pb_k0_t2 (F := F) 𝒱 c bd i arg1 harg1 arg2 harg2 arg3 harg3 arg4 harg4 arg5 harg5 arg6 harg6 arg7 harg7 X_arg7 n).1 :=
      congrArg Prod.fst (pb_k0_t2_succ (F := F) 𝒱 c bd i arg1 harg1 arg2 harg2 arg3 harg3 arg4 harg4 arg5 harg5 arg6 harg6 arg7 harg7 X_arg7 ⟨n, by rw [trips2]; omega⟩)
    rw [hs, trip2, List.singleton_append]
    by_cases hy : (y 1).val < 128 * n
    · refine (View.read_writes_cons_unit_of_not_mem _ _ _ _ _ y (k0_off4_eq _) 1 (Or.inl ?_)).trans (ih (by omega) y hy)
      exact hy
    · refine (View.read_writes_cons_unit_of_mem _ _ _ _ _ y (ValueIdx.ix3 0 ⟨(y 1).val % 128, by omega⟩ ⟨(y 2).val, (y 2).isLt⟩) (k0_off4_eq _) ?_).trans ?_
      · intro b
        fin_cases b
        · show (y 0).val = 0 + 0
          have := (y 0).isLt; simp at this; omega
        · show (y 1).val = 128 * n + (y 1).val % 128
          omega
        · show (y 2).val = 0 + (y 2).val
          omega
      · unfold blkS
        rw [load_rowsK _ _ _ ⟨(y 1).val / 128, by omega⟩ (by show n = (y 1).val / 128; omega), load_colsQ]
        rfl

/-- After `n` trips of the second loop the maxima's block's first `128 n` columns are the maxima. -/
theorem read_pb2_M (𝒱 : Variants) (c : Dev nD) (bd : Option 𝒱.V) (i : grid0.Coords) (arg1 : Memref sig .tc .vmem S1x1024x128 .f32) (harg1 : arg1.IsWhole) (arg2 : Memref sig .tc .vmem S512x128 .f32) (harg2 : arg2.IsWhole) (arg3 : Memref sig .tc .vmem S512 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x1x128 .f32) (harg6 : arg6.IsWhole) (arg7 : Memref sig .tc .vmem S1024x512 .f32) (harg7 : arg7.IsWhole) (X_arg7 : BufTy.Contents (Elt F) arg7.view.ty) (G : BufTy.Contents (Elt F) arg5.view.ty) :
    ∀ (n : ℕ) (hn : n ≤ 8) (y : S1x8x1024.Idx), (y 2).val < 128 * n →
      View.read (Elt F) arg5.view (arg5.view.writes (Elt F) G (pb_k0_t2 (F := F) 𝒱 c bd i arg1 harg1 arg2 harg2 arg3 harg3 arg4 harg4 arg5 harg5 arg6 harg6 arg7 harg7 X_arg7 n).2) y
        = blkM (View.read (Elt F) arg7.view X_arg7) y := by
  intro n
  induction n with
  | zero => intro _ y h; omega
  | succ n ih =>
    intro hn y h
    have hs : (pb_k0_t2 (F := F) 𝒱 c bd i arg1 harg1 arg2 harg2 arg3 harg3 arg4 harg4 arg5 harg5 arg6 harg6 arg7 harg7 X_arg7 (n + 1)).2 = (tripL_k0_t2 (F := F) 𝒱 c bd i arg1 harg1 arg2 harg2 arg3 harg3 arg4 harg4 arg5 harg5 arg6 harg6 arg7 harg7 X_arg7 ⟨n, by rw [trips2]; omega⟩).2 ++ (pb_k0_t2 (F := F) 𝒱 c bd i arg1 harg1 arg2 harg2 arg3 harg3 arg4 harg4 arg5 harg5 arg6 harg6 arg7 harg7 X_arg7 n).2 :=
      congrArg Prod.snd (pb_k0_t2_succ (F := F) 𝒱 c bd i arg1 harg1 arg2 harg2 arg3 harg3 arg4 harg4 arg5 harg5 arg6 harg6 arg7 harg7 X_arg7 ⟨n, by rw [trips2]; omega⟩)
    rw [hs, trip2, List.singleton_append]
    by_cases hy : (y 2).val < 128 * n
    · refine (View.read_writes_cons_unit_of_not_mem _ _ _ _ _ y (k0_off5_eq _) 2 (Or.inl ?_)).trans (ih (by omega) y hy)
      exact hy
    · refine (View.read_writes_cons_unit_of_mem _ _ _ _ _ y (ValueIdx.ix3 0 ⟨(y 1).val, (y 1).isLt⟩ ⟨(y 2).val % 128, by omega⟩) (k0_off5_eq _) ?_).trans ?_
      · intro b
        fin_cases b
        · show (y 0).val = 0 + 0
          have := (y 0).isLt; simp at this; omega
        · show (y 1).val = 0 + (y 1).val
          omega
        · show (y 2).val = 128 * n + (y 2).val % 128
          omega
      · unfold blkM
        rw [load_rowsK _ _ _ ⟨(y 2).val / 128, by omega⟩ (by show n = (y 2).val / 128; omega), load_colsQ]
        rfl

theorem read_all1 (𝒱 : Variants) (c : Dev nD) (bd : Option 𝒱.V) (i : grid0.Coords) (arg1 : Memref sig .tc .vmem S1x1024x128 .f32) (harg1 : arg1.IsWhole) (arg2 : Memref sig .tc .vmem S512x128 .f32) (harg2 : arg2.IsWhole) (arg3 : Memref sig .tc .vmem S512 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x1x128 .f32) (harg6 : arg6.IsWhole) (arg7 : Memref sig .tc .vmem S1024x512 .f32) (harg7 : arg7.IsWhole) (X_arg1 : BufTy.Contents (Elt F) arg1.view.ty) (X_arg2 : BufTy.Contents (Elt F) arg2.view.ty) (X_arg3 : BufTy.Contents (Elt F) arg3.view.ty) (G : BufTy.Contents (Elt F) arg7.view.ty) (n : ℕ) (hn : n = 8) :
    View.read (Elt F) arg7.view (arg7.view.writes (Elt F) G (pb_k0_t1 (F := F) 𝒱 c bd i arg1 harg1 arg2 harg2 arg3 harg3 arg4 harg4 arg5 harg5 arg6 harg6 arg7 harg7 X_arg1 X_arg2 X_arg3 n))
        = proj (View.read (Elt F) arg1.view X_arg1) (View.read (Elt F) arg2.view X_arg2) (View.read (Elt F) arg3.view X_arg3) :=
  funext fun y => read_pb1 (F := F) 𝒱 c bd i arg1 harg1 arg2 harg2 arg3 harg3 arg4 harg4 arg5 harg5 arg6 harg6 arg7 harg7 X_arg1 X_arg2 X_arg3 G n (by omega) y (by have := (y 0).isLt; simp at this; omega)

theorem read_allS (𝒱 : Variants) (c : Dev nD) (bd : Option 𝒱.V) (i : grid0.Coords) (arg1 : Memref sig .tc .vmem S1x1024x128 .f32) (harg1 : arg1.IsWhole) (arg2 : Memref sig .tc .vmem S512x128 .f32) (harg2 : arg2.IsWhole) (arg3 : Memref sig .tc .vmem S512 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x1x128 .f32) (harg6 : arg6.IsWhole) (arg7 : Memref sig .tc .vmem S1024x512 .f32) (harg7 : arg7.IsWhole) (X_arg7 : BufTy.Contents (Elt F) arg7.view.ty) (G : BufTy.Contents (Elt F) arg4.view.ty) (n : ℕ) (hn : n = 8) :
    View.read (Elt F) arg4.view (arg4.view.writes (Elt F) G (pb_k0_t2 (F := F) 𝒱 c bd i arg1 harg1 arg2 harg2 arg3 harg3 arg4 harg4 arg5 harg5 arg6 harg6 arg7 harg7 X_arg7 n).1) = blkS (View.read (Elt F) arg7.view X_arg7) :=
  funext fun y => read_pb2_S (F := F) 𝒱 c bd i arg1 harg1 arg2 harg2 arg3 harg3 arg4 harg4 arg5 harg5 arg6 harg6 arg7 harg7 X_arg7 G n (by omega) y (by have := (y 1).isLt; simp at this; omega)

theorem read_allM (𝒱 : Variants) (c : Dev nD) (bd : Option 𝒱.V) (i : grid0.Coords) (arg1 : Memref sig .tc .vmem S1x1024x128 .f32) (harg1 : arg1.IsWhole) (arg2 : Memref sig .tc .vmem S512x128 .f32) (harg2 : arg2.IsWhole) (arg3 : Memref sig .tc .vmem S512 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x1x128 .f32) (harg6 : arg6.IsWhole) (arg7 : Memref sig .tc .vmem S1024x512 .f32) (harg7 : arg7.IsWhole) (X_arg7 : BufTy.Contents (Elt F) arg7.view.ty) (G : BufTy.Contents (Elt F) arg5.view.ty) (n : ℕ) (hn : n = 8) :
    View.read (Elt F) arg5.view (arg5.view.writes (Elt F) G (pb_k0_t2 (F := F) 𝒱 c bd i arg1 harg1 arg2 harg2 arg3 harg3 arg4 harg4 arg5 harg5 arg6 harg6 arg7 harg7 X_arg7 n).2) = blkM (View.read (Elt F) arg7.view X_arg7) :=
  funext fun y => read_pb2_M (F := F) 𝒱 c bd i arg1 harg1 arg2 harg2 arg3 harg3 arg4 harg4 arg5 harg5 arg6 harg6 arg7 harg7 X_arg7 G n (by omega) y (by have := (y 2).isLt; simp at this; omega)

/-! ## The body, run once -/

/-- From its inputs at any contents the body runs to its end, and leaves the inputs as they were, the three outputs' buffers at
    what one point computes, and the scratch at some contents. -/
theorem kernelRun (c : Dev nD) (i : grid0.Coords) (arg1 : Memref sig .tc .vmem S1x1024x128 .f32) (harg1 : arg1.IsWhole) (arg2 : Memref sig .tc .vmem S512x128 .f32) (harg2 : arg2.IsWhole) (arg3 : Memref sig .tc .vmem S512 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x1x128 .f32) (harg6 : arg6.IsWhole) (arg7 : Memref sig .tc .vmem S1024x512 .f32) (harg7 : arg7.IsWhole)
    (X1 : Vec F S1x1024x128 .f32) (X2 : Vec F S512x128 .f32) (X3 : Vec F S512 .f32) (K : PUnit → sProp 𝕄) :
    iprop(owns (c : Thread nD τ) arg1 fullShare X1 ∗ owns (c : Thread nD τ) arg2 fullShare X2 ∗ owns (c : Thread nD τ) arg3 fullShare X3
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare X1 ∗ owns (c : Thread nD τ) arg2 fullShare X2 ∗ owns (c : Thread nD τ) arg3 fullShare X3
            ∗ owns (c : Thread nD τ) arg4 fullShare (blkS (proj X1 X2 X3)) ∗ owns (c : Thread nD τ) arg5 fullShare (blkM (proj X1 X2 X3))
            ∗ owns (c : Thread nD τ) arg6 fullShare (blkT (blkM (proj X1 X2 X3))) ∗ (∃ d, owns (c : Thread nD τ) arg7 fullShare d)) -∗ K ⟨⟩))
      ⊢ wp frame (wpE (defs₀ (F := F)) Variants.none c none) Set.univ
          (cc0__tc1_body i arg1 harg1 arg2 harg2 arg3 harg3 arg4 harg4 arg5 harg5 arg6 harg6 arg7 harg7) K := by
  simp only [cc0__tc1_body_eq_skeleton]; unfold cc0__tc1_body_skel
  unfold owns
  iintro ⟨⟨%f1, %h1, H1⟩, ⟨%f2, %h2, H2⟩, ⟨%f3, %h3, H3⟩, ⟨%d4, %f4, -, H4⟩, ⟨%d5, %f5, -, H5⟩, ⟨%d6, %f6, -, H6⟩, ⟨%d7, %f7, -, H7⟩, Hk⟩
  sl_exec
  sl_step
  subst h1 h2 h3
  iapply Hk
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro
    refine (read_allS _ _ _ _ _ _ _ _ _ _ _ _ _ _ _ _ _ _ _ _ _ trips2).trans ?_
    rw [read_all1 _ _ _ _ _ _ _ _ _ _ _ _ _ _ _ _ _ _ _ _ _ _ _ trips1]
  isplitl [H5]
  · iexists _; isplitr; swap; · iexact H5
    ipureintro
    refine (read_allM _ _ _ _ _ _ _ _ _ _ _ _ _ _ _ _ _ _ _ _ _ trips2).trans ?_
    rw [read_all1 _ _ _ _ _ _ _ _ _ _ _ _ _ _ _ _ _ _ _ _ _ _ _ trips1]
  isplitl [H6]
  · iexists _; isplitr; swap; · iexact H6
    ipureintro
    rw [View.read_writes_full]
    unfold kernelRun.sl.r
    have hv : kernelRun.sl.v2 c i arg1 harg1 arg2 harg2 arg3 harg3 arg4 harg4 arg5 harg5 arg6 harg6 arg7 harg7 f1 f2 f3 f5 f7 = blkM (proj (View.read (Elt F) arg1.view f1) (View.read (Elt F) arg2.view f2) (View.read (Elt F) arg3.view f3)) := by
      unfold kernelRun.sl.v2
      rw [View.readAt_full]
      refine (read_allM _ _ _ _ _ _ _ _ _ _ _ _ _ _ _ _ _ _ _ _ _ trips2).trans ?_
      rw [read_all1 _ _ _ _ _ _ _ _ _ _ _ _ _ _ _ _ _ _ _ _ _ _ _ trips1]
    rw [hv]
    rfl
  iexists _, _; isplitr; swap; · iexact H7
  ipureintro; rfl

end Cert.ScoresIdeal.Hand

end
-- ==== Proof.ScoresRun.lean ====
/-
  The run of the scores' call over its eight batches, and what the whole arrays of the scores and of the chunk maxima hold at
  its end.
-/
module

public import proofs.«01_k».proof.Proof.ScoresBody
public import Idealize.ShloMosaic.Lib.Pipeline.Value
public import Idealize.ShloMosaic.Lib.Pipeline.ValueKit
public import Idealize.ShloMosaic.Lib.Quiescent

@[expose] public section

noncomputable section

namespace Cert.ScoresIdeal.Hand

open Cert.ScoresIdeal Cert.ScoresIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The arrays as the region finds them; after the body each input's buffer at its block and each output's at what the point
    computes of the input blocks; the scratch at some contents; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blkS (proj (iblk m c 0 t) (iblk m c 1 t) (iblk m c 2 t))
    | ⟨4, _⟩ => blkM (proj (iblk m c 0 t) (iblk m c 1 t) (iblk m c 2 t))
    | ⟨5, _⟩ => blkT (blkM (proj (iblk m c 0 t) (iblk m c 1 t) (iblk m c 2 t)))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = blkS (proj (iblk m c 0 t) (iblk m c 1 t) (iblk m c 2 t)) := by dsimp only [dats]
theorem after0_4 (c : Dev nD) (t : Fin cfg0.N) : (dats m 0 c).after 4 t = blkM (proj (iblk m c 0 t) (iblk m c 1 t) (iblk m c 2 t)) := by dsimp only [dats]
theorem after0_5 (c : Dev nD) (t : Fin cfg0.N) : (dats m 0 c).after 5 t = blkT (blkM (proj (iblk m c 0 t) (iblk m c 1 t) (iblk m c 2 t))) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The invariant opened: the scratch at some contents, and the generator's register. -/
theorem PhiA0_eq (c : Dev nD) :
    (Pipeline.ΦA spec0 c : sProp 𝕄)
      = iprop((∃ d, owns (c : Thread nD τ) (Memref.whole cc0_scratch0 : Memref sig .tc .vmem S1024x512 .f32) fullShare d) ∗ ∃ r, prngReg c r) := by
  unfold Pipeline.ΦA
  rw [scopedRest0_eq]
  simp only [owns_whole]; try rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    after0_0, after0_1, after0_2, after0_3, after0_4, after0_5]
  iintro ⟨⟨HS, Hg⟩, Ho, ⟨%d0, H0⟩, ⟨%d1, H1⟩, ⟨%d2, H2⟩, ⟨%d3, H3⟩, ⟨%d4, H4⟩, ⟨%d5, H5⟩⟩
  iapply (kernelRun c _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS]; · iexact HS
  iintro ⟨H0, H1, H2, H3, H4, H5, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at the point is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

-- the launch theorem's implicit arguments are found by unifying its conclusion with this statement, which unifies only when
-- unification may unfold plain definitions in a metavariable's type
set_option backward.isDefEq.respectTransparency.types false in
/-- At any value instance `F`, from any memory with zero counters: every weakly fair execution of @main on the TensorCores
    terminates, and every final state has the pipeline's arrays at what the proof data names, every other unscoped buffer as
    the region found it, and every semaphore counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-! ## The whole arrays -/

/-- Batch `b` of the array. -/
def batch (X : Vec F S8x1024x128 .f32) (b : Fin 8) : Vec F S1x1024x128 .f32 := fun j =>
  X (ValueIdx.ix3 b ⟨(j 1).val, (j 1).isLt⟩ ⟨(j 2).val, (j 2).isLt⟩)

/-- All the scores. -/
def allS (X : Vec F S8x1024x128 .f32) (W : Vec F S512x128 .f32) (B : Vec F S512 .f32) : Vec F S8x1024x1024 .f32 := fun i =>
  blkS (proj (batch X ⟨(i 0).val, (i 0).isLt⟩) W B) (ValueIdx.ix3 0 ⟨(i 1).val, (i 1).isLt⟩ ⟨(i 2).val, (i 2).isLt⟩)

/-- All the maxima. -/
def allM (X : Vec F S8x1024x128 .f32) (W : Vec F S512x128 .f32) (B : Vec F S512 .f32) : Vec F S8x8x1024 .f32 := fun i =>
  blkM (proj (batch X ⟨(i 0).val, (i 0).isLt⟩) W B) (ValueIdx.ix3 0 ⟨(i 1).val, (i 1).isLt⟩ ⟨(i 2).val, (i 2).isLt⟩)

/-- All the thresholds. -/
def allT (X : Vec F S8x1024x128 .f32) (W : Vec F S512x128 .f32) (B : Vec F S512 .f32) : Vec F S8x1x128 .f32 := fun i =>
  blkT (blkM (proj (batch X ⟨(i 0).val, (i 0).isLt⟩) W B)) (ValueIdx.ix3 0 0 ⟨(i 2).val, (i 2).isLt⟩)

/-- Every window's block index at every point. -/
theorem idx0 : ∀ t : Fin cfg0.N, win0_0.index t = ![t.val, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0] := (by decide +kernel : ∀ t : Fin grid0.N, _)
theorem idx3 : ∀ t : Fin cfg0.N, win0_3.index t = ![t.val, 0, 0] := (by decide +kernel : ∀ t : Fin grid0.N, _)
theorem idx4 : ∀ t : Fin cfg0.N, win0_4.index t = ![t.val, 0, 0] := (by decide +kernel : ∀ t : Fin grid0.N, _)
theorem idx5 : ∀ t : Fin cfg0.N, win0_5.index t = ![t.val, 0, 0] := (by decide +kernel : ∀ t : Fin grid0.N, _)

theorem iblk0_eq (c : Dev nD) (t : Fin cfg0.N) : (iblk m c 0 t : Vec F S1x1024x128 .f32) = batch (V m c main_arg0) ⟨t.val, t.isLt⟩ := by
  funext y
  unfold iblk batch
  blk_simp
  refine congrArg (V m c main_arg0) (funext fun a => Fin.ext ?_)
  have h0 : (y 0).val < 1 := (y 0).isLt
  fin_cases a
  · show ((win0_0.blk t).view.emb y 0).val = t.val
    blk_simp [idx0]
  · show ((win0_0.blk t).view.emb y 1).val = (y 1).val
    blk_simp [idx0]
  · show ((win0_0.blk t).view.emb y 2).val = (y 2).val
    blk_simp [idx0]

theorem iblk1_eq (c : Dev nD) (t : Fin cfg0.N) : (iblk m c 1 t : Vec F S512x128 .f32) = V m c main_v2 := by
  funext y
  unfold iblk
  blk_simp
  refine congrArg (V m c main_v2) (funext fun a => Fin.ext ?_)
  fin_cases a
  · show ((win0_1.blk t).view.emb y 0).val = (y 0).val
    blk_simp [idx1]
  · show ((win0_1.blk t).view.emb y 1).val = (y 1).val
    blk_simp [idx1]

theorem iblk2_eq (c : Dev nD) (t : Fin cfg0.N) : (iblk m c 2 t : Vec F S512 .f32) = V m c main_v5 := by
  funext y
  unfold iblk
  blk_simp
  refine congrArg (V m c main_v5) (funext fun a => Fin.ext ?_)
  fin_cases a
  show ((win0_2.blk t).view.emb y 0).val = (y 0).val
  blk_simp [idx2]

/-- The array of scores after the run. -/
theorem final3 (c : Dev nD) : (dats m 0 c).arrAt 3 cfg0.N = allS (V m c main_arg0) (V m c main_v2) (V m c main_v5) := by
  refine (dats m 0 c).arrAt_eq_of_covers 3 _ (by decide +kernel) fun t hf y => ?_
  rw [after0_3]
  rw [iblk0_eq, iblk1_eq, iblk2_eq]
  blk_simp
  have h0 : (y 0).val < 1 := (y 0).isLt
  have e0 : ((win0_3.blk t).view.emb y 0).val = t.val := by blk_simp [idx3]
  have e1 : ((win0_3.blk t).view.emb y 1).val = (y 1).val := by blk_simp [idx3]
  have e2 : ((win0_3.blk t).view.emb y 2).val = (y 2).val := by blk_simp [idx3]
  unfold allS
  have eb : (⟨t.val, t.isLt⟩ : Fin 8) = ⟨((win0_3.blk t).view.emb y 0).val, ((win0_3.blk t).view.emb y 0).isLt⟩ := Fin.ext e0.symm
  rw [← eb]
  refine congrArg (blkS _) (funext fun a => Fin.ext ?_)
  fin_cases a
  · show (y 0).val = 0
    omega
  · exact e1.symm
  · exact e2.symm

/-- The array of maxima after the run. -/
theorem final4 (c : Dev nD) : (dats m 0 c).arrAt 4 cfg0.N = allM (V m c main_arg0) (V m c main_v2) (V m c main_v5) := by
  refine (dats m 0 c).arrAt_eq_of_covers 4 _ (by decide +kernel) fun t hf y => ?_
  rw [after0_4]
  rw [iblk0_eq, iblk1_eq, iblk2_eq]
  blk_simp
  have h0 : (y 0).val < 1 := (y 0).isLt
  have e0 : ((win0_4.blk t).view.emb y 0).val = t.val := by blk_simp [idx4]
  have e1 : ((win0_4.blk t).view.emb y 1).val = (y 1).val := by blk_simp [idx4]
  have e2 : ((win0_4.blk t).view.emb y 2).val = (y 2).val := by blk_simp [idx4]
  unfold allM
  have eb : (⟨t.val, t.isLt⟩ : Fin 8) = ⟨((win0_4.blk t).view.emb y 0).val, ((win0_4.blk t).view.emb y 0).isLt⟩ := Fin.ext e0.symm
  rw [← eb]
  refine congrArg (blkM _) (funext fun a => Fin.ext ?_)
  fin_cases a
  · show (y 0).val = 0
    omega
  · exact e1.symm
  · exact e2.symm

/-- The array of thresholds after the run. -/
theorem final5 (c : Dev nD) : (dats m 0 c).arrAt 5 cfg0.N = allT (V m c main_arg0) (V m c main_v2) (V m c main_v5) := by
  refine (dats m 0 c).arrAt_eq_of_covers 5 _ (by decide +kernel) fun t hf y => ?_
  rw [after0_5]
  rw [iblk0_eq, iblk1_eq, iblk2_eq]
  blk_simp
  have h1 : (y 1).val < 1 := (y 1).isLt
  have h0 : (y 0).val < 1 := (y 0).isLt
  have e0 : ((win0_5.blk t).view.emb y 0).val = t.val := by blk_simp [idx5]
  have e2 : ((win0_5.blk t).view.emb y 2).val = (y 2).val := by blk_simp [idx5]
  unfold allT
  have eb : (⟨t.val, t.isLt⟩ : Fin 8) = ⟨((win0_5.blk t).view.emb y 0).val, ((win0_5.blk t).view.emb y 0).isLt⟩ := Fin.ext e0.symm
  rw [← eb]
  refine congrArg (blkT _) (funext fun a => Fin.ext ?_)
  fin_cases a
  · show (y 0).val = 0
    omega
  · show (y 1).val = 0
    omega
  · exact e2.symm

end Cert.ScoresIdeal.Hand

end
-- ==== Proof.ScoresSpec.lean ====
/-
  One batch's threshold in the extended reals: the bounds of its maxima, halved thirty times.
-/
module

public import Idealize.ShloMosaic.Lib.Pointwise

@[expose] public section

noncomputable section

namespace Cert.Proof.Scores

open Idealize.ShloMosaic

/-- The middle of two bounds. -/
def middle (lo hi : EReal) : EReal := (lo + hi) * Ideal.ofBits FTy.f32 0x3F000000#32

/-- Whether 128 of the maxima reach a level. -/
def reached (x : Fin 8 × Fin 1024 → EReal) (l : EReal) : BitVec 1 :=
  IntOp.cmpi .sge (Finset.fold IntOp.addi 0#32 (fun j => BitVec.setWidth 32 (BitVec.ofBool (decide (l ≤ x j)))) Finset.univ) 128#32

/-- The bounds at the start. -/
def bounds (x : Fin 8 × Fin 1024 → EReal) : EReal × EReal :=
  (Finset.fold min (Ideal.ofBits FTy.f32 0x7F800000#32) x Finset.univ, Finset.fold max (Ideal.ofBits FTy.f32 0xFF800000#32) x Finset.univ + 1)

/-- One halving. -/
def halve (x : Fin 8 × Fin 1024 → EReal) (p : EReal × EReal) : EReal × EReal :=
  (Scalar.select (reached x (middle p.1 p.2)) (middle p.1 p.2) p.1, Scalar.select (reached x (middle p.1 p.2)) p.2 (middle p.1 p.2))

/-- The threshold. -/
def threshold (x : Fin 8 × Fin 1024 → EReal) : EReal := ((halve x)^[30] (bounds x)).1

end Cert.Proof.Scores

end
-- ==== Proof.ScoresPoint.lean ====
/-
  The scores, the chunk maxima and the thresholds read at an index, in the extended reals: sums of products of two projections,
  maxima of 128 scores, and the bounds of a batch's maxima halved thirty times.
-/
module

public import proofs.«01_k».proof.Proof.ScoresRun
public import proofs.«01_k».proof.Proof.ScoresSpec
public import Idealize.ShloMosaic.Lib.Pointwise

@[expose] public section

set_option maxRecDepth 16384

noncomputable section

namespace Cert.ScoresIdeal.Hand

open Cert.ScoresIdeal Cert.ScoresIdeal.Gen
open Idealize.ShloMosaic Idealize.ShloMosaic.TcCoe

theorem pay1_apply (x : Vec Ideal S1x128x128 .f32) (w : Vec Ideal S512x128 .f32) (b : Vec Ideal S512 .f32) (r : Fin 128) (n : Fin 512) :
    k0_pay1 x w b (ix2 r n) = (∑ k : Fin 128, x (ix3 0 r k) * w (ix2 n k)) + b (ix1 n) := by
  pointwise [k0_pay1]

theorem pay2_apply (a : Vec Ideal S128x256 .f32) (q : Vec Ideal S1024x256 .f32) (r : Fin 128) (n : Fin 1024) :
    k0_pay2 a q (ix2 r n) = ∑ k : Fin 256, a (ix2 r k) * q (ix2 n k) := by
  pointwise [k0_pay2]

theorem pay3_apply (a : Vec Ideal S128x256 .f32) (q : Vec Ideal S1024x256 .f32) (r : Fin 128) (n : Fin 1024) :
    k0_pay3 a q (ix3 0 r n) = k0_pay2 a q (ix2 r n) := by
  pointwise [k0_pay3]

theorem pay4_apply (a : Vec Ideal S128x256 .f32) (q : Vec Ideal S1024x256 .f32) (g : Fin 8) (r : Fin 128) :
    k0_pay4 a q (ix3 0 g r) = Finset.univ.fold max (Ideal.ofBits .f32 0xFF800000#32) fun l : Fin 128 => k0_pay2 a q (ix2 r ⟨g.val * 128 + l.val, by omega⟩) := by
  pointwise [k0_pay4]

/-! ## The threshold of a block of maxima -/

open Cert.Proof.Scores in
theorem pay6_7_eq (v : Vec Ideal S1x8x1024 .f32) : (k0_pay6 v, k0_pay7 v) = bounds fun j => v (ix3 0 j.1 j.2) := by
  refine Prod.ext ?_ ?_
  · pointwise [k0_pay6, k0_pay5]
    rfl
  · pointwise [k0_pay7, k0_pay5]
    rfl

open Cert.Proof.Scores in
theorem pay8_eq (a b : EReal) : k0_pay8 (F := Ideal) a b = middle a b := by
  pointwise [k0_pay8]
  rfl

open Cert.Proof.Scores in
theorem pay9_eq (v : Vec Ideal S1x8x1024 .f32) (a b : EReal) :
    k0_pay9 (F := Ideal) v a b = Scalar.select (reached (fun j => v (ix3 0 j.1 j.2)) (middle a b)) (middle a b) a := by
  rw [← pay8_eq]
  pointwise [k0_pay9, k0_pay5]
  rfl

open Cert.Proof.Scores in
theorem pay10_eq (v : Vec Ideal S1x8x1024 .f32) (a b : EReal) :
    k0_pay10 (F := Ideal) v a b = Scalar.select (reached (fun j => v (ix3 0 j.1 j.2)) (middle a b)) b (middle a b) := by
  rw [← pay8_eq]
  pointwise [k0_pay10, k0_pay5]
  rfl

open Cert.Proof.Scores in
theorem pay9_10_eq (v : Vec Ideal S1x8x1024 .f32) (p : EReal × EReal) :
    (k0_pay9 (F := Ideal) v p.1 p.2, k0_pay10 (F := Ideal) v p.1 p.2) = halve (fun j => v (ix3 0 j.1 j.2)) p := by
  unfold halve
  rw [pay9_eq, pay10_eq]

theorem pay11_apply (a : EReal) (i : Fin 128) : k0_pay11 (F := Ideal) a (ix3 0 0 i) = a := by
  pointwise [k0_pay11]

theorem trips3 : k0_t3_loop.trips = 30 := by decide +kernel

open Cert.Proof.Scores in
theorem blkT_apply (v : Vec Ideal S1x8x1024 .f32) (i : Fin 128) : blkT v (ix3 0 0 i) = threshold fun j => v (ix3 0 j.1 j.2) := by
  unfold blkT
  refine (pay11_apply _ i).trans ?_
  unfold threshold
  refine congrArg Prod.fst ?_
  rw [Scf.fold_eq, pay6_7_eq]
  simp only [pay9_10_eq]
  rw [List.foldl_const, List.length_finRange, trips3]

theorem eq_ix1_of {n : ℕ} (f g : (⟨1, ![n]⟩ : Shape).Idx) (h : (f 0).val = (g 0).val) : f = g := by
  funext a; apply Fin.ext; fin_cases a; exact h

theorem eq_ix2_of {n0 n1 : ℕ} (f g : (⟨2, ![n0, n1]⟩ : Shape).Idx) (h0 : (f 0).val = (g 0).val) (h1 : (f 1).val = (g 1).val) : f = g := by
  funext a; apply Fin.ext; fin_cases a; exacts [h0, h1]

theorem eq_ix3_of {n0 n1 n2 : ℕ} (f g : (⟨3, ![n0, n1, n2]⟩ : Shape).Idx) (h0 : (f 0).val = (g 0).val) (h1 : (f 1).val = (g 1).val)
    (h2 : (f 2).val = (g 2).val) : f = g := by
  funext a; apply Fin.ext; fin_cases a; exacts [h0, h1, h2]

/-- One projection's entry: row `r` of batch `b` against row `n` of the stacked weights, plus the stacked bias. -/
def P (X : Vec Ideal S8x1024x128 .f32) (W : Vec Ideal S512x128 .f32) (B : Vec Ideal S512 .f32) (b : Fin 8) (r : Fin 1024) (n : Fin 512) : EReal :=
  (∑ k : Fin 128, X (ix3 b r k) * W (ix2 n k)) + B (ix1 n)

variable (X : Vec Ideal S8x1024x128 .f32) (W : Vec Ideal S512x128 .f32) (B : Vec Ideal S512 .f32)

theorem proj_apply (b : Fin 8) (r : Fin 1024) (n : Fin 512) : proj (batch X b) W B (ix2 r n) = P X W B b r n := by
  unfold proj P
  refine Eq.trans (congrArg _ (eq_ix2_of _ (ix2 ⟨r.val % 128, by omega⟩ n) rfl rfl)) ?_
  rw [pay1_apply]
  refine congrArg (· + B (ix1 n)) (Finset.sum_congr rfl fun k _ => congrArg (· * W (ix2 n k)) ?_)
  refine congrArg X (eq_ix3_of _ _ rfl ?_ rfl)
  show 128 * (r.val / 128) + r.val % 128 = r.val
  omega

theorem pay2_rows (b : Fin 8) (k : Fin 8) (r : Fin 128) (n : Fin 1024) :
    k0_pay2 (rowsK (proj (batch X b) W B) k) (colsQ (proj (batch X b) W B)) (ix2 r n)
      = ∑ j : Fin 256, P X W B b ⟨128 * k.val + r.val, by omega⟩ ⟨256 + j.val, by omega⟩ * P X W B b n ⟨j.val, by omega⟩ := by
  rw [pay2_apply]
  refine Finset.sum_congr rfl fun j _ => ?_
  rw [← proj_apply, ← proj_apply]
  refine congrArg₂ (· * ·) ?_ ?_
  · exact congrArg (proj (batch X b) W B) (eq_ix2_of _ _ rfl rfl)
  · exact congrArg (proj (batch X b) W B) (eq_ix2_of _ _ rfl rfl)

theorem allS_apply (b : Fin 8) (r n : Fin 1024) :
    allS X W B (ix3 b r n) = ∑ j : Fin 256, P X W B b r ⟨256 + j.val, by omega⟩ * P X W B b n ⟨j.val, by omega⟩ := by
  unfold allS blkS
  refine Eq.trans (congrArg _ (eq_ix3_of _ (ix3 0 ⟨r.val % 128, by omega⟩ n) rfl rfl rfl)) ?_
  rw [pay3_apply]
  refine (pay2_rows X W B b ⟨r.val / 128, by omega⟩ ⟨r.val % 128, by omega⟩ n).trans ?_
  have e : (⟨128 * (r.val / 128) + r.val % 128, by omega⟩ : Fin 1024) = r := Fin.ext (by show 128 * (r.val / 128) + r.val % 128 = r.val; omega)
  simp only [e]

theorem allM_apply (b : Fin 8) (g : Fin 8) (r : Fin 1024) :
    allM X W B (ix3 b g r) = Finset.univ.fold max (Ideal.ofBits .f32 0xFF800000#32) fun l : Fin 128 => allS X W B (ix3 b r ⟨g.val * 128 + l.val, by omega⟩) := by
  unfold allM blkM
  refine Eq.trans (congrArg _ (eq_ix3_of _ (ix3 0 g ⟨r.val % 128, by omega⟩) rfl rfl rfl)) ?_
  rw [pay4_apply]
  refine congrArg (fun f => Finset.univ.fold max (Ideal.ofBits .f32 0xFF800000#32) f) (funext fun l => ?_)
  rw [allS_apply]
  refine (pay2_rows X W B b ⟨r.val / 128, by omega⟩ ⟨r.val % 128, by omega⟩ _).trans ?_
  have e : (⟨128 * (r.val / 128) + r.val % 128, by omega⟩ : Fin 1024) = r := Fin.ext (by show 128 * (r.val / 128) + r.val % 128 = r.val; omega)
  simp only [e]

theorem allT_apply (b : Fin 8) (i : Fin 128) :
    allT X W B (ix3 b 0 i) = Cert.Proof.Scores.threshold fun j => allM X W B (ix3 b j.1 j.2) := by
  unfold allT allM
  exact blkT_apply _ i

end Cert.ScoresIdeal.Hand

end
-- ==== Proof.ScoresScale.lean ====
/-
  The scale of the scores in the extended reals: a sum of products scaled on one factor before it is taken, by a sixteenth,
  is the sum divided by sixteen afterwards.
-/
module

public import Idealize.ShloMosaic.Lib.Pointwise

@[expose] public section

noncomputable section

namespace Cert.Proof.Scores

open Idealize.ShloMosaic

/-- A sixteenth, as the kernel writes it. -/
def sixteenth : EReal := Ideal.ofBits .f32 0x3D800000#32

theorem sixteenth_eq : sixteenth = (((1 : ℝ) / 16 : ℝ) : EReal) := by
  unfold sixteenth
  simp [Ideal.ofBits, Ideal.ieee, -EReal.coe_mul]; norm_num

theorem sixteen_eq : Ideal.ofBits .f32 0x41800000#32 = ((16 : ℝ) : EReal) := by
  simp [Ideal.ofBits, Ideal.ieee, -EReal.coe_mul]; norm_num

theorem sixteenth_nonneg : (0 : EReal) ≤ sixteenth := by
  rw [sixteenth_eq]; exact_mod_cast (show (0 : ℝ) ≤ 1 / 16 by norm_num)

theorem sixteenth_ne_top : sixteenth ≠ ⊤ := by
  rw [sixteenth_eq]; exact EReal.coe_ne_top _

/-- Division by sixteen is a product with a sixteenth. -/
theorem div_sixteen (x : EReal) : Ideal.div x (Ideal.ofBits .f32 0x41800000#32) = x * sixteenth := by
  rw [sixteen_eq, sixteenth_eq]
  unfold Ideal.div
  rw [if_neg (by exact_mod_cast (show (16 : ℝ) ≠ 0 by norm_num)), ← EReal.coe_inv, one_div]

/-- A sixteenth distributes over a sum of two, whatever they are: -/
theorem add_scaled (x y : EReal) : (x + y) * sixteenth = x * sixteenth + y * sixteenth := by
  rw [mul_comm (x + y), mul_comm x, mul_comm y]
  exact EReal.left_distrib_of_nonneg_of_ne_top sixteenth_nonneg sixteenth_ne_top x y

/-- so over any finite sum. -/
theorem sum_scaled {ι : Type} (s : Finset ι) (f : ι → EReal) : (∑ i ∈ s, f i) * sixteenth = ∑ i ∈ s, f i * sixteenth := by
  classical
  induction s using Finset.induction_on with
  | empty => simp
  | insert a s h ih => rw [Finset.sum_insert h, Finset.sum_insert h, add_scaled, ih]

/-- The kernel scales the query's weights and its bias; the reference divides the finished score. -/
theorem scores_scaled {K J : ℕ} (y : Fin J → EReal) (x : Fin K → EReal) (w : Fin J → Fin K → EReal) (b : Fin J → EReal) :
    (∑ j : Fin J, y j * ((∑ k : Fin K, x k * (w j k * sixteenth)) + b j * sixteenth))
      = Ideal.div (∑ j : Fin J, y j * ((∑ k : Fin K, x k * w j k) + b j)) (Ideal.ofBits .f32 0x41800000#32) := by
  rw [div_sixteen, sum_scaled]
  refine Finset.sum_congr rfl fun j _ => ?_
  rw [mul_assoc, add_scaled, sum_scaled]
  simp only [mul_assoc]

end Cert.Proof.Scores

end
-- ==== Proof.ScoresHost.lean ====
/-
  What the scores' arrays hold when the call starts: the query's weights scaled by a sixteenth over the key's, and the
  biases likewise.
-/
module

public import proofs.«01_k».proof.Proof.ScoresPoint
public import proofs.«01_k».proof.Proof.ScoresScale
public import Idealize.ShloMosaic.Lib.StableHlo.Run

@[expose] public section

set_option maxRecDepth 16384

noncomputable section

namespace Cert.ScoresIdeal.Hand

open Cert.ScoresIdeal Cert.ScoresIdeal.Gen
open Idealize.ShloMosaic Idealize.ShloMosaic.StableHlo Idealize.ShloMosaic.TcCoe
open Cert.Proof.Scores (sixteenth)

/-- The stacked weights. -/
def stackW (Wq Wk : Vec Ideal S256x128 .f32) : Vec Ideal S512x128 .f32 :=
  concatenate S512x128 0 [⟨S256x128, mulf (F := Ideal) (φ := .f32) Wq (broadcastInDim S256x128 ![] bcast_S_S256x128 (constant S_ .f32 0x3D800000#32))⟩, ⟨S256x128, Wk⟩] concatenates_S256x128_S256x128_S512x128_d0
/-- The stacked biases. -/
def stackB (bq bk : Vec Ideal S256 .f32) : Vec Ideal S512 .f32 :=
  concatenate S512 0 [⟨S256, mulf (F := Ideal) (φ := .f32) bq (broadcastInDim S256 ![] bcast_S_S256 (constant S_ .f32 0x3D800000#32))⟩, ⟨S256, bk⟩] concatenates_S256_S256_S512_d0

theorem stackW_apply (Wq Wk : Vec Ideal S256x128 .f32) (n : Fin 512) (k : Fin 128) :
    stackW Wq Wk (ix2 n k) = if h : n.val < 256 then Wq (ix2 ⟨n.val, h⟩ k) * sixteenth else Wk (ix2 ⟨n.val - 256, by omega⟩ k) := by
  pointwise [stackW]
  rfl
theorem stackB_apply (bq bk : Vec Ideal S256 .f32) (n : Fin 512) :
    stackB bq bk (ix1 n) = if h : n.val < 256 then bq (ix1 ⟨n.val, h⟩) * sixteenth else bk (ix1 ⟨n.val - 256, by omega⟩) := by
  pointwise [stackB]
  rfl

variable (m : (ℓ : Loc nD τ sig) → Buf (Elt Ideal) ℓ)

theorem V_main_v2 (c : Dev nD) : V m c main_v2 = stackW (m ((c : Thread nD τ).loc main_arg1)) (m ((c : Thread nD τ).loc main_arg3)) := by
  show after hostOps0 (fun b => m (c, b)) (Proc.devRef .tc main_v2) = _
  simp only [hostOps0]
  after_results_simp
  rfl
theorem V_main_v5 (c : Dev nD) : V m c main_v5 = stackB (m ((c : Thread nD τ).loc main_arg2)) (m ((c : Thread nD τ).loc main_arg4)) := by
  show after hostOps0 (fun b => m (c, b)) (Proc.devRef .tc main_v5) = _
  simp only [hostOps0]
  after_results_simp
  rfl

end Cert.ScoresIdeal.Hand

end
-- ==== Proof.ScoresRef.lean ====
/-
  The reference's scores, chunk maxima and thresholds read at an index.
-/
module

public import proofs.«01_k».proof.Proof.Gen.ScoresReferenceIdeal
public import proofs.«01_k».proof.Proof.Gen.ScoresReferenceIdeal.Run
public import proofs.«01_k».proof.Proof.ScoresSpec
public import Idealize.ShloMosaic.Lib.Pointwise
public import Idealize.ShloMosaic.Lib.Tactic.CleanTypes

@[expose] public section

set_option maxRecDepth 16384

noncomputable section

namespace Cert.ScoresReferenceIdeal.Hand

open Cert.ScoresReferenceIdeal Cert.ScoresReferenceIdeal.Gen Cert.ScoresReferenceIdeal.Value
open Idealize.ShloMosaic Idealize.ShloMosaic.StableHlo Idealize.ShloMosaic.TcCoe
open Cert.Proof.Scores

/-- The reference's scores, of its five arguments. -/
def refS (X : Vec Ideal S8x1024x128 .f32) (Wq : Vec Ideal S256x128 .f32) (bq : Vec Ideal S256 .f32) (Wk : Vec Ideal S256x128 .f32) (bk : Vec Ideal S256 .f32) :
    Vec Ideal S8x1024x1024 .f32 :=
  Host.divf (Host.dotGeneral (F := Ideal) (φ₁ := .f32) (φ₂ := .f32) dot_S8x1024x256_S8x1024x256_S8x1024x1024_2_2_1_1_0_0 none (addf (F := Ideal) (φ := .f32) (Host.dotGeneral (F := Ideal) (φ₁ := .f32) (φ₂ := .f32) dot_S8x1024x128_S128x256_S8x1024x256_2_0_01_1_n_n none X (transpose S128x256 [1, 0] Wk transposes_S256x128_S128x256_1_0)) (broadcastInDim S8x1024x256 ![0, 1, 2] bcast_S1x1x256_S8x1024x256_0_1_2 (broadcastInDim S1x1x256 ![2] bcast_S256_S1x1x256_2 bk))) (addf (F := Ideal) (φ := .f32) (Host.dotGeneral (F := Ideal) (φ₁ := .f32) (φ₂ := .f32) dot_S8x1024x128_S128x256_S8x1024x256_2_0_01_1_n_n none X (transpose S128x256 [1, 0] Wq transposes_S256x128_S128x256_1_0)) (broadcastInDim S8x1024x256 ![0, 1, 2] bcast_S1x1x256_S8x1024x256_0_1_2 (broadcastInDim S1x1x256 ![2] bcast_S256_S1x1x256_2 bq)))) (broadcastInDim S8x1024x1024 ![] bcast_S_S8x1024x1024 (constant S_ .f32 0x41800000#32))

/-- The reference's maxima, of its scores. -/
def refM (S : Vec Ideal S8x1024x1024 .f32) : Vec Ideal S8x8x1024 .f32 :=
  transpose S8x8x1024 [0, 2, 1] (Host.reduce (α := Ideal .f32) FloatOps.maximumf (shapeCast S8x1024x8x128 S shapeCasts_S8x1024x1024_S8x1024x8x128) (constant S_ .f32 0xFF800000#32) reducesTo_S8x1024x8x128_S8x1024x8_d3 h_S_) transposes_S8x1024x8_S8x8x1024_0_2_1

theorem refS_apply (X : Vec Ideal S8x1024x128 .f32) (Wq : Vec Ideal S256x128 .f32) (bq : Vec Ideal S256 .f32) (Wk : Vec Ideal S256x128 .f32) (bk : Vec Ideal S256 .f32)
    (b : Fin 8) (r n : Fin 1024) :
    refS X Wq bq Wk bk (ix3 b r n) = Ideal.div (∑ j : Fin 256, ((∑ k : Fin 128, X (ix3 b r k) * Wk (ix2 j k)) + bk (ix1 j)) * ((∑ k : Fin 128, X (ix3 b n k) * Wq (ix2 j k)) + bq (ix1 j))) (Ideal.ofBits .f32 0x41800000#32) := by
  pointwise [refS]

theorem refM_apply (S : Vec Ideal S8x1024x1024 .f32) (b g : Fin 8) (r : Fin 1024) :
    refM S (ix3 b g r) = Finset.univ.fold max (Ideal.ofBits .f32 0xFF800000#32) fun l : Fin 128 => S (ix3 b r ⟨g.val * 128 + l.val, by omega⟩) := by
  pointwise [refM]

/-! ## The thresholds -/

/-- The least of a batch's maxima, -/
def refLeast (M : Vec Ideal S8x8x1024 .f32) : Vec Ideal S8x1x1 .f32 :=
  broadcastInDim S8x1x1 ![0] bcast_S8_S8x1x1_0 (Host.reduce (α := Ideal .f32) FloatOps.minimumf M (constant S_ .f32 0x7F800000#32) reducesTo_S8x8x1024_S8_d1_2 h_S_)
/-- and one above the largest. -/
def refAbove (M : Vec Ideal S8x8x1024 .f32) : Vec Ideal S8x1x1 .f32 :=
  addf (F := Ideal) (φ := .f32) (broadcastInDim S8x1x1 ![0] bcast_S8_S8x1x1_0 (Host.reduce (α := Ideal .f32) FloatOps.maximumf M (constant S_ .f32 0xFF800000#32) reducesTo_S8x8x1024_S8_d1_2 h_S_)) (broadcastInDim S8x1x1 ![] bcast_S_S8x1x1 (constant S_ .f32 0x3F800000#32))

/-- Their middle. -/
def refMiddle (lo hi : Vec Ideal S8x1x1 .f32) : Vec Ideal S8x1x1 .f32 :=
  mulf (F := Ideal) (φ := .f32) (addf (F := Ideal) (φ := .f32) lo hi) (broadcastInDim S8x1x1 ![] bcast_S_S8x1x1 (constant S_ .f32 0x3F000000#32))

/-- Whether 128 maxima of a batch reach its level. -/
def refReached (M : Vec Ideal S8x8x1024 .f32) (l : Vec Ideal S8x1x1 .f32) : IVec S8x1x1 1 :=
  cmpi .sge (broadcastInDim S8x1x1 ![0] bcast_S8_S8x1x1_0 (Host.reduce IntOp.addi (extui 32 (cmpf (F := Ideal) (φ := .f32) .oge M (broadcastInDim S8x8x1024 ![0, 1, 2] bcast_S8x1x1_S8x8x1024_0_1_2 l)) natLt_1_32) (constantI S_ 32 0#32) reducesTo_S8x8x1024_S8_d1_2 h_S_)) (broadcastInDim S8x1x1 ![] bcast_S_S8x1x1 (constantI S_ 32 128#32))

/-- One halving: the lower bound, -/
def refLow (M : Vec Ideal S8x8x1024 .f32) (lo hi : Vec Ideal S8x1x1 .f32) : Vec Ideal S8x1x1 .f32 :=
  select (refReached M (refMiddle lo hi)) (refMiddle lo hi) lo
/-- and the upper one. -/
def refHigh (M : Vec Ideal S8x8x1024 .f32) (lo hi : Vec Ideal S8x1x1 .f32) : Vec Ideal S8x1x1 .f32 :=
  select (refReached M (refMiddle lo hi)) hi (refMiddle lo hi)
/-- Both. -/
def refHalve (M : Vec Ideal S8x8x1024 .f32) (p : Vec Ideal S8x1x1 .f32 × Vec Ideal S8x1x1 .f32) : Vec Ideal S8x1x1 .f32 × Vec Ideal S8x1x1 .f32 :=
  (refLow M p.1 p.2, refHigh M p.1 p.2)

/-- Two arrays are the bounds after `n` halvings. -/
def Halved (M : Vec Ideal S8x8x1024 .f32) (n : ℕ) (lo hi : Vec Ideal S8x1x1 .f32) : Prop :=
  (lo, hi) = (refHalve M)^[n] (refLeast M, refAbove M)

theorem Halved.step {M : Vec Ideal S8x8x1024 .f32} {n : ℕ} {lo hi : Vec Ideal S8x1x1 .f32} (h : Halved M n lo hi) :
    Halved M (n + 1) (refLow M lo hi) (refHigh M lo hi) := by
  unfold Halved at h ⊢
  rw [Function.iterate_succ_apply', ← h]
  unfold refHalve
  dsimp only

/-- The reference's thresholds, of its maxima. -/
def refT (M : Vec Ideal S8x8x1024 .f32) : Vec Ideal S8x1x128 .f32 :=
  broadcastInDim S8x1x128 ![0, 1, 2] bcast_S8x1x1_S8x1x128_0_1_2 ((refHalve M)^[30] (refLeast M, refAbove M)).1

/-- A batch's maxima. -/
def maxima (M : Vec Ideal S8x8x1024 .f32) (b : Fin 8) : Fin 8 × Fin 1024 → EReal := fun j => M (ix3 b j.1 j.2)

/-- A pair of arrays of bounds, at a batch. -/
def at_ (p : Vec Ideal S8x1x1 .f32 × Vec Ideal S8x1x1 .f32) (b : Fin 8) : EReal × EReal := (p.1 (ix3 b 0 0), p.2 (ix3 b 0 0))

theorem refLeast_apply (M : Vec Ideal S8x8x1024 .f32) (b : Fin 8) :
    refLeast M (ix3 b 0 0) = Finset.fold min (Ideal.ofBits FTy.f32 0x7F800000#32) (maxima M b) Finset.univ := by
  pointwise [refLeast]
  rfl

theorem refAbove_apply (M : Vec Ideal S8x8x1024 .f32) (b : Fin 8) :
    refAbove M (ix3 b 0 0) = Finset.fold max (Ideal.ofBits FTy.f32 0xFF800000#32) (maxima M b) Finset.univ + 1 := by
  pointwise [refAbove]
  rfl

theorem start_at (M : Vec Ideal S8x8x1024 .f32) (b : Fin 8) : at_ (refLeast M, refAbove M) b = bounds (maxima M b) := by
  unfold at_ bounds
  dsimp only
  rw [refLeast_apply, refAbove_apply]

theorem refMiddle_apply (lo hi : Vec Ideal S8x1x1 .f32) (b : Fin 8) : refMiddle lo hi (ix3 b 0 0) = middle (lo (ix3 b 0 0)) (hi (ix3 b 0 0)) := by
  pointwise [refMiddle]
  rfl

theorem refReached_apply (M : Vec Ideal S8x8x1024 .f32) (l : Vec Ideal S8x1x1 .f32) (b : Fin 8) : refReached M l (ix3 b 0 0) = reached (maxima M b) (l (ix3 b 0 0)) := by
  pointwise [refReached]
  rfl

theorem refHalve_at (M : Vec Ideal S8x8x1024 .f32) (p : Vec Ideal S8x1x1 .f32 × Vec Ideal S8x1x1 .f32) (b : Fin 8) :
    at_ (refHalve M p) b = halve (maxima M b) (at_ p b) := by
  unfold at_ refHalve halve
  dsimp only
  refine congrArg₂ Prod.mk ?_ ?_
  · show Scalar.select (refReached M (refMiddle p.1 p.2) (ix3 b 0 0)) (refMiddle p.1 p.2 (ix3 b 0 0)) (p.1 (ix3 b 0 0)) = _
    rw [refReached_apply, refMiddle_apply]
  · show Scalar.select (refReached M (refMiddle p.1 p.2) (ix3 b 0 0)) (p.2 (ix3 b 0 0)) (refMiddle p.1 p.2 (ix3 b 0 0)) = _
    rw [refReached_apply, refMiddle_apply]

theorem refHalves_at (M : Vec Ideal S8x8x1024 .f32) (p : Vec Ideal S8x1x1 .f32 × Vec Ideal S8x1x1 .f32) (b : Fin 8) :
    ∀ n : ℕ, at_ ((refHalve M)^[n] p) b = (halve (maxima M b))^[n] (at_ p b)
  | 0 => rfl
  | n + 1 => by rw [Function.iterate_succ_apply', Function.iterate_succ_apply', refHalve_at, refHalves_at M p b n]

theorem refT_apply (M : Vec Ideal S8x8x1024 .f32) (b : Fin 8) (i : Fin 128) : refT M (ix3 b 0 i) = threshold (maxima M b) := by
  have e : refT M (ix3 b 0 i) = (at_ ((refHalve M)^[30] (refLeast M, refAbove M)) b).1 := by
    unfold refT at_
    generalize (refHalve M)^[30] (refLeast M, refAbove M) = p
    pointwise []
  rw [e, refHalves_at, start_at]
  unfold threshold
  with_reducible rfl

/-- The run's maxima are the reference's, of its arguments. -/
theorem run_M (V0 : Valuation τ sig (Elt Ideal)) :
    res_main_v15 V0 = refM (refS (V0 (Proc.devRef .tc main_arg0)) (V0 (Proc.devRef .tc main_arg1)) (V0 (Proc.devRef .tc main_arg2)) (V0 (Proc.devRef .tc main_arg3)) (V0 (Proc.devRef .tc main_arg4))) := rfl

/-- The shared terms of the run are the halvings. -/
theorem run_low (V0 : Valuation τ sig (Elt Ideal)) :
    (select (res_main_v379 V0) (res_main_v372 V0) (res_main_v368 V0) : Vec Ideal S8x1x1 .f32)
      = ((refHalve (res_main_v15 V0))^[30] (refLeast (res_main_v15 V0), refAbove (res_main_v15 V0))).1 := by
  let M : Vec Ideal S8x8x1024 .f32 := res_main_v15 V0
  have s0 : Halved M 0 (res_main_v17 V0) (res_main_v21 V0) := (rfl : (refLeast M, refAbove M) = _)
  have s1 : Halved M 1 (res_main_v32 V0) (res_main_v33 V0) := s0.step
  have s2 : Halved M 2 (res_main_v44 V0) (res_main_v45 V0) := s1.step
  have s3 : Halved M 3 (res_main_v56 V0) (res_main_v57 V0) := s2.step
  have s4 : Halved M 4 (res_main_v68 V0) (res_main_v69 V0) := s3.step
  have s5 : Halved M 5 (res_main_v80 V0) (res_main_v81 V0) := s4.step
  have s6 : Halved M 6 (res_main_v92 V0) (res_main_v93 V0) := s5.step
  have s7 : Halved M 7 (res_main_v104 V0) (res_main_v105 V0) := s6.step
  have s8 : Halved M 8 (res_main_v116 V0) (res_main_v117 V0) := s7.step
  have s9 : Halved M 9 (res_main_v128 V0) (res_main_v129 V0) := s8.step
  have s10 : Halved M 10 (res_main_v140 V0) (res_main_v141 V0) := s9.step
  have s11 : Halved M 11 (res_main_v152 V0) (res_main_v153 V0) := s10.step
  have s12 : Halved M 12 (res_main_v164 V0) (res_main_v165 V0) := s11.step
  have s13 : Halved M 13 (res_main_v176 V0) (res_main_v177 V0) := s12.step
  have s14 : Halved M 14 (res_main_v188 V0) (res_main_v189 V0) := s13.step
  have s15 : Halved M 15 (res_main_v200 V0) (res_main_v201 V0) := s14.step
  have s16 : Halved M 16 (res_main_v212 V0) (res_main_v213 V0) := s15.step
  have s17 : Halved M 17 (res_main_v224 V0) (res_main_v225 V0) := s16.step
  have s18 : Halved M 18 (res_main_v236 V0) (res_main_v237 V0) := s17.step
  have s19 : Halved M 19 (res_main_v248 V0) (res_main_v249 V0) := s18.step
  have s20 : Halved M 20 (res_main_v260 V0) (res_main_v261 V0) := s19.step
  have s21 : Halved M 21 (res_main_v272 V0) (res_main_v273 V0) := s20.step
  have s22 : Halved M 22 (res_main_v284 V0) (res_main_v285 V0) := s21.step
  have s23 : Halved M 23 (res_main_v296 V0) (res_main_v297 V0) := s22.step
  have s24 : Halved M 24 (res_main_v308 V0) (res_main_v309 V0) := s23.step
  have s25 : Halved M 25 (res_main_v320 V0) (res_main_v321 V0) := s24.step
  have s26 : Halved M 26 (res_main_v332 V0) (res_main_v333 V0) := s25.step
  have s27 : Halved M 27 (res_main_v344 V0) (res_main_v345 V0) := s26.step
  have s28 : Halved M 28 (res_main_v356 V0) (res_main_v357 V0) := s27.step
  have s29 : Halved M 29 (res_main_v368 V0) (res_main_v369 V0) := s28.step
  have s30 : Halved M 30 (select (res_main_v379 V0) (res_main_v372 V0) (res_main_v368 V0)) (refHigh M (res_main_v368 V0) (res_main_v369 V0)) := s29.step
  unfold Halved at s30
  show _ = ((refHalve M)^[30] (refLeast M, refAbove M)).1
  rw [← s30]

theorem run_T (V0 : Valuation τ sig (Elt Ideal)) :
    (broadcastInDim S8x1x128 ![0, 1, 2] bcast_S8x1x1_S8x1x128_0_1_2 (select (res_main_v379 V0) (res_main_v372 V0) (res_main_v368 V0)) : Vec Ideal S8x1x128 .f32)
      = refT (res_main_v15 V0) := by
  unfold refT
  rw [run_low]

end Cert.ScoresReferenceIdeal.Hand

end
-- ==== Proof.ScoresValues.lean ====
/-
  The claims of the scores' call: both programs run, leaving their arguments as they were and every semaphore at zero, and
  in the extended reals they leave equal scores, equal maxima and equal thresholds.
-/
module

public import proofs.«01_k».proof.Defs
public import proofs.«01_k».proof.Proof.Gen.Scores
public import proofs.«01_k».proof.Proof.ScoresHost
public import proofs.«01_k».proof.Proof.ScoresRef

@[expose] public section

set_option maxRecDepth 16384

noncomputable section

namespace Cert.ScoresIdeal.Hand

open Cert.ScoresIdeal Cert.ScoresIdeal.Gen
open Idealize.ShloMosaic Idealize.ShloMosaic.TcCoe Idealize.SL.Sem
open Cert.Proof.Scores Cert.ScoresReferenceIdeal.Hand

/-! ## Frames -/

section
variable {F : FTy → Type} [FloatOps F] (m : (ℓ : Loc nD τ sig) → Buf (Elt F) ℓ) (ρ : Dev nD → PrngReg)

/-- What the run leaves unchanged, at any float values. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) ((θ_run defs _ _).mono (fun _ h => h.1) (run_main m ρ))

/-- With that, every semaphore ends at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_and (unchanged m ρ) ((θ_run defs _ _).mono (fun _ h => h.2) (run_main m ρ))

/-- With it, the results are the arrays the blocks fill. -/
theorem results : θ_run defs (onTc (τ := τ) (main (F := F))) ⟨m, fun _ => 0, ρ⟩ (fun r => ∀ c : Dev nD,
      r.2.mem ((c.tc : Thread nD τ).loc main_v6_0) = allS (V m c main_arg0) (V m c main_v2) (V m c main_v5)
      ∧ r.2.mem ((c.tc : Thread nD τ).loc main_v6_1) = allM (V m c main_arg0) (V m c main_v2) (V m c main_v5)
      ∧ r.2.mem ((c.tc : Thread nD τ).loc main_v6_2) = allT (V m c main_arg0) (V m c main_v2) (V m c main_v5)) :=
  (θ_run defs _ _).mono (fun _ h c => ⟨((h.1 c).1 3).trans (final3 m c), ((h.1 c).1 4).trans (final4 m c), ((h.1 c).1 5).trans (final5 m c)⟩) (run_main m ρ)

end

/-! ## Values -/

/-- The stacked projections' entries: the query's half, -/
theorem P_left (X : Vec Ideal S8x1024x128 .f32) (Wq Wk : Vec Ideal S256x128 .f32) (bq bk : Vec Ideal S256 .f32) (b : Fin 8) (r : Fin 1024) (j : Fin 256) :
    P X (stackW Wq Wk) (stackB bq bk) b r ⟨j.val, by omega⟩ = (∑ k : Fin 128, X (ix3 b r k) * (Wq (ix2 j k) * sixteenth)) + bq (ix1 j) * sixteenth := by
  unfold P
  rw [stackB_apply, dif_pos j.isLt]
  refine congrArg (· + bq (ix1 j) * sixteenth) (Finset.sum_congr rfl fun k _ => ?_)
  rw [stackW_apply, dif_pos j.isLt]

/-- and the key's. -/
theorem P_right (X : Vec Ideal S8x1024x128 .f32) (Wq Wk : Vec Ideal S256x128 .f32) (bq bk : Vec Ideal S256 .f32) (b : Fin 8) (r : Fin 1024) (j : Fin 256) :
    P X (stackW Wq Wk) (stackB bq bk) b r ⟨256 + j.val, by omega⟩ = (∑ k : Fin 128, X (ix3 b r k) * Wk (ix2 j k)) + bk (ix1 j) := by
  have hj : ¬ (⟨256 + j.val, by omega⟩ : Fin 512).val < 256 := by show ¬ 256 + j.val < 256; omega
  have e : (⟨(⟨256 + j.val, by omega⟩ : Fin 512).val - 256, by show 256 + j.val - 256 < 256; omega⟩ : Fin 256) = j :=
    Fin.ext (by show 256 + j.val - 256 = j.val; omega)
  unfold P
  rw [stackB_apply, dif_neg hj, e]
  refine congrArg (· + bk (ix1 j)) (Finset.sum_congr rfl fun k _ => ?_)
  rw [stackW_apply, dif_neg hj, e]

/-- The kernel's scores are the reference's. -/
theorem allS_eq (X : Vec Ideal S8x1024x128 .f32) (Wq Wk : Vec Ideal S256x128 .f32) (bq bk : Vec Ideal S256 .f32) :
    allS X (stackW Wq Wk) (stackB bq bk) = refS X Wq bq Wk bk := by
  funext i
  obtain ⟨b, r, n, rfl⟩ : ∃ (b : Fin 8) (r n : Fin 1024), i = ix3 b r n := ⟨i 0, i 1, i 2, eq_ix3_of _ _ rfl rfl rfl⟩
  rw [allS_apply, refS_apply, ← scores_scaled _ _ (fun j k => Wq (ix2 j k))]
  refine Finset.sum_congr rfl fun j _ => ?_
  rw [P_left, P_right]

/-- The kernel's maxima are the reference's. -/
theorem allM_eq (X : Vec Ideal S8x1024x128 .f32) (Wq Wk : Vec Ideal S256x128 .f32) (bq bk : Vec Ideal S256 .f32) :
    allM X (stackW Wq Wk) (stackB bq bk) = refM (refS X Wq bq Wk bk) := by
  funext i
  obtain ⟨b, g, r, rfl⟩ : ∃ (b g : Fin 8) (r : Fin 1024), i = ix3 b g r := ⟨i 0, i 1, i 2, eq_ix3_of _ _ rfl rfl rfl⟩
  rw [allM_apply, refM_apply, allS_eq]

/-- The kernel's thresholds are the reference's. -/
theorem allT_eq (X : Vec Ideal S8x1024x128 .f32) (Wq Wk : Vec Ideal S256x128 .f32) (bq bk : Vec Ideal S256 .f32) :
    allT X (stackW Wq Wk) (stackB bq bk) = refT (refM (refS X Wq bq Wk bk)) := by
  funext i
  obtain ⟨b, n, rfl⟩ : ∃ (b : Fin 8) (n : Fin 128), i = ix3 b 0 n :=
    ⟨i 0, i 2, eq_ix3_of _ _ rfl (by have : (i 1).val < 1 := (i 1).isLt; show (i 1).val = 0; omega) rfl⟩
  rw [allT_apply, refT_apply, allM_eq]
  rfl

end Cert.ScoresIdeal.Hand

namespace Cert.Proof

open Idealize.ShloMosaic Idealize.SL.Sem
open Cert.ScoresIdeal.Hand Cert.ScoresReferenceIdeal.Hand

/-- The scores' call at the ideal instance leaves its arguments as they were and the semaphores at zero. -/
theorem frame_scores_ideal : Cert.quiescent_ScoresIdeal (hScoresIdeal := Cert.ScoresIdeal.Gen.facts) := fun m ρ _ => quiet (F := Ideal) m ρ

/-- The two programs have one text: the call's body, -/
theorem body_eq {F : FTy → Type} [FloatOps F] : (Cert.ScoresIdeal.defs₀ (F := F)) = Cert.Scores.defs₀ (F := F) := by
  unfold Cert.Scores.defs₀ Cert.ScoresIdeal.defs₀
  refine congrArg (Defs.onTc (nD := Cert.ScoresIdeal.nD) (τ := Cert.ScoresIdeal.τ) (sig := Cert.ScoresIdeal.sig) (Λ := Cert.ScoresIdeal.Λ₀)) ?_
  funext l x
  match l, x with
  | 0, (t, s) => rfl

/-- so the call. -/
theorem defs_eq {F : FTy → Type} [FloatOps F] : (Cert.ScoresIdeal.defs (F := F)) = Cert.Scores.defs (F := F) :=
  congrArg (Pipeline.defs Cert.ScoresIdeal.pcfgs) body_eq

/-- The same at the bits. -/
theorem frame_scores : Cert.quiescent_Scores (hScores := Cert.Scores.Gen.facts) := fun m ρ _ => by
  have h := quiet (F := Bits) m ρ
  rw [defs_eq] at h
  exact h

/-- Its reference likewise. -/
theorem frame_scores_reference : Cert.quiescent_ScoresReferenceIdeal (hScoresReferenceIdeal := Cert.ScoresReferenceIdeal.Gen.facts) := fun m ρ _ =>
  (θ_run Cert.ScoresReferenceIdeal.defs _ _).mono (fun r h => ⟨fun c => (h c).2.2.2, sem_eq_zero_of_no_sems (by decide) r.2⟩)
    (Cert.ScoresReferenceIdeal.Value.run (F := Ideal) m ρ)

/-- Equal arguments give equal scores. -/
theorem args {X X' : Vec Ideal Cert.ScoresReferenceIdeal.S8x1024x128 .f32} {Wq Wq' Wk Wk' : Vec Ideal Cert.ScoresReferenceIdeal.S256x128 .f32}
    {bq bq' bk bk' : Vec Ideal Cert.ScoresReferenceIdeal.S256 .f32} (h0 : X' = X) (h1 : Wq' = Wq) (h2 : bq' = bq) (h3 : Wk' = Wk) (h4 : bk' = bk) :
    refS X' Wq' bq' Wk' bk' = refS X Wq bq Wk bk := by
  rw [h0, h1, h2, h3, h4]

/-- In the extended reals, from equal arguments, the scores' call and its reference leave equal scores, maxima and
    thresholds, and their arguments as they were. -/
theorem algebraic_scores : Cert.algebraic_ScoresIdeal_ScoresReferenceIdeal (hScoresIdeal := Cert.ScoresIdeal.Gen.facts)
    (hScoresReferenceIdeal := Cert.ScoresReferenceIdeal.Gen.facts) := fun m g m' g' _ h =>
  ⟨fun c => refS (m (c, Proc.devRef .tc Cert.ScoresIdeal.main_arg0)) (m (c, Proc.devRef .tc Cert.ScoresIdeal.main_arg1)) (m (c, Proc.devRef .tc Cert.ScoresIdeal.main_arg2)) (m (c, Proc.devRef .tc Cert.ScoresIdeal.main_arg3)) (m (c, Proc.devRef .tc Cert.ScoresIdeal.main_arg4)),
    fun c => refM (refS (m (c, Proc.devRef .tc Cert.ScoresIdeal.main_arg0)) (m (c, Proc.devRef .tc Cert.ScoresIdeal.main_arg1)) (m (c, Proc.devRef .tc Cert.ScoresIdeal.main_arg2)) (m (c, Proc.devRef .tc Cert.ScoresIdeal.main_arg3)) (m (c, Proc.devRef .tc Cert.ScoresIdeal.main_arg4))),
    fun c => refT (refM (refS (m (c, Proc.devRef .tc Cert.ScoresIdeal.main_arg0)) (m (c, Proc.devRef .tc Cert.ScoresIdeal.main_arg1)) (m (c, Proc.devRef .tc Cert.ScoresIdeal.main_arg2)) (m (c, Proc.devRef .tc Cert.ScoresIdeal.main_arg3)) (m (c, Proc.devRef .tc Cert.ScoresIdeal.main_arg4)))),
    (θ_run Cert.ScoresIdeal.defs _ _).mono (fun r q c => ⟨(q.2 c).1.trans (by
        rw [V_main_v2, V_main_v5, Cert.ScoresIdeal.Gen.V_main_arg0]; exact allS_eq _ _ _ _ _), (q.2 c).2.1.trans (by
        rw [V_main_v2, V_main_v5, Cert.ScoresIdeal.Gen.V_main_arg0]; exact allM_eq _ _ _ _ _), (q.2 c).2.2.trans (by
        rw [V_main_v2, V_main_v5, Cert.ScoresIdeal.Gen.V_main_arg0]; exact allT_eq _ _ _ _ _), q.1 c⟩)
      (θ_run_and (unchanged (F := Ideal) m g) (results (F := Ideal) m g)),
    (θ_run Cert.ScoresReferenceIdeal.defs _ _).mono (fun r q c => by
        obtain ⟨h0, h1, h2, h3, h4⟩ := h c
        refine ⟨(q c).1.trans ?_, ((q c).2.1.trans (run_M _)).trans ?_, ((q c).2.2.1.trans ((run_T _).trans (congrArg refT (run_M _)))).trans ?_, (q c).2.2.2⟩
        · exact args h0 h1 h2 h3 h4
        · exact congrArg refM (args h0 h1 h2 h3 h4)
        · exact congrArg (fun S => refT (refM S)) (args h0 h1 h2 h3 h4))
      (Cert.ScoresReferenceIdeal.Value.run (F := Ideal) m' g')⟩

end Cert.Proof

end
-- ==== Proof.PoolSpec.lean ====
/-
  One batch of the pooling call in the extended reals, as plain functions of an index: the rounds that find the cut, the
  weights, the row of a candidate's place, and the sums; with the few laws by which the kernel's spelling and the reference's
  agree.
-/
module

public import Idealize.ShloMosaic.Lib.Pointwise

@[expose] public section

noncomputable section

namespace Cert.Proof.Pool

open Idealize.ShloMosaic

/-! ## The cut -/

/-- How many of the 256 have the property. -/
def count (p : Fin 256 → Bool) : BitVec 32 := Finset.fold IntOp.addi 0#32 (fun j => BitVec.setWidth 32 (BitVec.ofBool (p j))) Finset.univ

/-- Level `i` of the sixteen between two bounds. -/
def level (lo hi : EReal) (i : Fin 16) : EReal :=
  lo + (hi - lo) * ((FloatOps.sitofp (F := Ideal) FTy.f32 (BitVec.ofNat 32 i.val) + (1 : EReal)) * Ideal.ofBits FTy.f32 0x3D70F0F1#32)

/-- Whether 128 values reach a level. -/
def enough (x : Fin 256 → EReal) (l : EReal) : BitVec 1 := IntOp.cmpi .sge (count fun j => decide (l ≤ x j)) 128#32

/-- The next lower bound: -/
def lower (x : Fin 256 → EReal) (lo hi : EReal) : EReal :=
  Finset.fold max (Ideal.ofBits FTy.f32 0xFF800000#32) (fun i => Scalar.select (enough x (level lo hi i)) (level lo hi i) lo) Finset.univ
/-- and the next upper one. -/
def upper (x : Fin 256 → EReal) (lo hi : EReal) : EReal :=
  Finset.fold min (Ideal.ofBits FTy.f32 0x7F800000#32) (fun i => Scalar.select (enough x (level lo hi i)) hi (level lo hi i)) Finset.univ

/-- The upper bound at the start. -/
def top (x : Fin 256 → EReal) : EReal := Finset.fold max (Ideal.ofBits FTy.f32 0xFF800000#32) x Finset.univ + 1

/-- The bounds after `n` rounds. -/
def rounds (x : Fin 256 → EReal) (p : EReal × EReal) : ℕ → EReal × EReal
  | 0 => p
  | n + 1 => (lower x (rounds x p n).1 (rounds x p n).2, upper x (rounds x p n).1 (rounds x p n).2)

/-- `n` steps of a fixed function over a list of length `n`. -/
theorem foldl_rounds {n : ℕ} (x : Fin 256 → EReal) (p : EReal × EReal) :
    (List.finRange n).foldl (fun (q : EReal × EReal) _ => (lower x q.1 q.2, upper x q.1 q.2)) p = rounds x p n := by
  have key : ∀ (l : List (Fin n)) (k : ℕ), l.foldl (fun (q : EReal × EReal) _ => (lower x q.1 q.2, upper x q.1 q.2)) (rounds x p k) = rounds x p (k + l.length) := by
    intro l
    induction l with
    | nil => intro k; rfl
    | cons a l ih =>
      intro k
      rw [List.foldl_cons, List.length_cons]
      refine (ih (k + 1)).trans (congrArg (rounds x p) ?_)
      omega
  refine (key (List.finRange n) 0).trans ?_
  rw [List.length_finRange, Nat.zero_add]

/-! ## The weights -/

/-- The share of a value equal to the cut. -/
def share (x : Fin 256 → EReal) (cut : EReal) : EReal :=
  Ideal.div (FloatOps.sitofp (F := Ideal) FTy.f32 (IntOp.subi 128#32 (count fun j => decide (cut < x j))))
    (FloatOps.sitofp (F := Ideal) FTy.f32 (count fun j => decide (x j = cut)))

/-- The largest value kept. -/
def largest (x : Fin 256 → EReal) (cut : EReal) : EReal :=
  Finset.fold max (Ideal.ofBits FTy.f32 0xFF800000#32) (fun j => if cut ≤ x j then x j else Ideal.ofBits FTy.f32 0xF149F2CA#32) Finset.univ

/-- A weight before it is divided by the sum. -/
def expo (x : Fin 256 → EReal) (cut : EReal) (j : Fin 256) : EReal :=
  Ideal.exp (x j - largest x cut) * ((if x j = cut then share x cut else Ideal.ofBits FTy.f32 0x3F800000#32)
    * FloatOps.uitofp (F := Ideal) FTy.f32 (BitVec.ofBool (decide (cut ≤ x j))))

/-- The weight. -/
def weight (x : Fin 256 → EReal) (cut : EReal) (j : Fin 256) : EReal := Ideal.div (expo x cut j) (∑ k, expo x cut k)

/-! ## The rows -/

/-- The sign of a word. -/
def sign (a : BitVec 32) : BitVec 32 := if a = 0 then 0 else if a.msb = true then -1 else 1

/-- The quotient by 1024, rounded down. -/
def row (a : BitVec 32) : BitVec 32 :=
  Scalar.select (IntOp.andi (IntOp.cmpi .ne (sign a) (sign 1024#32)) (IntOp.cmpi .ne (a.srem 1024#32) 0#32))
    (IntOp.subi (a.sdiv 1024#32) 1#32) (a.sdiv 1024#32)

/-- Whether a place pairs a row with itself. -/
def self (a : BitVec 32) : BitVec 1 := IntOp.cmpi .eq (row a) (IntOp.subi a (IntOp.muli (row a) 1024#32))

theorem divsi_eq (u : ArithUnit) (a : BitVec 32) : IntOp.divsi u a 1024#32 = a.sdiv 1024#32 := by
  unfold IntOp.divsi
  rw [if_neg]
  unfold IntOp.SDivCorner
  simp

theorem remsi_eq (u : ArithUnit) (a : BitVec 32) : IntOp.remsi u a 1024#32 = a.srem 1024#32 := by
  unfold IntOp.remsi
  rw [if_neg]
  unfold IntOp.SDivCorner
  simp

/-- One comparison less the other is the sign. -/
theorem sign_eq (a : BitVec 32) :
    IntOp.subi (BitVec.setWidth 32 (IntOp.cmpi .sgt a 0#32)) (BitVec.setWidth 32 (IntOp.cmpi .slt a 0#32)) = sign a := by
  unfold sign IntOp.subi IntOp.cmpi
  by_cases h : a = 0
  · subst h; decide
  · rw [if_neg h]
    have h0 : a.toInt ≠ 0 := fun e => h (BitVec.toInt_inj.mp (by simpa using e))
    by_cases hm : a.msb = true
    · rw [if_pos hm]
      rw [BitVec.msb_eq_toInt] at hm
      have hm := of_decide_eq_true hm
      have e1 : BitVec.slt 0#32 a = false := by simp [BitVec.slt_eq_decide]; omega
      have e2 : BitVec.slt a 0#32 = true := by simp [BitVec.slt_eq_decide]; omega
      simp [e1, e2]
    · rw [if_neg hm]
      have hm : ¬ a.toInt < 0 := fun e => hm (by rw [BitVec.msb_eq_toInt]; exact decide_eq_true e)
      have e1 : BitVec.slt 0#32 a = true := by simp [BitVec.slt_eq_decide]; omega
      have e2 : BitVec.slt a 0#32 = false := by simp [BitVec.slt_eq_decide]; omega
      simp [e1, e2]

/-! ## The sums -/

/-- A bit read as a number, through 32 bits or at once. -/
theorem sitofp_bit (b : BitVec 1) : FloatOps.sitofp (F := Ideal) FTy.f32 (BitVec.setWidth 32 b) = FloatOps.uitofp (F := Ideal) FTy.f32 b := by
  obtain rfl | rfl : b = 0#1 ∨ b = 1#1 := by revert b; decide
  · show (((BitVec.setWidth 32 0#1 : BitVec 32).toInt : ℝ) : EReal) = (((0#1 : BitVec 1).toNat : ℝ) : EReal)
    norm_num
  · show (((BitVec.setWidth 32 1#1 : BitVec 32).toInt : ℝ) : EReal) = (((1#1 : BitVec 1).toNat : ℝ) : EReal)
    norm_num

/-- A choice between two features is each, weighted by whether it is chosen. -/
theorem chosen (b : BitVec 1) (w f g : EReal) :
    w * FloatOps.uitofp (F := Ideal) FTy.f32 b * f + w * (1 - FloatOps.uitofp (F := Ideal) FTy.f32 b) * g = Scalar.select b f g * w := by
  obtain rfl | rfl : b = 0#1 ∨ b = 1#1 := by revert b; decide
  · have e : (FloatOps.uitofp (F := Ideal) FTy.f32 (0#1 : BitVec 1) : EReal) = 0 := by
      show (((0#1 : BitVec 1).toNat : ℝ) : EReal) = 0
      norm_num
    rw [e, mul_zero, zero_mul, zero_add, sub_zero, mul_one, mul_comm]
    rfl
  · have e : (FloatOps.uitofp (F := Ideal) FTy.f32 (1#1 : BitVec 1) : EReal) = 1 := by
      show (((1#1 : BitVec 1).toNat : ℝ) : EReal) = 1
      norm_num
    have e1 : (1 : EReal) - 1 = 0 := by
      show ((1 : ℝ) : EReal) - ((1 : ℝ) : EReal) = 0
      rw [← EReal.coe_sub]; norm_num
    rw [e, mul_one, e1, mul_zero, zero_mul, add_zero, mul_comm]
    rfl

/-- So are their sums. -/
theorem pooled (b : Fin 256 → BitVec 1) (w f g : Fin 256 → EReal) :
    (∑ j, w j * FloatOps.uitofp (F := Ideal) FTy.f32 (b j) * f j) + (∑ j, w j * (1 - FloatOps.uitofp (F := Ideal) FTy.f32 (b j)) * g j)
      = ∑ j, Scalar.select (b j) (f j) (g j) * w j := by
  rw [← Finset.sum_add_distrib]
  exact Finset.sum_congr rfl fun j _ => chosen _ _ _ _

/-- A choice by a decided bit. -/
theorem select_ofBool {α : Type} (p : Bool) (a b : α) : Scalar.select (BitVec.ofBool p) a b = if p = true then a else b := by
  cases p <;> rfl

/-! ## Folds with an axis of extent one -/

theorem fold_left_one {α β : Type} [Fintype α] (op : β → β → β) [Std.Commutative op] [Std.Associative op] (b : β) (f : Fin 1 × α → β) :
    Finset.fold op b f Finset.univ = Finset.fold op b (fun j => f (0, j)) Finset.univ := by
  rw [← Finset.map_univ_equiv (Equiv.uniqueProd α (Fin 1)).symm, Finset.fold_map]
  rfl

theorem fold_right_one {α β : Type} [Fintype α] (op : β → β → β) [Std.Commutative op] [Std.Associative op] (b : β) (f : α × Fin 1 → β) :
    Finset.fold op b f Finset.univ = Finset.fold op b (fun j => f (j, 0)) Finset.univ := by
  rw [← Finset.map_univ_equiv (Equiv.prodUnique α (Fin 1)).symm, Finset.fold_map]
  rfl

end Cert.Proof.Pool

end
-- ==== Proof.PoolPoint.lean ====
/-
  What the pooling kernel computes at one grid point, read at an index in the extended reals.
-/
module

public import proofs.«01_k».proof.Proof.Gen.PoolIdeal.Skeleton
public import proofs.«01_k».proof.Proof.PoolSpec
public import Idealize.ShloMosaic.Lib.Exec

@[expose] public section

set_option maxRecDepth 16384

noncomputable section

namespace Cert.PoolIdeal.Hand

open Cert.PoolIdeal Cert.PoolIdeal.Gen
open Idealize.ShloMosaic Idealize.ShloMosaic.TcCoe
open Cert.Proof.Pool

/-! ## The cut -/

/-- A batch's values. -/
def vals (v : Vec Ideal S1x1x256 .f32) : Fin 256 → EReal := fun j => v (ix3 0 0 j)

theorem pay4_apply (v : Vec Ideal S1x1x1 .f32) : k0_pay4 v = v (ix3 0 0 0) := by
  pointwise [k0_pay4]

theorem pay5_apply (v : Vec Ideal S1x1x256 .f32) : k0_pay5 v = top (vals v) := by
  pointwise [k0_pay5, k0_pay2]
  unfold top
  rw [fold_left_one]
  rfl

theorem pay6_apply (lo hi : Ideal .f32) (i : Fin 16) : k0_pay6 lo hi (ix2 i 0) = level lo hi i := by
  pointwise [k0_pay6]
  rfl

theorem pay7_apply (v : Vec Ideal S1x1x256 .f32) (lo hi : Ideal .f32) (i : Fin 16) :
    k0_pay7 v lo hi (ix2 i 0) = enough (vals v) (level lo hi i) := by
  rw [← pay6_apply]
  pointwise [k0_pay7, k0_pay2]
  rfl

theorem pay8_apply (v : Vec Ideal S1x1x256 .f32) (lo hi : Ideal .f32) : k0_pay8 v lo hi = lower (vals v) lo hi := by
  pointwise [k0_pay8]
  rw [fold_right_one]
  simp only [pay6_apply, pay7_apply]
  rfl

theorem pay9_apply (v : Vec Ideal S1x1x256 .f32) (lo hi : Ideal .f32) : k0_pay9 v lo hi = upper (vals v) lo hi := by
  pointwise [k0_pay9]
  rw [fold_right_one]
  simp only [pay6_apply, pay7_apply]
  rfl

/-- The kernel's cut: the loop's lower bound. -/
def cutK {F : FTy → Type} [FloatOps F] (v : Vec F S1x1x256 .f32) (t : Vec F S1x1x1 .f32) : F .f32 :=
  (Scf.fold (n := k0_t1_loop.trips) (fun _ (p : F .f32 × F .f32) => (k0_pay8 v p.1 p.2, k0_pay9 v p.1 p.2)) (k0_pay4 t, k0_pay5 v)).1

theorem trips : k0_t1_loop.trips = 10 := by decide +kernel

theorem cutK_eq (v : Vec Ideal S1x1x256 .f32) (t : Vec Ideal S1x1x1 .f32) :
    cutK v t = (rounds (vals v) (t (ix3 0 0 0), top (vals v)) 10).1 := by
  unfold cutK
  rw [Scf.fold_eq]
  simp only [pay8_apply, pay9_apply]
  rw [pay4_apply, pay5_apply, ← trips]
  exact congrArg Prod.fst (foldl_rounds _ _)

/-! ## The weights -/

theorem pay12_apply (v : Vec Ideal S1x1x256 .f32) (lo : Ideal .f32) : k0_pay12 v lo = share (vals v) lo := by
  pointwise [k0_pay12, k0_pay11, k0_pay2]
  simp only [fold_left_one]
  rfl

theorem pay13_apply (v : Vec Ideal S1x1x256 .f32) (cut : Ideal .f32) (j : Fin 256) :
    k0_pay13 (k0_pay2 v) (k0_pay10 v cut) (k0_pay11 v cut) (k0_pay12 v cut) (Scalar.ofBits .f32 0x3F800000#32) (ix2 0 j) = weight (vals v) cut j := by
  rw [pay12_apply]
  pointwise [k0_pay13, k0_pay10, k0_pay11, k0_pay2]
  simp only [fold_left_one, sitofp_bit, Finset.univ_unique, Finset.sum_singleton]
  unfold weight expo largest
  rw [Ideal.ofBits_one_f32]
  rfl

/-! ## The rows -/

theorem pay14_apply (v3 : IVec S1x256 32) (j : Fin 256) : k0_pay14 v3 (ix2 0 j) = row (v3 (ix2 0 j)) := by
  pointwise [k0_pay14]
  rw [divsi_eq, remsi_eq, sign_eq]
  rfl

theorem pay19_apply (v2 : Vec Ideal S1x1x256 .i32) (j : Fin 256) :
    k0_pay19 (F := Ideal) (k0_pay14 (k0_pay3 v2)) (k0_pay15 (k0_pay3 v2)) (ix2 0 j) = FloatOps.uitofp (F := Ideal) FTy.f32 (self (v2 (ix3 0 0 j))) := by
  pointwise [k0_pay19, k0_pay15]
  simp only [pay14_apply]
  pointwise [k0_pay3]
  rw [sitofp_bit]
  rfl

/-! ## The features -/

theorem pay17_apply (v88 : Vec Ideal S1x256x6 .f32) (v92 : Vec Ideal S256x6 .f32) (v94 : Vec Ideal S256 .f32) (v100 : Vec Ideal S256x256 .f32) (v102 : Vec Ideal S256 .f32) (a b : Fin 256) :
    k0_pay17 v88 v92 v94 v100 v102 (ix2 a b)
      = (∑ x : Fin 256, max ((∑ y : Fin 6, v88 (ix3 0 a y) * v92 (ix2 x y)) + v94 (ix1 x)) 0 * v100 (ix2 b x)) + v102 (ix1 b) := by
  pointwise [k0_pay17, k0_pay16]

theorem pay18_apply (v88 v90 : Vec Ideal S1x256x6 .f32) (v92 : Vec Ideal S256x12 .f32) (v94 : Vec Ideal S256 .f32) (v100 : Vec Ideal S256x256 .f32) (v102 : Vec Ideal S256 .f32) (a b : Fin 256) :
    k0_pay18 v88 v90 v92 v94 v100 v102 (ix2 a b)
      = (∑ x : Fin 256, max ((∑ y : Fin 6, v88 (ix3 0 a y) * v92 (ix2 x ⟨y.val, by omega⟩)) + (∑ y : Fin 6, v90 (ix3 0 a y) * v92 (ix2 x ⟨6 + y.val, by omega⟩)) + v94 (ix1 x)) 0
          * v100 (ix2 b x)) + v102 (ix1 b) := by
  pointwise [k0_pay18, k0_pay16]

theorem pay1_apply (v60 : FVec Ideal S1x256 .f32) (v105 : FVec Ideal S256x256 .f32) (v120 : FVec Ideal S256x256 .f32) (v123 : FVec Ideal S1x256 .f32) (v131 : Vec Ideal S256x256 .f32) (v133 : Vec Ideal S256 .f32) (v138 : Vec Ideal S128x256 .f32) (v140 : Vec Ideal S128 .f32) (o : Fin 128) :
    k0_pay1 v60 v105 v120 v123 v131 v133 v138 v140 (ix3 0 0 o)
      = (∑ x : Fin 256, max ((∑ y : Fin 256, ((∑ j : Fin 256, v60 (ix2 0 j) * v123 (ix2 0 j) * v105 (ix2 j y)) + (∑ j : Fin 256, v60 (ix2 0 j) * (1 - v123 (ix2 0 j)) * v120 (ix2 j y))) * v131 (ix2 x y))
          + v133 (ix1 x)) 0 * v138 (ix2 o x)) + v140 (ix1 o) := by
  pointwise [k0_pay1]

end Cert.PoolIdeal.Hand
end
-- ==== Proof.PoolRef.lean ====
/-
  The reference of the pooling call read at an index.
-/
module

public import proofs.«01_k».proof.Proof.Gen.PoolReferenceIdeal
public import proofs.«01_k».proof.Proof.Gen.PoolReferenceIdeal.Run
public import proofs.«01_k».proof.Proof.PoolSpec
public import Idealize.ShloMosaic.Lib.Pointwise
public import Idealize.ShloMosaic.Lib.Tactic.CleanTypes

@[expose] public section

set_option maxRecDepth 16384

noncomputable section

namespace Cert.PoolReferenceIdeal.Hand

open Cert.PoolReferenceIdeal Cert.PoolReferenceIdeal.Gen Cert.PoolReferenceIdeal.Value
open Idealize.ShloMosaic Idealize.ShloMosaic.StableHlo Idealize.ShloMosaic.TcCoe
open Cert.Proof.Pool

/-- The sixteen fractions of the way between two bounds. -/
def refSteps : Vec Ideal S16 .f32 :=
  mulf (F := Ideal) (φ := .f32) (addf (F := Ideal) (φ := .f32) (sitofp .f32 (iotaInDim S16 32 0)) (broadcastInDim S16 ![] bcast_S_S16 (constant S_ .f32 0x3F800000#32))) (broadcastInDim S16 ![] bcast_S_S16 (constant S_ .f32 0x3D70F0F1#32))

/-- The bounds at the start: -/
def refLo0 (T : Vec Ideal S8x1x128 .f32) : Vec Ideal S8x1 .f32 :=
  shapeCast S8x1 (extractStridedSlice S8x1x1 ![0, 0, 0] T slices_S8x1x128_S8x1x1_0_0_0) shapeCasts_S8x1x1_S8x1
/-- the lower one given, the upper one above every value. -/
def refHi0 (X : Vec Ideal S8x256 .f32) : Vec Ideal S8x1 .f32 :=
  addf (F := Ideal) (φ := .f32) (broadcastInDim S8x1 ![0] bcast_S8_S8x1_0 (Host.reduce (α := Ideal .f32) FloatOps.maximumf X (constant S_ .f32 0xFF800000#32) reducesTo_S8x256_S8_d1 h_S_)) (broadcastInDim S8x1 ![] bcast_S_S8x1 (constant S_ .f32 0x3F800000#32))

/-- The levels between two bounds. -/
def refLevel (lo hi : Vec Ideal S8x1 .f32) : Vec Ideal S8x16 .f32 :=
  addf (F := Ideal) (φ := .f32) (broadcastInDim S8x16 ![0, 1] bcast_S8x1_S8x16_0_1 lo) (mulf (F := Ideal) (φ := .f32) (broadcastInDim S8x16 ![0, 1] bcast_S8x1_S8x16_0_1 (subf (F := Ideal) (φ := .f32) hi lo)) (broadcastInDim S8x16 ![0, 1] bcast_S1x16_S8x16_0_1 (broadcastInDim S1x16 ![1] bcast_S16_S1x16_1 refSteps)))

/-- Whether 128 values reach a level. -/
def refEnough (X : Vec Ideal S8x256 .f32) (L : Vec Ideal S8x16 .f32) : IVec S8x16 1 :=
  cmpi .sge (Host.reduce IntOp.addi (extui 32 (cmpf (F := Ideal) (φ := .f32) .oge (broadcastInDim S8x16x256 ![0, 1, 2] bcast_S8x1x256_S8x16x256_0_1_2 (broadcastInDim S8x1x256 ![0, 2] bcast_S8x256_S8x1x256_0_2 X)) (broadcastInDim S8x16x256 ![0, 1, 2] bcast_S8x16x1_S8x16x256_0_1_2 (broadcastInDim S8x16x1 ![0, 1] bcast_S8x16_S8x16x1_0_1 L))) natLt_1_32) (constantI S_ 32 0#32) reducesTo_S8x16x256_S8x16_d2 h_S_) (broadcastInDim S8x16 ![] bcast_S_S8x16 (constantI S_ 32 128#32))

/-- A round: the lower bound, -/
def refLo (X : Vec Ideal S8x256 .f32) (lo hi : Vec Ideal S8x1 .f32) : Vec Ideal S8x1 .f32 :=
  broadcastInDim S8x1 ![0] bcast_S8_S8x1_0 (Host.reduce (α := Ideal .f32) FloatOps.maximumf (select (refEnough X (refLevel lo hi)) (refLevel lo hi) (broadcastInDim S8x16 ![0, 1] bcast_S8x1_S8x16_0_1 lo)) (constant S_ .f32 0xFF800000#32) reducesTo_S8x16_S8_d1 h_S_)
/-- and the upper one. -/
def refHi (X : Vec Ideal S8x256 .f32) (lo hi : Vec Ideal S8x1 .f32) : Vec Ideal S8x1 .f32 :=
  broadcastInDim S8x1 ![0] bcast_S8_S8x1_0 (Host.reduce (α := Ideal .f32) FloatOps.minimumf (select (refEnough X (refLevel lo hi)) (broadcastInDim S8x16 ![0, 1] bcast_S8x1_S8x16_0_1 hi) (refLevel lo hi)) (constant S_ .f32 0x7F800000#32) reducesTo_S8x16_S8_d1 h_S_)

/-- The weights before they are divided by their sum. -/
def refE (X : Vec Ideal S8x256 .f32) (cut : Vec Ideal S8x1 .f32) : Vec Ideal S8x256 .f32 :=
  mulf (F := Ideal) (φ := .f32) (Host.exp (F := Ideal) (φ := .f32) (subf (F := Ideal) (φ := .f32) X (broadcastInDim S8x256 ![0, 1] bcast_S8x1_S8x256_0_1 (broadcastInDim S8x1 ![0] bcast_S8_S8x1_0 (Host.reduce (α := Ideal .f32) FloatOps.maximumf (select (cmpf (F := Ideal) (φ := .f32) .oge X (broadcastInDim S8x256 ![0, 1] bcast_S8x1_S8x256_0_1 cut)) X (broadcastInDim S8x256 ![] bcast_S_S8x256 (id (constant S_ .f32 0xF149F2CA#32)))) (constant S_ .f32 0xFF800000#32) reducesTo_S8x256_S8_d1 h_S_))))) (mulf (F := Ideal) (φ := .f32) (select (cmpf (F := Ideal) (φ := .f32) .oeq X (broadcastInDim S8x256 ![0, 1] bcast_S8x1_S8x256_0_1 cut)) (broadcastInDim S8x256 ![0, 1] bcast_S8x1_S8x256_0_1 (Host.divf (F := Ideal) (φ := .f32) (sitofp .f32 (subi (broadcastInDim S8x1 ![] bcast_S_S8x1 (constantI S_ 32 128#32)) (broadcastInDim S8x1 ![0] bcast_S8_S8x1_0 (Host.reduce IntOp.addi (extui 32 (cmpf (F := Ideal) (φ := .f32) .ogt X (broadcastInDim S8x256 ![0, 1] bcast_S8x1_S8x256_0_1 cut)) natLt_1_32) (constantI S_ 32 0#32) reducesTo_S8x256_S8_d1 h_S_)))) (sitofp .f32 (broadcastInDim S8x1 ![0] bcast_S8_S8x1_0 (Host.reduce IntOp.addi (extui 32 (cmpf (F := Ideal) (φ := .f32) .oeq X (broadcastInDim S8x256 ![0, 1] bcast_S8x1_S8x256_0_1 cut)) natLt_1_32) (constantI S_ 32 0#32) reducesTo_S8x256_S8_d1 h_S_))))) (broadcastInDim S8x256 ![] bcast_S_S8x256 (id (constant S_ .f32 0x3F800000#32)))) (uitofp .f32 (cmpf (F := Ideal) (φ := .f32) .oge X (broadcastInDim S8x256 ![0, 1] bcast_S8x1_S8x256_0_1 cut))))

/-- The weights. -/
def refWeight (E : Vec Ideal S8x256 .f32) : Vec Ideal S8x256 .f32 :=
  Host.divf (F := Ideal) (φ := .f32) E (broadcastInDim S8x256 ![0, 1] bcast_S8x1_S8x256_0_1 (broadcastInDim S8x1 ![0] bcast_S8_S8x1_0 (Host.reduceAdd (F := Ideal) (φ := .f32) E (constant S_ .f32 0x00000000#32) reducesTo_S8x256_S8_d1 h_S_)))

/-- The candidates' rows, of their places. -/
def refRow (I : IVec S8x256 32) : IVec S8x256 32 :=
  select (andi (cmpi .ne (signi I) (broadcastInDim S8x256 ![] bcast_S_S8x256 (signi (id (constantI S_ 32 1024#32))))) (cmpi .ne (Host.remsi I (broadcastInDim S8x256 ![] bcast_S_S8x256 (id (constantI S_ 32 1024#32)))) (broadcastInDim S8x256 ![] bcast_S_S8x256 (constantI S_ 32 0#32)))) (subi (Host.divsi I (broadcastInDim S8x256 ![] bcast_S_S8x256 (id (constantI S_ 32 1024#32)))) (broadcastInDim S8x256 ![] bcast_S_S8x256 (constantI S_ 32 1#32))) (Host.divsi I (broadcastInDim S8x256 ![] bcast_S_S8x256 (id (constantI S_ 32 1024#32))))

/-- Whether a candidate is a pair of one row with itself. -/
def refSelf (I : IVec S8x256 32) : IVec S8x256 1 :=
  cmpi .eq (refRow I) (subi I (muli (refRow I) (broadcastInDim S8x256 ![] bcast_S_S8x256 (constantI S_ 32 1024#32))))

/-- The features of a row with itself. -/
def refFself (A : Vec Ideal S8x256x128 .f32) (W1 : Vec Ideal S256x6 .f32) (b1 : Vec Ideal S256 .f32) (W2 : Vec Ideal S256x256 .f32) (b2 : Vec Ideal S256 .f32) : Vec Ideal S8x256x256 .f32 :=
  addf (F := Ideal) (φ := .f32) (Host.dotGeneral (F := Ideal) (φ₁ := .f32) (φ₂ := .f32) dot_S8x256x256_S256x256_S8x256x256_2_0_01_1_n_n none (maximumf (F := Ideal) (φ := .f32) (addf (F := Ideal) (φ := .f32) (Host.dotGeneral (F := Ideal) (φ₁ := .f32) (φ₂ := .f32) dot_S8x256x6_S6x256_S8x256x256_2_0_01_1_n_n none (extractStridedSlice S8x256x6 ![0, 0, 0] A slices_S8x256x128_S8x256x6_0_0_0) (transpose S6x256 [1, 0] W1 transposes_S256x6_S6x256_1_0)) (broadcastInDim S8x256x256 ![0, 1, 2] bcast_S1x1x256_S8x256x256_0_1_2 (broadcastInDim S1x1x256 ![2] bcast_S256_S1x1x256_2 b1))) (broadcastInDim S8x256x256 ![] bcast_S_S8x256x256 (constant S_ .f32 0x00000000#32))) (transpose S256x256 [1, 0] W2 transposes_S256x256_S256x256_1_0)) (broadcastInDim S8x256x256 ![0, 1, 2] bcast_S1x1x256_S8x256x256_0_1_2 (broadcastInDim S1x1x256 ![2] bcast_S256_S1x1x256_2 b2))

/-- The features of two rows. -/
def refFpair (A B : Vec Ideal S8x256x128 .f32) (W1 : Vec Ideal S256x12 .f32) (b1 : Vec Ideal S256 .f32) (W2 : Vec Ideal S256x256 .f32) (b2 : Vec Ideal S256 .f32) : Vec Ideal S8x256x256 .f32 :=
  addf (F := Ideal) (φ := .f32) (Host.dotGeneral (F := Ideal) (φ₁ := .f32) (φ₂ := .f32) dot_S8x256x256_S256x256_S8x256x256_2_0_01_1_n_n none (maximumf (F := Ideal) (φ := .f32) (addf (F := Ideal) (φ := .f32) (Host.dotGeneral (F := Ideal) (φ₁ := .f32) (φ₂ := .f32) dot_S8x256x12_S12x256_S8x256x256_2_0_01_1_n_n none (concatenate S8x256x12 2 [⟨S8x256x6, (extractStridedSlice S8x256x6 ![0, 0, 0] A slices_S8x256x128_S8x256x6_0_0_0)⟩, ⟨S8x256x6, (extractStridedSlice S8x256x6 ![0, 0, 0] B slices_S8x256x128_S8x256x6_0_0_0)⟩] concatenates_S8x256x6_S8x256x6_S8x256x12_d2) (transpose S12x256 [1, 0] W1 transposes_S256x12_S12x256_1_0)) (broadcastInDim S8x256x256 ![0, 1, 2] bcast_S1x1x256_S8x256x256_0_1_2 (broadcastInDim S1x1x256 ![2] bcast_S256_S1x1x256_2 b1))) (broadcastInDim S8x256x256 ![] bcast_S_S8x256x256 (constant S_ .f32 0x00000000#32))) (transpose S256x256 [1, 0] W2 transposes_S256x256_S256x256_1_0)) (broadcastInDim S8x256x256 ![0, 1, 2] bcast_S1x1x256_S8x256x256_0_1_2 (broadcastInDim S1x1x256 ![2] bcast_S256_S1x1x256_2 b2))

/-- The weighted features summed over a batch and put through the last perceptron. -/
def refOut (S : IVec S8x256 1) (Fs Fp : Vec Ideal S8x256x256 .f32) (w : Vec Ideal S8x256 .f32) (W1 : Vec Ideal S256x256 .f32) (b1 : Vec Ideal S256 .f32) (W2 : Vec Ideal S128x256 .f32) (b2 : Vec Ideal S128 .f32) : Vec Ideal S8x1x128 .f32 :=
  shapeCast S8x1x128 (addf (F := Ideal) (φ := .f32) (Host.dotGeneral (F := Ideal) (φ₁ := .f32) (φ₂ := .f32) dot_S8x256_S256x128_S8x128_1_0_0_1_n_n none (maximumf (F := Ideal) (φ := .f32) (addf (F := Ideal) (φ := .f32) (Host.dotGeneral (F := Ideal) (φ₁ := .f32) (φ₂ := .f32) dot_S8x256_S256x256_S8x256_1_0_0_1_n_n none (Host.reduceAdd (F := Ideal) (φ := .f32) (mulf (F := Ideal) (φ := .f32) (select (broadcastInDim S8x256x256 ![0, 1, 2] bcast_S8x256x1_S8x256x256_0_1_2 (broadcastInDim S8x256x1 ![0, 1] bcast_S8x256_S8x256x1_0_1 S)) Fs Fp) (broadcastInDim S8x256x256 ![0, 1, 2] bcast_S8x256x1_S8x256x256_0_1_2 (broadcastInDim S8x256x1 ![0, 1] bcast_S8x256_S8x256x1_0_1 w))) (constant S_ .f32 0x00000000#32) reducesTo_S8x256x256_S8x256_d1 h_S_) (transpose S256x256 [1, 0] W1 transposes_S256x256_S256x256_1_0)) (broadcastInDim S8x256 ![0, 1] bcast_S1x256_S8x256_0_1 (broadcastInDim S1x256 ![1] bcast_S256_S1x256_1 b1))) (broadcastInDim S8x256 ![] bcast_S_S8x256 (constant S_ .f32 0x00000000#32))) (transpose S256x128 [1, 0] W2 transposes_S128x256_S256x128_1_0)) (broadcastInDim S8x128 ![0, 1] bcast_S1x128_S8x128_0_1 (broadcastInDim S1x128 ![1] bcast_S128_S1x128_1 b2))) shapeCasts_S8x128_S8x1x128

/-! ## The cut, read at a batch -/

/-- A batch's values. -/
def vals (X : Vec Ideal S8x256 .f32) (b : Fin 8) : Fin 256 → EReal := fun j => X (ix2 b j)

theorem refLo0_apply (T : Vec Ideal S8x1x128 .f32) (b : Fin 8) : refLo0 T (ix2 b 0) = T (ix3 b 0 0) := by
  pointwise [refLo0]
theorem refHi0_apply (X : Vec Ideal S8x256 .f32) (b : Fin 8) : refHi0 X (ix2 b 0) = top (vals X b) := by
  pointwise [refHi0]
  rfl
theorem refLevel_apply (lo hi : Vec Ideal S8x1 .f32) (b : Fin 8) (i : Fin 16) : refLevel lo hi (ix2 b i) = level (lo (ix2 b 0)) (hi (ix2 b 0)) i := by
  pointwise [refLevel, refSteps]
  rfl
theorem refEnough_apply (X : Vec Ideal S8x256 .f32) (L : Vec Ideal S8x16 .f32) (b : Fin 8) (i : Fin 16) : refEnough X L (ix2 b i) = enough (vals X b) (L (ix2 b i)) := by
  pointwise [refEnough]
  rfl
theorem refLo_apply (X : Vec Ideal S8x256 .f32) (lo hi : Vec Ideal S8x1 .f32) (b : Fin 8) :
    refLo X lo hi (ix2 b 0) = lower (vals X b) (lo (ix2 b 0)) (hi (ix2 b 0)) := by
  pointwise [refLo]
  simp only [refEnough_apply, refLevel_apply]
  rfl
theorem refHi_apply (X : Vec Ideal S8x256 .f32) (lo hi : Vec Ideal S8x1 .f32) (b : Fin 8) :
    refHi X lo hi (ix2 b 0) = upper (vals X b) (lo (ix2 b 0)) (hi (ix2 b 0)) := by
  pointwise [refHi]
  simp only [refEnough_apply, refLevel_apply]
  rfl

/-- The bounds after `n` rounds. -/
def refRounds (X : Vec Ideal S8x256 .f32) (p : Vec Ideal S8x1 .f32 × Vec Ideal S8x1 .f32) : ℕ → Vec Ideal S8x1 .f32 × Vec Ideal S8x1 .f32
  | 0 => p
  | n + 1 => (refLo X (refRounds X p n).1 (refRounds X p n).2, refHi X (refRounds X p n).1 (refRounds X p n).2)

theorem refRounds_apply (X : Vec Ideal S8x256 .f32) (p : Vec Ideal S8x1 .f32 × Vec Ideal S8x1 .f32) (b : Fin 8) :
    ∀ n, ((refRounds X p n).1 (ix2 b 0), (refRounds X p n).2 (ix2 b 0)) = rounds (vals X b) (p.1 (ix2 b 0), p.2 (ix2 b 0)) n
  | 0 => rfl
  | n + 1 => by
    have ih := refRounds_apply X p b n
    unfold rounds
    rw [← ih]
    exact Prod.ext (refLo_apply X _ _ b) (refHi_apply X _ _ b)

/-- The cut. -/
def refCut (X : Vec Ideal S8x256 .f32) (T : Vec Ideal S8x1x128 .f32) : Vec Ideal S8x1 .f32 := (refRounds X (refLo0 T, refHi0 X) 10).1

theorem refCut_apply (X : Vec Ideal S8x256 .f32) (T : Vec Ideal S8x1x128 .f32) (b : Fin 8) :
    refCut X T (ix2 b 0) = (rounds (vals X b) (T (ix3 b 0 0), top (vals X b)) 10).1 := by
  unfold refCut
  refine (congrArg Prod.fst (refRounds_apply X (refLo0 T, refHi0 X) b 10)).trans ?_
  show (rounds (vals X b) (refLo0 T (ix2 b 0), refHi0 X (ix2 b 0)) 10).1 = _
  rw [refLo0_apply, refHi0_apply]

/-! ## The weights, the rows, the features and the sum, read at an index -/

theorem refE_apply (X : Vec Ideal S8x256 .f32) (cut : Vec Ideal S8x1 .f32) (b : Fin 8) (j : Fin 256) : refE X cut (ix2 b j) = expo (vals X b) (cut (ix2 b 0)) j := by
  pointwise [refE]
  rfl
theorem refWeight_apply (X : Vec Ideal S8x256 .f32) (cut : Vec Ideal S8x1 .f32) (b : Fin 8) (j : Fin 256) :
    refWeight (refE X cut) (ix2 b j) = weight (vals X b) (cut (ix2 b 0)) j := by
  unfold weight
  simp only [← refE_apply]
  pointwise [refWeight]
theorem refRow_apply (I : IVec S8x256 32) (b : Fin 8) (j : Fin 256) : refRow I (ix2 b j) = row (I (ix2 b j)) := by
  pointwise [refRow]
  show Scalar.select (IntOp.andi (IntOp.cmpi .ne (sign (I (ix2 b j))) (sign 1024#32)) (IntOp.cmpi .ne (IntOp.remsi .host (I (ix2 b j)) 1024#32) 0#32))
    (IntOp.subi (IntOp.divsi .host (I (ix2 b j)) 1024#32) 1#32) (IntOp.divsi .host (I (ix2 b j)) 1024#32) = _
  rw [divsi_eq, remsi_eq]
  rfl
theorem refSelf_apply (I : IVec S8x256 32) (b : Fin 8) (j : Fin 256) : refSelf I (ix2 b j) = self (I (ix2 b j)) := by
  pointwise [refSelf]
  rw [refRow_apply]
  rfl
theorem refFself_apply (A : Vec Ideal S8x256x128 .f32) (W1 : Vec Ideal S256x6 .f32) (b1 : Vec Ideal S256 .f32) (W2 : Vec Ideal S256x256 .f32) (b2 : Vec Ideal S256 .f32) (b : Fin 8) (j n : Fin 256) :
    refFself A W1 b1 W2 b2 (ix3 b j n)
      = (∑ x : Fin 256, max ((∑ y : Fin 6, A (ix3 b j ⟨y.val, by omega⟩) * W1 (ix2 x y)) + b1 (ix1 x)) 0 * W2 (ix2 n x)) + b2 (ix1 n) := by
  pointwise [refFself]
theorem refFpair_apply (A B : Vec Ideal S8x256x128 .f32) (W1 : Vec Ideal S256x12 .f32) (b1 : Vec Ideal S256 .f32) (W2 : Vec Ideal S256x256 .f32) (b2 : Vec Ideal S256 .f32) (b : Fin 8) (j n : Fin 256) :
    refFpair A B W1 b1 W2 b2 (ix3 b j n)
      = (∑ x : Fin 256, max ((∑ y : Fin 6, A (ix3 b j ⟨y.val, by omega⟩) * W1 (ix2 x ⟨y.val, by omega⟩)) + (∑ y : Fin 6, B (ix3 b j ⟨y.val, by omega⟩) * W1 (ix2 x ⟨6 + y.val, by omega⟩)) + b1 (ix1 x)) 0
          * W2 (ix2 n x)) + b2 (ix1 n) := by
  pointwise [refFpair]
theorem refOut_apply (S : IVec S8x256 1) (Fs Fp : Vec Ideal S8x256x256 .f32) (w : Vec Ideal S8x256 .f32) (W1 : Vec Ideal S256x256 .f32) (b1 : Vec Ideal S256 .f32) (W2 : Vec Ideal S128x256 .f32) (b2 : Vec Ideal S128 .f32) (b : Fin 8) (o : Fin 128) :
    refOut S Fs Fp w W1 b1 W2 b2 (ix3 b 0 o)
      = (∑ x : Fin 256, max ((∑ y : Fin 256, (∑ j : Fin 256, Scalar.select (S (ix2 b j)) (Fs (ix3 b j y)) (Fp (ix3 b j y)) * w (ix2 b j)) * W1 (ix2 x y)) + b1 (ix1 x)) 0 * W2 (ix2 o x)) + b2 (ix1 o) := by
  pointwise [refOut]

/-! ## The whole reference -/

/-- The reference's result, of its seventeen arguments. -/
def refP (X : Vec Ideal S8x256 .f32) (I : IVec S8x256 32) (T : Vec Ideal S8x1x128 .f32) (A B : Vec Ideal S8x256x128 .f32)
    (P1 : Vec Ideal S256x6 .f32) (p1 : Vec Ideal S256 .f32) (P2 : Vec Ideal S256x256 .f32) (p2 : Vec Ideal S256 .f32)
    (Q1 : Vec Ideal S256x12 .f32) (q1 : Vec Ideal S256 .f32) (Q2 : Vec Ideal S256x256 .f32) (q2 : Vec Ideal S256 .f32)
    (R1 : Vec Ideal S256x256 .f32) (r1 : Vec Ideal S256 .f32) (R2 : Vec Ideal S128x256 .f32) (r2 : Vec Ideal S128 .f32) : Vec Ideal S8x1x128 .f32 :=
  refOut (refSelf I) (refFself A P1 p1 P2 p2) (refFpair A B Q1 q1 Q2 q2) (refWeight (refE X (refCut X T))) R1 r1 R2 r2

/-- The shared terms of the run are the rounds. -/
theorem run_cut (V0 : Valuation τ sig (Elt Ideal)) :
    res_main_v228 V0 = refCut (V0 (Proc.devRef .tc main_arg0)) (V0 (Proc.devRef .tc main_arg2)) := by
  let X : Vec Ideal S8x256 .f32 := V0 (Proc.devRef .tc main_arg0)
  let p : Vec Ideal S8x1 .f32 × Vec Ideal S8x1 .f32 := (refLo0 (V0 (Proc.devRef .tc main_arg2)), refHi0 X)
  have l0 : res_main_v7 V0 = (refRounds X p 0).1 := rfl
  have h0 : res_main_v11 V0 = (refRounds X p 0).2 := rfl
  have l1 : res_main_v30 V0 = (refRounds X p 1).1 := by
    unfold res_main_v30 res_main_v27 res_main_v18; rw [l0, h0]; rfl
  have h1 : res_main_v33 V0 = (refRounds X p 1).2 := by
    unfold res_main_v33 res_main_v27 res_main_v18; rw [l0, h0]; rfl
  have l2 : res_main_v52 V0 = (refRounds X p 2).1 := by
    unfold res_main_v52 res_main_v49 res_main_v40; rw [l1, h1]; rfl
  have h2 : res_main_v55 V0 = (refRounds X p 2).2 := by
    unfold res_main_v55 res_main_v49 res_main_v40; rw [l1, h1]; rfl
  have l3 : res_main_v74 V0 = (refRounds X p 3).1 := by
    unfold res_main_v74 res_main_v71 res_main_v62; rw [l2, h2]; rfl
  have h3 : res_main_v77 V0 = (refRounds X p 3).2 := by
    unfold res_main_v77 res_main_v71 res_main_v62; rw [l2, h2]; rfl
  have l4 : res_main_v96 V0 = (refRounds X p 4).1 := by
    unfold res_main_v96 res_main_v93 res_main_v84; rw [l3, h3]; rfl
  have h4 : res_main_v99 V0 = (refRounds X p 4).2 := by
    unfold res_main_v99 res_main_v93 res_main_v84; rw [l3, h3]; rfl
  have l5 : res_main_v118 V0 = (refRounds X p 5).1 := by
    unfold res_main_v118 res_main_v115 res_main_v106; rw [l4, h4]; rfl
  have h5 : res_main_v121 V0 = (refRounds X p 5).2 := by
    unfold res_main_v121 res_main_v115 res_main_v106; rw [l4, h4]; rfl
  have l6 : res_main_v140 V0 = (refRounds X p 6).1 := by
    unfold res_main_v140 res_main_v137 res_main_v128; rw [l5, h5]; rfl
  have h6 : res_main_v143 V0 = (refRounds X p 6).2 := by
    unfold res_main_v143 res_main_v137 res_main_v128; rw [l5, h5]; rfl
  have l7 : res_main_v162 V0 = (refRounds X p 7).1 := by
    unfold res_main_v162 res_main_v159 res_main_v150; rw [l6, h6]; rfl
  have h7 : res_main_v165 V0 = (refRounds X p 7).2 := by
    unfold res_main_v165 res_main_v159 res_main_v150; rw [l6, h6]; rfl
  have l8 : res_main_v184 V0 = (refRounds X p 8).1 := by
    unfold res_main_v184 res_main_v181 res_main_v172; rw [l7, h7]; rfl
  have h8 : res_main_v187 V0 = (refRounds X p 8).2 := by
    unfold res_main_v187 res_main_v181 res_main_v172; rw [l7, h7]; rfl
  have l9 : res_main_v206 V0 = (refRounds X p 9).1 := by
    unfold res_main_v206 res_main_v203 res_main_v194; rw [l8, h8]; rfl
  have h9 : res_main_v209 V0 = (refRounds X p 9).2 := by
    unfold res_main_v209 res_main_v203 res_main_v194; rw [l8, h8]; rfl
  have l10 : res_main_v228 V0 = (refRounds X p 10).1 := by
    unfold res_main_v228 res_main_v225 res_main_v216; rw [l9, h9]; rfl
  exact l10

/-- With it, so are the weights before the division. -/
theorem run_E (V0 : Valuation τ sig (Elt Ideal)) :
    res_main_v262 V0 = refE (V0 (Proc.devRef .tc main_arg0)) (refCut (V0 (Proc.devRef .tc main_arg0)) (V0 (Proc.devRef .tc main_arg2))) := by
  unfold res_main_v262
  rw [run_cut]
  rfl

end Cert.PoolReferenceIdeal.Hand

end
-- ==== Proof.PoolRun.lean ====
/-
  The array the pooling kernel's run leaves, of the arrays the kernel is launched with: batch by batch it is the reference's.
-/
module

public import proofs.«01_k».proof.Proof.PoolPoint
public import proofs.«01_k».proof.Proof.PoolRef
public import proofs.«01_k».proof.Proof.ScoresPoint
public import proofs.«01_k».proof.Proof.Gen.PoolIdeal.Value
public import Idealize.ShloMosaic.Lib.Pipeline.ValueKit
public import Idealize.ShloMosaic.Lib.Claim

@[expose] public section

set_option maxRecDepth 16384

noncomputable section

namespace Cert.PoolIdeal.Hand

open Cert.PoolIdeal Cert.PoolIdeal.Gen
open Idealize.ShloMosaic Idealize.ShloMosaic.TcCoe
open Cert.Proof.Pool
open Cert.PoolReferenceIdeal.Hand (refP refOut refSelf refFself refFpair refWeight refE refCut)

/-! ## One grid point -/

/-- The block a grid point writes, of the blocks it reads. -/
def block (x0 : Vec Ideal S1x1x256 .f32) (x1 : Vec Ideal S1x1x256 .i32) (x2 : Vec Ideal S1x1x1 .f32) (x3 x4 : Vec Ideal S1x256x6 .f32)
    (P1 : Vec Ideal S256x6 .f32) (p1 : Vec Ideal S256 .f32) (P2 : Vec Ideal S256x256 .f32) (p2 : Vec Ideal S256 .f32)
    (Q1 : Vec Ideal S256x12 .f32) (q1 : Vec Ideal S256 .f32) (Q2 : Vec Ideal S256x256 .f32) (q2 : Vec Ideal S256 .f32)
    (R1 : Vec Ideal S256x256 .f32) (r1 : Vec Ideal S256 .f32) (R2 : Vec Ideal S128x256 .f32) (r2 : Vec Ideal S128 .f32) : Vec Ideal S1x1x128 .f32 :=
  k0_pay1 (k0_pay13 (k0_pay2 x0) (k0_pay10 x0 (cutK x0 x2)) (k0_pay11 x0 (cutK x0 x2)) (k0_pay12 x0 (cutK x0 x2)) (FloatOps.ofBits FTy.f32 0x3F800000#32))
    (k0_pay17 x3 P1 p1 P2 p2) (k0_pay18 x3 x4 Q1 q1 Q2 q2) (k0_pay19 (k0_pay14 (k0_pay3 x1)) (k0_pay15 (k0_pay3 x1))) R1 r1 R2 r2

/-- Where the blocks are batch `b` of the arrays, the block written is batch `b` of the reference's result. -/
theorem block_apply {b : Fin 8} (X : Vec Ideal S8x256 .f32) (I : IVec S8x256 32) (T : Vec Ideal S8x1x128 .f32) (A B : Vec Ideal S8x256x128 .f32)
    {x0 : Vec Ideal S1x1x256 .f32} {x1 : Vec Ideal S1x1x256 .i32} {x2 : Vec Ideal S1x1x1 .f32} {x3 x4 : Vec Ideal S1x256x6 .f32}
    (h0 : ∀ j : Fin 256, x0 (ix3 0 0 j) = X (ix2 b j)) (h1 : ∀ j : Fin 256, x1 (ix3 0 0 j) = I (ix2 b j)) (h2 : x2 (ix3 0 0 0) = T (ix3 b 0 0))
    (h3 : ∀ (j : Fin 256) (y : Fin 6), x3 (ix3 0 j y) = A (ix3 b j ⟨y.val, by omega⟩))
    (h4 : ∀ (j : Fin 256) (y : Fin 6), x4 (ix3 0 j y) = B (ix3 b j ⟨y.val, by omega⟩))
    (P1 : Vec Ideal S256x6 .f32) (p1 : Vec Ideal S256 .f32) (P2 : Vec Ideal S256x256 .f32) (p2 : Vec Ideal S256 .f32)
    (Q1 : Vec Ideal S256x12 .f32) (q1 : Vec Ideal S256 .f32) (Q2 : Vec Ideal S256x256 .f32) (q2 : Vec Ideal S256 .f32)
    (R1 : Vec Ideal S256x256 .f32) (r1 : Vec Ideal S256 .f32) (R2 : Vec Ideal S128x256 .f32) (r2 : Vec Ideal S128 .f32) (o : Fin 128) :
    block x0 x1 x2 x3 x4 P1 p1 P2 p2 Q1 q1 Q2 q2 R1 r1 R2 r2 (ix3 0 0 o)
      = refP X I T A B P1 p1 P2 p2 Q1 q1 Q2 q2 R1 r1 R2 r2 (ix3 b 0 o) := by
  have e0 : vals x0 = Cert.PoolReferenceIdeal.Hand.vals X b := funext h0
  have ec : cutK x0 x2 = refCut X T (ix2 b 0) := by
    rw [cutK_eq, Cert.PoolReferenceIdeal.Hand.refCut_apply, e0, h2]
  unfold block refP
  rw [pay1_apply, Cert.PoolReferenceIdeal.Hand.refOut_apply]
  simp only [pay19_apply, pay17_apply, pay18_apply, pooled, pay13_apply, Cert.PoolReferenceIdeal.Hand.refSelf_apply,
    Cert.PoolReferenceIdeal.Hand.refWeight_apply, Cert.PoolReferenceIdeal.Hand.refFself_apply, Cert.PoolReferenceIdeal.Hand.refFpair_apply, h1, h3, h4, e0, ec]

/-! ## The blocks -/

variable (m : (ℓ : Loc nD τ sig) → Buf (Elt Ideal) ℓ) (ρ : Dev nD → PrngReg)

/-- Every window's block index at every point. -/
theorem idx0 : ∀ t : Fin cfg0.N, win0_0.index t = ![t.val, 0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![t.val, 0, 0] := (by decide +kernel : ∀ t : Fin grid0.N, _)
theorem idx4 : ∀ t : Fin cfg0.N, win0_4.index t = ![t.val, 0, 0] := (by decide +kernel : ∀ t : Fin grid0.N, _)
theorem idx17 : ∀ t : Fin cfg0.N, win0_17.index t = ![t.val, 0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0] := (by decide +kernel : ∀ t : Fin grid0.N, _)

/-- The reshaped operands at an index. -/
theorem V0_apply (c : Dev nD) (b : Fin 8) (j : Fin 256) : (V m c main_v0 : Vec Ideal S8x1x256 .f32) (ix3 b 0 j) = (m ((c : Thread nD τ).loc main_arg0) : Vec Ideal S8x256 .f32) (ix2 b j) := by
  entry_read
  pointwise []
theorem V1_apply (c : Dev nD) (b : Fin 8) (j : Fin 256) : (V m c main_v1 : Vec Ideal S8x1x256 .i32) (ix3 b 0 j) = (m ((c : Thread nD τ).loc main_arg1) : Vec Ideal S8x256 .i32) (ix2 b j) := by
  entry_read
  pointwise []

/-- A batch's block of each of the first five operands at an index. -/
theorem iblk0_apply (c : Dev nD) (t : Fin cfg0.N) (j : Fin 256) : (iblk m c 0 t : Vec Ideal S1x1x256 .f32) (ix3 0 0 j) = (m ((c : Thread nD τ).loc main_arg0) : Vec Ideal S8x256 .f32) (ix2 ⟨t.val, t.isLt⟩ j) := by
  refine Eq.trans ?_ (V0_apply m c ⟨t.val, t.isLt⟩ j)
  blk_ext [iblk, idx0 t]
theorem iblk1_apply (c : Dev nD) (t : Fin cfg0.N) (j : Fin 256) : (iblk m c 1 t : Vec Ideal S1x1x256 .i32) (ix3 0 0 j) = (m ((c : Thread nD τ).loc main_arg1) : Vec Ideal S8x256 .i32) (ix2 ⟨t.val, t.isLt⟩ j) := by
  refine Eq.trans ?_ (V1_apply m c ⟨t.val, t.isLt⟩ j)
  blk_ext [iblk, idx1 t]
theorem iblk2_apply (c : Dev nD) (t : Fin cfg0.N) :
    (View.ld (iblk m c 2 t) (Rect.unit ![0, 0, 0] ![1, 1, 1] inb_S1x1x128_S1x1x1_0_0_0) : Vec Ideal S1x1x1 .f32) (ix3 0 0 0) = (m ((c : Thread nD τ).loc main_arg2) : Vec Ideal S8x1x128 .f32) (ix3 ⟨t.val, t.isLt⟩ 0 0) := by
  rw [← V_main_arg2 m c, View.ld_apply]
  blk_ext [iblk, idx2 t]
  all_goals exact (Rect.idx_unit_val _ _ _ _ _).trans (Nat.zero_add _)
theorem iblk3_apply (c : Dev nD) (t : Fin cfg0.N) (j : Fin 256) (y : Fin 6) :
    (View.ld (iblk m c 3 t) (Rect.unit ![0, 0, 0] ![1, 256, 6] inb_S1x256x128_S1x256x6_0_0_0) : Vec Ideal S1x256x6 .f32) (ix3 0 j y) = (m ((c : Thread nD τ).loc main_arg3) : Vec Ideal S8x256x128 .f32) (ix3 ⟨t.val, t.isLt⟩ j ⟨y.val, by omega⟩) := by
  rw [← V_main_arg3 m c, View.ld_apply]
  blk_ext [iblk, idx3 t]
  all_goals exact (Rect.idx_unit_val _ _ _ _ _).trans (Nat.zero_add _)
theorem iblk4_apply (c : Dev nD) (t : Fin cfg0.N) (j : Fin 256) (y : Fin 6) :
    (View.ld (iblk m c 4 t) (Rect.unit ![0, 0, 0] ![1, 256, 6] inb_S1x256x128_S1x256x6_0_0_0) : Vec Ideal S1x256x6 .f32) (ix3 0 j y) = (m ((c : Thread nD τ).loc main_arg4) : Vec Ideal S8x256x128 .f32) (ix3 ⟨t.val, t.isLt⟩ j ⟨y.val, by omega⟩) := by
  rw [← V_main_arg4 m c, View.ld_apply]
  blk_ext [iblk, idx4 t]
  all_goals exact (Rect.idx_unit_val _ _ _ _ _).trans (Nat.zero_add _)
/-- The weights' blocks are the weights. -/
theorem iblk5_eq (c : Dev nD) (t : Fin cfg0.N) : (iblk m c 5 t : Vec Ideal S256x6 .f32) = m ((c : Thread nD τ).loc main_arg5) := by
  rw [← V_main_arg5 m c]
  funext y
  blk_ext [iblk, idx5 t]
theorem iblk6_eq (c : Dev nD) (t : Fin cfg0.N) : (iblk m c 6 t : Vec Ideal S256 .f32) = m ((c : Thread nD τ).loc main_arg6) := by
  rw [← V_main_arg6 m c]
  funext y
  blk_ext [iblk, idx6 t]
theorem iblk7_eq (c : Dev nD) (t : Fin cfg0.N) : (iblk m c 7 t : Vec Ideal S256x256 .f32) = m ((c : Thread nD τ).loc main_arg7) := by
  rw [← V_main_arg7 m c]
  funext y
  blk_ext [iblk, idx7 t]
theorem iblk8_eq (c : Dev nD) (t : Fin cfg0.N) : (iblk m c 8 t : Vec Ideal S256 .f32) = m ((c : Thread nD τ).loc main_arg8) := by
  rw [← V_main_arg8 m c]
  funext y
  blk_ext [iblk, idx8 t]
theorem iblk9_eq (c : Dev nD) (t : Fin cfg0.N) : (iblk m c 9 t : Vec Ideal S256x12 .f32) = m ((c : Thread nD τ).loc main_arg9) := by
  rw [← V_main_arg9 m c]
  funext y
  blk_ext [iblk, idx9 t]
theorem iblk10_eq (c : Dev nD) (t : Fin cfg0.N) : (iblk m c 10 t : Vec Ideal S256 .f32) = m ((c : Thread nD τ).loc main_arg10) := by
  rw [← V_main_arg10 m c]
  funext y
  blk_ext [iblk, idx10 t]
theorem iblk11_eq (c : Dev nD) (t : Fin cfg0.N) : (iblk m c 11 t : Vec Ideal S256x256 .f32) = m ((c : Thread nD τ).loc main_arg11) := by
  rw [← V_main_arg11 m c]
  funext y
  blk_ext [iblk, idx11 t]
theorem iblk12_eq (c : Dev nD) (t : Fin cfg0.N) : (iblk m c 12 t : Vec Ideal S256 .f32) = m ((c : Thread nD τ).loc main_arg12) := by
  rw [← V_main_arg12 m c]
  funext y
  blk_ext [iblk, idx12 t]
theorem iblk13_eq (c : Dev nD) (t : Fin cfg0.N) : (iblk m c 13 t : Vec Ideal S256x256 .f32) = m ((c : Thread nD τ).loc main_arg13) := by
  rw [← V_main_arg13 m c]
  funext y
  blk_ext [iblk, idx13 t]
theorem iblk14_eq (c : Dev nD) (t : Fin cfg0.N) : (iblk m c 14 t : Vec Ideal S256 .f32) = m ((c : Thread nD τ).loc main_arg14) := by
  rw [← V_main_arg14 m c]
  funext y
  blk_ext [iblk, idx14 t]
theorem iblk15_eq (c : Dev nD) (t : Fin cfg0.N) : (iblk m c 15 t : Vec Ideal S128x256 .f32) = m ((c : Thread nD τ).loc main_arg15) := by
  rw [← V_main_arg15 m c]
  funext y
  blk_ext [iblk, idx15 t]
theorem iblk16_eq (c : Dev nD) (t : Fin cfg0.N) : (iblk m c 16 t : Vec Ideal S128 .f32) = m ((c : Thread nD τ).loc main_arg16) := by
  rw [← V_main_arg16 m c]
  funext y
  blk_ext [iblk, idx16 t]

/-! ## The whole array -/

/-- The array after the run is the reference's function of the arguments. -/
theorem final17 (c : Dev nD) : (dats m 0 c).arrAt 17 cfg0.N = refP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_covers 17 _ (by decide +kernel) fun t hf y => ?_
  have h0 : (y 0).val < 1 := (y 0).isLt
  have h1 : (y 1).val < 1 := (y 1).isLt
  have e0 : ((win0_17.blk t).view.emb y 0).val = t.val := by blk_simp [idx17]
  have e1 : ((win0_17.blk t).view.emb y 1).val = (y 1).val := by blk_simp [idx17]
  have e2 : ((win0_17.blk t).view.emb y 2).val = (y 2).val := by blk_simp [idx17]
  have ey : y = ix3 (0 : Fin 1) (0 : Fin 1) (⟨(y 2).val, (y 2).isLt⟩ : Fin 128) := by
    funext a; apply Fin.ext; fin_cases a
    · show (y 0).val = 0; omega
    · show (y 1).val = 0; omega
    · rfl
  have ez : (win0_17.blk t).view.emb y = ix3 (⟨t.val, t.isLt⟩ : Fin 8) (0 : Fin 1) (⟨(y 2).val, (y 2).isLt⟩ : Fin 128) := by
    funext a; apply Fin.ext; fin_cases a
    · exact e0
    · exact e1.trans (by show (y 1).val = 0; omega)
    · exact e2
  have hb := block_apply (b := ⟨t.val, t.isLt⟩) (m ((c : Thread nD τ).loc main_arg0)) (m ((c : Thread nD τ).loc main_arg1)) (m ((c : Thread nD τ).loc main_arg2)) (m ((c : Thread nD τ).loc main_arg3)) (m ((c : Thread nD τ).loc main_arg4))
    (iblk0_apply m c t) (iblk1_apply m c t) (iblk2_apply m c t) (iblk3_apply m c t) (iblk4_apply m c t)
    (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) ⟨(y 2).val, (y 2).isLt⟩
  blk_simp
  rw [after0_17]
  unfold outsAt0
  frame_out
  exact (congrArg (block (iblk m c 0 t) (iblk m c 1 t) (View.ld (iblk m c 2 t) (Rect.unit ![0, 0, 0] ![1, 1, 1] inb_S1x1x128_S1x1x1_0_0_0)) (View.ld (iblk m c 3 t) (Rect.unit ![0, 0, 0] ![1, 256, 6] inb_S1x256x128_S1x256x6_0_0_0)) (View.ld (iblk m c 4 t) (Rect.unit ![0, 0, 0] ![1, 256, 6] inb_S1x256x128_S1x256x6_0_0_0)) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) ey).trans
    (hb.trans (by rw [iblk5_eq m c t, iblk6_eq m c t, iblk7_eq m c t, iblk8_eq m c t, iblk9_eq m c t, iblk10_eq m c t, iblk11_eq m c t, iblk12_eq m c t, iblk13_eq m c t, iblk14_eq m c t, iblk15_eq m c t, iblk16_eq m c t]; exact congrArg (refP (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) ez.symm))

end Cert.PoolIdeal.Hand

end
-- ==== Proof.PoolValues.lean ====
/-
  The claims of the pooling call: both programs run, leaving their arguments as they were and every semaphore at zero, and
  in the extended reals they leave equal results.
-/
module

public import proofs.«01_k».proof.Defs
public import proofs.«01_k».proof.Proof.Gen.Pool
public import proofs.«01_k».proof.Proof.PoolRun

@[expose] public section

set_option maxRecDepth 16384

noncomputable section

namespace Cert.Proof

open Idealize.ShloMosaic Idealize.SL.Sem
open Cert.PoolReferenceIdeal.Hand (refP)

/-- The pooling call at the ideal instance leaves its arguments as they were and the semaphores at zero. -/
theorem frame_pool_ideal : Cert.quiescent_PoolIdeal (hPoolIdeal := Cert.PoolIdeal.Gen.facts) := fun m ρ _ => Cert.PoolIdeal.Gen.frame m ρ

set_option maxHeartbeats 4000000 in
/-- The two programs have one text: the call's body, -/
theorem pool_body_eq {F : FTy → Type} [FloatOps F] : (Cert.PoolIdeal.defs₀ (F := F)) = Cert.Pool.defs₀ (F := F) := by
  unfold Cert.Pool.defs₀ Cert.PoolIdeal.defs₀
  refine congrArg (Defs.onTc (nD := Cert.PoolIdeal.nD) (τ := Cert.PoolIdeal.τ) (sig := Cert.PoolIdeal.sig) (Λ := Cert.PoolIdeal.Λ₀)) ?_
  funext l x
  match l, x with
  | 0, (t, s) => rfl

/-- so the call. -/
theorem pool_defs_eq {F : FTy → Type} [FloatOps F] : (Cert.PoolIdeal.defs (F := F)) = Cert.Pool.defs (F := F) :=
  congrArg (Pipeline.defs Cert.PoolIdeal.pcfgs) pool_body_eq

/-- The same at the bits. -/
theorem frame_pool : Cert.quiescent_Pool (hPool := Cert.Pool.Gen.facts) := fun m ρ _ => by
  have h := Cert.PoolIdeal.Gen.frame (F := Bits) m ρ
  rw [pool_defs_eq] at h
  exact h

/-- Its reference likewise. -/
theorem frame_pool_reference : Cert.quiescent_PoolReferenceIdeal (hPoolReferenceIdeal := Cert.PoolReferenceIdeal.Gen.facts) := fun m ρ _ =>
  (θ_run Cert.PoolReferenceIdeal.defs _ _).mono (fun r h => ⟨fun c => (h c).2, sem_eq_zero_of_no_sems (by decide) r.2⟩)
    (Cert.PoolReferenceIdeal.Value.run (F := Ideal) m ρ)

/-- In the extended reals, from equal arguments, the pooling call and its reference leave equal results, and their arguments
    as they were. -/
theorem algebraic_pool : Cert.algebraic_PoolIdeal_PoolReferenceIdeal (hPoolIdeal := Cert.PoolIdeal.Gen.facts)
    (hPoolReferenceIdeal := Cert.PoolReferenceIdeal.Gen.facts) := fun m g m' g' _ h =>
  ⟨fun c => refP (m (c, Proc.devRef .tc Cert.PoolIdeal.main_arg0)) (m (c, Proc.devRef .tc Cert.PoolIdeal.main_arg1)) (m (c, Proc.devRef .tc Cert.PoolIdeal.main_arg2)) (m (c, Proc.devRef .tc Cert.PoolIdeal.main_arg3)) (m (c, Proc.devRef .tc Cert.PoolIdeal.main_arg4)) (m (c, Proc.devRef .tc Cert.PoolIdeal.main_arg5)) (m (c, Proc.devRef .tc Cert.PoolIdeal.main_arg6)) (m (c, Proc.devRef .tc Cert.PoolIdeal.main_arg7)) (m (c, Proc.devRef .tc Cert.PoolIdeal.main_arg8)) (m (c, Proc.devRef .tc Cert.PoolIdeal.main_arg9)) (m (c, Proc.devRef .tc Cert.PoolIdeal.main_arg10)) (m (c, Proc.devRef .tc Cert.PoolIdeal.main_arg11)) (m (c, Proc.devRef .tc Cert.PoolIdeal.main_arg12)) (m (c, Proc.devRef .tc Cert.PoolIdeal.main_arg13)) (m (c, Proc.devRef .tc Cert.PoolIdeal.main_arg14)) (m (c, Proc.devRef .tc Cert.PoolIdeal.main_arg15)) (m (c, Proc.devRef .tc Cert.PoolIdeal.main_arg16)),
    (θ_run Cert.PoolIdeal.defs _ _).mono (fun r q c => ⟨(q c).1.trans (Cert.PoolIdeal.Hand.final17 m c), (q c).2⟩)
      (Cert.PoolIdeal.Value.run_blocks (F := Ideal) m g),
    (θ_run Cert.PoolReferenceIdeal.defs _ _).mono (fun r q c => by
        obtain ⟨h0, h1, h2, h3, h4, h5, h6, h7, h8, h9, h10, h11, h12, h13, h14, h15, h16⟩ := h c
        refine ⟨(q c).1.trans ?_, (q c).2⟩
        rw [Cert.PoolReferenceIdeal.Hand.run_E]
        refine Eq.trans (b := refP (m' (c, Proc.devRef .tc Cert.PoolReferenceIdeal.main_arg0)) (m' (c, Proc.devRef .tc Cert.PoolReferenceIdeal.main_arg1)) (m' (c, Proc.devRef .tc Cert.PoolReferenceIdeal.main_arg2)) (m' (c, Proc.devRef .tc Cert.PoolReferenceIdeal.main_arg3)) (m' (c, Proc.devRef .tc Cert.PoolReferenceIdeal.main_arg4)) (m' (c, Proc.devRef .tc Cert.PoolReferenceIdeal.main_arg5)) (m' (c, Proc.devRef .tc Cert.PoolReferenceIdeal.main_arg6)) (m' (c, Proc.devRef .tc Cert.PoolReferenceIdeal.main_arg7)) (m' (c, Proc.devRef .tc Cert.PoolReferenceIdeal.main_arg8)) (m' (c, Proc.devRef .tc Cert.PoolReferenceIdeal.main_arg9)) (m' (c, Proc.devRef .tc Cert.PoolReferenceIdeal.main_arg10)) (m' (c, Proc.devRef .tc Cert.PoolReferenceIdeal.main_arg11)) (m' (c, Proc.devRef .tc Cert.PoolReferenceIdeal.main_arg12)) (m' (c, Proc.devRef .tc Cert.PoolReferenceIdeal.main_arg13)) (m' (c, Proc.devRef .tc Cert.PoolReferenceIdeal.main_arg14)) (m' (c, Proc.devRef .tc Cert.PoolReferenceIdeal.main_arg15)) (m' (c, Proc.devRef .tc Cert.PoolReferenceIdeal.main_arg16))) rfl ?_
        rw [h0, h1, h2, h3, h4, h5, h6, h7, h8, h9, h10, h11, h12, h13, h14, h15, h16])
      (Cert.PoolReferenceIdeal.Value.run (F := Ideal) m' g')⟩

end Cert.Proof

end
-- ==== Proof.lean ====
/-
  The certificate: what it claims is stated in Defs.lean.
-/
module

public import proofs.«01_k».proof.Defs
public import proofs.«01_k».proof.Proof.Values
public import proofs.«01_k».proof.Proof.ScoresValues
public import proofs.«01_k».proof.Proof.PoolValues

@[expose] public section

noncomputable section

namespace Cert.Proof

open Idealize.ShloMosaic Idealize.SL.Sem

/-- The programs' side conditions, the ten frames, that the ideal programs rewrite nothing, and that the kernels' results are the
    references': of the selection at the ideal instance and at the bits, of the scores and of the pooling at the ideal instance. -/
theorem claim : Cert.Claim :=
  ⟨Cert.Kernel.Gen.facts, Cert.KernelIdeal.Gen.facts, Cert.ReferenceIdeal.Gen.facts, Cert.Reference.Gen.facts,
    Cert.Scores.Gen.facts, Cert.ScoresIdeal.Gen.facts, Cert.ScoresReferenceIdeal.Gen.facts,
    Cert.Pool.Gen.facts, Cert.PoolIdeal.Gen.facts, Cert.PoolReferenceIdeal.Gen.facts,
    frame_kernel, frame_kernel_ideal, frame_reference_ideal, frame_reference, frame_scores, frame_scores_ideal, frame_scores_reference,
    frame_pool, frame_pool_ideal, frame_pool_reference,
    trivial, algebraic, bitexact, trivial, algebraic_scores, trivial, algebraic_pool⟩

end Cert.Proof

end
